-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyRefIdeal (m : (ℓ : Loc Cert.KeyRefIdeal.nD Cert.KeyRefIdeal.τ Cert.KeyRefIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValRefIdeal (m : (ℓ : Loc Cert.ValRefIdeal.nD Cert.ValRefIdeal.τ Cert.ValRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_NormSRefIdeal (m : (ℓ : Loc Cert.NormSRefIdeal.nD Cert.NormSRefIdeal.τ Cert.NormSRefIdeal.sig) → Buf (Elt Ideal) ℓ) : Prop :=
  True

def Pre_Hp (m : (ℓ : Loc Cert.Hp.nD Cert.Hp.τ Cert.Hp.sig) → Buf (Elt Bits) ℓ) : Prop :=
  True

def Pre_HpIdeal (m : (ℓ : Loc Cert.HpIdeal.nD Cert.HpIdeal.τ Cert.HpIdeal.sig) → Buf (Elt Ideal) ℓ) : Prop :=
  True

def Pre_HpIdeal_finite_hp [hPre_finite_hp : Cert.Pre_finite_hp.Facts] (m : (ℓ : Loc Cert.HpIdeal.nD Cert.HpIdeal.τ Cert.HpIdeal.sig) → Buf (Elt Ideal) ℓ) : Prop :=
  ∀ c : Dev Cert.HpIdeal.nD,
    (Cert.Pre_finite_hp.fn (F := Ideal) (m ((c.tc : Thread Cert.HpIdeal.nD Cert.HpIdeal.τ).loc Cert.HpIdeal.main_arg0)) (m ((c.tc : Thread Cert.HpIdeal.nD Cert.HpIdeal.τ).loc Cert.HpIdeal.main_arg1)) (m ((c.tc : Thread Cert.HpIdeal.nD Cert.HpIdeal.τ).loc Cert.HpIdeal.main_arg2))) = (fun _ => 1#1)

def Pre_HpRefIdeal (m : (ℓ : Loc Cert.HpRefIdeal.nD Cert.HpRefIdeal.τ Cert.HpRefIdeal.sig) → Buf (Elt Ideal) ℓ) : Prop :=
  True

def Pre_HpRefIdeal_finite_hp [hPre_finite_hp : Cert.Pre_finite_hp.Facts] (m : (ℓ : Loc Cert.HpRefIdeal.nD Cert.HpRefIdeal.τ Cert.HpRefIdeal.sig) → Buf (Elt Ideal) ℓ) : Prop :=
  ∀ c : Dev Cert.HpRefIdeal.nD,
    (Cert.Pre_finite_hp.fn (F := Ideal) (m ((c.tc : Thread Cert.HpRefIdeal.nD Cert.HpRefIdeal.τ).loc Cert.HpRefIdeal.main_arg0)) (m ((c.tc : Thread Cert.HpRefIdeal.nD Cert.HpRefIdeal.τ).loc Cert.HpRefIdeal.main_arg1)) (m ((c.tc : Thread Cert.HpRefIdeal.nD Cert.HpRefIdeal.τ).loc Cert.HpRefIdeal.main_arg2))) = (fun _ => 1#1)

def Pre_Pm [hPre_in_pool : Cert.Pre_in_pool.Facts] (m : (ℓ : Loc Cert.Pm.nD Cert.Pm.τ Cert.Pm.sig) → Buf (Elt Bits) ℓ) : Prop :=
  ∀ c : Dev Cert.Pm.nD,
    (Cert.Pre_in_pool.fn (F := Bits) (m ((c.tc : Thread Cert.Pm.nD Cert.Pm.τ).loc Cert.Pm.main_arg0)) (m ((c.tc : Thread Cert.Pm.nD Cert.Pm.τ).loc Cert.Pm.main_arg1))) = (fun _ => 1#1)

def Pre_PmIdeal [hPre_in_pool : Cert.Pre_in_pool.Facts] (m : (ℓ : Loc Cert.PmIdeal.nD Cert.PmIdeal.τ Cert.PmIdeal.sig) → Buf (Elt Ideal) ℓ) : Prop :=
  ∀ c : Dev Cert.PmIdeal.nD,
    (Cert.Pre_in_pool.fn (F := Ideal) (m ((c.tc : Thread Cert.PmIdeal.nD Cert.PmIdeal.τ).loc Cert.PmIdeal.main_arg0)) (m ((c.tc : Thread Cert.PmIdeal.nD Cert.PmIdeal.τ).loc Cert.PmIdeal.main_arg1))) = (fun _ => 1#1)

def Pre_PmRefIdeal (m : (ℓ : Loc Cert.PmRefIdeal.nD Cert.PmRefIdeal.τ Cert.PmRefIdeal.sig) → Buf (Elt Ideal) ℓ) : Prop :=
  True

def Pre_PmRefIdeal_in_pool [hPre_in_pool : Cert.Pre_in_pool.Facts] (m : (ℓ : Loc Cert.PmRefIdeal.nD Cert.PmRefIdeal.τ Cert.PmRefIdeal.sig) → Buf (Elt Ideal) ℓ) : Prop :=
  ∀ c : Dev Cert.PmRefIdeal.nD,
    (Cert.Pre_in_pool.fn (F := Ideal) (m ((c.tc : Thread Cert.PmRefIdeal.nD Cert.PmRefIdeal.τ).loc Cert.PmRefIdeal.main_arg0)) (m ((c.tc : Thread Cert.PmRefIdeal.nD Cert.PmRefIdeal.τ).loc Cert.PmRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1)
      ∧ r.2.mem ((c.tc : Thread Cert.Key.nD Cert.Key.τ).loc Cert.Key.main_arg2) = m ((c.tc : Thread Cert.Key.nD Cert.Key.τ).loc Cert.Key.main_arg2)
      ∧ r.2.mem ((c.tc : Thread Cert.Key.nD Cert.Key.τ).loc Cert.Key.main_arg3) = m ((c.tc : Thread Cert.Key.nD Cert.Key.τ).loc Cert.Key.main_arg3))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1)
      ∧ r.2.mem ((c.tc : Thread Cert.KeyIdeal.nD Cert.KeyIdeal.τ).loc Cert.KeyIdeal.main_arg2) = m ((c.tc : Thread Cert.KeyIdeal.nD Cert.KeyIdeal.τ).loc Cert.KeyIdeal.main_arg2)
      ∧ r.2.mem ((c.tc : Thread Cert.KeyIdeal.nD Cert.KeyIdeal.τ).loc Cert.KeyIdeal.main_arg3) = m ((c.tc : Thread Cert.KeyIdeal.nD Cert.KeyIdeal.τ).loc Cert.KeyIdeal.main_arg3))
      ∧ r.2.sem = fun _ => 0)

def quiescent_KeyRefIdeal [hKeyRefIdeal : Cert.KeyRefIdeal.Facts] : Prop :=
  ∀ (m : (ℓ : Loc Cert.KeyRefIdeal.nD Cert.KeyRefIdeal.τ Cert.KeyRefIdeal.sig) → Buf (Elt Ideal) ℓ) (g : Dev Cert.KeyRefIdeal.nD → PrngReg), Pre_KeyRefIdeal m →
    θ_run (Cert.KeyRefIdeal.defs (F := Ideal)) (onTc (τ := Cert.KeyRefIdeal.τ) (Cert.KeyRefIdeal.main (F := Ideal))) ⟨m, fun _ => 0, g⟩ (fun r => (∀ c : Dev Cert.KeyRefIdeal.nD,
      r.2.mem ((c.tc : Thread Cert.KeyRefIdeal.nD Cert.KeyRefIdeal.τ).loc Cert.KeyRefIdeal.main_arg0) = m ((c.tc : Thread Cert.KeyRefIdeal.nD Cert.KeyRefIdeal.τ).loc Cert.KeyRefIdeal.main_arg0)
      ∧ r.2.mem ((c.tc : Thread Cert.KeyRefIdeal.nD Cert.KeyRefIdeal.τ).loc Cert.KeyRefIdeal.main_arg1) = m ((c.tc : Thread Cert.KeyRefIdeal.nD Cert.KeyRefIdeal.τ).loc Cert.KeyRefIdeal.main_arg1)
      ∧ r.2.mem ((c.tc : Thread Cert.KeyRefIdeal.nD Cert.KeyRefIdeal.τ).loc Cert.KeyRefIdeal.main_arg2) = m ((c.tc : Thread Cert.KeyRefIdeal.nD Cert.KeyRefIdeal.τ).loc Cert.KeyRefIdeal.main_arg2)
      ∧ r.2.mem ((c.tc : Thread Cert.KeyRefIdeal.nD Cert.KeyRefIdeal.τ).loc Cert.KeyRefIdeal.main_arg3) = m ((c.tc : Thread Cert.KeyRefIdeal.nD Cert.KeyRefIdeal.τ).loc Cert.KeyRefIdeal.main_arg3))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1)
      ∧ r.2.mem ((c.tc : Thread Cert.Val.nD Cert.Val.τ).loc Cert.Val.main_arg2) = m ((c.tc : Thread Cert.Val.nD Cert.Val.τ).loc Cert.Val.main_arg2)
      ∧ r.2.mem ((c.tc : Thread Cert.Val.nD Cert.Val.τ).loc Cert.Val.main_arg3) = m ((c.tc : Thread Cert.Val.nD Cert.Val.τ).loc Cert.Val.main_arg3))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
      ∧ r.2.mem ((c.tc : Thread Cert.ValIdeal.nD Cert.ValIdeal.τ).loc Cert.ValIdeal.main_arg2) = m ((c.tc : Thread Cert.ValIdeal.nD Cert.ValIdeal.τ).loc Cert.ValIdeal.main_arg2)
      ∧ r.2.mem ((c.tc : Thread Cert.ValIdeal.nD Cert.ValIdeal.τ).loc Cert.ValIdeal.main_arg3) = m ((c.tc : Thread Cert.ValIdeal.nD Cert.ValIdeal.τ).loc Cert.ValIdeal.main_arg3))
      ∧ r.2.sem = fun _ => 0)

def quiescent_ValRefIdeal [hValRefIdeal : Cert.ValRefIdeal.Facts] : Prop :=
  ∀ (m : (ℓ : Loc Cert.ValRefIdeal.nD Cert.ValRefIdeal.τ Cert.ValRefIdeal.sig) → Buf (Elt Ideal) ℓ) (g : Dev Cert.ValRefIdeal.nD → PrngReg), Pre_ValRefIdeal m →
    θ_run (Cert.ValRefIdeal.defs (F := Ideal)) (onTc (τ := Cert.ValRefIdeal.τ) (Cert.ValRefIdeal.main (F := Ideal))) ⟨m, fun _ => 0, g⟩ (fun r => (∀ c : Dev Cert.ValRefIdeal.nD,
      r.2.mem ((c.tc : Thread Cert.ValRefIdeal.nD Cert.ValRefIdeal.τ).loc Cert.ValRefIdeal.main_arg0) = m ((c.tc : Thread Cert.ValRefIdeal.nD Cert.ValRefIdeal.τ).loc Cert.ValRefIdeal.main_arg0)
      ∧ r.2.mem ((c.tc : Thread Cert.ValRefIdeal.nD Cert.ValRefIdeal.τ).loc Cert.ValRefIdeal.main_arg1) = m ((c.tc : Thread Cert.ValRefIdeal.nD Cert.ValRefIdeal.τ).loc Cert.ValRefIdeal.main_arg1)
      ∧ r.2.mem ((c.tc : Thread Cert.ValRefIdeal.nD Cert.ValRefIdeal.τ).loc Cert.ValRefIdeal.main_arg2) = m ((c.tc : Thread Cert.ValRefIdeal.nD Cert.ValRefIdeal.τ).loc Cert.ValRefIdeal.main_arg2)
      ∧ r.2.mem ((c.tc : Thread Cert.ValRefIdeal.nD Cert.ValRefIdeal.τ).loc Cert.ValRefIdeal.main_arg3) = m ((c.tc : Thread Cert.ValRefIdeal.nD Cert.ValRefIdeal.τ).loc Cert.ValRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_NormSRefIdeal [hNormSRefIdeal : Cert.NormSRefIdeal.Facts] : Prop :=
  ∀ (m : (ℓ : Loc Cert.NormSRefIdeal.nD Cert.NormSRefIdeal.τ Cert.NormSRefIdeal.sig) → Buf (Elt Ideal) ℓ) (g : Dev Cert.NormSRefIdeal.nD → PrngReg), Pre_NormSRefIdeal m →
    θ_run (Cert.NormSRefIdeal.defs (F := Ideal)) (onTc (τ := Cert.NormSRefIdeal.τ) (Cert.NormSRefIdeal.main (F := Ideal))) ⟨m, fun _ => 0, g⟩ (fun r => (∀ c : Dev Cert.NormSRefIdeal.nD,
      r.2.mem ((c.tc : Thread Cert.NormSRefIdeal.nD Cert.NormSRefIdeal.τ).loc Cert.NormSRefIdeal.main_arg0) = m ((c.tc : Thread Cert.NormSRefIdeal.nD Cert.NormSRefIdeal.τ).loc Cert.NormSRefIdeal.main_arg0)
      ∧ r.2.mem ((c.tc : Thread Cert.NormSRefIdeal.nD Cert.NormSRefIdeal.τ).loc Cert.NormSRefIdeal.main_arg1) = m ((c.tc : Thread Cert.NormSRefIdeal.nD Cert.NormSRefIdeal.τ).loc Cert.NormSRefIdeal.main_arg1))
      ∧ r.2.sem = fun _ => 0)

def quiescent_Hp [hHp : Cert.Hp.Facts] : Prop :=
  ∀ (m : (ℓ : Loc Cert.Hp.nD Cert.Hp.τ Cert.Hp.sig) → Buf (Elt Bits) ℓ) (g : Dev Cert.Hp.nD → PrngReg), Pre_Hp m →
    θ_run (Cert.Hp.defs (F := Bits)) (onTc (τ := Cert.Hp.τ) (Cert.Hp.main (F := Bits))) ⟨m, fun _ => 0, g⟩ (fun r => (∀ c : Dev Cert.Hp.nD,
      r.2.mem ((c.tc : Thread Cert.Hp.nD Cert.Hp.τ).loc Cert.Hp.main_arg0) = m ((c.tc : Thread Cert.Hp.nD Cert.Hp.τ).loc Cert.Hp.main_arg0)
      ∧ r.2.mem ((c.tc : Thread Cert.Hp.nD Cert.Hp.τ).loc Cert.Hp.main_arg1) = m ((c.tc : Thread Cert.Hp.nD Cert.Hp.τ).loc Cert.Hp.main_arg1)
      ∧ r.2.mem ((c.tc : Thread Cert.Hp.nD Cert.Hp.τ).loc Cert.Hp.main_arg2) = m ((c.tc : Thread Cert.Hp.nD Cert.Hp.τ).loc Cert.Hp.main_arg2))
      ∧ r.2.sem = fun _ => 0)

def quiescent_HpIdeal [hHpIdeal : Cert.HpIdeal.Facts] : Prop :=
  ∀ (m : (ℓ : Loc Cert.HpIdeal.nD Cert.HpIdeal.τ Cert.HpIdeal.sig) → Buf (Elt Ideal) ℓ) (g : Dev Cert.HpIdeal.nD → PrngReg), Pre_HpIdeal m →
    θ_run (Cert.HpIdeal.defs (F := Ideal)) (onTc (τ := Cert.HpIdeal.τ) (Cert.HpIdeal.main (F := Ideal))) ⟨m, fun _ => 0, g⟩ (fun r => (∀ c : Dev Cert.HpIdeal.nD,
      r.2.mem ((c.tc : Thread Cert.HpIdeal.nD Cert.HpIdeal.τ).loc Cert.HpIdeal.main_arg0) = m ((c.tc : Thread Cert.HpIdeal.nD Cert.HpIdeal.τ).loc Cert.HpIdeal.main_arg0)
      ∧ r.2.mem ((c.tc : Thread Cert.HpIdeal.nD Cert.HpIdeal.τ).loc Cert.HpIdeal.main_arg1) = m ((c.tc : Thread Cert.HpIdeal.nD Cert.HpIdeal.τ).loc Cert.HpIdeal.main_arg1)
      ∧ r.2.mem ((c.tc : Thread Cert.HpIdeal.nD Cert.HpIdeal.τ).loc Cert.HpIdeal.main_arg2) = m ((c.tc : Thread Cert.HpIdeal.nD Cert.HpIdeal.τ).loc Cert.HpIdeal.main_arg2))
      ∧ r.2.sem = fun _ => 0)

def quiescent_HpIdeal_pre_finite_hp [hHpIdeal : Cert.HpIdeal.Facts] [hPre_finite_hp : Cert.Pre_finite_hp.Facts] : Prop :=
  ∀ (m : (ℓ : Loc Cert.HpIdeal.nD Cert.HpIdeal.τ Cert.HpIdeal.sig) → Buf (Elt Ideal) ℓ) (g : Dev Cert.HpIdeal.nD → PrngReg), Pre_HpIdeal_finite_hp m →
    θ_run (Cert.HpIdeal.defs (F := Ideal)) (onTc (τ := Cert.HpIdeal.τ) (Cert.HpIdeal.main (F := Ideal))) ⟨m, fun _ => 0, g⟩ (fun r => (∀ c : Dev Cert.HpIdeal.nD,
      r.2.mem ((c.tc : Thread Cert.HpIdeal.nD Cert.HpIdeal.τ).loc Cert.HpIdeal.main_arg0) = m ((c.tc : Thread Cert.HpIdeal.nD Cert.HpIdeal.τ).loc Cert.HpIdeal.main_arg0)
      ∧ r.2.mem ((c.tc : Thread Cert.HpIdeal.nD Cert.HpIdeal.τ).loc Cert.HpIdeal.main_arg1) = m ((c.tc : Thread Cert.HpIdeal.nD Cert.HpIdeal.τ).loc Cert.HpIdeal.main_arg1)
      ∧ r.2.mem ((c.tc : Thread Cert.HpIdeal.nD Cert.HpIdeal.τ).loc Cert.HpIdeal.main_arg2) = m ((c.tc : Thread Cert.HpIdeal.nD Cert.HpIdeal.τ).loc Cert.HpIdeal.main_arg2))
      ∧ r.2.sem = fun _ => 0)

def quiescent_HpRefIdeal [hHpRefIdeal : Cert.HpRefIdeal.Facts] : Prop :=
  ∀ (m : (ℓ : Loc Cert.HpRefIdeal.nD Cert.HpRefIdeal.τ Cert.HpRefIdeal.sig) → Buf (Elt Ideal) ℓ) (g : Dev Cert.HpRefIdeal.nD → PrngReg), Pre_HpRefIdeal m →
    θ_run (Cert.HpRefIdeal.defs (F := Ideal)) (onTc (τ := Cert.HpRefIdeal.τ) (Cert.HpRefIdeal.main (F := Ideal))) ⟨m, fun _ => 0, g⟩ (fun r => (∀ c : Dev Cert.HpRefIdeal.nD,
      r.2.mem ((c.tc : Thread Cert.HpRefIdeal.nD Cert.HpRefIdeal.τ).loc Cert.HpRefIdeal.main_arg0) = m ((c.tc : Thread Cert.HpRefIdeal.nD Cert.HpRefIdeal.τ).loc Cert.HpRefIdeal.main_arg0)
      ∧ r.2.mem ((c.tc : Thread Cert.HpRefIdeal.nD Cert.HpRefIdeal.τ).loc Cert.HpRefIdeal.main_arg1) = m ((c.tc : Thread Cert.HpRefIdeal.nD Cert.HpRefIdeal.τ).loc Cert.HpRefIdeal.main_arg1)
      ∧ r.2.mem ((c.tc : Thread Cert.HpRefIdeal.nD Cert.HpRefIdeal.τ).loc Cert.HpRefIdeal.main_arg2) = m ((c.tc : Thread Cert.HpRefIdeal.nD Cert.HpRefIdeal.τ).loc Cert.HpRefIdeal.main_arg2))
      ∧ r.2.sem = fun _ => 0)

def quiescent_HpRefIdeal_pre_finite_hp [hHpRefIdeal : Cert.HpRefIdeal.Facts] [hPre_finite_hp : Cert.Pre_finite_hp.Facts] : Prop :=
  ∀ (m : (ℓ : Loc Cert.HpRefIdeal.nD Cert.HpRefIdeal.τ Cert.HpRefIdeal.sig) → Buf (Elt Ideal) ℓ) (g : Dev Cert.HpRefIdeal.nD → PrngReg), Pre_HpRefIdeal_finite_hp m →
    θ_run (Cert.HpRefIdeal.defs (F := Ideal)) (onTc (τ := Cert.HpRefIdeal.τ) (Cert.HpRefIdeal.main (F := Ideal))) ⟨m, fun _ => 0, g⟩ (fun r => (∀ c : Dev Cert.HpRefIdeal.nD,
      r.2.mem ((c.tc : Thread Cert.HpRefIdeal.nD Cert.HpRefIdeal.τ).loc Cert.HpRefIdeal.main_arg0) = m ((c.tc : Thread Cert.HpRefIdeal.nD Cert.HpRefIdeal.τ).loc Cert.HpRefIdeal.main_arg0)
      ∧ r.2.mem ((c.tc : Thread Cert.HpRefIdeal.nD Cert.HpRefIdeal.τ).loc Cert.HpRefIdeal.main_arg1) = m ((c.tc : Thread Cert.HpRefIdeal.nD Cert.HpRefIdeal.τ).loc Cert.HpRefIdeal.main_arg1)
      ∧ r.2.mem ((c.tc : Thread Cert.HpRefIdeal.nD Cert.HpRefIdeal.τ).loc Cert.HpRefIdeal.main_arg2) = m ((c.tc : Thread Cert.HpRefIdeal.nD Cert.HpRefIdeal.τ).loc Cert.HpRefIdeal.main_arg2))
      ∧ r.2.sem = fun _ => 0)

def quiescent_Pm [hPm : Cert.Pm.Facts] [hPre_in_pool : Cert.Pre_in_pool.Facts] : Prop :=
  ∀ (m : (ℓ : Loc Cert.Pm.nD Cert.Pm.τ Cert.Pm.sig) → Buf (Elt Bits) ℓ) (g : Dev Cert.Pm.nD → PrngReg), Pre_Pm m →
    θ_run (Cert.Pm.defs (F := Bits)) (onTc (τ := Cert.Pm.τ) (Cert.Pm.main (F := Bits))) ⟨m, fun _ => 0, g⟩ (fun r => (∀ c : Dev Cert.Pm.nD,
      r.2.mem ((c.tc : Thread Cert.Pm.nD Cert.Pm.τ).loc Cert.Pm.main_arg0) = m ((c.tc : Thread Cert.Pm.nD Cert.Pm.τ).loc Cert.Pm.main_arg0)
      ∧ r.2.mem ((c.tc : Thread Cert.Pm.nD Cert.Pm.τ).loc Cert.Pm.main_arg1) = m ((c.tc : Thread Cert.Pm.nD Cert.Pm.τ).loc Cert.Pm.main_arg1))
      ∧ r.2.sem = fun _ => 0)

def quiescent_PmIdeal [hPmIdeal : Cert.PmIdeal.Facts] [hPre_in_pool : Cert.Pre_in_pool.Facts] : Prop :=
  ∀ (m : (ℓ : Loc Cert.PmIdeal.nD Cert.PmIdeal.τ Cert.PmIdeal.sig) → Buf (Elt Ideal) ℓ) (g : Dev Cert.PmIdeal.nD → PrngReg), Pre_PmIdeal m →
    θ_run (Cert.PmIdeal.defs (F := Ideal)) (onTc (τ := Cert.PmIdeal.τ) (Cert.PmIdeal.main (F := Ideal))) ⟨m, fun _ => 0, g⟩ (fun r => (∀ c : Dev Cert.PmIdeal.nD,
      r.2.mem ((c.tc : Thread Cert.PmIdeal.nD Cert.PmIdeal.τ).loc Cert.PmIdeal.main_arg0) = m ((c.tc : Thread Cert.PmIdeal.nD Cert.PmIdeal.τ).loc Cert.PmIdeal.main_arg0)
      ∧ r.2.mem ((c.tc : Thread Cert.PmIdeal.nD Cert.PmIdeal.τ).loc Cert.PmIdeal.main_arg1) = m ((c.tc : Thread Cert.PmIdeal.nD Cert.PmIdeal.τ).loc Cert.PmIdeal.main_arg1))
      ∧ r.2.sem = fun _ => 0)

def quiescent_PmRefIdeal [hPmRefIdeal : Cert.PmRefIdeal.Facts] : Prop :=
  ∀ (m : (ℓ : Loc Cert.PmRefIdeal.nD Cert.PmRefIdeal.τ Cert.PmRefIdeal.sig) → Buf (Elt Ideal) ℓ) (g : Dev Cert.PmRefIdeal.nD → PrngReg), Pre_PmRefIdeal m →
    θ_run (Cert.PmRefIdeal.defs (F := Ideal)) (onTc (τ := Cert.PmRefIdeal.τ) (Cert.PmRefIdeal.main (F := Ideal))) ⟨m, fun _ => 0, g⟩ (fun r => (∀ c : Dev Cert.PmRefIdeal.nD,
      r.2.mem ((c.tc : Thread Cert.PmRefIdeal.nD Cert.PmRefIdeal.τ).loc Cert.PmRefIdeal.main_arg0) = m ((c.tc : Thread Cert.PmRefIdeal.nD Cert.PmRefIdeal.τ).loc Cert.PmRefIdeal.main_arg0)
      ∧ r.2.mem ((c.tc : Thread Cert.PmRefIdeal.nD Cert.PmRefIdeal.τ).loc Cert.PmRefIdeal.main_arg1) = m ((c.tc : Thread Cert.PmRefIdeal.nD Cert.PmRefIdeal.τ).loc Cert.PmRefIdeal.main_arg1))
      ∧ r.2.sem = fun _ => 0)

def quiescent_PmRefIdeal_pre_in_pool [hPmRefIdeal : Cert.PmRefIdeal.Facts] [hPre_in_pool : Cert.Pre_in_pool.Facts] : Prop :=
  ∀ (m : (ℓ : Loc Cert.PmRefIdeal.nD Cert.PmRefIdeal.τ Cert.PmRefIdeal.sig) → Buf (Elt Ideal) ℓ) (g : Dev Cert.PmRefIdeal.nD → PrngReg), Pre_PmRefIdeal_in_pool m →
    θ_run (Cert.PmRefIdeal.defs (F := Ideal)) (onTc (τ := Cert.PmRefIdeal.τ) (Cert.PmRefIdeal.main (F := Ideal))) ⟨m, fun _ => 0, g⟩ (fun r => (∀ c : Dev Cert.PmRefIdeal.nD,
      r.2.mem ((c.tc : Thread Cert.PmRefIdeal.nD Cert.PmRefIdeal.τ).loc Cert.PmRefIdeal.main_arg0) = m ((c.tc : Thread Cert.PmRefIdeal.nD Cert.PmRefIdeal.τ).loc Cert.PmRefIdeal.main_arg0)
      ∧ r.2.mem ((c.tc : Thread Cert.PmRefIdeal.nD Cert.PmRefIdeal.τ).loc Cert.PmRefIdeal.main_arg1) = m ((c.tc : Thread Cert.PmRefIdeal.nD Cert.PmRefIdeal.τ).loc Cert.PmRefIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_v10) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v6) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v6) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v12) = v0 c
          ∧ r.2.mem ((c.tc : Thread Cert.MergeRefIdeal.nD Cert.MergeRefIdeal.τ).loc Cert.MergeRefIdeal.main_v23) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v3_0)) (v1 : (c : Dev Cert.GatesIdeal.nD) → Buf (Elt Ideal) ((c.tc : Thread Cert.GatesIdeal.nD Cert.GatesIdeal.τ).loc Cert.GatesIdeal.main_v3_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3_0) = v0 c
          ∧ r.2.mem ((c.tc : Thread Cert.GatesIdeal.nD Cert.GatesIdeal.τ).loc Cert.GatesIdeal.main_v3_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v10) = v0 c
          ∧ r.2.mem ((c.tc : Thread Cert.GatesRefIdeal.nD Cert.GatesRefIdeal.τ).loc Cert.GatesRefIdeal.main_v21) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Hgrn_HgrnIdeal : Prop :=
  True

def algebraic_HgrnIdeal_HgrnRefIdeal [hHgrnIdeal : Cert.HgrnIdeal.Facts] [hHgrnRefIdeal : Cert.HgrnRefIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v3_0)) (v1 : (c : Dev Cert.HgrnIdeal.nD) → Buf (Elt Ideal) ((c.tc : Thread Cert.HgrnIdeal.nD Cert.HgrnIdeal.τ).loc Cert.HgrnIdeal.main_v3_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v3_0) = v0 c
          ∧ r.2.mem ((c.tc : Thread Cert.HgrnIdeal.nD Cert.HgrnIdeal.τ).loc Cert.HgrnIdeal.main_v3_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v3) = v0 c
          ∧ r.2.mem ((c.tc : Thread Cert.HgrnRefIdeal.nD Cert.HgrnRefIdeal.τ).loc Cert.HgrnRefIdeal.main_v7) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v3_0)) (v1 : (c : Dev Cert.QueryIdeal.nD) → Buf (Elt Ideal) ((c.tc : Thread Cert.QueryIdeal.nD Cert.QueryIdeal.τ).loc Cert.QueryIdeal.main_v3_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v3_0) = v0 c
          ∧ r.2.mem ((c.tc : Thread Cert.QueryIdeal.nD Cert.QueryIdeal.τ).loc Cert.QueryIdeal.main_v3_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v3) = v0 c
          ∧ r.2.mem ((c.tc : Thread Cert.QueryRefIdeal.nD Cert.QueryRefIdeal.τ).loc Cert.QueryRefIdeal.main_v7) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_Key_KeyIdeal : Prop :=
  True

def algebraic_KeyIdeal_KeyRefIdeal [hKeyIdeal : Cert.KeyIdeal.Facts] [hKeyRefIdeal : Cert.KeyRefIdeal.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyRefIdeal.nD Cert.KeyRefIdeal.τ Cert.KeyRefIdeal.sig) → Buf (Elt Ideal) ℓ) (g' : Dev Cert.KeyRefIdeal.nD → PrngReg), Pre_KeyIdeal m →
    (∀ c : Dev Cert.KeyIdeal.nD,
      m' ((c.tc : Thread Cert.KeyRefIdeal.nD Cert.KeyRefIdeal.τ).loc Cert.KeyRefIdeal.main_arg0) = m ((c.tc : Thread Cert.KeyIdeal.nD Cert.KeyIdeal.τ).loc Cert.KeyIdeal.main_arg0)
      ∧ m' ((c.tc : Thread Cert.KeyRefIdeal.nD Cert.KeyRefIdeal.τ).loc Cert.KeyRefIdeal.main_arg1) = m ((c.tc : Thread Cert.KeyIdeal.nD Cert.KeyIdeal.τ).loc Cert.KeyIdeal.main_arg1)
      ∧ m' ((c.tc : Thread Cert.KeyRefIdeal.nD Cert.KeyRefIdeal.τ).loc Cert.KeyRefIdeal.main_arg2) = m ((c.tc : Thread Cert.KeyIdeal.nD Cert.KeyIdeal.τ).loc Cert.KeyIdeal.main_arg2)
      ∧ m' ((c.tc : Thread Cert.KeyRefIdeal.nD Cert.KeyRefIdeal.τ).loc Cert.KeyRefIdeal.main_arg3) = m ((c.tc : Thread Cert.KeyIdeal.nD Cert.KeyIdeal.τ).loc Cert.KeyIdeal.main_arg3)) →
    ∃ (v0 : (c : Dev Cert.KeyIdeal.nD) → Buf (Elt Ideal) ((c.tc : Thread Cert.KeyIdeal.nD Cert.KeyIdeal.τ).loc Cert.KeyIdeal.main_v3_0)) (v1 : (c : Dev Cert.KeyIdeal.nD) → Buf (Elt Ideal) ((c.tc : Thread Cert.KeyIdeal.nD Cert.KeyIdeal.τ).loc Cert.KeyIdeal.main_v3_1)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v3_0) = v0 c
          ∧ r.2.mem ((c.tc : Thread Cert.KeyIdeal.nD Cert.KeyIdeal.τ).loc Cert.KeyIdeal.main_v3_1) = v1 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1)
          ∧ r.2.mem ((c.tc : Thread Cert.KeyIdeal.nD Cert.KeyIdeal.τ).loc Cert.KeyIdeal.main_arg2) = m ((c.tc : Thread Cert.KeyIdeal.nD Cert.KeyIdeal.τ).loc Cert.KeyIdeal.main_arg2)
          ∧ r.2.mem ((c.tc : Thread Cert.KeyIdeal.nD Cert.KeyIdeal.τ).loc Cert.KeyIdeal.main_arg3) = m ((c.tc : Thread Cert.KeyIdeal.nD Cert.KeyIdeal.τ).loc Cert.KeyIdeal.main_arg3))
      ∧ θ_run (Cert.KeyRefIdeal.defs (F := Ideal)) (onTc (τ := Cert.KeyRefIdeal.τ) (Cert.KeyRefIdeal.main (F := Ideal))) ⟨m', fun _ => 0, g'⟩ (fun r => ∀ c : Dev Cert.KeyRefIdeal.nD,
          r.2.mem ((c.tc : Thread Cert.KeyRefIdeal.nD Cert.KeyRefIdeal.τ).loc Cert.KeyRefIdeal.main_v12) = v0 c
          ∧ r.2.mem ((c.tc : Thread Cert.KeyRefIdeal.nD Cert.KeyRefIdeal.τ).loc Cert.KeyRefIdeal.main_v7) = v1 c
          ∧ r.2.mem ((c.tc : Thread Cert.KeyRefIdeal.nD Cert.KeyRefIdeal.τ).loc Cert.KeyRefIdeal.main_arg0) = m' ((c.tc : Thread Cert.KeyRefIdeal.nD Cert.KeyRefIdeal.τ).loc Cert.KeyRefIdeal.main_arg0)
          ∧ r.2.mem ((c.tc : Thread Cert.KeyRefIdeal.nD Cert.KeyRefIdeal.τ).loc Cert.KeyRefIdeal.main_arg1) = m' ((c.tc : Thread Cert.KeyRefIdeal.nD Cert.KeyRefIdeal.τ).loc Cert.KeyRefIdeal.main_arg1)
          ∧ r.2.mem ((c.tc : Thread Cert.KeyRefIdeal.nD Cert.KeyRefIdeal.τ).loc Cert.KeyRefIdeal.main_arg2) = m' ((c.tc : Thread Cert.KeyRefIdeal.nD Cert.KeyRefIdeal.τ).loc Cert.KeyRefIdeal.main_arg2)
          ∧ r.2.mem ((c.tc : Thread Cert.KeyRefIdeal.nD Cert.KeyRefIdeal.τ).loc Cert.KeyRefIdeal.main_arg3) = m' ((c.tc : Thread Cert.KeyRefIdeal.nD Cert.KeyRefIdeal.τ).loc Cert.KeyRefIdeal.main_arg3))

def preserves_Val_ValIdeal : Prop :=
  True

def algebraic_ValIdeal_ValRefIdeal [hValIdeal : Cert.ValIdeal.Facts] [hValRefIdeal : Cert.ValRefIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValRefIdeal.nD Cert.ValRefIdeal.τ Cert.ValRefIdeal.sig) → Buf (Elt Ideal) ℓ) (g' : Dev Cert.ValRefIdeal.nD → PrngReg), Pre_ValIdeal m →
    (∀ c : Dev Cert.ValIdeal.nD,
      m' ((c.tc : Thread Cert.ValRefIdeal.nD Cert.ValRefIdeal.τ).loc Cert.ValRefIdeal.main_arg0) = m ((c.tc : Thread Cert.ValIdeal.nD Cert.ValIdeal.τ).loc Cert.ValIdeal.main_arg0)
      ∧ m' ((c.tc : Thread Cert.ValRefIdeal.nD Cert.ValRefIdeal.τ).loc Cert.ValRefIdeal.main_arg1) = m ((c.tc : Thread Cert.ValIdeal.nD Cert.ValIdeal.τ).loc Cert.ValIdeal.main_arg1)
      ∧ m' ((c.tc : Thread Cert.ValRefIdeal.nD Cert.ValRefIdeal.τ).loc Cert.ValRefIdeal.main_arg2) = m ((c.tc : Thread Cert.ValIdeal.nD Cert.ValIdeal.τ).loc Cert.ValIdeal.main_arg2)
      ∧ m' ((c.tc : Thread Cert.ValRefIdeal.nD Cert.ValRefIdeal.τ).loc Cert.ValRefIdeal.main_arg3) = m ((c.tc : Thread Cert.ValIdeal.nD Cert.ValIdeal.τ).loc Cert.ValIdeal.main_arg3)) →
    ∃ (v0 : (c : Dev Cert.ValIdeal.nD) → Buf (Elt Ideal) ((c.tc : Thread Cert.ValIdeal.nD Cert.ValIdeal.τ).loc Cert.ValIdeal.main_v3_0)) (v1 : (c : Dev Cert.ValIdeal.nD) → Buf (Elt Ideal) ((c.tc : Thread Cert.ValIdeal.nD Cert.ValIdeal.τ).loc Cert.ValIdeal.main_v3_1)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v3_0) = v0 c
          ∧ r.2.mem ((c.tc : Thread Cert.ValIdeal.nD Cert.ValIdeal.τ).loc Cert.ValIdeal.main_v3_1) = v1 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
          ∧ r.2.mem ((c.tc : Thread Cert.ValIdeal.nD Cert.ValIdeal.τ).loc Cert.ValIdeal.main_arg2) = m ((c.tc : Thread Cert.ValIdeal.nD Cert.ValIdeal.τ).loc Cert.ValIdeal.main_arg2)
          ∧ r.2.mem ((c.tc : Thread Cert.ValIdeal.nD Cert.ValIdeal.τ).loc Cert.ValIdeal.main_arg3) = m ((c.tc : Thread Cert.ValIdeal.nD Cert.ValIdeal.τ).loc Cert.ValIdeal.main_arg3))
      ∧ θ_run (Cert.ValRefIdeal.defs (F := Ideal)) (onTc (τ := Cert.ValRefIdeal.τ) (Cert.ValRefIdeal.main (F := Ideal))) ⟨m', fun _ => 0, g'⟩ (fun r => ∀ c : Dev Cert.ValRefIdeal.nD,
          r.2.mem ((c.tc : Thread Cert.ValRefIdeal.nD Cert.ValRefIdeal.τ).loc Cert.ValRefIdeal.main_v12) = v0 c
          ∧ r.2.mem ((c.tc : Thread Cert.ValRefIdeal.nD Cert.ValRefIdeal.τ).loc Cert.ValRefIdeal.main_v7) = v1 c
          ∧ r.2.mem ((c.tc : Thread Cert.ValRefIdeal.nD Cert.ValRefIdeal.τ).loc Cert.ValRefIdeal.main_arg0) = m' ((c.tc : Thread Cert.ValRefIdeal.nD Cert.ValRefIdeal.τ).loc Cert.ValRefIdeal.main_arg0)
          ∧ r.2.mem ((c.tc : Thread Cert.ValRefIdeal.nD Cert.ValRefIdeal.τ).loc Cert.ValRefIdeal.main_arg1) = m' ((c.tc : Thread Cert.ValRefIdeal.nD Cert.ValRefIdeal.τ).loc Cert.ValRefIdeal.main_arg1)
          ∧ r.2.mem ((c.tc : Thread Cert.ValRefIdeal.nD Cert.ValRefIdeal.τ).loc Cert.ValRefIdeal.main_arg2) = m' ((c.tc : Thread Cert.ValRefIdeal.nD Cert.ValRefIdeal.τ).loc Cert.ValRefIdeal.main_arg2)
          ∧ r.2.mem ((c.tc : Thread Cert.ValRefIdeal.nD Cert.ValRefIdeal.τ).loc Cert.ValRefIdeal.main_arg3) = m' ((c.tc : Thread Cert.ValRefIdeal.nD Cert.ValRefIdeal.τ).loc Cert.ValRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormS_NormSIdeal : Prop :=
  True

def algebraic_NormSIdeal_NormSRefIdeal [hNormSIdeal : Cert.NormSIdeal.Facts] [hNormSRefIdeal : Cert.NormSRefIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.NormSRefIdeal.nD Cert.NormSRefIdeal.τ Cert.NormSRefIdeal.sig) → Buf (Elt Ideal) ℓ) (g' : Dev Cert.NormSRefIdeal.nD → PrngReg), Pre_NormSIdeal m →
    (∀ c : Dev Cert.NormSIdeal.nD,
      m' ((c.tc : Thread Cert.NormSRefIdeal.nD Cert.NormSRefIdeal.τ).loc Cert.NormSRefIdeal.main_arg0) = m ((c.tc : Thread Cert.NormSIdeal.nD Cert.NormSIdeal.τ).loc Cert.NormSIdeal.main_arg0)
      ∧ m' ((c.tc : Thread Cert.NormSRefIdeal.nD Cert.NormSRefIdeal.τ).loc Cert.NormSRefIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v1)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v1) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.NormSRefIdeal.defs (F := Ideal)) (onTc (τ := Cert.NormSRefIdeal.τ) (Cert.NormSRefIdeal.main (F := Ideal))) ⟨m', fun _ => 0, g'⟩ (fun r => ∀ c : Dev Cert.NormSRefIdeal.nD,
          r.2.mem ((c.tc : Thread Cert.NormSRefIdeal.nD Cert.NormSRefIdeal.τ).loc Cert.NormSRefIdeal.main_v12) = v0 c
          ∧ r.2.mem ((c.tc : Thread Cert.NormSRefIdeal.nD Cert.NormSRefIdeal.τ).loc Cert.NormSRefIdeal.main_arg0) = m' ((c.tc : Thread Cert.NormSRefIdeal.nD Cert.NormSRefIdeal.τ).loc Cert.NormSRefIdeal.main_arg0)
          ∧ r.2.mem ((c.tc : Thread Cert.NormSRefIdeal.nD Cert.NormSRefIdeal.τ).loc Cert.NormSRefIdeal.main_arg1) = m' ((c.tc : Thread Cert.NormSRefIdeal.nD Cert.NormSRefIdeal.τ).loc Cert.NormSRefIdeal.main_arg1))

def preserves_Hp_HpIdeal : Prop :=
  IdealRules.named_const.Statement Cert.HpIdeal.κ "log2e" .f32 0x3FB8AA3B#32 (((Real.log 2)⁻¹ : ℝ) : EReal)

def algebraic_HpIdeal_HpRefIdeal_pre_finite_hp [hHpIdeal : Cert.HpIdeal.Facts] [hHpRefIdeal : Cert.HpRefIdeal.Facts] [hPre_finite_hp : Cert.Pre_finite_hp.Facts] : Prop :=
  ∀ (m : (ℓ : Loc Cert.HpIdeal.nD Cert.HpIdeal.τ Cert.HpIdeal.sig) → Buf (Elt Ideal) ℓ) (g : Dev Cert.HpIdeal.nD → PrngReg)
    (m' : (ℓ : Loc Cert.HpRefIdeal.nD Cert.HpRefIdeal.τ Cert.HpRefIdeal.sig) → Buf (Elt Ideal) ℓ) (g' : Dev Cert.HpRefIdeal.nD → PrngReg), Pre_HpIdeal_finite_hp m →
    (∀ c : Dev Cert.HpIdeal.nD,
      m' ((c.tc : Thread Cert.HpRefIdeal.nD Cert.HpRefIdeal.τ).loc Cert.HpRefIdeal.main_arg0) = m ((c.tc : Thread Cert.HpIdeal.nD Cert.HpIdeal.τ).loc Cert.HpIdeal.main_arg0)
      ∧ m' ((c.tc : Thread Cert.HpRefIdeal.nD Cert.HpRefIdeal.τ).loc Cert.HpRefIdeal.main_arg1) = m ((c.tc : Thread Cert.HpIdeal.nD Cert.HpIdeal.τ).loc Cert.HpIdeal.main_arg1)
      ∧ m' ((c.tc : Thread Cert.HpRefIdeal.nD Cert.HpRefIdeal.τ).loc Cert.HpRefIdeal.main_arg2) = m ((c.tc : Thread Cert.HpIdeal.nD Cert.HpIdeal.τ).loc Cert.HpIdeal.main_arg2)) →
    ∃ (v0 : (c : Dev Cert.HpIdeal.nD) → Buf (Elt Ideal) ((c.tc : Thread Cert.HpIdeal.nD Cert.HpIdeal.τ).loc Cert.HpIdeal.main_v0_1)),
      θ_run (Cert.HpIdeal.defs (F := Ideal)) (onTc (τ := Cert.HpIdeal.τ) (Cert.HpIdeal.main (F := Ideal))) ⟨m, fun _ => 0, g⟩ (fun r => ∀ c : Dev Cert.HpIdeal.nD,
          r.2.mem ((c.tc : Thread Cert.HpIdeal.nD Cert.HpIdeal.τ).loc Cert.HpIdeal.main_v0_1) = v0 c
          ∧ r.2.mem ((c.tc : Thread Cert.HpIdeal.nD Cert.HpIdeal.τ).loc Cert.HpIdeal.main_arg0) = m ((c.tc : Thread Cert.HpIdeal.nD Cert.HpIdeal.τ).loc Cert.HpIdeal.main_arg0)
          ∧ r.2.mem ((c.tc : Thread Cert.HpIdeal.nD Cert.HpIdeal.τ).loc Cert.HpIdeal.main_arg1) = m ((c.tc : Thread Cert.HpIdeal.nD Cert.HpIdeal.τ).loc Cert.HpIdeal.main_arg1)
          ∧ r.2.mem ((c.tc : Thread Cert.HpIdeal.nD Cert.HpIdeal.τ).loc Cert.HpIdeal.main_arg2) = m ((c.tc : Thread Cert.HpIdeal.nD Cert.HpIdeal.τ).loc Cert.HpIdeal.main_arg2))
      ∧ θ_run (Cert.HpRefIdeal.defs (F := Ideal)) (onTc (τ := Cert.HpRefIdeal.τ) (Cert.HpRefIdeal.main (F := Ideal))) ⟨m', fun _ => 0, g'⟩ (fun r => ∀ c : Dev Cert.HpRefIdeal.nD,
          r.2.mem ((c.tc : Thread Cert.HpRefIdeal.nD Cert.HpRefIdeal.τ).loc Cert.HpRefIdeal.main_v31_4) = v0 c
          ∧ r.2.mem ((c.tc : Thread Cert.HpRefIdeal.nD Cert.HpRefIdeal.τ).loc Cert.HpRefIdeal.main_arg0) = m' ((c.tc : Thread Cert.HpRefIdeal.nD Cert.HpRefIdeal.τ).loc Cert.HpRefIdeal.main_arg0)
          ∧ r.2.mem ((c.tc : Thread Cert.HpRefIdeal.nD Cert.HpRefIdeal.τ).loc Cert.HpRefIdeal.main_arg1) = m' ((c.tc : Thread Cert.HpRefIdeal.nD Cert.HpRefIdeal.τ).loc Cert.HpRefIdeal.main_arg1)
          ∧ r.2.mem ((c.tc : Thread Cert.HpRefIdeal.nD Cert.HpRefIdeal.τ).loc Cert.HpRefIdeal.main_arg2) = m' ((c.tc : Thread Cert.HpRefIdeal.nD Cert.HpRefIdeal.τ).loc Cert.HpRefIdeal.main_arg2))

def preserves_Pm_PmIdeal : Prop :=
  True

def algebraic_PmIdeal_PmRefIdeal [hPmIdeal : Cert.PmIdeal.Facts] [hPmRefIdeal : Cert.PmRefIdeal.Facts] [hPre_in_pool : Cert.Pre_in_pool.Facts] : Prop :=
  ∀ (m : (ℓ : Loc Cert.PmIdeal.nD Cert.PmIdeal.τ Cert.PmIdeal.sig) → Buf (Elt Ideal) ℓ) (g : Dev Cert.PmIdeal.nD → PrngReg)
    (m' : (ℓ : Loc Cert.PmRefIdeal.nD Cert.PmRefIdeal.τ Cert.PmRefIdeal.sig) → Buf (Elt Ideal) ℓ) (g' : Dev Cert.PmRefIdeal.nD → PrngReg), Pre_PmIdeal m →
    (∀ c : Dev Cert.PmIdeal.nD,
      m' ((c.tc : Thread Cert.PmRefIdeal.nD Cert.PmRefIdeal.τ).loc Cert.PmRefIdeal.main_arg0) = m ((c.tc : Thread Cert.PmIdeal.nD Cert.PmIdeal.τ).loc Cert.PmIdeal.main_arg0)
      ∧ m' ((c.tc : Thread Cert.PmRefIdeal.nD Cert.PmRefIdeal.τ).loc Cert.PmRefIdeal.main_arg1) = m ((c.tc : Thread Cert.PmIdeal.nD Cert.PmIdeal.τ).loc Cert.PmIdeal.main_arg1)) →
    ∃ (v0 : (c : Dev Cert.PmIdeal.nD) → Buf (Elt Ideal) ((c.tc : Thread Cert.PmIdeal.nD Cert.PmIdeal.τ).loc Cert.PmIdeal.main_v0)),
      θ_run (Cert.PmIdeal.defs (F := Ideal)) (onTc (τ := Cert.PmIdeal.τ) (Cert.PmIdeal.main (F := Ideal))) ⟨m, fun _ => 0, g⟩ (fun r => ∀ c : Dev Cert.PmIdeal.nD,
          r.2.mem ((c.tc : Thread Cert.PmIdeal.nD Cert.PmIdeal.τ).loc Cert.PmIdeal.main_v0) = v0 c
          ∧ r.2.mem ((c.tc : Thread Cert.PmIdeal.nD Cert.PmIdeal.τ).loc Cert.PmIdeal.main_arg0) = m ((c.tc : Thread Cert.PmIdeal.nD Cert.PmIdeal.τ).loc Cert.PmIdeal.main_arg0)
          ∧ r.2.mem ((c.tc : Thread Cert.PmIdeal.nD Cert.PmIdeal.τ).loc Cert.PmIdeal.main_arg1) = m ((c.tc : Thread Cert.PmIdeal.nD Cert.PmIdeal.τ).loc Cert.PmIdeal.main_arg1))
      ∧ θ_run (Cert.PmRefIdeal.defs (F := Ideal)) (onTc (τ := Cert.PmRefIdeal.τ) (Cert.PmRefIdeal.main (F := Ideal))) ⟨m', fun _ => 0, g'⟩ (fun r => ∀ c : Dev Cert.PmRefIdeal.nD,
          r.2.mem ((c.tc : Thread Cert.PmRefIdeal.nD Cert.PmRefIdeal.τ).loc Cert.PmRefIdeal.main_v32) = v0 c
          ∧ r.2.mem ((c.tc : Thread Cert.PmRefIdeal.nD Cert.PmRefIdeal.τ).loc Cert.PmRefIdeal.main_arg0) = m' ((c.tc : Thread Cert.PmRefIdeal.nD Cert.PmRefIdeal.τ).loc Cert.PmRefIdeal.main_arg0)
          ∧ r.2.mem ((c.tc : Thread Cert.PmRefIdeal.nD Cert.PmRefIdeal.τ).loc Cert.PmRefIdeal.main_arg1) = m' ((c.tc : Thread Cert.PmRefIdeal.nD Cert.PmRefIdeal.τ).loc Cert.PmRefIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hGates : Cert.Gates.Facts) (hGatesIdeal : Cert.GatesIdeal.Facts) (hGatesRefIdeal : Cert.GatesRefIdeal.Facts) (hHgrn : Cert.Hgrn.Facts) (hHgrnIdeal : Cert.HgrnIdeal.Facts) (hHgrnRefIdeal : Cert.HgrnRefIdeal.Facts) (hQuery : Cert.Query.Facts) (hQueryIdeal : Cert.QueryIdeal.Facts) (hQueryRefIdeal : Cert.QueryRefIdeal.Facts) (hKey : Cert.Key.Facts) (hKeyIdeal : Cert.KeyIdeal.Facts) (hKeyRefIdeal : Cert.KeyRefIdeal.Facts) (hVal : Cert.Val.Facts) (hValIdeal : Cert.ValIdeal.Facts) (hValRefIdeal : Cert.ValRefIdeal.Facts) (hNorm : Cert.Norm.Facts) (hNormIdeal : Cert.NormIdeal.Facts) (hNormRefIdeal : Cert.NormRefIdeal.Facts) (hNormS : Cert.NormS.Facts) (hNormSIdeal : Cert.NormSIdeal.Facts) (hNormSRefIdeal : Cert.NormSRefIdeal.Facts) (hHp : Cert.Hp.Facts) (hHpIdeal : Cert.HpIdeal.Facts) (hHpRefIdeal : Cert.HpRefIdeal.Facts) (hPm : Cert.Pm.Facts) (hPmIdeal : Cert.PmIdeal.Facts) (hPmRefIdeal : Cert.PmRefIdeal.Facts) (hPre_finite : Cert.Pre_finite.Facts) (hPre_finite_hp : Cert.Pre_finite_hp.Facts) (hPre_in_pool : Cert.Pre_in_pool.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_Gates (hGates := hGates)
    ∧ quiescent_GatesIdeal (hGatesIdeal := hGatesIdeal)
    ∧ quiescent_GatesRefIdeal (hGatesRefIdeal := hGatesRefIdeal)
    ∧ quiescent_Hgrn (hHgrn := hHgrn)
    ∧ quiescent_HgrnIdeal (hHgrnIdeal := hHgrnIdeal)
    ∧ quiescent_HgrnRefIdeal (hHgrnRefIdeal := hHgrnRefIdeal)
    ∧ quiescent_Query (hQuery := hQuery)
    ∧ quiescent_QueryIdeal (hQueryIdeal := hQueryIdeal)
    ∧ quiescent_QueryRefIdeal (hQueryRefIdeal := hQueryRefIdeal)
    ∧ quiescent_Key (hKey := hKey)
    ∧ quiescent_KeyIdeal (hKeyIdeal := hKeyIdeal)
    ∧ quiescent_KeyRefIdeal (hKeyRefIdeal := hKeyRefIdeal)
    ∧ quiescent_Val (hVal := hVal)
    ∧ quiescent_ValIdeal (hValIdeal := hValIdeal)
    ∧ quiescent_ValRefIdeal (hValRefIdeal := hValRefIdeal)
    ∧ quiescent_Norm (hNorm := hNorm)
    ∧ quiescent_NormIdeal (hNormIdeal := hNormIdeal)
    ∧ quiescent_NormRefIdeal (hNormRefIdeal := hNormRefIdeal)
    ∧ quiescent_NormS (hNormS := hNormS)
    ∧ quiescent_NormSIdeal (hNormSIdeal := hNormSIdeal)
    ∧ quiescent_NormSRefIdeal (hNormSRefIdeal := hNormSRefIdeal)
    ∧ quiescent_Hp (hHp := hHp)
    ∧ quiescent_HpIdeal (hHpIdeal := hHpIdeal)
    ∧ quiescent_HpIdeal_pre_finite_hp (hHpIdeal := hHpIdeal) (hPre_finite_hp := hPre_finite_hp)
    ∧ quiescent_HpRefIdeal (hHpRefIdeal := hHpRefIdeal)
    ∧ quiescent_HpRefIdeal_pre_finite_hp (hHpRefIdeal := hHpRefIdeal) (hPre_finite_hp := hPre_finite_hp)
    ∧ quiescent_Pm (hPm := hPm) (hPre_in_pool := hPre_in_pool)
    ∧ quiescent_PmIdeal (hPmIdeal := hPmIdeal) (hPre_in_pool := hPre_in_pool)
    ∧ quiescent_PmRefIdeal (hPmRefIdeal := hPmRefIdeal)
    ∧ quiescent_PmRefIdeal_pre_in_pool (hPmRefIdeal := hPmRefIdeal) (hPre_in_pool := hPre_in_pool)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
    ∧ preserves_Gates_GatesIdeal
    ∧ algebraic_GatesIdeal_GatesRefIdeal (hGatesIdeal := hGatesIdeal) (hGatesRefIdeal := hGatesRefIdeal)
    ∧ preserves_Hgrn_HgrnIdeal
    ∧ algebraic_HgrnIdeal_HgrnRefIdeal (hHgrnIdeal := hHgrnIdeal) (hHgrnRefIdeal := hHgrnRefIdeal)
    ∧ preserves_Query_QueryIdeal
    ∧ algebraic_QueryIdeal_QueryRefIdeal (hQueryIdeal := hQueryIdeal) (hQueryRefIdeal := hQueryRefIdeal)
    ∧ preserves_Key_KeyIdeal
    ∧ algebraic_KeyIdeal_KeyRefIdeal (hKeyIdeal := hKeyIdeal) (hKeyRefIdeal := hKeyRefIdeal)
    ∧ preserves_Val_ValIdeal
    ∧ algebraic_ValIdeal_ValRefIdeal (hValIdeal := hValIdeal) (hValRefIdeal := hValRefIdeal)
    ∧ preserves_Norm_NormIdeal
    ∧ algebraic_NormIdeal_NormRefIdeal (hNormIdeal := hNormIdeal) (hNormRefIdeal := hNormRefIdeal)
    ∧ preserves_NormS_NormSIdeal
    ∧ algebraic_NormSIdeal_NormSRefIdeal (hNormSIdeal := hNormSIdeal) (hNormSRefIdeal := hNormSRefIdeal)
    ∧ preserves_Hp_HpIdeal
    ∧ algebraic_HpIdeal_HpRefIdeal_pre_finite_hp (hHpIdeal := hHpIdeal) (hHpRefIdeal := hHpRefIdeal) (hPre_finite_hp := hPre_finite_hp)
    ∧ preserves_Pm_PmIdeal
    ∧ algebraic_PmIdeal_PmRefIdeal (hPmIdeal := hPmIdeal) (hPmRefIdeal := hPmRefIdeal) (hPre_in_pool := hPre_in_pool)
-- ==== Pre_finite.lean ====
abbrev S32x8192 : Shape := ⟨2, ![32, 8192]⟩
abbrev S8x16x128x128 : Shape := ⟨4, ![8, 16, 128, 128]⟩
abbrev S2x2048 : Shape := ⟨2, ![2, 2048]⟩
abbrev S2x128 : Shape := ⟨2, ![2, 128]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel

variable [Facts]

def fn {F : FTy → Type} [FloatOps F] (main_arg0 : FVec F S32x8192 .f32) (main_arg1 : FVec F S8x16x128x128 .f32) (main_arg2 : FVec F S2x2048 .f32) (main_arg3 : FVec F S2x128 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  main_v3
-- ==== Pre_finite_hp.lean ====
abbrev S8192x8192 : Shape := ⟨2, ![8192, 8192]⟩
abbrev S2x2048 : Shape := ⟨2, ![2, 2048]⟩
abbrev S2x128 : Shape := ⟨2, ![2, 128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S2x2048 .f32) (main_arg2 : FVec F S2x128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Pre_in_pool.lean ====
abbrev S2x1280x128x16x128 : Shape := ⟨5, ![2, 1280, 128, 16, 128]⟩
abbrev S8x128 : Shape := ⟨2, ![8, 128]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : FVec F S2x1280x128x16x128 .f32) (main_arg1 : IVec S8x128 32) : IVec S_ 1 :=
  let main_c : IVec S_ 32 := constantI S_ 32 0#32
  let main_v0 : IVec S8x128 32 := broadcastInDim S8x128 ![] bcast_S_S8x128 main_c
  let main_v1 : IVec S8x128 1 := cmpi .sge main_arg1 main_v0
  let main_c_0 : IVec S_ 32 := constantI S_ 32 1280#32
  let main_v2 : IVec S8x128 32 := broadcastInDim S8x128 ![] bcast_S_S8x128 main_c_0
  let main_v3 : IVec S8x128 1 := cmpi .slt main_arg1 main_v2
  let main_v4 : IVec S8x128 1 := andi main_v1 main_v3
  let main_c_1 : IVec S_ 1 := constantI S_ 1 1#1
  let main_v5 : IVec S_ 1 := (fun x v => Host.reduce IntOp.andi x v reducesTo_S8x128_S_d0_1 h_S_) main_v4 main_c_1
  main_v5
-- ==== Kernel.lean ====
abbrev S32x8192 : Shape := ⟨2, ![32, 8192]⟩
abbrev S8x16x128x128 : Shape := ⟨4, ![8, 16, 128, 128]⟩
abbrev S2x2048 : Shape := ⟨2, ![2, 2048]⟩
abbrev S2x128 : Shape := ⟨2, ![2, 128]⟩
abbrev S8x4x8192 : Shape := ⟨3, ![8, 4, 8192]⟩
abbrev S_ : Shape := ⟨0, ![]⟩
abbrev S8x8x8192 : Shape := ⟨3, ![8, 8, 8192]⟩
abbrev S8x8x2048 : Shape := ⟨3, ![8, 8, 2048]⟩
abbrev S1x8x128 : Shape := ⟨3, ![1, 8, 128]⟩
abbrev S1x1x128x128 : Shape := ⟨4, ![1, 1, 128, 128]⟩
abbrev S8x128 : Shape := ⟨2, ![8, 128]⟩
abbrev S128x128 : Shape := ⟨2, ![128, 128]⟩
abbrev S1x8 : Shape := ⟨2, ![1, 8]⟩
abbrev S1x8x1 : Shape := ⟨3, ![1, 8, 1]⟩
abbrev S1x128 : Shape := ⟨2, ![1, 128]⟩
abbrev S8 : Shape := ⟨1, ![8]⟩
abbrev S8x1 : Shape := ⟨2, ![8, 1]⟩

abbrev nBuf : Space → Nat
  | .hbm => 10
  | .vmem => 17
  | .smem => 0
  | _ => 0

abbrev bufTy : (tb : Table) → Fin (tcTables nBuf tb) → BufTy
  | .hbm, ⟨0, _⟩ => ⟨S32x8192, .f32⟩
  | .hbm, ⟨1, _⟩ => ⟨S8x16x128x128, .f32⟩
  | .hbm, ⟨2, _⟩ => ⟨S2x2048, .f32⟩
  | .hbm, ⟨3, _⟩ => ⟨S2x128, .f32⟩
  | .hbm, ⟨4, _⟩ => ⟨S8x4x8192, .f32⟩
  | .hbm, ⟨5, _⟩ => ⟨S_, .i32⟩
  | .hbm, ⟨6, _⟩ => ⟨S_, .f32⟩
  | .hbm, ⟨7, _⟩ => ⟨S8x8x8192, .f32⟩
  | .hbm, ⟨8, _⟩ => ⟨S8x8x2048, .bf16⟩
  | .hbm, ⟨9, _⟩ => ⟨S8x16x128x128, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x1x128x128, .f32⟩
  | .local _ .vmem, ⟨9, _⟩ => ⟨S1x1x128x128, .f32⟩
  | .local _ .vmem, ⟨10, _⟩ => ⟨S2x128, .f32⟩
  | .local _ .vmem, ⟨11, _⟩ => ⟨S2x128, .f32⟩
  | .local _ .vmem, ⟨12, _⟩ => ⟨S2x128, .f32⟩
  | .local _ .vmem, ⟨13, _⟩ => ⟨S1x8x128, .bf16⟩
  | .local _ .vmem, ⟨14, _⟩ => ⟨S1x8x128, .bf16⟩
  | .local _ .vmem, ⟨15, _⟩ => ⟨S1x1x128x128, .f32⟩
  | .local _ .vmem, ⟨16, _⟩ => ⟨S1x1x128x128, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32x8192 : Shape := ⟨2, ![32, 8192]⟩
abbrev S8x16x128x128 : Shape := ⟨4, ![8, 16, 128, 128]⟩
abbrev S2x2048 : Shape := ⟨2, ![2, 2048]⟩
abbrev S2x128 : Shape := ⟨2, ![2, 128]⟩
abbrev S8x4x8192 : Shape := ⟨3, ![8, 4, 8192]⟩
abbrev S8x4x2048 : Shape := ⟨3, ![8, 4, 2048]⟩
abbrev S_ : Shape := ⟨0, ![]⟩
abbrev S8x4x16x128 : Shape := ⟨4, ![8, 4, 16, 128]⟩
abbrev S4x4 : Shape := ⟨2, ![4, 4]⟩
abbrev S1x4x4x1x1 : Shape := ⟨5, ![1, 4, 4, 1, 1]⟩
abbrev S8x4x1x16x128 : Shape := ⟨5, ![8, 4, 1, 16, 128]⟩
abbrev S8x1x4x16x128 : Shape := ⟨5, ![8, 1, 4, 16, 128]⟩
abbrev S8x4x4x16x128 : Shape := ⟨5, ![8, 4, 4, 16, 128]⟩
abbrev S8x4x4x16 : Shape := ⟨4, ![8, 4, 4, 16]⟩
abbrev S8x16x128x4 : Shape := ⟨4, ![8, 16, 128, 4]⟩
abbrev S8x1x16x128 : Shape := ⟨4, ![8, 1, 16, 128]⟩
abbrev S8x16x128 : Shape := ⟨3, ![8, 16, 128]⟩
abbrev S8x16x128x1 : Shape := ⟨4, ![8, 16, 128, 1]⟩
abbrev S1x128 : Shape := ⟨2, ![1, 128]⟩
abbrev S128 : Shape := ⟨1, ![128]⟩
abbrev S8x4x16 : Shape := ⟨3, ![8, 4, 16]⟩
abbrev S8x4x16x1 : Shape := ⟨4, ![8, 4, 16, 1]⟩
abbrev S1x1x1x128 : Shape := ⟨4, ![1, 1, 1, 128]⟩
abbrev S8x8x2048 : Shape := ⟨3, ![8, 8, 2048]⟩

abbrev nBuf : Space → Nat
  | .hbm => 127
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S8x16x128x128, .f32⟩
  | .hbm, ⟨2, _⟩ => ⟨S2x2048, .f32⟩
  | .hbm, ⟨3, _⟩ => ⟨S2x128, .f32⟩
  | .hbm, ⟨4, _⟩ => ⟨S8x4x8192, .f32⟩
  | .hbm, ⟨5, _⟩ => ⟨S8x4x2048, .f32⟩
  | .hbm, ⟨6, _⟩ => ⟨S8x4x2048, .f32⟩
  | .hbm, ⟨7, _⟩ => ⟨S8x4x2048, .f32⟩
  | .hbm, ⟨8, _⟩ => ⟨S8x4x2048, .f32⟩
  | .hbm, ⟨9, _⟩ => ⟨S8x4x2048, .f32⟩
  | .hbm, ⟨10, _⟩ => ⟨S8x4x2048, .f32⟩
  | .hbm, ⟨11, _⟩ => ⟨S_, .f32⟩
  | .hbm, ⟨12, _⟩ => ⟨S8x4x2048, .f32⟩
  | .hbm, ⟨13, _⟩ => ⟨S8x4x2048, .f32⟩
  | .hbm, ⟨14, _⟩ => ⟨S_, .f32⟩
  | .hbm, ⟨15, _⟩ => ⟨S8x4x2048, .f32⟩
  | .hbm, ⟨16, _⟩ => ⟨S8x4x2048, .f32⟩
  | .hbm, ⟨17, _⟩ => ⟨S8x4x2048, .f32⟩
  | .hbm, ⟨18, _⟩ => ⟨S8x4x16x128, .f32⟩
  | .hbm, ⟨19, _⟩ => ⟨S8x4x2048, .f32⟩
  | .hbm, ⟨20, _⟩ => ⟨S_, .f32⟩
  | .hbm, ⟨21, _⟩ => ⟨S8x4x2048, .f32⟩
  | .hbm, ⟨22, _⟩ => ⟨S8x4x2048, .f32⟩
  | .hbm, ⟨23, _⟩ => ⟨S8x4x2048, .f32⟩
  | .hbm, ⟨24, _⟩ => ⟨S8x4x2048, .f32⟩
  | .hbm, ⟨25, _⟩ => ⟨S8x4x2048, .i1⟩
  | .hbm, ⟨26, _⟩ => ⟨S8x4x2048, .f32⟩
  | .hbm, ⟨27, _⟩ => ⟨S8x4x2048, .f32⟩
  | .hbm, ⟨28, _⟩ => ⟨S8x4x2048, .f32⟩
  | .hbm, ⟨29, _⟩ => ⟨S8x4x2048, .f32⟩
  | .hbm, ⟨30, _⟩ => ⟨S8x4x2048, .f32⟩
  | .hbm, ⟨31, _⟩ => ⟨S8x4x2048, .f32⟩
  | .hbm, ⟨32, _⟩ => ⟨S8x4x2048, .f32⟩
  | .hbm, ⟨33, _⟩ => ⟨S8x4x2048, .f32⟩
  | .hbm, ⟨34, _⟩ => ⟨S8x4x2048, .f32⟩
  | .hbm, ⟨35, _⟩ => ⟨S8x4x16x128, .f32⟩
  | .hbm, ⟨36, _⟩ => ⟨S8x4x16x128, .f32⟩
  | .hbm, ⟨37, _⟩ => ⟨S8x4x16x128, .f32⟩
  | .hbm, ⟨38, _⟩ => ⟨S8x4x16x128, .f32⟩
  | .hbm, ⟨39, _⟩ => ⟨S_, .i1⟩
  | .hbm, ⟨40, _⟩ => ⟨S4x4, .i1⟩
  | .hbm, ⟨41, _⟩ => ⟨S4x4, .i32⟩
  | .hbm, ⟨42, _⟩ => ⟨S_, .i32⟩
  | .hbm, ⟨43, _⟩ => ⟨S4x4, .i32⟩
  | .hbm, ⟨44, _⟩ => ⟨S4x4, .i32⟩
  | .hbm, ⟨45, _⟩ => ⟨S4x4, .i32⟩
  | .hbm, ⟨46, _⟩ => ⟨S4x4, .i1⟩
  | .hbm, ⟨47, _⟩ => ⟨S_, .i1⟩
  | .hbm, ⟨48, _⟩ => ⟨S4x4, .i1⟩
  | .hbm, ⟨49, _⟩ => ⟨S4x4, .i1⟩
  | .hbm, ⟨50, _⟩ => ⟨S1x4x4x1x1, .i1⟩
  | .hbm, ⟨51, _⟩ => ⟨S_, .f32⟩
  | .hbm, ⟨52, _⟩ => ⟨S_, .f32⟩
  | .hbm, ⟨53, _⟩ => ⟨S8x4x16x128, .f32⟩
  | .hbm, ⟨54, _⟩ => ⟨S8x4x1x16x128, .f32⟩
  | .hbm, ⟨55, _⟩ => ⟨S8x1x4x16x128, .f32⟩
  | .hbm, ⟨56, _⟩ => ⟨S8x4x4x16x128, .f32⟩
  | .hbm, ⟨57, _⟩ => ⟨S8x4x4x16x128, .f32⟩
  | .hbm, ⟨58, _⟩ => ⟨S8x4x4x16x128, .f32⟩
  | .hbm, ⟨59, _⟩ => ⟨S_, .f32⟩
  | .hbm, ⟨60, _⟩ => ⟨S_, .f32⟩
  | .hbm, ⟨61, _⟩ => ⟨S8x4x4x16x128, .i1⟩
  | .hbm, ⟨62, _⟩ => ⟨S8x4x4x16x128, .f32⟩
  | .hbm, ⟨63, _⟩ => ⟨S8x4x4x16x128, .f32⟩
  | .hbm, ⟨64, _⟩ => ⟨S8x4x4x16x128, .f32⟩
  | .hbm, ⟨65, _⟩ => ⟨S8x4x1x16x128, .f32⟩
  | .hbm, ⟨66, _⟩ => ⟨S8x1x4x16x128, .f32⟩
  | .hbm, ⟨67, _⟩ => ⟨S8x4x4x16x128, .f32⟩
  | .hbm, ⟨68, _⟩ => ⟨S8x4x4x16x128, .f32⟩
  | .hbm, ⟨69, _⟩ => ⟨S8x4x4x16x128, .f32⟩
  | .hbm, ⟨70, _⟩ => ⟨S8x4x4x16x128, .f32⟩
  | .hbm, ⟨71, _⟩ => ⟨S_, .f32⟩
  | .hbm, ⟨72, _⟩ => ⟨S8x4x4x16, .f32⟩
  | .hbm, ⟨73, _⟩ => ⟨S8x16x128x4, .f32⟩
  | .hbm, ⟨74, _⟩ => ⟨S8x4x16x128, .f32⟩
  | .hbm, ⟨75, _⟩ => ⟨S8x4x16x128, .f32⟩
  | .hbm, ⟨76, _⟩ => ⟨S8x4x16x128, .f32⟩
  | .hbm, ⟨77, _⟩ => ⟨S8x16x128x4, .f32⟩
  | .hbm, ⟨78, _⟩ => ⟨S8x4x16x128, .f32⟩
  | .hbm, ⟨79, _⟩ => ⟨S8x4x16x128, .f32⟩
  | .hbm, ⟨80, _⟩ => ⟨S8x1x16x128, .f32⟩
  | .hbm, ⟨81, _⟩ => ⟨S8x16x128, .f32⟩
  | .hbm, ⟨82, _⟩ => ⟨S8x16x128, .f32⟩
  | .hbm, ⟨83, _⟩ => ⟨S8x16x128x1, .f32⟩
  | .hbm, ⟨84, _⟩ => ⟨S8x16x128x128, .f32⟩
  | .hbm, ⟨85, _⟩ => ⟨S8x16x128x128, .f32⟩
  | .hbm, ⟨86, _⟩ => ⟨S8x1x16x128, .f32⟩
  | .hbm, ⟨87, _⟩ => ⟨S8x4x16x128, .f32⟩
  | .hbm, ⟨88, _⟩ => ⟨S8x4x16x128, .f32⟩
  | .hbm, ⟨89, _⟩ => ⟨S8x4x16x128, .f32⟩
  | .hbm, ⟨90, _⟩ => ⟨S8x4x16x128, .f32⟩
  | .hbm, ⟨91, _⟩ => ⟨S8x16x128x128, .f32⟩
  | .hbm, ⟨92, _⟩ => ⟨S8x16x128x128, .f32⟩
  | .hbm, ⟨93, _⟩ => ⟨S1x128, .f32⟩
  | .hbm, ⟨94, _⟩ => ⟨S128, .f32⟩
  | .hbm, ⟨95, _⟩ => ⟨S8x4x16x128, .f32⟩
  | .hbm, ⟨96, _⟩ => ⟨S_, .f32⟩
  | .hbm, ⟨97, _⟩ => ⟨S8x4x16, .f32⟩
  | .hbm, ⟨98, _⟩ => ⟨S8x4x16x1, .f32⟩
  | .hbm, ⟨99, _⟩ => ⟨S_, .f32⟩
  | .hbm, ⟨100, _⟩ => ⟨S8x4x16x1, .f32⟩
  | .hbm, ⟨101, _⟩ => ⟨S8x4x16x1, .f32⟩
  | .hbm, ⟨102, _⟩ => ⟨S_, .f32⟩
  | .hbm, ⟨103, _⟩ => ⟨S8x4x16x1, .f32⟩
  | .hbm, ⟨104, _⟩ => ⟨S8x4x16x1, .f32⟩
  | .hbm, ⟨105, _⟩ => ⟨S8x4x16x1, .f32⟩
  | .hbm, ⟨106, _⟩ => ⟨S8x4x16x128, .f32⟩
  | .hbm, ⟨107, _⟩ => ⟨S8x4x16x128, .f32⟩
  | .hbm, ⟨108, _⟩ => ⟨S1x1x1x128, .f32⟩
  | .hbm, ⟨109, _⟩ => ⟨S8x4x16x128, .f32⟩
  | .hbm, ⟨110, _⟩ => ⟨S8x4x16x128, .f32⟩
  | .hbm, ⟨111, _⟩ => ⟨S8x4x16x128, .f32⟩
  | .hbm, ⟨112, _⟩ => ⟨S8x4x16x128, .f32⟩
  | .hbm, ⟨113, _⟩ => ⟨S8x4x16x128, .f32⟩
  | .hbm, ⟨114, _⟩ => ⟨S_, .f32⟩
  | .hbm, ⟨115, _⟩ => ⟨S8x4x16x128, .f32⟩
  | .hbm, ⟨116, _⟩ => ⟨S8x4x16x128, .f32⟩
  | .hbm, ⟨117, _⟩ => ⟨S_, .f32⟩
  | .hbm, ⟨118, _⟩ => ⟨S8x4x16x128, .f32⟩
  | .hbm, ⟨119, _⟩ => ⟨S8x4x16x128, .f32⟩
  | .hbm, ⟨120, _⟩ => ⟨S8x4x16x128, .f32⟩
  | .hbm, ⟨121, _⟩ => ⟨S8x4x16x128, .f32⟩
  | .hbm, ⟨122, _⟩ => ⟨S8x4x2048, .f32⟩
  | .hbm, ⟨123, _⟩ => ⟨S8x4x2048, .bf16⟩
  | .hbm, ⟨124, _⟩ => ⟨S_, .i32⟩
  | .hbm, ⟨125, _⟩ => ⟨S_, .bf16⟩
  | .hbm, ⟨126, _⟩ => ⟨S8x8x2048, .bf16⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_call0_cst : Ref sig .tc := ⟨.hbm, 20, rfl⟩
abbrev main_call1_call0_v0 : Ref sig .tc := ⟨.hbm, 21, rfl⟩
abbrev main_call1_call0_v1 : Ref sig .tc := ⟨.hbm, 22, rfl⟩
abbrev main_call1_call0_v2 : Ref sig .tc := ⟨.hbm, 23, rfl⟩
abbrev main_call1_call0_v3 : Ref sig .tc := ⟨.hbm, 24, rfl⟩
abbrev main_call1_call0_v4 : Ref sig .tc := ⟨.hbm, 25, rfl⟩
abbrev main_call1_call0_v5 : Ref sig .tc := ⟨.hbm, 26, rfl⟩
abbrev main_call1_call0_v6 : Ref sig .tc := ⟨.hbm, 27, rfl⟩
abbrev main_call1_call0_v7 : Ref sig .tc := ⟨.hbm, 28, rfl⟩
abbrev main_call1_call0_v8 : Ref sig .tc := ⟨.hbm, 29, rfl⟩
abbrev main_call1_call0_v9 : Ref sig .tc := ⟨.hbm, 30, rfl⟩
abbrev main_call1_call0_v10 : Ref sig .tc := ⟨.hbm, 31, rfl⟩
abbrev main_call1_call0_v11 : Ref sig .tc := ⟨.hbm, 32, rfl⟩
abbrev main_call1_v1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c : Ref sig .tc := ⟨.hbm, 39, rfl⟩
abbrev main_v12 : Ref sig .tc := ⟨.hbm, 40, rfl⟩
abbrev main_call2_v0 : Ref sig .tc := ⟨.hbm, 41, rfl⟩
abbrev main_call2_c : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_c_0 : Ref sig .tc := ⟨.hbm, 47, rfl⟩
abbrev main_call2_v5 : Ref sig .tc := ⟨.hbm, 48, rfl⟩
abbrev main_v13 : Ref sig .tc := ⟨.hbm, 49, rfl⟩
abbrev main_v14 : Ref sig .tc := ⟨.hbm, 50, rfl⟩
abbrev main_call3_call0_cst : Ref sig .tc := ⟨.hbm, 51, rfl⟩
abbrev main_call3_call0_v0 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_0 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_1 : Ref sig .tc := ⟨.hbm, 96, rfl⟩
abbrev main_v53 : Ref sig .tc := ⟨.hbm, 97, rfl⟩
abbrev main_v54 : Ref sig .tc := ⟨.hbm, 98, rfl⟩
abbrev main_cst_2 : Ref sig .tc := ⟨.hbm, 99, rfl⟩
abbrev main_v55 : Ref sig .tc := ⟨.hbm, 100, rfl⟩
abbrev main_v56 : Ref sig .tc := ⟨.hbm, 101, rfl⟩
abbrev main_cst_3 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_call5_v0 : Ref sig .tc := ⟨.hbm, 112, rfl⟩
abbrev main_call5_v1 : Ref sig .tc := ⟨.hbm, 113, rfl⟩
abbrev main_call5_cst : Ref sig .tc := ⟨.hbm, 114, rfl⟩
abbrev main_call5_v2 : Ref sig .tc := ⟨.hbm, 115, rfl⟩
abbrev main_call5_v3 : Ref sig .tc := ⟨.hbm, 116, rfl⟩
abbrev main_call5_cst_0 : Ref sig .tc := ⟨.hbm, 117, rfl⟩
abbrev main_call5_v4 : Ref sig .tc := ⟨.hbm, 118, rfl⟩
abbrev main_call5_v5 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_c_4 : Ref sig .tc := ⟨.hbm, 124, rfl⟩
abbrev main_call6_v0 : Ref sig .tc := ⟨.hbm, 125, rfl⟩
abbrev main_v70 : Ref sig .tc := ⟨.hbm, 126, rfl⟩

abbrev nD : Nat := 1
abbrev τ : Topo := Topo.v7x

variable {F : FTy → Type} [FloatOps F]
-- ==== Up.lean ====
abbrev S8192x4096 : Shape := ⟨2, ![8192, 4096]⟩
abbrev S32x4096 : Shape := ⟨2, ![32, 4096]⟩
abbrev S4096x16384 : Shape := ⟨2, ![4096, 16384]⟩
abbrev S8192x16384 : Shape := ⟨2, ![8192, 16384]⟩
abbrev S32x16384 : Shape := ⟨2, ![32, 16384]⟩
abbrev S1024x4096 : Shape := ⟨2, ![1024, 4096]⟩
abbrev S4096x1024 : Shape := ⟨2, ![4096, 1024]⟩
abbrev S1024x1024 : Shape := ⟨2, ![1024, 1024]⟩
abbrev S32x1024 : Shape := ⟨2, ![32, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S4096x16384, .bf16⟩
  | .hbm, ⟨3, _⟩ => ⟨S8192x16384, .bf16⟩
  | .hbm, ⟨4, _⟩ => ⟨S32x16384, .bf16⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S4096x1024, .bf16⟩
  | .local _ .vmem, ⟨4, _⟩ => ⟨S4096x1024, .bf16⟩
  | .local _ .vmem, ⟨5, _⟩ => ⟨S1024x1024, .bf16⟩
  | .local _ .vmem, ⟨6, _⟩ => ⟨S1024x1024, .bf16⟩
  | .local _ .vmem, ⟨7, _⟩ => ⟨S32x1024, .bf16⟩
  | .local _ .vmem, ⟨8, _⟩ => ⟨S32x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 8, 1], ![false, false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== UpRefIdeal.lean ====
abbrev S8192x4096 : Shape := ⟨2, ![8192, 4096]⟩
abbrev S32x4096 : Shape := ⟨2, ![32, 4096]⟩
abbrev S4096x16384 : Shape := ⟨2, ![4096, 16384]⟩
abbrev S8192x16384 : Shape := ⟨2, ![8192, 16384]⟩
abbrev S_ : Shape := ⟨0, ![]⟩
abbrev S32x16384 : Shape := ⟨2, ![32, 16384]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S4096x16384, .bf16⟩
  | .hbm, ⟨3, _⟩ => ⟨S4096x16384, .f32⟩
  | .hbm, ⟨4, _⟩ => ⟨S8192x4096, .f32⟩
  | .hbm, ⟨5, _⟩ => ⟨S8192x16384, .f32⟩
  | .hbm, ⟨6, _⟩ => ⟨S_, .f32⟩
  | .hbm, ⟨7, _⟩ => ⟨S8192x16384, .f32⟩
  | .hbm, ⟨8, _⟩ => ⟨S8192x16384, .f32⟩
  | .hbm, ⟨9, _⟩ => ⟨S8192x16384, .f32⟩
  | .hbm, ⟨10, _⟩ => ⟨S8192x16384, .bf16⟩
  | .hbm, ⟨11, _⟩ => ⟨S32x4096, .f32⟩
  | .hbm, ⟨12, _⟩ => ⟨S32x16384, .f32⟩
  | .hbm, ⟨13, _⟩ => ⟨S_, .f32⟩
  | .hbm, ⟨14, _⟩ => ⟨S32x16384, .f32⟩
  | .hbm, ⟨15, _⟩ => ⟨S32x16384, .f32⟩
  | .hbm, ⟨16, _⟩ => ⟨S32x16384, .f32⟩
  | .hbm, ⟨17, _⟩ => ⟨S32x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call1_cst : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Down.lean ====
abbrev S8192x16384 : Shape := ⟨2, ![8192, 16384]⟩
abbrev S32x16384 : Shape := ⟨2, ![32, 16384]⟩
abbrev S16384x4096 : Shape := ⟨2, ![16384, 4096]⟩
abbrev S8192x4096 : Shape := ⟨2, ![8192, 4096]⟩
abbrev S32x4096 : Shape := ⟨2, ![32, 4096]⟩
abbrev S1024x4096 : Shape := ⟨2, ![1024, 4096]⟩
abbrev S4096x1024 : Shape := ⟨2, ![4096, 1024]⟩
abbrev S1024x1024 : Shape := ⟨2, ![1024, 1024]⟩
abbrev S32x1024 : Shape := ⟨2, ![32, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x16384, .bf16⟩
  | .hbm, ⟨1, _⟩ => ⟨S32x16384, .bf16⟩
  | .hbm, ⟨2, _⟩ => ⟨S16384x4096, .bf16⟩
  | .hbm, ⟨3, _⟩ => ⟨S8192x4096, .f32⟩
  | .hbm, ⟨4, _⟩ => ⟨S32x4096, .f32⟩
  | .hbm, ⟨5, _⟩ => ⟨S8192x4096, .f32⟩
  | .hbm, ⟨6, _⟩ => ⟨S32x4096, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S32x4096, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .f32⟩
  | .local _ .vmem, ⟨7, _⟩ => ⟨S1024x1024, .f32⟩
  | .local _ .vmem, ⟨8, _⟩ => ⟨S32x1024, .f32⟩
  | .local _ .vmem, ⟨9, _⟩ => ⟨S32x1024, .f32⟩
  | .local _ .vmem, ⟨10, _⟩ => ⟨S1024x1024, .f32⟩
  | .local _ .vmem, ⟨11, _⟩ => ⟨S1024x1024, .f32⟩
  | .local _ .vmem, ⟨12, _⟩ => ⟨S32x1024, .f32⟩
  | .local _ .vmem, ⟨13, _⟩ => ⟨S32x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg1 : BitVec 32 := BitVec.ofNat 32 (i 1).val
  let c0_i32_8 : BitVec 32 := 0#32
  let v10 : BitVec 1 := Scalar.cmpi .eq arg1 c0_i32_8
  let v11 : BitVec 32 := Scalar.extui v10
  let c0_i32_9 : BitVec 32 := 0#32
  let v12 : BitVec 1 := Scalar.cmpi .ne v11 c0_i32_9
  v12

def k0_cond3 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== DownRefIdeal.lean ====
abbrev S8192x16384 : Shape := ⟨2, ![8192, 16384]⟩
abbrev S32x16384 : Shape := ⟨2, ![32, 16384]⟩
abbrev S16384x4096 : Shape := ⟨2, ![16384, 4096]⟩
abbrev S8192x4096 : Shape := ⟨2, ![8192, 4096]⟩
abbrev S32x4096 : Shape := ⟨2, ![32, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S32x16384, .bf16⟩
  | .hbm, ⟨2, _⟩ => ⟨S16384x4096, .bf16⟩
  | .hbm, ⟨3, _⟩ => ⟨S8192x4096, .f32⟩
  | .hbm, ⟨4, _⟩ => ⟨S32x4096, .f32⟩
  | .hbm, ⟨5, _⟩ => ⟨S16384x4096, .f32⟩
  | .hbm, ⟨6, _⟩ => ⟨S8192x16384, .f32⟩
  | .hbm, ⟨7, _⟩ => ⟨S8192x4096, .f32⟩
  | .hbm, ⟨8, _⟩ => ⟨S8192x4096, .f32⟩
  | .hbm, ⟨9, _⟩ => ⟨S32x16384, .f32⟩
  | .hbm, ⟨10, _⟩ => ⟨S32x4096, .f32⟩
  | .hbm, ⟨11, _⟩ => ⟨S32x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Out.lean ====
abbrev S8192x4096 : Shape := ⟨2, ![8192, 4096]⟩
abbrev S32x4096 : Shape := ⟨2, ![32, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S32x1024 : Shape := ⟨2, ![32, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S4096x4096, .bf16⟩
  | .hbm, ⟨3, _⟩ => ⟨S8192x4096, .f32⟩
  | .hbm, ⟨4, _⟩ => ⟨S32x4096, .f32⟩
  | .hbm, ⟨5, _⟩ => ⟨S8192x4096, .f32⟩
  | .hbm, ⟨6, _⟩ => ⟨S32x4096, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S4096x1024, .bf16⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | .local _ .vmem, ⟨7, _⟩ => ⟨S32x1024, .f32⟩
  | .local _ .vmem, ⟨8, _⟩ => ⟨S32x1024, .f32⟩
  | .local _ .vmem, ⟨9, _⟩ => ⟨S1024x1024, .f32⟩
  | .local _ .vmem, ⟨10, _⟩ => ⟨S1024x1024, .f32⟩
  | .local _ .vmem, ⟨11, _⟩ => ⟨S32x1024, .f32⟩
  | .local _ .vmem, ⟨12, _⟩ => ⟨S32x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 8, 1], ![false, false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_7 : BitVec 32 := 0#32
  let v8 : BitVec 1 := Scalar.cmpi .ne v7 c0_i32_7
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== OutRefIdeal.lean ====
abbrev S8192x4096 : Shape := ⟨2, ![8192, 4096]⟩
abbrev S32x4096 : Shape := ⟨2, ![32, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S4096x4096, .bf16⟩
  | .hbm, ⟨3, _⟩ => ⟨S8192x4096, .f32⟩
  | .hbm, ⟨4, _⟩ => ⟨S32x4096, .f32⟩
  | .hbm, ⟨5, _⟩ => ⟨S4096x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S32x4096, .f32⟩
  | .hbm, ⟨10, _⟩ => ⟨S32x4096, .f32⟩
  | .hbm, ⟨11, _⟩ => ⟨S32x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Merge.lean ====
abbrev S8192x2048 : Shape := ⟨2, ![8192, 2048]⟩
abbrev S32x2048 : Shape := ⟨2, ![32, 2048]⟩
abbrev S2048x4096 : Shape := ⟨2, ![2048, 4096]⟩
abbrev S8192x8192 : Shape := ⟨2, ![8192, 8192]⟩
abbrev S32x8192 : Shape := ⟨2, ![32, 8192]⟩
abbrev S8192x4096 : Shape := ⟨2, ![8192, 4096]⟩
abbrev S32x4096 : Shape := ⟨2, ![32, 4096]⟩
abbrev S1024x2048 : Shape := ⟨2, ![1024, 2048]⟩
abbrev S2048x512 : Shape := ⟨2, ![2048, 512]⟩
abbrev S1024x512 : Shape := ⟨2, ![1024, 512]⟩
abbrev S32x512 : Shape := ⟨2, ![32, 512]⟩

abbrev nBuf : Space → Nat
  | .hbm => 10
  | .vmem => 22
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S8192x2048, .bf16⟩
  | .hbm, ⟨3, _⟩ => ⟨S32x2048, .bf16⟩
  | .hbm, ⟨4, _⟩ => ⟨S2048x4096, .bf16⟩
  | .hbm, ⟨5, _⟩ => ⟨S2048x4096, .bf16⟩
  | .hbm, ⟨6, _⟩ => ⟨S8192x8192, .bf16⟩
  | .hbm, ⟨7, _⟩ => ⟨S32x8192, .bf16⟩
  | .hbm, ⟨8, _⟩ => ⟨S8192x4096, .bf16⟩
  | .hbm, ⟨9, _⟩ => ⟨S32x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S32x2048, .bf16⟩
  | .local _ .vmem, ⟨5, _⟩ => ⟨S32x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S32x512, .bf16⟩
  | .local _ .vmem, ⟨15, _⟩ => ⟨S32x512, .bf16⟩
  | .local _ .vmem, ⟨16, _⟩ => ⟨S32x512, .bf16⟩
  | .local _ .vmem, ⟨17, _⟩ => ⟨S32x512, .bf16⟩
  | .local _ .vmem, ⟨18, _⟩ => ⟨S1024x512, .bf16⟩
  | .local _ .vmem, ⟨19, _⟩ => ⟨S1024x512, .bf16⟩
  | .local _ .vmem, ⟨20, _⟩ => ⟨S32x512, .bf16⟩
  | .local _ .vmem, ⟨21, _⟩ => ⟨S32x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_14 : BitVec 32 := 0#32
  let v17 : BitVec 1 := Scalar.cmpi .ne v16 c0_i32_14
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== MergeRefIdeal.lean ====
abbrev S8192x2048 : Shape := ⟨2, ![8192, 2048]⟩
abbrev S32x2048 : Shape := ⟨2, ![32, 2048]⟩
abbrev S2048x4096 : Shape := ⟨2, ![2048, 4096]⟩
abbrev S8192x8192 : Shape := ⟨2, ![8192, 8192]⟩
abbrev S32x8192 : Shape := ⟨2, ![32, 8192]⟩
abbrev S8192x4096 : Shape := ⟨2, ![8192, 4096]⟩
abbrev S32x4096 : Shape := ⟨2, ![32, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S8192x2048, .bf16⟩
  | .hbm, ⟨3, _⟩ => ⟨S32x2048, .bf16⟩
  | .hbm, ⟨4, _⟩ => ⟨S2048x4096, .bf16⟩
  | .hbm, ⟨5, _⟩ => ⟨S2048x4096, .bf16⟩
  | .hbm, ⟨6, _⟩ => ⟨S8192x8192, .bf16⟩
  | .hbm, ⟨7, _⟩ => ⟨S32x8192, .bf16⟩
  | .hbm, ⟨8, _⟩ => ⟨S2048x4096, .f32⟩
  | .hbm, ⟨9, _⟩ => ⟨S2048x4096, .f32⟩
  | .hbm, ⟨10, _⟩ => ⟨S8192x8192, .f32⟩
  | .hbm, ⟨11, _⟩ => ⟨S8192x4096, .f32⟩
  | .hbm, ⟨12, _⟩ => ⟨S8192x4096, .f32⟩
  | .hbm, ⟨13, _⟩ => ⟨S8192x2048, .f32⟩
  | .hbm, ⟨14, _⟩ => ⟨S8192x4096, .f32⟩
  | .hbm, ⟨15, _⟩ => ⟨S8192x4096, .f32⟩
  | .hbm, ⟨16, _⟩ => ⟨S8192x2048, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | .hbm, ⟨21, _⟩ => ⟨S32x8192, .f32⟩
  | .hbm, ⟨22, _⟩ => ⟨S32x4096, .f32⟩
  | .hbm, ⟨23, _⟩ => ⟨S32x4096, .f32⟩
  | .hbm, ⟨24, _⟩ => ⟨S32x2048, .f32⟩
  | .hbm, ⟨25, _⟩ => ⟨S32x4096, .f32⟩
  | .hbm, ⟨26, _⟩ => ⟨S32x4096, .f32⟩
  | .hbm, ⟨27, _⟩ => ⟨S32x2048, .f32⟩
  | .hbm, ⟨28, _⟩ => ⟨S32x4096, .f32⟩
  | .hbm, ⟨29, _⟩ => ⟨S32x4096, .f32⟩
  | .hbm, ⟨30, _⟩ => ⟨S32x4096, .f32⟩
  | .hbm, ⟨31, _⟩ => ⟨S32x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Gates.lean ====
abbrev S8192x4096 : Shape := ⟨2, ![8192, 4096]⟩
abbrev S32x4096 : Shape := ⟨2, ![32, 4096]⟩
abbrev S2x4096x22528 : Shape := ⟨3, ![2, 4096, 22528]⟩
abbrev S1x4096x22528 : Shape := ⟨3, ![1, 4096, 22528]⟩
abbrev S4096x22528 : Shape := ⟨2, ![4096, 22528]⟩
abbrev S8192x8192 : Shape := ⟨2, ![8192, 8192]⟩
abbrev S32x8192 : Shape := ⟨2, ![32, 8192]⟩
abbrev S1024x4096 : Shape := ⟨2, ![1024, 4096]⟩
abbrev S4096x1024 : Shape := ⟨2, ![4096, 1024]⟩
abbrev S1024x1024 : Shape := ⟨2, ![1024, 1024]⟩
abbrev S32x1024 : Shape := ⟨2, ![32, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22528, .f32⟩
  | .hbm, ⟨3, _⟩ => ⟨S1x4096x22528, .f32⟩
  | .hbm, ⟨4, _⟩ => ⟨S4096x22528, .f32⟩
  | .hbm, ⟨5, _⟩ => ⟨S4096x22528, .bf16⟩
  | .hbm, ⟨6, _⟩ => ⟨S8192x8192, .bf16⟩
  | .hbm, ⟨7, _⟩ => ⟨S32x8192, .bf16⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S4096x1024, .bf16⟩
  | .local _ .vmem, ⟨4, _⟩ => ⟨S4096x1024, .bf16⟩
  | .local _ .vmem, ⟨5, _⟩ => ⟨S1024x1024, .bf16⟩
  | .local _ .vmem, ⟨6, _⟩ => ⟨S1024x1024, .bf16⟩
  | .local _ .vmem, ⟨7, _⟩ => ⟨S32x1024, .bf16⟩
  | .local _ .vmem, ⟨8, _⟩ => ⟨S32x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 8, 1], ![false, false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg0 c14_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== GatesRefIdeal.lean ====
abbrev S8192x4096 : Shape := ⟨2, ![8192, 4096]⟩
abbrev S32x4096 : Shape := ⟨2, ![32, 4096]⟩
abbrev S2x4096x22528 : Shape := ⟨3, ![2, 4096, 22528]⟩
abbrev S1x4096x8192 : Shape := ⟨3, ![1, 4096, 8192]⟩
abbrev S4096x8192 : Shape := ⟨2, ![4096, 8192]⟩
abbrev S8192x8192 : Shape := ⟨2, ![8192, 8192]⟩
abbrev S_ : Shape := ⟨0, ![]⟩
abbrev S32x8192 : Shape := ⟨2, ![32, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22528, .f32⟩
  | .hbm, ⟨3, _⟩ => ⟨S8192x4096, .f32⟩
  | .hbm, ⟨4, _⟩ => ⟨S1x4096x8192, .f32⟩
  | .hbm, ⟨5, _⟩ => ⟨S4096x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .bf16⟩
  | .hbm, ⟨16, _⟩ => ⟨S32x4096, .f32⟩
  | .hbm, ⟨17, _⟩ => ⟨S1x4096x8192, .f32⟩
  | .hbm, ⟨18, _⟩ => ⟨S4096x8192, .f32⟩
  | .hbm, ⟨19, _⟩ => ⟨S32x8192, .f32⟩
  | .hbm, ⟨20, _⟩ => ⟨S32x8192, .f32⟩
  | .hbm, ⟨21, _⟩ => ⟨S32x8192, .f32⟩
  | .hbm, ⟨22, _⟩ => ⟨S_, .f32⟩
  | .hbm, ⟨23, _⟩ => ⟨S32x8192, .f32⟩
  | .hbm, ⟨24, _⟩ => ⟨S32x8192, .f32⟩
  | .hbm, ⟨25, _⟩ => ⟨S_, .f32⟩
  | .hbm, ⟨26, _⟩ => ⟨S32x8192, .f32⟩
  | .hbm, ⟨27, _⟩ => ⟨S32x8192, .f32⟩
  | .hbm, ⟨28, _⟩ => ⟨S32x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Hgrn.lean ====
abbrev S8192x4096 : Shape := ⟨2, ![8192, 4096]⟩
abbrev S32x4096 : Shape := ⟨2, ![32, 4096]⟩
abbrev S2x4096x22528 : Shape := ⟨3, ![2, 4096, 22528]⟩
abbrev S1x4096x22528 : Shape := ⟨3, ![1, 4096, 22528]⟩
abbrev S4096x22528 : Shape := ⟨2, ![4096, 22528]⟩
abbrev S8192x8192 : Shape := ⟨2, ![8192, 8192]⟩
abbrev S32x8192 : Shape := ⟨2, ![32, 8192]⟩
abbrev S1024x4096 : Shape := ⟨2, ![1024, 4096]⟩
abbrev S4096x1024 : Shape := ⟨2, ![4096, 1024]⟩
abbrev S1024x1024 : Shape := ⟨2, ![1024, 1024]⟩
abbrev S32x1024 : Shape := ⟨2, ![32, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22528, .f32⟩
  | .hbm, ⟨3, _⟩ => ⟨S1x4096x22528, .f32⟩
  | .hbm, ⟨4, _⟩ => ⟨S4096x22528, .f32⟩
  | .hbm, ⟨5, _⟩ => ⟨S4096x22528, .bf16⟩
  | .hbm, ⟨6, _⟩ => ⟨S8192x8192, .f32⟩
  | .hbm, ⟨7, _⟩ => ⟨S32x8192, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S4096x1024, .bf16⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | .local _ .vmem, ⟨7, _⟩ => ⟨S32x1024, .f32⟩
  | .local _ .vmem, ⟨8, _⟩ => ⟨S32x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 8, 1], ![false, false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg0 c6_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== HgrnRefIdeal.lean ====
abbrev S8192x4096 : Shape := ⟨2, ![8192, 4096]⟩
abbrev S32x4096 : Shape := ⟨2, ![32, 4096]⟩
abbrev S2x4096x22528 : Shape := ⟨3, ![2, 4096, 22528]⟩
abbrev S1x4096x8192 : Shape := ⟨3, ![1, 4096, 8192]⟩
abbrev S4096x8192 : Shape := ⟨2, ![4096, 8192]⟩
abbrev S8192x8192 : Shape := ⟨2, ![8192, 8192]⟩
abbrev S32x8192 : Shape := ⟨2, ![32, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22528, .f32⟩
  | .hbm, ⟨3, _⟩ => ⟨S8192x4096, .f32⟩
  | .hbm, ⟨4, _⟩ => ⟨S1x4096x8192, .f32⟩
  | .hbm, ⟨5, _⟩ => ⟨S4096x8192, .f32⟩
  | .hbm, ⟨6, _⟩ => ⟨S8192x8192, .f32⟩
  | .hbm, ⟨7, _⟩ => ⟨S32x4096, .f32⟩
  | .hbm, ⟨8, _⟩ => ⟨S1x4096x8192, .f32⟩
  | .hbm, ⟨9, _⟩ => ⟨S4096x8192, .f32⟩
  | .hbm, ⟨10, _⟩ => ⟨S32x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Query.lean ====
abbrev S8192x4096 : Shape := ⟨2, ![8192, 4096]⟩
abbrev S32x4096 : Shape := ⟨2, ![32, 4096]⟩
abbrev S2x4096x22528 : Shape := ⟨3, ![2, 4096, 22528]⟩
abbrev S1x4096x22528 : Shape := ⟨3, ![1, 4096, 22528]⟩
abbrev S4096x22528 : Shape := ⟨2, ![4096, 22528]⟩
abbrev S8192x2048 : Shape := ⟨2, ![8192, 2048]⟩
abbrev S32x2048 : Shape := ⟨2, ![32, 2048]⟩
abbrev S1024x4096 : Shape := ⟨2, ![1024, 4096]⟩
abbrev S4096x1024 : Shape := ⟨2, ![4096, 1024]⟩
abbrev S1024x1024 : Shape := ⟨2, ![1024, 1024]⟩
abbrev S32x1024 : Shape := ⟨2, ![32, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22528, .f32⟩
  | .hbm, ⟨3, _⟩ => ⟨S1x4096x22528, .f32⟩
  | .hbm, ⟨4, _⟩ => ⟨S4096x22528, .f32⟩
  | .hbm, ⟨5, _⟩ => ⟨S4096x22528, .bf16⟩
  | .hbm, ⟨6, _⟩ => ⟨S8192x2048, .f32⟩
  | .hbm, ⟨7, _⟩ => ⟨S32x2048, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S4096x1024, .bf16⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | .local _ .vmem, ⟨7, _⟩ => ⟨S32x1024, .f32⟩
  | .local _ .vmem, ⟨8, _⟩ => ⟨S32x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== QueryRefIdeal.lean ====
abbrev S8192x4096 : Shape := ⟨2, ![8192, 4096]⟩
abbrev S32x4096 : Shape := ⟨2, ![32, 4096]⟩
abbrev S2x4096x22528 : Shape := ⟨3, ![2, 4096, 22528]⟩
abbrev S1x4096x2048 : Shape := ⟨3, ![1, 4096, 2048]⟩
abbrev S4096x2048 : Shape := ⟨2, ![4096, 2048]⟩
abbrev S8192x2048 : Shape := ⟨2, ![8192, 2048]⟩
abbrev S32x2048 : Shape := ⟨2, ![32, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22528, .f32⟩
  | .hbm, ⟨3, _⟩ => ⟨S8192x4096, .f32⟩
  | .hbm, ⟨4, _⟩ => ⟨S1x4096x2048, .f32⟩
  | .hbm, ⟨5, _⟩ => ⟨S4096x2048, .f32⟩
  | .hbm, ⟨6, _⟩ => ⟨S8192x2048, .f32⟩
  | .hbm, ⟨7, _⟩ => ⟨S32x4096, .f32⟩
  | .hbm, ⟨8, _⟩ => ⟨S1x4096x2048, .f32⟩
  | .hbm, ⟨9, _⟩ => ⟨S4096x2048, .f32⟩
  | .hbm, ⟨10, _⟩ => ⟨S32x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Key.lean ====
abbrev S8192x4096 : Shape := ⟨2, ![8192, 4096]⟩
abbrev S32x4096 : Shape := ⟨2, ![32, 4096]⟩
abbrev S2x4096x22528 : Shape := ⟨3, ![2, 4096, 22528]⟩
abbrev S2x8192x2048 : Shape := ⟨3, ![2, 8192, 2048]⟩
abbrev S1x4096x22528 : Shape := ⟨3, ![1, 4096, 22528]⟩
abbrev S4096x22528 : Shape := ⟨2, ![4096, 22528]⟩
abbrev S32x2048 : Shape := ⟨2, ![32, 2048]⟩
abbrev S1024x4096 : Shape := ⟨2, ![1024, 4096]⟩
abbrev S4096x1024 : Shape := ⟨2, ![4096, 1024]⟩
abbrev S1x1024x1024 : Shape := ⟨3, ![1, 1024, 1024]⟩
abbrev S32x1024 : Shape := ⟨2, ![32, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22528, .f32⟩
  | .hbm, ⟨3, _⟩ => ⟨S2x8192x2048, .f32⟩
  | .hbm, ⟨4, _⟩ => ⟨S1x4096x22528, .f32⟩
  | .hbm, ⟨5, _⟩ => ⟨S4096x22528, .f32⟩
  | .hbm, ⟨6, _⟩ => ⟨S4096x22528, .bf16⟩
  | .hbm, ⟨7, _⟩ => ⟨S2x8192x2048, .f32⟩
  | .hbm, ⟨8, _⟩ => ⟨S32x2048, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S4096x1024, .bf16⟩
  | .local _ .vmem, ⟨4, _⟩ => ⟨S4096x1024, .bf16⟩
  | .local _ .vmem, ⟨5, _⟩ => ⟨S1x1024x1024, .f32⟩
  | .local _ .vmem, ⟨6, _⟩ => ⟨S1x1024x1024, .f32⟩
  | .local _ .vmem, ⟨7, _⟩ => ⟨S32x1024, .f32⟩
  | .local _ .vmem, ⟨8, _⟩ => ⟨S32x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== KeyRefIdeal.lean ====
abbrev S8192x4096 : Shape := ⟨2, ![8192, 4096]⟩
abbrev S32x4096 : Shape := ⟨2, ![32, 4096]⟩
abbrev S2x4096x22528 : Shape := ⟨3, ![2, 4096, 22528]⟩
abbrev S2x8192x2048 : Shape := ⟨3, ![2, 8192, 2048]⟩
abbrev S1x4096x2048 : Shape := ⟨3, ![1, 4096, 2048]⟩
abbrev S4096x2048 : Shape := ⟨2, ![4096, 2048]⟩
abbrev S8192x2048 : Shape := ⟨2, ![8192, 2048]⟩
abbrev S32x2048 : Shape := ⟨2, ![32, 2048]⟩
abbrev S1x8192x2048 : Shape := ⟨3, ![1, 8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22528, .f32⟩
  | .hbm, ⟨3, _⟩ => ⟨S2x8192x2048, .f32⟩
  | .hbm, ⟨4, _⟩ => ⟨S8192x4096, .f32⟩
  | .hbm, ⟨5, _⟩ => ⟨S1x4096x2048, .f32⟩
  | .hbm, ⟨6, _⟩ => ⟨S4096x2048, .f32⟩
  | .hbm, ⟨7, _⟩ => ⟨S8192x2048, .f32⟩
  | .hbm, ⟨8, _⟩ => ⟨S32x4096, .f32⟩
  | .hbm, ⟨9, _⟩ => ⟨S1x4096x2048, .f32⟩
  | .hbm, ⟨10, _⟩ => ⟨S4096x2048, .f32⟩
  | .hbm, ⟨11, _⟩ => ⟨S32x2048, .f32⟩
  | .hbm, ⟨12, _⟩ => ⟨S1x8192x2048, .f32⟩
  | .hbm, ⟨13, _⟩ => ⟨S8192x2048, .f32⟩
  | .hbm, ⟨14, _⟩ => ⟨S1x8192x2048, .f32⟩
  | .hbm, ⟨15, _⟩ => ⟨S1x8192x2048, .f32⟩
  | .hbm, ⟨16, _⟩ => ⟨S2x8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Val.lean ====
abbrev S8192x4096 : Shape := ⟨2, ![8192, 4096]⟩
abbrev S32x4096 : Shape := ⟨2, ![32, 4096]⟩
abbrev S2x4096x22528 : Shape := ⟨3, ![2, 4096, 22528]⟩
abbrev S2x8192x2048 : Shape := ⟨3, ![2, 8192, 2048]⟩
abbrev S1x4096x22528 : Shape := ⟨3, ![1, 4096, 22528]⟩
abbrev S4096x22528 : Shape := ⟨2, ![4096, 22528]⟩
abbrev S32x2048 : Shape := ⟨2, ![32, 2048]⟩
abbrev S1024x4096 : Shape := ⟨2, ![1024, 4096]⟩
abbrev S4096x1024 : Shape := ⟨2, ![4096, 1024]⟩
abbrev S1x1024x1024 : Shape := ⟨3, ![1, 1024, 1024]⟩
abbrev S32x1024 : Shape := ⟨2, ![32, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22528, .f32⟩
  | .hbm, ⟨3, _⟩ => ⟨S2x8192x2048, .f32⟩
  | .hbm, ⟨4, _⟩ => ⟨S1x4096x22528, .f32⟩
  | .hbm, ⟨5, _⟩ => ⟨S4096x22528, .f32⟩
  | .hbm, ⟨6, _⟩ => ⟨S4096x22528, .bf16⟩
  | .hbm, ⟨7, _⟩ => ⟨S2x8192x2048, .f32⟩
  | .hbm, ⟨8, _⟩ => ⟨S32x2048, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S4096x1024, .bf16⟩
  | .local _ .vmem, ⟨4, _⟩ => ⟨S4096x1024, .bf16⟩
  | .local _ .vmem, ⟨5, _⟩ => ⟨S1x1024x1024, .f32⟩
  | .local _ .vmem, ⟨6, _⟩ => ⟨S1x1024x1024, .f32⟩
  | .local _ .vmem, ⟨7, _⟩ => ⟨S32x1024, .f32⟩
  | .local _ .vmem, ⟨8, _⟩ => ⟨S32x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== ValRefIdeal.lean ====
abbrev S8192x4096 : Shape := ⟨2, ![8192, 4096]⟩
abbrev S32x4096 : Shape := ⟨2, ![32, 4096]⟩
abbrev S2x4096x22528 : Shape := ⟨3, ![2, 4096, 22528]⟩
abbrev S2x8192x2048 : Shape := ⟨3, ![2, 8192, 2048]⟩
abbrev S1x4096x2048 : Shape := ⟨3, ![1, 4096, 2048]⟩
abbrev S4096x2048 : Shape := ⟨2, ![4096, 2048]⟩
abbrev S8192x2048 : Shape := ⟨2, ![8192, 2048]⟩
abbrev S32x2048 : Shape := ⟨2, ![32, 2048]⟩
abbrev S1x8192x2048 : Shape := ⟨3, ![1, 8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S32x4096, .bf16⟩
  | .hbm, ⟨2, _⟩ => ⟨S2x4096x22528, .f32⟩
  | .hbm, ⟨3, _⟩ => ⟨S2x8192x2048, .f32⟩
  | .hbm, ⟨4, _⟩ => ⟨S8192x4096, .f32⟩
  | .hbm, ⟨5, _⟩ => ⟨S1x4096x2048, .f32⟩
  | .hbm, ⟨6, _⟩ => ⟨S4096x2048, .f32⟩
  | .hbm, ⟨7, _⟩ => ⟨S8192x2048, .f32⟩
  | .hbm, ⟨8, _⟩ => ⟨S32x4096, .f32⟩
  | .hbm, ⟨9, _⟩ => ⟨S1x4096x2048, .f32⟩
  | .hbm, ⟨10, _⟩ => ⟨S4096x2048, .f32⟩
  | .hbm, ⟨11, _⟩ => ⟨S32x2048, .f32⟩
  | .hbm, ⟨12, _⟩ => ⟨S1x8192x2048, .f32⟩
  | .hbm, ⟨13, _⟩ => ⟨S8192x2048, .f32⟩
  | .hbm, ⟨14, _⟩ => ⟨S1x8192x2048, .f32⟩
  | .hbm, ⟨15, _⟩ => ⟨S1x8192x2048, .f32⟩
  | .hbm, ⟨16, _⟩ => ⟨S2x8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormS.lean ====
abbrev S32x4096 : Shape := ⟨2, ![32, 4096]⟩
abbrev S4096 : Shape := ⟨1, ![4096]⟩
abbrev S1x4096 : Shape := ⟨2, ![1, 4096]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S1x4096, .f32⟩
  | .hbm, ⟨3, _⟩ => ⟨S32x4096, .f32⟩
  | .local _ .vmem, ⟨0, _⟩ => ⟨S32x4096, .f32⟩
  | .local _ .vmem, ⟨1, _⟩ => ⟨S1x4096, .f32⟩
  | .local _ .vmem, ⟨2, _⟩ => ⟨S32x4096, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSRefIdeal.lean ====
abbrev S32x4096 : Shape := ⟨2, ![32, 4096]⟩
abbrev S4096 : Shape := ⟨1, ![4096]⟩
abbrev S_ : Shape := ⟨0, ![]⟩
abbrev S32 : Shape := ⟨1, ![32]⟩
abbrev S32x1 : Shape := ⟨2, ![32, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S32x4096, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x4096, .f32⟩
  | .hbm, ⟨14, _⟩ => ⟨S32x4096, .f32⟩
  | .hbm, ⟨15, _⟩ => ⟨S1x4096, .f32⟩
  | .hbm, ⟨16, _⟩ => ⟨S32x4096, .f32⟩
  | .hbm, ⟨17, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Hp.lean ====
abbrev S8192x8192 : Shape := ⟨2, ![8192, 8192]⟩
abbrev S2x2048 : Shape := ⟨2, ![2, 2048]⟩
abbrev S2x128 : Shape := ⟨2, ![2, 128]⟩
abbrev S8192x2048 : Shape := ⟨2, ![8192, 2048]⟩
abbrev S4x16x128x128 : Shape := ⟨4, ![4, 16, 128, 128]⟩
abbrev S2048x128 : Shape := ⟨2, ![2048, 128]⟩
abbrev S1x1x128x128 : Shape := ⟨4, ![1, 1, 128, 128]⟩
abbrev S128x128 : Shape := ⟨2, ![128, 128]⟩
abbrev S1x128 : Shape := ⟨2, ![1, 128]⟩
abbrev S256x256 : Shape := ⟨2, ![256, 256]⟩
abbrev S256x128 : Shape := ⟨2, ![256, 128]⟩
abbrev S32x8x128 : Shape := ⟨3, ![32, 8, 128]⟩
abbrev S1x8x128 : Shape := ⟨3, ![1, 8, 128]⟩
abbrev S32x8 : Shape := ⟨2, ![32, 8]⟩
abbrev S32x8x1 : Shape := ⟨3, ![32, 8, 1]⟩
abbrev S32x1x128 : Shape := ⟨3, ![32, 1, 128]⟩
abbrev S16x16x128 : Shape := ⟨3, ![16, 16, 128]⟩
abbrev S16x1x128 : Shape := ⟨3, ![16, 1, 128]⟩
abbrev S8x32x128 : Shape := ⟨3, ![8, 32, 128]⟩
abbrev S8x1x128 : Shape := ⟨3, ![8, 1, 128]⟩
abbrev S4x64x128 : Shape := ⟨3, ![4, 64, 128]⟩
abbrev S4x1x128 : Shape := ⟨3, ![4, 1, 128]⟩
abbrev S2x128x128 : Shape := ⟨3, ![2, 128, 128]⟩
abbrev S2x1x128 : Shape := ⟨3, ![2, 1, 128]⟩
abbrev S1x256x128 : Shape := ⟨3, ![1, 256, 128]⟩
abbrev S1x1x128 : Shape := ⟨3, ![1, 1, 128]⟩
abbrev S256 : Shape := ⟨1, ![256]⟩
abbrev S256x1 : Shape := ⟨2, ![256, 1]⟩

abbrev nBuf : Space → Nat
  | .hbm => 5
  | .vmem => 16
  | .smem => 0
  | _ => 0

abbrev bufTy : (tb : Table) → Fin (tcTables nBuf tb) → BufTy
  | .hbm, ⟨0, _⟩ => ⟨S8192x8192, .f32⟩
  | .hbm, ⟨1, _⟩ => ⟨S2x2048, .f32⟩
  | .hbm, ⟨2, _⟩ => ⟨S2x128, .f32⟩
  | .hbm, ⟨3, _⟩ => ⟨S8192x2048, .bf16⟩
  | .hbm, ⟨4, _⟩ => ⟨S4x16x128x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2x128, .f32⟩
  | .local _ .vmem, ⟨9, _⟩ => ⟨S2x128, .f32⟩
  | .local _ .vmem, ⟨10, _⟩ => ⟨S2x128, .f32⟩
  | .local _ .vmem, ⟨11, _⟩ => ⟨S2048x128, .bf16⟩
  | .local _ .vmem, ⟨12, _⟩ => ⟨S2048x128, .bf16⟩
  | .local _ .vmem, ⟨13, _⟩ => ⟨S1x1x128x128, .f32⟩
  | .local _ .vmem, ⟨14, _⟩ => ⟨S1x1x128x128, .f32⟩
  | .local _ .vmem, ⟨15, _⟩ => ⟨S128x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_165 : BitVec 32 := 0#32
  let c8_i32_166 : BitVec 32 := 8#32
  let v548 : BitVec 32 := Scalar.addi c0_i32_165 c8_i32_166
  let c1_i32_167 : BitVec 32 := 1#32
  ⟨c0_i32_165, v548, c1_i32_167⟩
def k0_mult1 (k0_t1 : Fin k0_t1_loop.trips) : BitVec 32 :=
  let c0_i32_165 : BitVec 32 := 0#32
  let c1_i32_167 : BitVec 32 := 1#32
  let arg11 : BitVec 32 := Scf.iv c0_i32_165 c1_i32_167 k0_t1
  let c256_i32_175 : BitVec 32 := 256#32
  let v554 : BitVec 32 := Scalar.muli arg11 c256_i32_175
  v554
def k0_off1 (k0_t1 : Fin k0_t1_loop.trips) : Fin 2 → Nat :=
  let c0_i32_165 : BitVec 32 := 0#32
  let c1_i32_167 : BitVec 32 := 1#32
  let arg11 : BitVec 32 := Scf.iv c0_i32_165 c1_i32_167 k0_t1
  let c256_i32_175 : BitVec 32 := 256#32
  let v554 : BitVec 32 := Scalar.muli arg11 c256_i32_175
  let v555 : BitVec 32 := v554
  let v556 : Index := Scalar.indexCast v555
  let c0_176 : Index := 0#32
  ![v556.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== HpIdeal.lean ====
variable {F : FTy → Type} [FloatOps F] [Named F]
def κ : String → Option EReal := fun
  | "log2e" => some (((Real.log 2)⁻¹ : ℝ) : EReal)
  | _ => none
-- ==== HpRefIdeal.lean ====
abbrev S8192x8192 : Shape := ⟨2, ![8192, 8192]⟩
abbrev S2x2048 : Shape := ⟨2, ![2, 2048]⟩
abbrev S2x128 : Shape := ⟨2, ![2, 128]⟩
abbrev S4x2048x8192 : Shape := ⟨3, ![4, 2048, 8192]⟩
abbrev S4x2048x2048 : Shape := ⟨3, ![4, 2048, 2048]⟩
abbrev S_ : Shape := ⟨0, ![]⟩
abbrev S4x2048x16x128 : Shape := ⟨4, ![4, 2048, 16, 128]⟩
abbrev S4x16x128x128 : Shape := ⟨4, ![4, 16, 128, 128]⟩
abbrev S4x32x64x16x128 : Shape := ⟨5, ![4, 32, 64, 16, 128]⟩
abbrev S32x4x64x16x128 : Shape := ⟨5, ![32, 4, 64, 16, 128]⟩
abbrev S1x4x64x16x128 : Shape := ⟨5, ![1, 4, 64, 16, 128]⟩
abbrev S4x64x16x128 : Shape := ⟨4, ![4, 64, 16, 128]⟩
abbrev S4x1x16x128 : Shape := ⟨4, ![4, 1, 16, 128]⟩
abbrev S4x16x128 : Shape := ⟨3, ![4, 16, 128]⟩
abbrev S4x16x128x1 : Shape := ⟨4, ![4, 16, 128, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2x2048, .f32⟩
  | .hbm, ⟨2, _⟩ => ⟨S2x128, .f32⟩
  | .hbm, ⟨3, _⟩ => ⟨S4x2048x8192, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .i1⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x16x128, .f32⟩
  | .hbm, ⟨25, _⟩ => ⟨S4x2048x16x128, .f32⟩
  | .hbm, ⟨26, _⟩ => ⟨S4x2048x16x128, .f32⟩
  | .hbm, ⟨27, _⟩ => ⟨S4x2048x16x128, .f32⟩
  | .hbm, ⟨28, _⟩ => ⟨S_, .f32⟩
  | .hbm, ⟨29, _⟩ => ⟨S4x16x128x128, .f32⟩
  | .hbm, ⟨30, _⟩ => ⟨S4x32x64x16x128, .f32⟩
  | .hbm, ⟨31, _⟩ => ⟨S32x4x64x16x128, .f32⟩
  | .hbm, ⟨32, _⟩ => ⟨S4x32x64x16x128, .f32⟩
  | .hbm, ⟨33, _⟩ => ⟨S32x4x64x16x128, .f32⟩
  | .hbm, ⟨34, _⟩ => ⟨S4x32x64x16x128, .f32⟩
  | .hbm, ⟨35, _⟩ => ⟨S32x4x64x16x128, .f32⟩
  | .hbm, ⟨36, _⟩ => ⟨S_, .i32⟩
  | .hbm, ⟨37, _⟩ => ⟨S32x4x64x16x128, .f32⟩
  | .hbm, ⟨38, _⟩ => ⟨S32x4x64x16x128, .f32⟩
  | .hbm, ⟨39, _⟩ => ⟨S32x4x64x16x128, .f32⟩
  | .hbm, ⟨40, _⟩ => ⟨S_, .i32⟩
  | .hbm, ⟨41, _⟩ => ⟨S4x16x128x128, .f32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x4x64x16x128, .f32⟩
  | .hbm, ⟨49, _⟩ => ⟨S4x64x16x128, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x4x64x16x128, .f32⟩
  | .hbm, ⟨55, _⟩ => ⟨S4x64x16x128, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x4x64x16x128, .f32⟩
  | .hbm, ⟨61, _⟩ => ⟨S4x64x16x128, .f32⟩
  | .hbm, ⟨62, _⟩ => ⟨S_, .f32⟩
  | .hbm, ⟨63, _⟩ => ⟨S_, .f32⟩
  | .hbm, ⟨64, _⟩ => ⟨S4x64x16x128, .f32⟩
  | .hbm, ⟨65, _⟩ => ⟨S4x1x16x128, .f32⟩
  | .hbm, ⟨66, _⟩ => ⟨S4x16x128, .f32⟩
  | .hbm, ⟨67, _⟩ => ⟨S4x16x128, .f32⟩
  | .hbm, ⟨68, _⟩ => ⟨S4x16x128x1, .f32⟩
  | .hbm, ⟨69, _⟩ => ⟨S4x16x128x128, .f32⟩
  | .hbm, ⟨70, _⟩ => ⟨S4x16x128x128, .f32⟩
  | .hbm, ⟨71, _⟩ => ⟨S4x1x16x128, .f32⟩
  | .hbm, ⟨72, _⟩ => ⟨S4x64x16x128, .f32⟩
  | .hbm, ⟨73, _⟩ => ⟨S4x64x16x128, .f32⟩
  | .hbm, ⟨74, _⟩ => ⟨S4x64x16x128, .f32⟩
  | .hbm, ⟨75, _⟩ => ⟨S4x64x16x128, .f32⟩
  | .hbm, ⟨76, _⟩ => ⟨S4x16x128x128, .f32⟩
  | .hbm, ⟨77, _⟩ => ⟨S4x16x128x128, .f32⟩
  | .hbm, ⟨78, _⟩ => ⟨S_, .i32⟩
  | .hbm, ⟨79, _⟩ => ⟨S_, .i32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c : Ref sig .tc := ⟨.hbm, 36, rfl⟩
abbrev main_v31_0 : Ref sig .tc := ⟨.hbm, 37, rfl⟩
abbrev main_v31_1 : Ref sig .tc := ⟨.hbm, 38, rfl⟩
abbrev main_v31_2 : Ref sig .tc := ⟨.hbm, 39, rfl⟩
abbrev main_v31_3 : Ref sig .tc := ⟨.hbm, 40, rfl⟩
abbrev main_v31_4 : Ref sig .tc := ⟨.hbm, 41, rfl⟩
abbrev main_while0c_c_5 : Ref sig .tc := ⟨.hbm, 42, rfl⟩
abbrev main_while0c_v32 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_c_1 : Ref sig .tc := ⟨.hbm, 46, rfl⟩
abbrev main_while0b_call0_c_2 : Ref sig .tc := ⟨.hbm, 47, rfl⟩
abbrev main_while0b_call0_v0 : Ref sig .tc := ⟨.hbm, 48, rfl⟩
abbrev main_while0b_v32 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_c_2 : Ref sig .tc := ⟨.hbm, 53, rfl⟩
abbrev main_while0b_call1_v0 : Ref sig .tc := ⟨.hbm, 54, rfl⟩
abbrev main_while0b_v33 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_call2_c_2 : Ref sig .tc := ⟨.hbm, 59, rfl⟩
abbrev main_while0b_call2_v0 : Ref sig .tc := ⟨.hbm, 60, rfl⟩
abbrev main_while0b_v34 : Ref sig .tc := ⟨.hbm, 61, rfl⟩
abbrev main_while0b_call3_call0_cst : Ref sig .tc := ⟨.hbm, 62, rfl⟩
abbrev main_while0b_call3_call0_v0 : Ref sig .tc := ⟨.hbm, 63, rfl⟩
abbrev main_while0b_v35 : Ref sig .tc := ⟨.hbm, 64, rfl⟩
abbrev main_while0b_v36 : Ref sig .tc := ⟨.hbm, 65, rfl⟩
abbrev main_while0b_v37 : Ref sig .tc := ⟨.hbm, 66, rfl⟩
abbrev main_while0b_v38 : Ref sig .tc := ⟨.hbm, 67, rfl⟩
abbrev main_while0b_v39 : Ref sig .tc := ⟨.hbm, 68, rfl⟩
abbrev main_while0b_v40 : Ref sig .tc := ⟨.hbm, 69, rfl⟩
abbrev main_while0b_v41 : Ref sig .tc := ⟨.hbm, 70, rfl⟩
abbrev main_while0b_v42 : Ref sig .tc := ⟨.hbm, 71, rfl⟩
abbrev main_while0b_v43 : Ref sig .tc := ⟨.hbm, 72, rfl⟩
abbrev main_while0b_v44 : Ref sig .tc := ⟨.hbm, 73, rfl⟩
abbrev main_while0b_v45 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_c_5 : Ref sig .tc := ⟨.hbm, 78, rfl⟩
abbrev main_while0b_v49 : Ref sig .tc := ⟨.hbm, 79, rfl⟩

abbrev nD : Nat := 1
abbrev τ : Topo := Topo.v7x

variable {F : FTy → Type} [FloatOps F]

abbrev main_while0_count : Scf.Loop 32 := ⟨0#32, 32#32, 1#32⟩
-- ==== Pm.lean ====
abbrev S2x1280x128x16x128 : Shape := ⟨5, ![2, 1280, 128, 16, 128]⟩
abbrev S8x128 : Shape := ⟨2, ![8, 128]⟩
abbrev S2x8x64x16x128 : Shape := ⟨5, ![2, 8, 64, 16, 128]⟩
abbrev S1x1x128x16x128 : Shape := ⟨5, ![1, 1, 128, 16, 128]⟩
abbrev S1x1 : Shape := ⟨2, ![1, 1]⟩
abbrev S1x1x64x16x128 : Shape := ⟨5, ![1, 1, 64, 16, 128]⟩
abbrev S128x16x128 : Shape := ⟨3, ![128, 16, 128]⟩
abbrev S16x128 : Shape := ⟨2, ![16, 128]⟩
abbrev S1x1x1x16x128 : Shape := ⟨5, ![1, 1, 1, 16, 128]⟩

abbrev nBuf : Space → Nat
  | .hbm => 2
  | .vmem => 18
  | .smem => 1
  | _ => 0

abbrev bufTy : (tb : Table) → Fin (tcTables nBuf tb) → BufTy
  | .hbm, ⟨0, _⟩ => ⟨S2x1280x128x16x128, .f32⟩
  | .hbm, ⟨1, _⟩ => ⟨S2x8x64x16x128, .f32⟩
  | .local _ .vmem, ⟨0, _⟩ => ⟨S1x1x128x16x128, .f32⟩
  | .local _ .vmem, ⟨1, _⟩ => ⟨S1x1x128x16x128, .f32⟩
  | .local _ .vmem, ⟨2, _⟩ => ⟨S1x1x128x16x128, .f32⟩
  | .local _ .vmem, ⟨3, _⟩ => ⟨S1x1x128x16x128, .f32⟩
  | .local _ .vmem, ⟨4, _⟩ => ⟨S1x1x128x16x128, .f32⟩
  | .local _ .vmem, ⟨5, _⟩ => ⟨S1x1x128x16x128, .f32⟩
  | .local _ .vmem, ⟨6, _⟩ => ⟨S1x1x128x16x128, .f32⟩
  | .local _ .vmem, ⟨7, _⟩ => ⟨S1x1x128x16x128, .f32⟩
  | .local _ .vmem, ⟨8, _⟩ => ⟨S1x1x128x16x128, .f32⟩
  | .local _ .vmem, ⟨9, _⟩ => ⟨S1x1x128x16x128, .f32⟩
  | .local _ .vmem, ⟨10, _⟩ => ⟨S1x1x128x16x128, .f32⟩
  | .local _ .vmem, ⟨11, _⟩ => ⟨S1x1x128x16x128, .f32⟩
  | .local _ .vmem, ⟨12, _⟩ => ⟨S1x1x128x16x128, .f32⟩
  | .local _ .vmem, ⟨13, _⟩ => ⟨S1x1x128x16x128, .f32⟩
  | .local _ .vmem, ⟨14, _⟩ => ⟨S1x1x128x16x128, .f32⟩
  | .local _ .vmem, ⟨15, _⟩ => ⟨S1x1x128x16x128, .f32⟩
  | .local _ .vmem, ⟨16, _⟩ => ⟨S1x1x64x16x128, .f32⟩
  | .local _ .vmem, ⟨17, _⟩ => ⟨S1x1x64x16x128, .f32⟩
  | .local _ .smem, ⟨0, _⟩ => ⟨S8x128, .i32⟩
  | _, _ => ⟨S2x1280x128x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 16], ![false, false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg1 : BitVec 32 := BitVec.ofNat 32 (i 1).val
  let v2 : Index := Scalar.indexCast arg1
  let arg2 : BitVec 32 := BitVec.ofNat 32 (i 2).val
  let c8_i32 : BitVec 32 := 8#32
  let v0 : BitVec 32 := Scalar.muli arg2 c8_i32
  let v1 : BitVec 32 := Scalar.addi v0 c0_i32
  let v3 : Index := Scalar.indexCast v1
  ![v2.toNat, v3.toNat]
def k0_off2 (i : grid0.Coords) (c0_i32 : BitVec 32) : Fin 5 → Nat :=
  let c0_12 : Index := 0#32
  let c0_13 : Index := 0#32
  let arg2 : BitVec 32 := BitVec.ofNat 32 (i 2).val
  let c4_i32 : BitVec 32 := 4#32
  let v11 : BitVec 32 := Scalar.muli arg2 c4_i32
  let v12 : BitVec 32 := Scalar.addi v11 c0_i32
  let v13 : Index := Scalar.indexCast v12
  let c0_14 : Index := 0#32
  let c0_15 : Index := 0#32
  ![0, 0, v13.toNat, 0, 0]
def cc0_transform_0 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c0_i32 : BitVec 32 := 0#32
  let v1 : BitVec 32 := Scalar.addi v0 c0_i32
  let v2 : Index := Scalar.indexCast arg1
  let v3 : Index := Scalar.indexCast v1
  let v4 : BitVec 32 := pf.at 0 (Rect.unit (s := S8x128) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![arg0.toNat, v4.toNat, c0_i32_0.toNat, c0_i32_1.toNat, c0_i32_2.toNat]

def cc0_transform_1 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.addi v0 c1_i32
  let v2 : Index := Scalar.indexCast arg1
  let v3 : Index := Scalar.indexCast v1
  let v4 : BitVec 32 := pf.at 0 (Rect.unit (s := S8x128) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![arg0.toNat, v4.toNat, c0_i32.toNat, c0_i32_0.toNat, c0_i32_1.toNat]

def cc0_transform_2 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c2_i32 : BitVec 32 := 2#32
  let v1 : BitVec 32 := Scalar.addi v0 c2_i32
  let v2 : Index := Scalar.indexCast arg1
  let v3 : Index := Scalar.indexCast v1
  let v4 : BitVec 32 := pf.at 0 (Rect.unit (s := S8x128) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![arg0.toNat, v4.toNat, c0_i32.toNat, c0_i32_0.toNat, c0_i32_1.toNat]

def cc0_transform_3 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c3_i32 : BitVec 32 := 3#32
  let v1 : BitVec 32 := Scalar.addi v0 c3_i32
  let v2 : Index := Scalar.indexCast arg1
  let v3 : Index := Scalar.indexCast v1
  let v4 : BitVec 32 := pf.at 0 (Rect.unit (s := S8x128) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![arg0.toNat, v4.toNat, c0_i32.toNat, c0_i32_0.toNat, c0_i32_1.toNat]

def cc0_transform_4 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c4_i32 : BitVec 32 := 4#32
  let v1 : BitVec 32 := Scalar.addi v0 c4_i32
  let v2 : Index := Scalar.indexCast arg1
  let v3 : Index := Scalar.indexCast v1
  let v4 : BitVec 32 := pf.at 0 (Rect.unit (s := S8x128) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![arg0.toNat, v4.toNat, c0_i32.toNat, c0_i32_0.toNat, c0_i32_1.toNat]

def cc0_transform_5 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c5_i32 : BitVec 32 := 5#32
  let v1 : BitVec 32 := Scalar.addi v0 c5_i32
  let v2 : Index := Scalar.indexCast arg1
  let v3 : Index := Scalar.indexCast v1
  let v4 : BitVec 32 := pf.at 0 (Rect.unit (s := S8x128) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![arg0.toNat, v4.toNat, c0_i32.toNat, c0_i32_0.toNat, c0_i32_1.toNat]

def cc0_transform_6 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c6_i32 : BitVec 32 := 6#32
  let v1 : BitVec 32 := Scalar.addi v0 c6_i32
  let v2 : Index := Scalar.indexCast arg1
  let v3 : Index := Scalar.indexCast v1
  let v4 : BitVec 32 := pf.at 0 (Rect.unit (s := S8x128) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![arg0.toNat, v4.toNat, c0_i32.toNat, c0_i32_0.toNat, c0_i32_1.toNat]

def cc0_transform_7 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c7_i32 : BitVec 32 := 7#32
  let v1 : BitVec 32 := Scalar.addi v0 c7_i32
  let v2 : Index := Scalar.indexCast arg1
  let v3 : Index := Scalar.indexCast v1
  let v4 : BitVec 32 := pf.at 0 (Rect.unit (s := S8x128) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![arg0.toNat, v4.toNat, c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x64x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== PmRefIdeal.lean ====
abbrev S2x1280x128x16x128 : Shape := ⟨5, ![2, 1280, 128, 16, 128]⟩
abbrev S8x128 : Shape := ⟨2, ![8, 128]⟩
abbrev S_ : Shape := ⟨0, ![]⟩
abbrev S8x128x1 : Shape := ⟨3, ![8, 128, 1]⟩
abbrev S8x128x2 : Shape := ⟨3, ![8, 128, 2]⟩
abbrev S8x128x128x16x128 : Shape := ⟨5, ![8, 128, 128, 16, 128]⟩
abbrev S8x64x256x16x128 : Shape := ⟨5, ![8, 64, 256, 16, 128]⟩
abbrev S8x64x16x128 : Shape := ⟨4, ![8, 64, 16, 128]⟩
abbrev S1x8x64x16x128 : Shape := ⟨5, ![1, 8, 64, 16, 128]⟩
abbrev S2x8x64x16x128 : Shape := ⟨5, ![2, 8, 64, 16, 128]⟩

abbrev nBuf : Space → Nat
  | .hbm => 45
  | .vmem => 0
  | .smem => 0
  | _ => 0

abbrev bufTy : (tb : Table) → Fin (tcTables nBuf tb) → BufTy
  | .hbm, ⟨0, _⟩ => ⟨S2x1280x128x16x128, .f32⟩
  | .hbm, ⟨1, _⟩ => ⟨S8x128, .i32⟩
  | .hbm, ⟨2, _⟩ => ⟨S_, .i32⟩
  | .hbm, ⟨3, _⟩ => ⟨S8x128, .i32⟩
  | .hbm, ⟨4, _⟩ => ⟨S8x128, .i1⟩
  | .hbm, ⟨5, _⟩ => ⟨S_, .i32⟩
  | .hbm, ⟨6, _⟩ => ⟨S8x128, .i32⟩
  | .hbm, ⟨7, _⟩ => ⟨S8x128, .i32⟩
  | .hbm, ⟨8, _⟩ => ⟨S8x128, .i32⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128x1, .i32⟩
  | .hbm, ⟨13, _⟩ => ⟨S8x128x1, .i32⟩
  | .hbm, ⟨14, _⟩ => ⟨S8x128x2, .i32⟩
  | .hbm, ⟨15, _⟩ => ⟨S8x128x128x16x128, .f32⟩
  | .hbm, ⟨16, _⟩ => ⟨S8x64x256x16x128, .f32⟩
  | .hbm, ⟨17, _⟩ => ⟨S_, .f32⟩
  | .hbm, ⟨18, _⟩ => ⟨S8x64x16x128, .f32⟩
  | .hbm, ⟨19, _⟩ => ⟨S_, .f32⟩
  | .hbm, ⟨20, _⟩ => ⟨S8x64x16x128, .f32⟩
  | .hbm, ⟨21, _⟩ => ⟨S8x64x16x128, .f32⟩
  | .hbm, ⟨22, _⟩ => ⟨S_, .i32⟩
  | .hbm, ⟨23, _⟩ => ⟨S8x128, .i32⟩
  | .hbm, ⟨24, _⟩ => ⟨S8x128, .i1⟩
  | .hbm, ⟨25, _⟩ => ⟨S_, .i32⟩
  | .hbm, ⟨26, _⟩ => ⟨S8x128, .i32⟩
  | .hbm, ⟨27, _⟩ => ⟨S8x128, .i32⟩
  | .hbm, ⟨28, _⟩ => ⟨S8x128, .i32⟩
  | .hbm, ⟨29, _⟩ => ⟨S_, .i32⟩
  | .hbm, ⟨30, _⟩ => ⟨S8x128, .i32⟩
  | .hbm, ⟨31, _⟩ => ⟨S8x128, .i32⟩
  | .hbm, ⟨32, _⟩ => ⟨S8x128x1, .i32⟩
  | .hbm, ⟨33, _⟩ => ⟨S8x128x1, .i32⟩
  | .hbm, ⟨34, _⟩ => ⟨S8x128x2, .i32⟩
  | .hbm, ⟨35, _⟩ => ⟨S8x128x128x16x128, .f32⟩
  | .hbm, ⟨36, _⟩ => ⟨S8x64x256x16x128, .f32⟩
  | .hbm, ⟨37, _⟩ => ⟨S_, .f32⟩
  | .hbm, ⟨38, _⟩ => ⟨S8x64x16x128, .f32⟩
  | .hbm, ⟨39, _⟩ => ⟨S_, .f32⟩
  | .hbm, ⟨40, _⟩ => ⟨S8x64x16x128, .f32⟩
  | .hbm, ⟨41, _⟩ => ⟨S8x64x16x128, .f32⟩
  | .hbm, ⟨42, _⟩ => ⟨S1x8x64x16x128, .f32⟩
  | .hbm, ⟨43, _⟩ => ⟨S1x8x64x16x128, .f32⟩
  | .hbm, ⟨44, _⟩ => ⟨S2x8x64x16x128, .f32⟩
  | _, _ => ⟨S2x1280x128x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.DecMath.lean ====
/-
  The gates of the decode recurrence on the extended reals: the logarithm of the forget gate and its complement, as
  the kernel spells them and as the reference spells them, for a finite pre-activation; and powers of two against
  exponentials.
-/
module

public import Idealize.ShloMosaic.Lib.Pointwise.Tactic

@[expose] public section

namespace Dec

open Idealize.ShloMosaic

/-- The logarithm of the sigmoid of a real number. -/
noncomputable def lf (z : ℝ) : ℝ := min z 0 - Real.log (1 + Real.exp (-|z|))

/-- The sigmoid of the negated real number. -/
noncomputable def sg (z : ℝ) : ℝ := 1 - Real.exp (lf z)

/-- One over the natural logarithm of two. -/
noncomputable def L : ℝ := (Real.log 2)⁻¹

theorem coe_max (x y : ℝ) : ((max x y : ℝ) : EReal) = max (x : EReal) y := EReal.coe_strictMono.monotone.map_max
theorem coe_min (x y : ℝ) : ((min x y : ℝ) : EReal) = min (x : EReal) y := EReal.coe_strictMono.monotone.map_min

theorem max_neg_coe (z : ℝ) : max (z : EReal) (-(z : EReal)) = ((|z| : ℝ) : EReal) := by
  rw [← EReal.coe_neg, ← coe_max]; rfl

theorem min_zero_coe (z : ℝ) : min (z : EReal) 0 = ((min z 0 : ℝ) : EReal) := by
  rw [← EReal.coe_zero, ← coe_min]

theorem one_add_exp_pos (z : ℝ) : 0 < 1 + Real.exp (-|z|) := by positivity

/-- The kernel's logarithm of the forget gate. -/
theorem kernel_lf (z : ℝ) :
    min (z : EReal) 0 - Ideal.log (1 + Ideal.exp (0 - max (z : EReal) (-(z : EReal)))) = (lf z : EReal) := by
  rw [max_neg_coe, min_zero_coe, zero_sub, ← EReal.coe_neg, Ideal.exp_coe, ← EReal.coe_one, ← EReal.coe_add, Ideal.log_coe,
    if_neg (not_le.mpr (one_add_exp_pos z)), ← EReal.coe_sub]
  rfl

/-- The exponential of the logarithm of the forget gate. -/
theorem exp_lf (z : ℝ) : Real.exp (lf z) = Real.exp (min z 0) / (1 + Real.exp (-|z|)) := by
  rw [lf, Real.exp_sub, Real.exp_log (one_add_exp_pos z)]

theorem sg_of_nonneg (z : ℝ) (h : 0 ≤ z) : sg z = Real.exp (-|z|) * (1 / (1 + Real.exp (-|z|))) := by
  have hp := (one_add_exp_pos z).ne'
  rw [sg, exp_lf, min_eq_right h, Real.exp_zero]
  field_simp
  ring

theorem sg_of_neg (z : ℝ) (h : z < 0) : sg z = 1 / (1 + Real.exp (-|z|)) := by
  have hp := (one_add_exp_pos z).ne'
  have hz : -|z| = z := by rw [abs_of_neg h]; ring
  rw [sg, exp_lf, min_eq_left h.le]
  rw [hz] at hp ⊢
  field_simp
  ring

/-- The kernel's complement of the forget gate. -/
theorem kernel_sg (z : ℝ) :
    (if 0 ≤ (z : EReal) then
      Ideal.exp (0 - max (z : EReal) (-(z : EReal))) * Ideal.div 1 (1 + Ideal.exp (0 - max (z : EReal) (-(z : EReal))))
      else Ideal.div 1 (1 + Ideal.exp (0 - max (z : EReal) (-(z : EReal))))) = (sg z : EReal) := by
  have hp := (one_add_exp_pos z).ne'
  rw [max_neg_coe, zero_sub, ← EReal.coe_neg, Ideal.exp_coe, ← EReal.coe_one, ← EReal.coe_add, Ideal.div_coe hp,
    EReal.coe_one, one_mul]
  by_cases h : 0 ≤ z
  · rw [if_pos (by exact_mod_cast h), sg_of_nonneg z h, EReal.coe_mul]
  · rw [if_neg (by exact_mod_cast h), sg_of_neg z (not_le.mp h)]

/-- The reference's logarithm of the forget gate: minus the softplus of the negated pre-activation. -/
theorem ref_lf (z : ℝ) :
    -(Scalar.select (Ideal.cmp .une (-(z : EReal) - 0) (-(z : EReal) - 0)) (-(z : EReal) + 0)
      (max (-(z : EReal)) 0 + Ideal.log1p (Ideal.exp (-(max (-(z : EReal) - 0) (-(-(z : EReal) - 0))))))) = (lf z : EReal) := by
  have hc : Ideal.cmp .une (-(z : EReal) - 0) (-(z : EReal) - 0) = 0#1 := by simp [Ideal.cmp]
  rw [hc, sub_zero, neg_neg, max_comm (-(z : EReal)) (z : EReal), max_neg_coe, ← EReal.coe_neg, ← EReal.coe_neg, Ideal.exp_coe, Ideal.log1p,
    ← EReal.coe_one, ← EReal.coe_add, Ideal.log_coe, if_neg (not_le.mpr (one_add_exp_pos z)), ← EReal.coe_zero,
    ← coe_max]
  show -(((max (-z) 0 : ℝ) : EReal) + ((Real.log (1 + Real.exp (-|z|)) : ℝ) : EReal)) = _
  rw [← EReal.coe_add, ← EReal.coe_neg, lf]
  congr 1
  have : min z 0 = - max (-z) 0 := by rw [← neg_zero, max_neg_neg, neg_neg, neg_zero]
  rw [this]; ring

/-- The reference's complement of the forget gate. -/
theorem ref_sg (z : ℝ) : -(Ideal.expm1 (lf z : EReal)) = (sg z : EReal) := by
  rw [Ideal.expm1, Ideal.exp_coe, ← EReal.coe_one, ← EReal.coe_sub, ← EReal.coe_neg, sg]
  congr 1; ring

/-- A power of two whose exponent carries the factor `L` is the exponential. -/
theorem exp2_L (x : ℝ) : Ideal.exp2 ((x * L : ℝ) : EReal) = (Real.exp x : EReal) := by
  rw [Ideal.exp2_coe]
  congr 1
  show (2 : ℝ) ^ (x * L) = _
  have h2 : Real.log 2 ≠ 0 := (Real.log_pos one_lt_two).ne'
  rw [Real.rpow_def_of_pos two_pos, L]
  congr 1
  field_simp

/-- The same of a difference. -/
theorem exp2_L_sub (x y : ℝ) : Ideal.exp2 (((x * L : ℝ) : EReal) - ((y * L : ℝ) : EReal)) = Ideal.exp ((x : EReal) - (y : EReal)) := by
  rw [← EReal.coe_sub, ← sub_mul, exp2_L, ← EReal.coe_sub, Ideal.exp_coe]

end Dec
-- ==== Proof.DecKernel.lean ====
/-
  What the decode kernel's body leaves in its two output blocks, index by index, from the blocks of its inputs: the
  eight rows' gates, their running sums, the read-out of each row and the new state.
-/
module

public import proofs.«01_k».proof.Proof.Gen.KernelIdeal.Value
public import Idealize.ShloMosaic.Lib.Pointwise
public import proofs.«01_k».proof.Proof.DecMath

@[expose] public section

set_option maxRecDepth 8000

open Idealize.ShloMosaic Cert.KernelIdeal Cert.KernelIdeal.Gen

namespace Dec

/-- The gate `x / (1 + e^(-x))`. -/
noncomputable def sil (x : EReal) : EReal := Ideal.div x (1 + Ideal.exp (0 - x))

/-- The log gates of the eight rows: the last four are padding. -/
noncomputable def gR (z : Fin 8 → Fin 128 → ℝ) (r : Fin 8) (k : Fin 128) : ℝ := if r.val < 4 then lf (z r k) else 0

/-- The keys of the eight rows. -/
noncomputable def kR (z : Fin 8 → Fin 128 → ℝ) (r : Fin 8) (k : Fin 128) : ℝ := if r.val < 4 then sg (z r k) else 0

/-- The running sum of the log gates. -/
noncomputable def bR (z : Fin 8 → Fin 128 → ℝ) (r : Fin 8) (k : Fin 128) : ℝ := ∑ s : Fin 8, if s ≤ r then gR z s k else 0

/-- The decay from row `s` to row `r`. -/
noncomputable def dR (z : Fin 8 → Fin 128 → ℝ) (r s : Fin 8) (k : Fin 128) : ℝ :=
  if s ≤ r then Real.exp (bR z r k - bR z s k) else 0

theorem log2e_val : (Named.named κ "log2e" 0x3FB8AA3B#32 : Ideal .f32) = ((L : ℝ) : EReal) :=
  IdealRules.named_const.ideal_named_scalar _ _ _ _ rfl

theorem pay3_at (r : Fin 8) (k : Fin 128) : k0_pay3 (ix2 r k) = if r.val < 4 then 1#1 else 0#1 := by
  unfold k0_pay3
  pointwise
  revert r; decide

section
variable (x0 x1 x2 x3 : Vec Ideal S1x8x128 .f32) (x4 : Vec Ideal S1x1x128x128 .f32) (x5 x6 : Vec Ideal S2x128 .f32)
variable (z : Fin 8 → Fin 128 → ℝ)

theorem ld_rows (x : Vec Ideal S1x8x128 .f32) : View.ld x r0_0 = x :=
  View.ld_unit_zero (by funext a; fin_cases a <;> rfl) ..

theorem sc_rows {α : Type} (x : S1x8x128.Idx → α) (r : Fin 8) (k : Fin 128) :
    shapeCast S8x128 x shapeCasts_S1x8x128_S8x128 (ix2 r k) = x (ix3 0 r k) := by
  refine shapeCast_apply x _ (ix2 r k) (ix3 0 r k) ?_
  rw [Shape.rowMajor_val_three, Shape.rowMajor_val_two]
  simp [ix3, ix2]

theorem pay29_at (hz : ∀ r k, x1 (ix3 0 r k) = (z r k : EReal)) (r : Fin 8) (k : Fin 128) :
    k0_pay29 x0 x1 x2 x3 x4 x5 x6 (ix2 r k) = (gR z r k : EReal) := by
  unfold k0_pay29
  rw [ld_rows]
  unfold k0_pay7 k0_pay6 k0_pay4
  pointwise [pay3_at, sc_rows, hz, Ideal.absf_def]
  rw [kernel_lf, gR]
  split <;> rfl

theorem pay30_at (hz : ∀ r k, x1 (ix3 0 r k) = (z r k : EReal)) (r : Fin 8) (k : Fin 128) :
    k0_pay30 x0 x1 x2 x3 x4 x5 x6 (ix2 r k) = (kR z r k : EReal) := by
  unfold k0_pay30
  rw [ld_rows]
  unfold k0_pay8 k0_pay6 k0_pay4
  pointwise [pay3_at, sc_rows, hz, Ideal.absf_def, Ideal.cmpf_def]
  rw [kernel_sg, kR]
  split <;> rfl

theorem pay28_at (r : Fin 8) (k : Fin 128) :
    k0_pay28 x0 x1 x2 x3 x4 x5 x6 (ix2 r k) = sil (x0 (ix3 0 r k)) := by
  unfold k0_pay28
  rw [ld_rows]
  unfold k0_pay5
  pointwise [sc_rows]
  rfl

theorem pay31_at (r : Fin 8) (k : Fin 128) :
    k0_pay31 x0 x1 x2 x3 x4 x5 x6 (ix2 r k) = x2 (ix3 0 r k) := by
  unfold k0_pay31
  rw [ld_rows]
  unfold k0_pay9
  pointwise [sc_rows]

theorem pay32_at (v k : Fin 128) :
    k0_pay32 x0 x1 x2 x3 x4 x5 x6 (ix2 v k) = x4 (ix4 0 0 k v) := by
  unfold k0_pay32 k0_pay10
  rw [View.ld_unit_zero (by funext a; fin_cases a <;> rfl)]
  pointwise

theorem pay33_at (hz : ∀ r k, x1 (ix3 0 r k) = (z r k : EReal)) (r : Fin 8) (k : Fin 128) :
    k0_pay33 x0 x1 x2 x3 x4 x5 x6 (ix2 r k) = ((bR z r k * L : ℝ) : EReal) := by
  unfold k0_pay33 k0_pay11
  have hg := pay29_at x0 x1 x2 x3 x4 x5 x6 z hz
  generalize k0_pay29 x0 x1 x2 x3 x4 x5 x6 = G at hg ⊢
  have e : ∀ r : Fin 8, (bR z r k) = ∑ s : Fin 8, if s ≤ r then gR z s k else 0 := fun _ => rfl
  fin_cases r <;>
  · pointwise [hg, log2e_val]
    rw [e]
    simp only [Scalar.select, IntOp.cmpi, Fin.sum_univ_eight]
    simp [← EReal.coe_mul, ← EReal.coe_add]
    try (norm_cast; try ring)

theorem sc_up {α : Type} (x : S8x128.Idx → α) (r : Fin 8) (k : Fin 128) (u : Fin 1) :
    shapeCast S1x8x128 x shapeCasts_S8x128_S1x8x128 (ix3 u r k) = x (ix2 r k) := by
  refine shapeCast_apply x _ (ix3 u r k) (ix2 r k) ?_
  rw [Shape.rowMajor_val_three, Shape.rowMajor_val_two]
  simp [ix3, ix2]

theorem pay41_at (r : Fin 8) (k : Fin 128) (u : Fin 1) :
    k0_pay41 x0 x1 x2 x3 x4 x5 x6 (ix3 u r k) = BitVec.ofNat 32 r.val := by
  unfold_payloads
  pointwise
  revert r; decide

end
end Dec
-- ==== Proof.DecRows.lean ====
/-
  The decode kernel's read-out of a row and the new state, index by index.
-/
module

public import proofs.«01_k».proof.Proof.DecKernel

@[expose] public section

set_option maxRecDepth 8000

open Idealize.ShloMosaic Cert.KernelIdeal Cert.KernelIdeal.Gen

namespace Dec

section
variable (x0 x1 x2 x3 : Vec Ideal S1x8x128 .f32) (x4 : Vec Ideal S1x1x128x128 .f32) (x5 x6 : Vec Ideal S2x128 .f32)
variable (z : Fin 8 → Fin 128 → ℝ)

theorem pay34_at (u : Fin 1) (r : Fin 8) (k : Fin 128) :
    k0_pay34 x0 x1 x2 x3 x4 x5 x6 (ix3 u r k) = sil (x0 (ix3 0 r k)) := by
  unfold k0_pay34 k0_pay12
  exact (sc_up _ r k u).trans (pay28_at ..)

theorem pay35_at (hz : ∀ r k, x1 (ix3 0 r k) = (z r k : EReal)) (u : Fin 1) (r : Fin 8) (k : Fin 128) :
    k0_pay35 x0 x1 x2 x3 x4 x5 x6 (ix3 u r k) = (kR z r k : EReal) := by
  unfold k0_pay35 k0_pay13
  exact (sc_up _ r k u).trans (pay30_at _ _ _ _ _ _ _ _ hz ..)

theorem pay36_at (u : Fin 1) (r : Fin 8) (k : Fin 128) :
    k0_pay36 x0 x1 x2 x3 x4 x5 x6 (ix3 u r k) = x2 (ix3 0 r k) := by
  unfold k0_pay36 k0_pay14
  exact (sc_up _ r k u).trans (pay31_at ..)

theorem pay37_at (hz : ∀ r k, x1 (ix3 0 r k) = (z r k : EReal)) (u : Fin 1) (r : Fin 8) (k : Fin 128) :
    k0_pay37 x0 x1 x2 x3 x4 x5 x6 (ix3 u r k) = ((bR z r k * L : ℝ) : EReal) := by
  unfold k0_pay37 k0_pay15
  exact (sc_up _ r k u).trans (pay33_at x0 x1 x2 x3 x4 x5 x6 z hz r k)

theorem sc_keep {α : Type} (x : S1x8.Idx → α) (r : Fin 8) (u w : Fin 1) :
    shapeCast S1x8x1 x shapeCasts_S1x8_S1x8x1 (ix3 u r w) = x (ix2 u r) := by
  refine shapeCast_apply x _ (ix3 u r w) (ix2 u r) ?_
  rw [Shape.rowMajor_val_three, Shape.rowMajor_val_two]
  simp [ix3, ix2]

theorem exp2_i (x : Ideal .f32) : FloatOps.exp2 x = Ideal.exp2 x := rfl

theorem sel_ge {α : Type} (a b : BitVec 32) (x y : α) : Scalar.select (IntOp.cmpi .sge a b) x y = if b.sle a then x else y := by
  unfold Scalar.select IntOp.cmpi
  cases h : b.sle a <;> simp

theorem ninf : Ideal.ofBits .f32 4286578688#32 = ⊥ := by
  simp [Ideal.ofBits, Ideal.ieee]

theorem exp2_sub (x y : ℝ) : Ideal.exp2 (((x * L : ℝ) : EReal) - ((y * L : ℝ) : EReal)) = ((Real.exp (x - y) : ℝ) : EReal) := by
  rw [exp2_L_sub, ← EReal.coe_sub, Ideal.exp_coe]

/-! Sums read backwards. -/
theorem rev2 (a b : EReal) : b + a = a + b := by ac_rfl
theorem rev3 (a b c : EReal) : c + b + a = a + b + c := by ac_rfl
theorem rev4 (a b c d : EReal) : d + c + b + a = a + b + c + d := by ac_rfl
theorem rev5 (a b c d e : EReal) : e + d + c + b + a = a + b + c + d + e := by ac_rfl
theorem rev6 (a b c d e f : EReal) : f + e + d + c + b + a = a + b + c + d + e + f := by ac_rfl
theorem rev7 (a b c d e f g : EReal) : g + f + e + d + c + b + a = a + b + c + d + e + f + g := by ac_rfl
theorem rev8 (a b c d e f g h : EReal) : h + g + f + e + d + c + b + a = a + b + c + d + e + f + g + h := by ac_rfl

/-- The read-out of the eight rows, before the norm. -/
noncomputable abbrev oK : FVec Ideal S8x128 .f32 :=
  k0_pay25 (k0_pay28 x0 x1 x2 x3 x4 x5 x6) (k0_pay32 x0 x1 x2 x3 x4 x5 x6) (k0_pay33 x0 x1 x2 x3 x4 x5 x6) (k0_pay34 x0 x1 x2 x3 x4 x5 x6) (k0_pay35 x0 x1 x2 x3 x4 x5 x6) (k0_pay36 x0 x1 x2 x3 x4 x5 x6) (k0_pay37 x0 x1 x2 x3 x4 x5 x6) (k0_pay41 x0 x1 x2 x3 x4 x5 x6) (k0_pay23 (k0_pay34 x0 x1 x2 x3 x4 x5 x6) (k0_pay35 x0 x1 x2 x3 x4 x5 x6) (k0_pay36 x0 x1 x2 x3 x4 x5 x6) (k0_pay37 x0 x1 x2 x3 x4 x5 x6) (k0_pay41 x0 x1 x2 x3 x4 x5 x6) (k0_pay20 (k0_pay34 x0 x1 x2 x3 x4 x5 x6) (k0_pay35 x0 x1 x2 x3 x4 x5 x6) (k0_pay36 x0 x1 x2 x3 x4 x5 x6) (k0_pay37 x0 x1 x2 x3 x4 x5 x6) (Scalar.select (Scalar.cmpi .eq 8#32 0#32) 1#32 8#32) (k0_pay38 x0 x1 x2 x3 x4 x5 x6) (k0_pay39 x0 x1 x2 x3 x4 x5 x6) (k0_pay40 x0 x1 x2 x3 x4 x5 x6)) (k0_pay21 (Scalar.select (Scalar.cmpi .eq 8#32 0#32) 1#32 8#32) (k0_pay38 x0 x1 x2 x3 x4 x5 x6) (k0_pay39 x0 x1 x2 x3 x4 x5 x6) (k0_pay40 x0 x1 x2 x3 x4 x5 x6)) (k0_pay22 (k0_pay37 x0 x1 x2 x3 x4 x5 x6)))

theorem oK_at (hz : ∀ r k, x1 (ix3 0 r k) = (z r k : EReal)) (r : Fin 8) (v : Fin 128) :
    oK x0 x1 x2 x3 x4 x5 x6 (ix2 r v)
      = (∑ s : Fin 8, (∑ k : Fin 128, sil (x0 (ix3 0 r k)) * (dR z r s k : EReal) * (kR z s k : EReal)) * x2 (ix3 0 s v))
        + ∑ k : Fin 128, sil (x0 (ix3 0 r k)) * (Real.exp (bR z r k) : EReal) * x4 (ix4 0 0 k v) := by
  have h28 := pay28_at x0 x1 x2 x3 x4 x5 x6
  have h32 := pay32_at x0 x1 x2 x3 x4 x5 x6
  have h33 := pay33_at x0 x1 x2 x3 x4 x5 x6 z hz
  have h34 := pay34_at x0 x1 x2 x3 x4 x5 x6
  have h35 := pay35_at x0 x1 x2 x3 x4 x5 x6 z hz
  have h36 := pay36_at x0 x1 x2 x3 x4 x5 x6
  have h37 := pay37_at x0 x1 x2 x3 x4 x5 x6 z hz
  have h41 := pay41_at x0 x1 x2 x3 x4 x5 x6
  have h41' := h41
  unfold k0_pay41 at h41'
  unfold oK k0_pay25 k0_pay23 k0_pay20 k0_pay21 k0_pay22
  fin_cases r <;>
  · pointwise [h28, h32, h33, h34, h35, h36, h37, h41, h41', exp2_i]
    simp only [sel_ge, ninf, exp2_sub, exp2_L, Ideal.exp2_bot, Fin.sum_univ_eight, dR, Fin.isValue, Fin.reduceLE, BitVec.reduceSLE, reduceIte, if_true, if_false, sub_self, Real.exp_zero, EReal.coe_one, EReal.coe_zero,
      mul_zero, zero_mul, mul_one, add_zero, zero_add, Finset.sum_const_zero, le_refl, Bool.false_eq_true]
    all_goals refine congrArg₂ (· + ·) ?_ rfl
    all_goals first
      | rfl | exact rev2 _ _ | exact rev3 _ _ _ | exact rev4 _ _ _ _ | exact rev5 _ _ _ _ _
      | exact rev6 _ _ _ _ _ _ | exact rev7 _ _ _ _ _ _ _ | exact rev8 _ _ _ _ _ _ _ _

/-- The normed and gated output of a row. -/
theorem pay2_at (r : Fin 8) (v : Fin 128) :
    out0_7 x0 x1 x2 x3 x4 x5 x6 (ix3 0 r v)
      = oK x0 x1 x2 x3 x4 x5 x6 (ix2 r v)
          * Ideal.rsqrt (Ideal.div (∑ x, oK x0 x1 x2 x3 x4 x5 x6 (ix2 r x) * oK x0 x1 x2 x3 x4 x5 x6 (ix2 r x))
              (Ideal.ofBits .f32 0x43000000#32) + Ideal.ofBits .f32 0x358637BD#32)
          * x6 (ix2 0 v) * sil (x3 (ix3 0 r v)) := by
  unfold out0_7
  rw [View.canon_unit_zero (by funext a; fin_cases a <;> rfl)]
  show k0_pay2 (oK x0 x1 x2 x3 x4 x5 x6) _ _ _ = _
  generalize oK x0 x1 x2 x3 x4 x5 x6 = o
  unfold_payloads
  pointwise [ld_rows]
  rfl

/-- A padding row, whose queries are zero, leaves zero. -/
theorem pad_at (hz : ∀ r k, x1 (ix3 0 r k) = (z r k : EReal)) (r : Fin 8) (v : Fin 128) (h0 : ∀ k, x0 (ix3 0 r k) = 0) :
    out0_7 x0 x1 x2 x3 x4 x5 x6 (ix3 0 r v) = 0 := by
  have hs : sil 0 = 0 := by
    rw [sil, sub_zero, ← EReal.coe_zero, Ideal.exp_coe, Real.exp_zero, ← EReal.coe_one, ← EReal.coe_add,
      Ideal.div_coe (by norm_num), EReal.coe_zero, zero_mul]
  have ho : oK x0 x1 x2 x3 x4 x5 x6 (ix2 r v) = 0 := by
    rw [oK_at x0 x1 x2 x3 x4 x5 x6 z hz]
    simp only [h0, hs, zero_mul, mul_zero, Finset.sum_const_zero, add_zero]
  rw [pay2_at, ho, zero_mul, zero_mul, zero_mul]

theorem out8_at (hz : ∀ r k, x1 (ix3 0 r k) = (z r k : EReal)) (k v : Fin 128) :
    out0_8 x0 x1 x2 x3 x4 x5 x6 (ix4 0 0 k v)
      = x4 (ix4 0 0 k v) * (Real.exp (bR z 7 k) : EReal)
        + ∑ s : Fin 8, x2 (ix3 0 s v) * ((kR z s k : EReal) * (Real.exp (bR z 7 k - bR z s k) : EReal)) := by
  have h30 := pay30_at x0 x1 x2 x3 x4 x5 x6 z hz
  have h31 := pay31_at x0 x1 x2 x3 x4 x5 x6
  have h32 := pay32_at x0 x1 x2 x3 x4 x5 x6
  have h33 := pay33_at x0 x1 x2 x3 x4 x5 x6 z hz
  unfold out0_8
  rw [View.canon_unit_zero (by funext a; fin_cases a <;> rfl)]
  unfold k0_pay1 k0_pay26 k0_pay27 k0_pay24
  pointwise [h30, h31, h32, h33, exp2_i]
  simp only [exp2_sub, exp2_L]

end
end Dec
-- ==== Proof.DecRef.lean ====
module

public import proofs.«01_k».proof.Proof.Gen.ReferenceIdeal.Read
public import proofs.«01_k».proof.Proof.DecMath
public import Idealize.ShloMosaic.Lib.Pointwise

@[expose] public section

/-! The reference read at an index, where the projections are real numbers. -/

namespace Dec
open Cert.ReferenceIdeal Cert.ReferenceIdeal.Read Idealize.ShloMosaic
open scoped BigOperators

variable (x0 : FVec Ideal S32x8192 .f32) (x1 : FVec Ideal S8x16x128x128 .f32) (x3 : FVec Ideal S2x128 .f32)

/-- The row of token `t` of sequence `b`. -/
def row (b : Fin 8) (t : Fin 4) : Fin 32 := ⟨b.val * 4 + t.val, by omega⟩
/-- The columns of head `h`: queries, forget gates, inputs and output gates. -/
def cq (h : Fin 16) (k : Fin 128) : Fin 8192 := ⟨h.val * 128 + k.val, by omega⟩
def cf (h : Fin 16) (k : Fin 128) : Fin 8192 := ⟨2048 + (h.val * 128 + k.val), by omega⟩
def ci (h : Fin 16) (k : Fin 128) : Fin 8192 := ⟨4096 + (h.val * 128 + k.val), by omega⟩
def cg (h : Fin 16) (k : Fin 128) : Fin 8192 := ⟨6144 + (h.val * 128 + k.val), by omega⟩

/-- The running sum of the logarithms of the forget gates. -/
noncomputable def B4 (z : Fin 4 → Fin 128 → ℝ) (t : Fin 4) (k : Fin 128) : ℝ := ∑ s : Fin 4, if s ≤ t then lf (z s k) else 0

/-- `x` times its sigmoid, as the reference writes it. -/
noncomputable def silr (x : EReal) : EReal := x * Ideal.div 1 (1 + Ideal.exp (-x))

theorem rq_at (b : Fin 8) (t : Fin 4) (h : Fin 16) (k : Fin 128) :
    val_main_v6 (F := Ideal) x0 (ix4 b t h k) = silr (x0 (ix2 (row b t) (cq h k))) := by
  unfold val_main_v6 val_main_v5 val_main_v1 val_main_v0 val_main_call0_v5 val_main_call0_v4 val_main_call0_v3 val_main_call0_v2 val_main_call0_v1 val_main_call0_v0 val_main_call0_cst val_main_call0_cst_0 val_main_v1 val_main_v0
  pointwise
  rfl

theorem rg_at (b : Fin 8) (t : Fin 4) (h : Fin 16) (k : Fin 128) :
    val_main_v66 (F := Ideal) x0 (ix4 b t h k) = silr (x0 (ix2 (row b t) (cg h k))) := by
  unfold val_main_v66 val_main_v65 val_main_v4 val_main_v0 val_main_call5_v5 val_main_call5_v4 val_main_call5_v3 val_main_call5_v2 val_main_call5_v1 val_main_call5_v0 val_main_call5_cst val_main_call5_cst_0 val_main_v65 val_main_v4 val_main_v0
  pointwise
  rfl

theorem rv_at (b : Fin 8) (t : Fin 4) (h : Fin 16) (k : Fin 128) :
    val_main_v11 (F := Ideal) x0 (ix4 b t h k) = x0 (ix2 (row b t) (ci h k)) := by
  unfold val_main_v11 val_main_v3 val_main_v0
  pointwise
  rfl

theorem rl_at (b : Fin 8) (t : Fin 4) (h : Fin 16) (k : Fin 128) (z : ℝ) (hz : x0 (ix2 (row b t) (cf h k)) = (z : EReal)) :
    val_main_v8 (F := Ideal) x0 (ix4 b t h k) = (lf z : EReal) := by
  unfold val_main_v8 val_main_v7 val_main_call1_v1 val_main_call1_call0_v11 val_main_call1_call0_v10 val_main_call1_call0_v9 val_main_call1_call0_v8 val_main_call1_call0_v7 val_main_call1_call0_v6 val_main_call1_call0_v5 val_main_call1_call0_v4 val_main_call1_call0_v3 val_main_call1_call0_v2 val_main_call1_call0_v1 val_main_call1_call0_v0 val_main_call1_call0_cst val_main_call1_v0 val_main_v2 val_main_v0
  pointwise
  rw [row, cf] at hz
  rw [hz, if_neg (by simp), ← ref_lf, sub_zero]
  have hc : Ideal.cmp .une (-(z : EReal)) (-(z : EReal)) = 0#1 := by simp [Ideal.cmp]
  rw [hc]
  rfl

theorem rk_at (b : Fin 8) (t : Fin 4) (h : Fin 16) (k : Fin 128) (z : ℝ) (hz : x0 (ix2 (row b t) (cf h k)) = (z : EReal)) :
    val_main_v10 (F := Ideal) x0 (ix4 b t h k) = (sg z : EReal) := by
  unfold val_main_v10 val_main_v9
  pointwise [rl_at x0 b t h k z hz]
  exact ref_sg z

theorem coe_sum {n : Nat} (f : Fin n → ℝ) : ((∑ i, f i : ℝ) : EReal) = ∑ i, (f i : EReal) :=
  map_sum (⟨⟨fun x : ℝ => (x : EReal), rfl⟩, EReal.coe_add⟩ : ℝ →+ EReal) f Finset.univ

theorem fold4 (g : Fin 4 → EReal) : (List.finRange 4).foldl (fun r n => r + g n) 0 = g 0 + g 1 + g 2 + g 3 := by
  have hf : List.finRange 4 = [0, 1, 2, 3] := by decide
  rw [hf, List.foldl_cons, List.foldl_cons, List.foldl_cons, List.foldl_cons, List.foldl_nil, zero_add]

/-- The running sum along the tokens, element by element. -/
theorem cumsum_at (x : FVec Ideal S8x4x16x128 .f32) (init : FVec Ideal S_ .f32) (hi : ∀ i, init i = 0) (hw) (hu : 0 < S_.numel) (b : Fin 8) (t : Fin 4) (h : Fin 16) (k : Fin 128) :
    Host.reduceWindowAdd ![1, 4, 1, 1] ![1, 1, 1, 1] ![0, 3, 0, 0] ![0, 0, 0, 0] x init hw hu (ix4 b t h k)
      = ∑ s : Fin 4, if s ≤ t then x (ix4 b s h k) else 0 := by
  show Host.reduceWindow (· + ·) ![1, 4, 1, 1] ![1, 1, 1, 1] ![0, 3, 0, 0] ![0, 0, 0, 0] x (fun _ : (⟨0, ![]⟩ : Shape).Idx => init (Shape.Idx.first hu)) hw (by decide) (ix4 b t h k) = _
  unfold Host.reduceWindow
  rw [hi]
  have hn : ∀ n : Fin (Shape.numel ⟨4, ![1, 4, 1, 1]⟩), ((Shape.rowMajor ⟨4, ![1, 4, 1, 1]⟩).symm n 0).val = 0
      ∧ ((Shape.rowMajor ⟨4, ![1, 4, 1, 1]⟩).symm n 1).val = n.val ∧ ((Shape.rowMajor ⟨4, ![1, 4, 1, 1]⟩).symm n 2).val = 0
      ∧ ((Shape.rowMajor ⟨4, ![1, 4, 1, 1]⟩).symm n 3).val = 0 := by decide +kernel
  have hs : ∀ n : Fin (Shape.numel ⟨4, ![1, 4, 1, 1]⟩), n.val < 4 := by decide +kernel
  refine (List.foldl_ext _ (fun r n => r + (if hle : 3 ≤ t.val + n.val then x (ix4 b ⟨t.val + n.val - 3, by have := hs n; omega⟩ h k) else 0)) _
    (fun r n _ => ?_)).trans ?_
  · refine congrArg (r + ·) ?_
    obtain ⟨e0, e1, e2, e3⟩ := hn n
    have h4 := hs n
    by_cases hle : 3 ≤ t.val + n.val
    · rw [dif_pos hle, dif_pos]
      · congr 1
        funext a
        fin_cases a
        · refine Fin.ext ?_
          show b.val * 1 + ((Shape.rowMajor ⟨4, ![1, 4, 1, 1]⟩).symm n 0).val - 0 = b.val
          omega
        · refine Fin.ext ?_
          show t.val * 1 + ((Shape.rowMajor ⟨4, ![1, 4, 1, 1]⟩).symm n 1).val - 3 = t.val + n.val - 3
          omega
        · refine Fin.ext ?_
          show h.val * 1 + ((Shape.rowMajor ⟨4, ![1, 4, 1, 1]⟩).symm n 2).val - 0 = h.val
          omega
        · refine Fin.ext ?_
          show k.val * 1 + ((Shape.rowMajor ⟨4, ![1, 4, 1, 1]⟩).symm n 3).val - 0 = k.val
          omega
      · intro a
        fin_cases a
        · show 0 ≤ b.val * 1 + ((Shape.rowMajor ⟨4, ![1, 4, 1, 1]⟩).symm n 0).val ∧ b.val * 1 + ((Shape.rowMajor ⟨4, ![1, 4, 1, 1]⟩).symm n 0).val - 0 < 8
          omega
        · show 3 ≤ t.val * 1 + ((Shape.rowMajor ⟨4, ![1, 4, 1, 1]⟩).symm n 1).val ∧ t.val * 1 + ((Shape.rowMajor ⟨4, ![1, 4, 1, 1]⟩).symm n 1).val - 3 < 4
          omega
        · show 0 ≤ h.val * 1 + ((Shape.rowMajor ⟨4, ![1, 4, 1, 1]⟩).symm n 2).val ∧ h.val * 1 + ((Shape.rowMajor ⟨4, ![1, 4, 1, 1]⟩).symm n 2).val - 0 < 16
          omega
        · show 0 ≤ k.val * 1 + ((Shape.rowMajor ⟨4, ![1, 4, 1, 1]⟩).symm n 3).val ∧ k.val * 1 + ((Shape.rowMajor ⟨4, ![1, 4, 1, 1]⟩).symm n 3).val - 0 < 128
          omega
    · rw [dif_neg hle, dif_neg]
      intro hin
      have h1 : 3 ≤ t.val * 1 + ((Shape.rowMajor ⟨4, ![1, 4, 1, 1]⟩).symm n 1).val := (hin 1).1
      omega
  · refine (fold4 fun n : Fin 4 => if hle : 3 ≤ t.val + n.val then x (ix4 b ⟨t.val + n.val - 3, by omega⟩ h k) else 0).trans ?_
    rw [Fin.sum_univ_four]
    fin_cases t <;> simp

theorem rb_at (b : Fin 8) (t : Fin 4) (h : Fin 16) (k : Fin 128) (z : Fin 4 → Fin 128 → ℝ) (hz : ∀ t k, x0 (ix2 (row b t) (cf h k)) = (z t k : EReal)) :
    val_main_v15 (F := Ideal) x0 (ix4 b t h k) = (B4 z t k : EReal) := by
  unfold val_main_v15
  rw [cumsum_at]
  · simp only [rl_at x0 b _ h k _ (hz _ k)]
    rw [B4, coe_sum]
    exact Finset.sum_congr rfl fun s _ => by split <;> rfl
  · intro i
    unfold val_main_call3_call0_v0 val_main_call3_call0_cst
    simp [broadcastInDim, constant]

/-- The state the reference leaves. -/
theorem rs_at (b : Fin 8) (h : Fin 16) (k v : Fin 128) (z : Fin 4 → Fin 128 → ℝ) (hz : ∀ t k, x0 (ix2 (row b t) (cf h k)) = (z t k : EReal)) :
    val_main_v49 (F := Ideal) x0 x1 (ix4 b h k v)
      = (Real.exp (B4 z 3 k) : EReal) * x1 (ix4 b h k v)
        + ∑ s : Fin 4, (sg (z s k) : EReal) * (Real.exp (B4 z 3 k - B4 z s k) : EReal) * x0 (ix2 (row b s) (ci h v)) := by
  unfold val_main_v49 val_main_v48 val_main_v47 val_main_v46 val_main_v45 val_main_v44 val_main_v43 val_main_v42 val_main_v41 val_main_v40 val_main_v39 val_main_v38 val_main_v37
  pointwise [rb_at x0 b _ h k z hz, rv_at, rk_at x0 b _ h k _ (hz _ k), Ideal.exp_coe, ← EReal.coe_sub]

/-- The read-out of the reference, before the norm. -/
theorem ro_at (b : Fin 8) (t : Fin 4) (h : Fin 16) (v : Fin 128) (z : Fin 4 → Fin 128 → ℝ) (hz : ∀ t k, x0 (ix2 (row b t) (cf h k)) = (z t k : EReal)) :
    val_main_v36 (F := Ideal) x0 x1 (ix4 b t h v)
      = (∑ s : Fin 4, x0 (ix2 (row b s) (ci h v)) * ∑ k : Fin 128, silr (x0 (ix2 (row b t) (cq h k))) * (sg (z s k) : EReal)
            * ((if s ≤ t then Real.exp (B4 z t k - B4 z s k) else 0 : ℝ) : EReal))
        + ∑ k : Fin 128, x1 (ix4 b h k v) * (silr (x0 (ix2 (row b t) (cq h k))) * (Real.exp (B4 z t k) : EReal)) := by
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_call4_v1 val_main_call4_v2 val_main_call4_v0 val_main_v14 val_main_v13 val_main_v12 val_main_call2_v4 val_main_call2_v5 val_main_call2_v2 val_main_call2_v3 val_main_call2_v0 val_main_call2_v1 val_main_call2_c val_main_call2_c_0 val_main_cst val_main_cst_0 val_main_c
  pointwise [fun t k => rb_at x0 b t h k z hz, rv_at, fun t k => rk_at x0 b t h k _ (hz t k), Ideal.exp_coe, ← EReal.coe_sub, rq_at]
  have hm : ∀ (s : Fin 4) (x y : EReal), Ideal.exp (Scalar.select (Scalar.select (IntOp.cmpi .sge (IntOp.addi (BitVec.ofNat 32 t.val) 0#32) (BitVec.ofNat 32 s.val)) 1#1 0#1)
      x y) = if s ≤ t then Ideal.exp x else Ideal.exp y := by
    intro s x y
    fin_cases t <;> fin_cases s <;> rfl
  have hb : id (constant (F := Ideal) S_ .f32 4286578688#32) ix0 = ⊥ := by
    show Ideal.ofBits .f32 4286578688#32 = ⊥
    simp [Ideal.ofBits, Ideal.ieee]
  simp only [hm, hb, ← EReal.coe_sub, Ideal.exp_coe, Ideal.exp_bot]
  refine congrArg (· + _) (Finset.sum_congr rfl fun s _ => congrArg (_ * ·) (Finset.sum_congr rfl fun k _ => ?_))
  split <;> rfl

/-- The output rows of the reference. -/
theorem rf_at (b : Fin 8) (t : Fin 4) (h : Fin 16) (v : Fin 128) :
    val_main_v69 (F := Ideal) x0 x1 x3 (ix3 b t ⟨h.val * 128 + v.val, by omega⟩)
      = val_main_v36 (F := Ideal) x0 x1 (ix4 b t h v)
          * Ideal.rsqrt (Ideal.div (∑ x, val_main_v36 (F := Ideal) x0 x1 (ix4 b t h x) * val_main_v36 (F := Ideal) x0 x1 (ix4 b t h x))
              (Ideal.ofBits .f32 0x43000000#32) + Ideal.ofBits .f32 0x358637BD#32)
          * x3 (ix2 0 v) * silr (x0 (ix2 (row b t) (cg h v))) := by
  unfold val_main_v69 val_main_v68 val_main_v67 val_main_v64 val_main_v63 val_main_v62 val_main_v61 val_main_v60 val_main_v59 val_main_v58 val_main_v57 val_main_v56 val_main_v55 val_main_v54 val_main_v53 val_main_v52 val_main_v51 val_main_v50 val_main_cst_1 val_main_cst_2 val_main_cst_3
  pointwise [rg_at]

theorem rp_at (b : Fin 8) (t : Fin 8) (h : Fin 16) (v : Fin 128) :
    val_main_v70 (F := Ideal) x0 x1 x3 (ix3 b t ⟨h.val * 128 + v.val, by omega⟩)
      = if ht : t.val < 4 then val_main_v69 (F := Ideal) x0 x1 x3 (ix3 b ⟨t.val, ht⟩ ⟨h.val * 128 + v.val, by omega⟩) else 0 := by
  unfold val_main_v70 val_main_call6_v0 val_main_c_4
  pointwise
  have h0 : (FloatOps.sitofp .bf16 0#32 : Ideal .bf16) = 0 := by
    show (((0#32 : BitVec 32).toInt : ℝ) : EReal) = 0
    simp
  rw [h0]
  by_cases ht : t.val < 4
  · rw [dif_pos ht, dif_pos ⟨ht, by omega⟩]
  · rw [dif_neg ht, dif_neg fun h => ht h.1]

end Dec
-- ==== Proof.DecArrays.lean ====
module

public import proofs.«01_k».proof.Proof.Gen.KernelIdeal.Value
public import proofs.«01_k».proof.Proof.DecRows
public import proofs.«01_k».proof.Proof.DecRef
public import Idealize.ShloMosaic.Lib.Pipeline.ValueKit

@[expose] public section

/-! The blocks of the kernel at a grid point as entries of the argument arrays, and the two results. -/

set_option maxRecDepth 16384
namespace Dec
open Cert.KernelIdeal Cert.KernelIdeal.Gen Idealize.ShloMosaic Idealize.ShloMosaic.TcCoe Idealize.SL.Sem
open scoped BigOperators
variable (m : (ℓ : Loc nD τ sig) → Buf (Elt Ideal) ℓ)

theorem idx : ∀ t : Fin cfg0.N, win0_0.index t = ![(grid0.coords t 0).val, 0, (grid0.coords t 1).val]
   ∧ win0_1.index t = ![(grid0.coords t 0).val, 0, 16 + (grid0.coords t 1).val]
   ∧ win0_2.index t = ![(grid0.coords t 0).val, 0, 32 + (grid0.coords t 1).val]
   ∧ win0_3.index t = ![(grid0.coords t 0).val, 0, 48 + (grid0.coords t 1).val]
   ∧ win0_4.index t = ![(grid0.coords t 0).val, (grid0.coords t 1).val, 0, 0]
   ∧ win0_6.index t = ![0, 0]
   ∧ win0_7.index t = ![(grid0.coords t 0).val, 0, (grid0.coords t 1).val]
   ∧ win0_8.index t = ![(grid0.coords t 0).val, (grid0.coords t 1).val, 0, 0] :=
  (by decide +kernel : ∀ t : Fin grid0.N, _)

/-- The first argument. -/
abbrev hg (c : Dev nD) : FVec Ideal S32x8192 .f32 := m ((c : Thread nD τ).loc main_arg0)

theorem V_v1 (c : Dev nD) (b r : Fin 8) (n : Fin 8192) : V m c main_v1 (ix3 b r n) = (if hr : r.val < 4 then hg m c (ix2 (row b ⟨r.val, hr⟩) n) else 0 : EReal) := by
  have e : V m c main_v1 = pad S8x8x8192 ![0, 0, 0] ![0, 4, 0] ![0, 0, 0] (shapeCast S8x4x8192 (hg m c) shapeCasts_S32x8192_S8x4x8192) (sitofp .f32 (constantI S_ 32 0#32)) pads_S8x4x8192_S8x8x8192_000_040_000 h_S_ := by
    show StableHlo.after [hostOps0, hostOps0_1].flatten (fun b => m (c, b)) (Proc.tc.devRef main_v1) = _
    simp only [hostOps0, hostOps0_1, List.flatten_cons, List.flatten_nil, List.append_nil, List.cons_append, List.nil_append]
    after_results
    rfl
  rw [e]
  pointwise
  have h0 : (FloatOps.sitofp .f32 0#32 : Ideal .f32) = 0 := by
    show (((0#32 : BitVec 32).toInt : ℝ) : EReal) = 0
    simp
  rw [h0]
  rfl

theorem q_at (c : Dev nD) (t : Fin cfg0.N) (r : Fin 8) (k : Fin 128) (b : Fin 8) (h : Fin 16) (hb : b.val = (grid0.coords t 0).val) (hh : h.val = (grid0.coords t 1).val):
   iblk m c 0 t (ix3 0 r k) = V m c main_v1 (ix3 b r (cq h k)) := by
  obtain ⟨e0, e1, e2, e3, e4, e6, e7, e8⟩ := idx t
  blk_ext [iblk, V, e0, cq]
theorem f_at (c : Dev nD) (t : Fin cfg0.N) (r : Fin 8) (k : Fin 128) (b : Fin 8) (h : Fin 16) (hb : b.val = (grid0.coords t 0).val) (hh : h.val = (grid0.coords t 1).val):
   iblk m c 1 t (ix3 0 r k) = V m c main_v1 (ix3 b r (cf h k)) := by
  obtain ⟨e0, e1, e2, e3, e4, e6, e7, e8⟩ := idx t
  blk_ext [iblk, V, e1, cf]
theorem i_at (c : Dev nD) (t : Fin cfg0.N) (r : Fin 8) (k : Fin 128) (b : Fin 8) (h : Fin 16) (hb : b.val = (grid0.coords t 0).val) (hh : h.val = (grid0.coords t 1).val):
   iblk m c 2 t (ix3 0 r k) = V m c main_v1 (ix3 b r (ci h k)) := by
  obtain ⟨e0, e1, e2, e3, e4, e6, e7, e8⟩ := idx t
  blk_ext [iblk, V, e2, ci]
theorem g_at (c : Dev nD) (t : Fin cfg0.N) (r : Fin 8) (k : Fin 128) (b : Fin 8) (h : Fin 16) (hb : b.val = (grid0.coords t 0).val) (hh : h.val = (grid0.coords t 1).val):
   iblk m c 3 t (ix3 0 r k) = V m c main_v1 (ix3 b r (cg h k)) := by
  obtain ⟨e0, e1, e2, e3, e4, e6, e7, e8⟩ := idx t
  blk_ext [iblk, V, e3, cg]
theorem s_at (c : Dev nD) (t : Fin cfg0.N) (k v : Fin 128) (b : Fin 8) (h : Fin 16) (hb : b.val = (grid0.coords t 0).val) (hh : h.val = (grid0.coords t 1).val):
   iblk m c 4 t (ix4 0 0 k v) = m ((c : Thread nD τ).loc main_arg1) (ix4 b h k v) := by
  obtain ⟨e0, e1, e2, e3, e4, e6, e7, e8⟩ := idx t
  blk_ext [iblk, V, e4]
theorem n_at (c : Dev nD) (t : Fin cfg0.N) (v : Fin 128) :
   iblk m c 6 t (ix2 0 v) = m ((c : Thread nD τ).loc main_arg3) (ix2 0 v) := by
  obtain ⟨e0, e1, e2, e3, e4, e6, e7, e8⟩ := idx t
  blk_ext [iblk, V, e6]

/-! The eight rows of the kernel's block against the four tokens of the reference. -/

section rows
variable (z8 : Fin 8 → Fin 128 → ℝ) (z : Fin 4 → Fin 128 → ℝ)
  (h0 : ∀ k, z8 0 k = z 0 k) (h1 : ∀ k, z8 1 k = z 1 k) (h2 : ∀ k, z8 2 k = z 2 k) (h3 : ∀ k, z8 3 k = z 3 k)
include h0 h1 h2 h3

theorem bR_0 (k : Fin 128) : bR z8 0 k = B4 z 0 k := by simp [bR, gR, B4, Fin.sum_univ_eight, Fin.sum_univ_four, h0]
theorem bR_1 (k : Fin 128) : bR z8 1 k = B4 z 1 k := by simp [bR, gR, B4, Fin.sum_univ_eight, Fin.sum_univ_four, h0, h1]
theorem bR_2 (k : Fin 128) : bR z8 2 k = B4 z 2 k := by simp [bR, gR, B4, Fin.sum_univ_eight, Fin.sum_univ_four, h0, h1, h2]
theorem bR_3 (k : Fin 128) : bR z8 3 k = B4 z 3 k := by simp [bR, gR, B4, Fin.sum_univ_eight, Fin.sum_univ_four, h0, h1, h2, h3]
theorem bR_7 (k : Fin 128) : bR z8 7 k = B4 z 3 k := by simp [bR, gR, B4, Fin.sum_univ_eight, Fin.sum_univ_four, h0, h1, h2, h3]

theorem bR_cast (t : Fin 4) (k : Fin 128) : bR z8 (Fin.castLE (by decide) t) k = B4 z t k := by
  fin_cases t
  · exact bR_0 z8 z h0 h1 h2 h3 k
  · exact bR_1 z8 z h0 h1 h2 h3 k
  · exact bR_2 z8 z h0 h1 h2 h3 k
  · exact bR_3 z8 z h0 h1 h2 h3 k

theorem kR_cast (t : Fin 4) (k : Fin 128) : kR z8 (Fin.castLE (by decide) t) k = sg (z t k) := by
  fin_cases t
  · simp [kR, h0]
  · simp [kR, h1]
  · simp [kR, h2]
  · simp [kR, h3]

omit h0 h1 h2 h3 in
theorem kR_pad (r : Fin 8) (hr : ¬ r.val < 4) (k : Fin 128) : kR z8 r k = 0 := by simp [kR, hr]

omit h0 h1 h2 h3 in
/-- A sum over the eight rows whose last four terms vanish. -/
theorem sum_rows (f : Fin 8 → EReal) (hf : ∀ r : Fin 8, ¬ r.val < 4 → f r = 0) : ∑ r, f r = ∑ t : Fin 4, f (Fin.castLE (by decide) t) := by
  rw [Fin.sum_univ_eight, Fin.sum_univ_four, hf 4 (by decide), hf 5 (by decide), hf 6 (by decide), hf 7 (by decide), add_zero, add_zero, add_zero, add_zero]
  rfl

/-- The state. -/
theorem state_eq (x : EReal) (I8 : Fin 8 → EReal) (I : Fin 4 → EReal) (hI : ∀ t : Fin 4, I8 (Fin.castLE (by decide) t) = I t) (k : Fin 128) :
    x * (Real.exp (bR z8 7 k) : EReal) + ∑ s : Fin 8, I8 s * ((kR z8 s k : EReal) * (Real.exp (bR z8 7 k - bR z8 s k) : EReal))
      = (Real.exp (B4 z 3 k) : EReal) * x + ∑ s : Fin 4, (sg (z s k) : EReal) * (Real.exp (B4 z 3 k - B4 z s k) : EReal) * I s := by
  rw [sum_rows _ fun r hr => by rw [kR_pad z8 r hr, EReal.coe_zero, zero_mul, mul_zero], bR_7 z8 z h0 h1 h2 h3, mul_comm x]
  refine congrArg (_ + ·) (Finset.sum_congr rfl fun s _ => ?_)
  rw [kR_cast z8 z h0 h1 h2 h3, bR_cast z8 z h0 h1 h2 h3, hI, mul_comm (I s)]

/-- The read-out. -/
theorem read_eq (t : Fin 4) (S : Fin 128 → EReal) (q : Fin 128 → EReal) (I8 : Fin 8 → EReal) (I : Fin 4 → EReal)
    (hI : ∀ t : Fin 4, I8 (Fin.castLE (by decide) t) = I t) :
    (∑ s : Fin 8, (∑ k : Fin 128, q k * (dR z8 (Fin.castLE (by decide) t) s k : EReal) * (kR z8 s k : EReal)) * I8 s)
        + ∑ k : Fin 128, q k * (Real.exp (bR z8 (Fin.castLE (by decide) t) k) : EReal) * S k
      = (∑ s : Fin 4, I s * ∑ k : Fin 128, q k * (sg (z s k) : EReal) * ((if s ≤ t then Real.exp (B4 z t k - B4 z s k) else 0 : ℝ) : EReal))
        + ∑ k : Fin 128, S k * (q k * (Real.exp (B4 z t k) : EReal)) := by
  rw [sum_rows _ fun r hr => by simp [kR_pad z8 r hr]]
  refine congrArg₂ (· + ·) (Finset.sum_congr rfl fun s _ => ?_) (Finset.sum_congr rfl fun k _ => ?_)
  · rw [hI, mul_comm (I s)]
    refine congrArg (· * I s) (Finset.sum_congr rfl fun k _ => ?_)
    rw [kR_cast z8 z h0 h1 h2 h3, dR, bR_cast z8 z h0 h1 h2 h3, bR_cast z8 z h0 h1 h2 h3, mul_right_comm]
    have hc : (Fin.castLE (by decide : 4 ≤ 8) s ≤ Fin.castLE (by decide : 4 ≤ 8) t) = (s ≤ t) := rfl
    simp only [hc]
  · rw [bR_cast z8 z h0 h1 h2 h3, mul_comm (S k)]

end rows

/-- The two ways of writing `x` times its sigmoid agree at a real number. -/
theorem sil_eq (x : ℝ) : sil (x : EReal) = silr (x : EReal) := by
  have hp : 1 + Real.exp (-x) ≠ 0 := by positivity
  rw [sil, silr, zero_sub, ← EReal.coe_neg, Ideal.exp_coe, ← EReal.coe_one, ← EReal.coe_add, Ideal.div_coe hp, Ideal.div_coe hp,
    EReal.coe_one, one_mul]

section results
variable (c : Dev nD) (w : S32x8192.Idx → ℝ) (hw : ∀ i, hg m c i = (w i : EReal))
include hw

/-- The forget gates of head `h` of sequence `b`, and with four rows of zeros below. -/
abbrev zz (b : Fin 8) (h : Fin 16) (t : Fin 4) (k : Fin 128) : ℝ := w (ix2 (row b t) (cf h k))
abbrev zz8 (b : Fin 8) (h : Fin 16) (r : Fin 8) (k : Fin 128) : ℝ := if hr : r.val < 4 then zz w b h ⟨r.val, hr⟩ k else 0

theorem z_at (t : Fin cfg0.N) (b : Fin 8) (h : Fin 16) (hb : b.val = (grid0.coords t 0).val) (hh : h.val = (grid0.coords t 1).val) (r : Fin 8) (k : Fin 128) :
    iblk m c 1 t (ix3 0 r k) = (zz8 w b h r k : EReal) := by
  rw [f_at m c t r k b h hb hh, V_v1]
  unfold zz8 zz
  split
  · exact hw _
  · rfl

theorem final8 : (dats m 0 c).arrAt 8 cfg0.N = Cert.ReferenceIdeal.Read.val_main_v49 (F := Ideal) (hg m c) (m ((c : Thread nD τ).loc main_arg1)) := by
  refine (dats m 0 c).arrAt_eq_of_covers 8 _ (by decide +kernel) fun t hf y => ?_
  blk_simp
  rw [after0_8]
  obtain ⟨e0, e1, e2, e3, e4, e6, e7, e8⟩ := idx t
  obtain ⟨k, v, rfl⟩ : ∃ k v : Fin 128, y = (ix4 0 0 k v : S1x1x128x128.Idx) := ⟨y 2, y 3, by blk_ext []⟩
  obtain ⟨b, hb'⟩ : ∃ b : Fin 8, b.val = (grid0.coords t 0).val := ⟨grid0.coords t 0, rfl⟩
  obtain ⟨h, hh'⟩ : ∃ h : Fin 16, h.val = (grid0.coords t 1).val := ⟨grid0.coords t 1, rfl⟩
  have eb : (win0_8.blk t).view.emb (ix4 0 0 k v : S1x1x128x128.Idx) = (ix4 b h k v : S8x16x128x128.Idx) := by
    blk_ext [e8]
  refine Eq.trans ?_ (congrArg (Cert.ReferenceIdeal.Read.val_main_v49 (F := Ideal) (hg m c) (m ((c : Thread nD τ).loc main_arg1))) eb.symm)
  rw [out8_at _ _ _ _ _ _ _ (zz8 w b h) (z_at m c w hw t b h hb' hh') k v, rs_at _ _ b h k v (zz w b h) (fun t k => hw _),
    s_at m c t k v b h hb' hh']
  refine state_eq (zz8 w b h) (zz w b h) (fun _ => rfl) (fun _ => rfl) (fun _ => rfl) (fun _ => rfl) _ _ _ (fun s => ?_) k
  rw [i_at m c t _ v b h hb' hh', V_v1, dif_pos (show (Fin.castLE (by decide : 4 ≤ 8) s).val < 4 from s.isLt)]
  rfl

theorem final7 : (dats m 0 c).arrAt 7 cfg0.N = Cert.ReferenceIdeal.Read.val_main_v70 (F := Ideal) (hg m c) (m ((c : Thread nD τ).loc main_arg1)) (m ((c : Thread nD τ).loc main_arg3)) := by
  refine (dats m 0 c).arrAt_eq_of_covers 7 _ (by decide +kernel) fun t hf y => ?_
  blk_simp
  rw [after0_7]
  obtain ⟨e0, e1, e2, e3, e4, e6, e7, e8⟩ := idx t
  obtain ⟨r, v, rfl⟩ : ∃ (r : Fin 8) (v : Fin 128), y = (ix3 0 r v : S1x8x128.Idx) := ⟨y 1, y 2, by blk_ext []⟩
  obtain ⟨b, hb'⟩ : ∃ b : Fin 8, b.val = (grid0.coords t 0).val := ⟨grid0.coords t 0, rfl⟩
  obtain ⟨h, hh'⟩ : ∃ h : Fin 16, h.val = (grid0.coords t 1).val := ⟨grid0.coords t 1, rfl⟩
  have eb : (win0_7.blk t).view.emb (ix3 0 r v : S1x8x128.Idx) = (ix3 b r ⟨h.val * 128 + v.val, by omega⟩ : S8x8x2048.Idx) := by
    blk_ext [e7]
  refine Eq.trans ?_ (congrArg (Cert.ReferenceIdeal.Read.val_main_v70 (F := Ideal) (hg m c) (m ((c : Thread nD τ).loc main_arg1)) (m ((c : Thread nD τ).loc main_arg3))) eb.symm)
  rw [rp_at]
  split
  next hr =>
    have hz := z_at m c w hw t b h hb' hh'
    have hc : r = Fin.castLE (by decide) (⟨r.val, hr⟩ : Fin 4) := rfl
    have ho : ∀ v, oK (iblk m c 0 t) (iblk m c 1 t) (iblk m c 2 t) (iblk m c 3 t) (iblk m c 4 t) (iblk m c 5 t) (iblk m c 6 t) (ix2 r v)
        = Cert.ReferenceIdeal.Read.val_main_v36 (F := Ideal) (hg m c) (m ((c : Thread nD τ).loc main_arg1)) (ix4 b ⟨r.val, hr⟩ h v) := by
      intro v
      rw [oK_at _ _ _ _ _ _ _ (zz8 w b h) hz r v, ro_at _ _ b ⟨r.val, hr⟩ h v (zz w b h) (fun t k => hw _)]
      have hq : ∀ k, sil (iblk m c 0 t (ix3 0 r k)) = silr (hg m c (ix2 (row b ⟨r.val, hr⟩) (cq h k))) := fun k => by
        rw [q_at m c t r k b h hb' hh', V_v1, dif_pos hr, hw, sil_eq]
      simp only [hq, s_at m c t _ v b h hb' hh']
      refine read_eq (zz8 w b h) (zz w b h) (fun _ => rfl) (fun _ => rfl) (fun _ => rfl) (fun _ => rfl) ⟨r.val, hr⟩
        (fun k => m ((c : Thread nD τ).loc main_arg1) (ix4 b h k v)) _ _ _ (fun s => ?_)
      rw [i_at m c t _ v b h hb' hh', V_v1, dif_pos (show (Fin.castLE (by decide : 4 ≤ 8) s).val < 4 from s.isLt)]
      rfl
    rw [pay2_at, rf_at]
    simp only [ho, n_at]
    rw [g_at m c t r v b h hb' hh', V_v1, dif_pos hr, hw, sil_eq]
  next hr =>
    refine pad_at _ _ _ _ _ _ _ (zz8 w b h) (z_at m c w hw t b h hb' hh') r v fun k => ?_
    rw [q_at m c t r k b h hb' hh', V_v1, dif_neg hr]

end results
end Dec
-- ==== Proof.DecFinite.lean ====
module

public import proofs.«01_k».proof.Defs
public import proofs.«01_k».proof.Proof.Gen.Pre_finite
public import Idealize.ShloMosaic.Lib.ReduceAll
public import Idealize.ShloMosaic.Lib.Pointwise

@[expose] public section
/-! What the precondition says of the projections. -/

namespace Dec
open Idealize.ShloMosaic Cert.Pre_finite

instance : Subsingleton S_.Idx := ⟨fun a b => funext fun i => i.elim0⟩

/-- Where the precondition holds, every entry of the projections is a real number. -/
theorem real_of_pre (x0 : FVec Ideal S32x8192 .f32) (x1 : FVec Ideal S8x16x128x128 .f32) (x2 : FVec Ideal S2x2048 .f32) (x3 : FVec Ideal S2x128 .f32)
    (h : @Cert.Pre_finite.fn Cert.Pre_finite.Gen.facts Ideal _ x0 x1 x2 x3 = fun _ => 1#1) :
    ∃ w : S32x8192.Idx → ℝ, ∀ i, x0 i = (w i : EReal) := by
  have key : ∀ i, x0 i < ⊤ ∧ -x0 i < ⊤ := fun i => by
    have e := Host.reduce_andi_all _ _ _ _ (fun i : Fin 0 => i.elim0) (congrFun h _) i
    pointwise at e
    have e' : FloatOps.absf (x0 i) < Ideal.ofBits FTy.f32 2139095040#32 := of_decide_eq_true (by
      cases hd : decide (FloatOps.absf (x0 i) < Ideal.ofBits FTy.f32 2139095040#32)
      · rw [hd] at e; exact absurd e (by decide)
      · rfl)
    have et : Ideal.ofBits FTy.f32 2139095040#32 = ⊤ := by simp [Ideal.ofBits, Ideal.ieee]
    rw [et] at e'
    exact max_lt_iff.mp e'
  refine ⟨fun i => (x0 i).toReal, fun i => (EReal.coe_toReal ?_ ?_).symm⟩
  · exact (key i).1.ne
  · intro hb
    have := (key i).2
    rw [hb] at this
    exact absurd this (by simp)

end Dec
-- ==== Proof.DecClaim.lean ====
module

public import proofs.«01_k».proof.Proof.Gen.Kernel.Frame
public import proofs.«01_k».proof.Proof.Gen.Kernel
public import proofs.«01_k».proof.Proof.Gen.KernelIdeal
public import proofs.«01_k».proof.Proof.Gen.ReferenceIdeal
public import proofs.«01_k».proof.Proof.DecArrays
public import proofs.«01_k».proof.Proof.DecFinite

@[expose] public section

/-! The claims about the decoding step of the recurrence. -/

namespace Dec
open Idealize.ShloMosaic Idealize.SL.Sem

/-- The reference has no semaphore, so its run is its frame. -/
theorem frame_ref : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩) (Cert.ReferenceIdeal.Value.run (F := Ideal) m ρ)

/-- Kernel and reference leave the same output and the same state, where every projection is a real number. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hag
  refine ⟨_, _, (θ_run Cert.KernelIdeal.defs _ _).mono (fun _ h c => h c) (Cert.KernelIdeal.Value.run_blocks (F := Ideal) m ρ),
    (θ_run Cert.ReferenceIdeal.defs _ _).mono (fun r h c => ?_) (Cert.ReferenceIdeal.Value.run (F := Ideal) m' ρ')⟩
  obtain ⟨w, hw⟩ := real_of_pre _ _ _ _ (hpre c)
  obtain ⟨a0, a1, a2, a3⟩ := hag c
  refine ⟨(h c).1.trans ?_, (h c).2.1.trans ?_, (h c).2.2⟩
  · rw [Cert.ReferenceIdeal.Read.val_main_v70_eq]
    refine Eq.trans ?_ (final7 m c w hw).symm
    rw [a0, a1, a3]
  · rw [Cert.ReferenceIdeal.Read.val_main_v49_eq]
    refine Eq.trans ?_ (final8 m c w hw).symm
    rw [a0, a1]

end Dec
-- ==== Proof.IdleOut.lean ====
/-
  An output block stored at the first points of a run and left alone at the others, where the program hands its buffer
  back as it found it: what those points leave, in the form the pipeline asks for.
-/
module

public import Idealize.ShloMosaic.Lib.Pipeline.FrameBody
public import Idealize.ShloMosaic.Lib.Pipeline.TableIdle
public import Idealize.ShloMosaic.Lib.Tactic

@[expose] public section

noncomputable section

namespace Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {nD : ℕ} {τ : Topo} {sig : RefSig} {Val : EltTy → Type} {Ix Name U Lvl : Type} [DecidableEq Ix] [DecidableEq Name]
  [URA U] {Λ₀ : Labels} {cfg : Cfg sig Λ₀} {c : Dev nD} (dat : Dat τ Val Ix Name U Lvl cfg c)

/-- The buffer at what the point is said to leave is what the pipeline asks for, also at a point that leaves it alone,
    when that is what the point found. -/
theorem leaves_of_after (w : Fin cfg.W) (t : Fin cfg.N)
    (hb : cfg.idle w (cfg.grid.coords t) = true → ∀ d, dat.before w t d = dat.after w t) :
    (owns c.tc ((cfg.win w).stage (cfg.slots t w)) fullShare (dat.after w t) : sProp (MT nD τ sig Ix Val Name U Lvl)) ⊢ dat.leavesExact w t := by
  unfold Dat.leavesExact
  cases hi : cfg.idle w (cfg.grid.coords t)
  · exact .rfl
  · cases hf : (cfg.win w).flush t
    · iintro H
      iexists (dat.after w t)
      rw [hb hi]
      iexact H
    · exact .rfl

/-- What a point that goes on with an output block finds: what the point before it left, when every idle point of the
    run is said to leave what the one before it did. -/
theorem before_prev (w : Fin cfg.W) (hw : (cfg.win w).isOut = true)
    (hclip : ∀ (i : cfg.grid.Coords) a, (cfg.win w).clip i a = none)
    (hcarry : ∀ (t : Fin cfg.N) (_ : t.val ≠ 0), cfg.idle w (cfg.grid.coords t) = true →
      dat.after w t = dat.after w ⟨t.val - 1, by omega⟩)
    (t : Fin cfg.N) (hf : cfg.fresh w t.val = false) (d) : dat.before w t d = dat.after w ⟨t.val - 1, by omega⟩ := by
  rw [dat.before_out_traj w hw hclip (fun t h hi _ => hcarry t h hi) t.val t rfl d, hf, if_neg Bool.false_ne_true]

/-- What an idle point of a run finds: what the run's points leave, when they are said to leave the same. -/
theorem before_of_carry (w : Fin cfg.W) (hw : (cfg.win w).isOut = true)
    (hclip : ∀ (i : cfg.grid.Coords) a, (cfg.win w).clip i a = none)
    (hfresh : ∀ t : Fin cfg.N, cfg.idle w (cfg.grid.coords t) = true → cfg.fresh w t.val = false)
    (hcarry : ∀ (t : Fin cfg.N) (_ : t.val ≠ 0), cfg.idle w (cfg.grid.coords t) = true →
      dat.after w t = dat.after w ⟨t.val - 1, by omega⟩)
    (t : Fin cfg.N) (hi : cfg.idle w (cfg.grid.coords t) = true) (d) : dat.before w t d = dat.after w t := by
  have h0 : t.val ≠ 0 := fun h => by
    have := hfresh t hi
    rw [h, Cfg.fresh_zero] at this
    cases this
  rw [before_prev dat w hw hclip hcarry t (hfresh t hi) d]
  exact (hcarry t h0 hi).symm

end Tail
-- ==== Proof.UpRun.lean ====
/-
  The run of the up projection: the prompt's block is stored at every point, the sample's at the first point of each
  run along the prompt, and carried from there to the point that writes it back.
-/
module

public import proofs.«01_k».proof.Proof.Gen.UpIdeal.Skeleton
public import proofs.«01_k».proof.Proof.Gen.UpIdeal.Frame
public import proofs.«01_k».proof.Proof.Gen.Up
public import proofs.«01_k».proof.Proof.IdleOut

@[expose] public section

set_option maxRecDepth 16384

noncomputable section

namespace Up

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rX : Rect S1024x4096 := Rect.unit (s := S1024x4096) ![0, 0] S1024x4096.size inb_S1024x4096_S1024x4096_0_0
abbrev rS : Rect S32x4096 := Rect.unit (s := S32x4096) ![0, 0] S32x4096.size inb_S32x4096_S32x4096_0_0
abbrev rW : Rect S4096x1024 := Rect.unit (s := S4096x1024) ![0, 0] S4096x1024.size inb_S4096x1024_S4096x1024_0_0
abbrev rP : Rect S1024x1024 := Rect.unit (s := S1024x1024) ![0, 0] S1024x1024.size inb_S1024x1024_S1024x1024_0_0
abbrev rQ : Rect S32x1024 := Rect.unit (s := S32x1024) ![0, 0] S32x1024.size inb_S32x1024_S32x1024_0_0

/-- The prompt's block. -/
def outP (x : Vec F S1024x4096 .bf16) (w : Vec F S4096x1024 .bf16) : Vec F S1024x1024 .bf16 :=
  View.canon [⟨rP, k0_pay1 (View.ld x rX) (View.ld w rW)⟩]

/-- The sample's block. -/
def outS (x : Vec F S32x4096 .bf16) (w : Vec F S4096x1024 .bf16) : Vec F S32x1024 .bf16 :=
  View.canon [⟨rQ, k0_pay2 (View.ld x rS) (View.ld w rW)⟩]

theorem coverP (p : Vec F S1024x1024 .bf16) (y : S1024x1024.Idx) :
    ∃ pc ∈ ([⟨rP, p⟩] : List (View.Piece (Elt F) S1024x1024 .bf16)), y ∈ pc.1.set :=
  View.cover_of_tiled [⟨rP, p⟩] S1024x1024.size (by rfl) y

theorem coverS (p : Vec F S32x1024 .bf16) (y : S32x1024.Idx) :
    ∃ pc ∈ ([⟨rQ, p⟩] : List (View.Piece (Elt F) S32x1024 .bf16)), y ∈ pc.1.set :=
  View.cover_of_tiled [⟨rQ, p⟩] S32x1024.size (by rfl) y

set_option maxHeartbeats 1000000 in
/-- One point: the prompt's block is stored; the sample's where the condition holds, and kept elsewhere. -/
theorem body_run (c : Dev nD) (E : Set ℕ) (i : grid0.Coords) (a : Memref sig .tc .vmem S1024x4096 .bf16) (ha : a.IsWhole)
    (b : Memref sig .tc .vmem S32x4096 .bf16) (hb : b.IsWhole) (w : Memref sig .tc .vmem S4096x1024 .bf16) (hw : w.IsWhole)
    (p : Memref sig .tc .vmem S1024x1024 .bf16) (hp : p.IsWhole) (q : Memref sig .tc .vmem S32x1024 .bf16) (hq : q.IsWhole)
    (x0 : Vec F S1024x4096 .bf16) (x1 : Vec F S32x4096 .bf16) (x2 : Vec F S4096x1024 .bf16) (x4 : Vec F S32x1024 .bf16)
    (K : PUnit → sProp 𝕄) :
    iprop(owns (c : Thread nD τ) a fullShare x0 ∗ owns (c : Thread nD τ) b fullShare x1 ∗ owns (c : Thread nD τ) w fullShare x2
        ∗ (∃ d, owns (c : Thread nD τ) p fullShare d) ∗ owns (c : Thread nD τ) q fullShare x4
        ∗ (iprop(owns (c : Thread nD τ) a fullShare x0 ∗ owns (c : Thread nD τ) b fullShare x1 ∗ owns (c : Thread nD τ) w fullShare x2
          ∗ owns (c : Thread nD τ) p fullShare (outP x0 x2)
          ∗ owns (c : Thread nD τ) q fullShare (if k0_cond1 i = 1#1 then outS x1 x2 else x4)) -∗ K ⟨⟩))
      ⊢ wp frame (wpE (defs₀ (F := F)) Variants.none c none) E (cc0_ffn_up i a ha b hb w hw p hp q hq) K := by
  simp only [cc0_ffn_up_eq_skeleton]; unfold cc0_ffn_up_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  by_cases hc : k0_cond1 i = 1#1
  · rw [if_pos hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists _; isplitr; swap; · iexact H4
    ipureintro
    exact View.read_writes_eq_canon _ _ _ (coverS _)
  · rw [if_neg hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists f4; isplitr; · ipureintro; rfl
    iexact H4

/-- The first point of a point's run along the prompt. -/
def start (t : Fin cfg0.N) : Fin cfg0.N := ⟨t.val - t.val % 8, lt_of_le_of_lt (Nat.sub_le _ _) t.isLt⟩

/-- What the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP (iblk m c 0 t) (iblk m c 2 t)
    | ⟨4, _⟩ => outS (iblk m c 1 (start t)) (iblk m c 2 (start t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP (iblk m c 0 t) (iblk m c 2 t) := by
  dsimp only [dats]
theorem after4 (c : Dev nD) (t : Fin cfg0.N) :
    (dats m 0 c).after 4 t = outS (iblk m c 1 (start t)) (iblk m c 2 (start t)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The sample's block is stored at the first point of a run. -/
theorem cond_iff : ∀ t : Fin cfg0.N, k0_cond1 (grid0.coords t) = 1#1 ↔ t.val % 8 = 0 := by decide +kernel

theorem fresh_idle : ∀ t : Fin cfg0.N, cfg0.idle 4 (cfg0.grid.coords t) = true → cfg0.fresh 4 t.val = false := by
  decide +kernel

theorem idle_iff (t : Fin cfg0.N) : cfg0.idle 4 (cfg0.grid.coords t) = true ↔ ¬ t.val % 8 = 0 := by
  rw [← cond_iff]
  show (!(k0_cond1 (grid0.coords t) == 1#1)) = true ↔ _
  simp

theorem start_eq (t : Fin cfg0.N) (h : t.val % 8 = 0) : start t = t := Fin.ext (by simp [start, h])

theorem before4 (c : Dev nD) (t : Fin cfg0.N) (hi : cfg0.idle 4 (cfg0.grid.coords t) = true) (d) :
    (dats m 0 c).before 4 t d = (dats m 0 c).after 4 t :=
  Tail.before_of_carry (dats m 0 c) 4 rfl (fun _ _ => rfl) fresh_idle (fun t h0 hi => by
    have hs : start t = start ⟨t.val - 1, by omega⟩ := Fin.ext (by have := (idle_iff t).mp hi; simp only [start]; omega)
    rw [after4, after4, hs]) t hi d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- What the body makes of the sample's buffer is what the point is said to leave. -/
theorem leaves4 (c : Dev nD) (t : Fin cfg0.N) (d) :
    (if k0_cond1 (grid0.coords t) = 1#1 then outS (iblk m c 1 t) (iblk m c 2 t) else (dats m 0 c).before 4 t d)
      = (dats m 0 c).after 4 t := by
  by_cases h : t.val % 8 = 0
  · rw [if_pos ((cond_iff t).mpr h), after4, start_eq t h]
  · rw [if_neg (fun hc => h ((cond_iff t).mp hc)), before4 m c t ((idle_iff t).mpr h)]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (iblk m c 0 t) (iblk m c 1 t) (iblk m c 2 t)
    ((dats m 0 c).before 4 t d4) _)
  isplitl [H0]; · iexact H0
  isplitl [H1]; · iexact H1
  isplitl [H2]; · iexact H2
  isplitl [H3]; · iexists _; iexact H3
  isplitl [H4]; · iexact H4
  rw [leaves4]
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (Tail.leaves_of_after (dats m 0 c) 4 t (before4 m c t))
  iexact H4

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: every array ends at what the points leave, and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Up
-- ==== Proof.UpValue.lean ====
/- The two results of the up projection. -/
module

public import proofs.«01_k».proof.Proof.UpRun
public import proofs.«01_k».proof.Proof.Gen.Up
public import proofs.«01_k».proof.Proof.Gen.UpIdeal
public import proofs.«01_k».proof.Proof.Gen.UpRefIdeal
public import proofs.«01_k».proof.Proof.Gen.UpRefIdeal.Run
public import proofs.«01_k».proof.Proof.Gen.UpRefIdeal.Read
public import proofs.«01_k».proof.Defs
public import Idealize.ShloMosaic.Lib.Pointwise
public import Idealize.ShloMosaic.Lib.Pipeline.ValueKit

@[expose] public section

set_option maxRecDepth 16384

namespace Up

open Cert.UpIdeal Cert.UpIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![(grid0.coords t 1).val, 0]
   ∧ win0_1.index t = ![0, 0]
   ∧ win0_2.index t = ![0, (grid0.coords t 0).val]
   ∧ win0_3.index t = ![(grid0.coords t 1).val, (grid0.coords t 0).val]
   ∧ win0_4.index t = ![0, (grid0.coords t 0).val] :=
  (by decide +kernel : ∀ t : Fin grid0.N, _)

/-- A run along the prompt keeps the weight's columns. -/
theorem start_coord : ∀ t : Fin cfg0.N, (grid0.coords (start t) 0).val = (grid0.coords t 0).val :=
  (by decide +kernel : ∀ t : Fin grid0.N, _)

/-- One entry of the projection: the square of the positive part of a row times a column. -/
noncomputable def dotRelu (x w : Fin 4096 → EReal) : EReal := max (∑ k, x k * w k) 0 * max (∑ k, x k * w k) 0

open Cert.UpRefIdeal.Read in
theorem refP (x : FVec Ideal S8192x4096 .bf16) (w : FVec Ideal S4096x16384 .bf16) (r : Fin 8192) (n : Fin 16384) :
    val_main_v5 (F := Ideal) x w (ix2 r n) = dotRelu (fun k => x (ix2 r k)) (fun k => w (ix2 k n)) := by
  unfold val_main_v5 val_main_v4 val_main_v3 val_main_v2 val_main_v1 val_main_v0 val_main_call0_v0 val_main_call0_cst
  pointwise
  rfl

open Cert.UpRefIdeal.Read in
theorem refS (x : FVec Ideal S32x4096 .bf16) (w : FVec Ideal S4096x16384 .bf16) (r : Fin 32) (n : Fin 16384) :
    val_main_v10 (F := Ideal) x w (ix2 r n) = dotRelu (fun k => x (ix2 r k)) (fun k => w (ix2 k n)) := by
  unfold val_main_v10 val_main_v9 val_main_v8 val_main_v7 val_main_v6 val_main_v0 val_main_call1_v0 val_main_call1_cst
  pointwise
  rfl

theorem outP_at (x : FVec Ideal S1024x4096 .bf16) (w : FVec Ideal S4096x1024 .bf16) (r : Fin 1024) (n : Fin 1024) :
    outP (F := Ideal) x w (ix2 r n) = dotRelu (fun k => x (ix2 r k)) (fun k => w (ix2 k n)) := by
  unfold outP
  rw [View.canon_unit_zero (by funext a; fin_cases a <;> rfl)]
  unfold k0_pay1
  pointwise
  rfl

theorem outS_at (x : FVec Ideal S32x4096 .bf16) (w : FVec Ideal S4096x1024 .bf16) (r : Fin 32) (n : Fin 1024) :
    outS (F := Ideal) x w (ix2 r n) = dotRelu (fun k => x (ix2 r k)) (fun k => w (ix2 k n)) := by
  unfold outS
  rw [View.canon_unit_zero (by funext a; fin_cases a <;> rfl)]
  unfold k0_pay2
  pointwise
  rfl

abbrev xp (c : Dev nD) : FVec Ideal S8192x4096 .bf16 := m ((c : Thread nD τ).loc main_arg0)
abbrev xs (c : Dev nD) : FVec Ideal S32x4096 .bf16 := m ((c : Thread nD τ).loc main_arg1)
abbrev wt (c : Dev nD) : FVec Ideal S4096x16384 .bf16 := m ((c : Thread nD τ).loc main_arg2)

theorem x_at (c : Dev nD) (t : Fin cfg0.N) (i : Fin 8) (hi : i.val = (grid0.coords t 1).val) (r : Fin 1024) (k : Fin 4096) :
    iblk m c 0 t (ix2 r k) = xp m c (ix2 ⟨i.val * 1024 + r.val, by omega⟩ k) := by
  obtain ⟨e0, e1, e2, e3, e4⟩ := idx t
  blk_ext [iblk, V, e0]

theorem s_at (c : Dev nD) (t : Fin cfg0.N) (r : Fin 32) (k : Fin 4096) :
    iblk m c 1 t (ix2 r k) = xs m c (ix2 r k) := by
  obtain ⟨e0, e1, e2, e3, e4⟩ := idx t
  blk_ext [iblk, V, e1]

theorem w_at (c : Dev nD) (t : Fin cfg0.N) (j : Fin 16) (hj : j.val = (grid0.coords t 0).val) (k : Fin 4096) (n : Fin 1024) :
    iblk m c 2 t (ix2 k n) = wt m c (ix2 k ⟨j.val * 1024 + n.val, by omega⟩) := by
  obtain ⟨e0, e1, e2, e3, e4⟩ := idx t
  blk_ext [iblk, V, e2]

theorem final3 (c : Dev nD) : (dats m 0 c).arrAt 3 cfg0.N = Cert.UpRefIdeal.Read.val_main_v5 (F := Ideal) (xp m c) (wt m c) := by
  refine (dats m 0 c).arrAt_eq_of_covers 3 _ (by decide +kernel) fun t hf y => ?_
  blk_simp
  rw [after3]
  obtain ⟨e0, e1, e2, e3, e4⟩ := idx t
  obtain ⟨r, n, rfl⟩ : ∃ r n : Fin 1024, y = (ix2 r n : S1024x1024.Idx) := ⟨y 0, y 1, by blk_ext []⟩
  obtain ⟨i, hi⟩ : ∃ i : Fin 8, i.val = (grid0.coords t 1).val := ⟨grid0.coords t 1, rfl⟩
  obtain ⟨j, hj⟩ : ∃ j : Fin 16, j.val = (grid0.coords t 0).val := ⟨grid0.coords t 0, rfl⟩
  have eb : (win0_3.blk t).view.emb (ix2 r n : S1024x1024.Idx)
      = (ix2 ⟨i.val * 1024 + r.val, by omega⟩ ⟨j.val * 1024 + n.val, by omega⟩ : S8192x16384.Idx) := by
    blk_ext [e3]
  refine Eq.trans ?_ (congrArg (Cert.UpRefIdeal.Read.val_main_v5 (F := Ideal) (xp m c) (wt m c)) eb.symm)
  rw [outP_at, refP]
  simp only [x_at m c t i hi, w_at m c t j hj]

theorem final4 (c : Dev nD) : (dats m 0 c).arrAt 4 cfg0.N = Cert.UpRefIdeal.Read.val_main_v10 (F := Ideal) (xs m c) (wt m c) := by
  refine (dats m 0 c).arrAt_eq_of_covers 4 _ (by decide +kernel) fun t hf y => ?_
  blk_simp
  rw [after4]
  obtain ⟨e0, e1, e2, e3, e4⟩ := idx t
  obtain ⟨r, n, rfl⟩ : ∃ (r : Fin 32) (n : Fin 1024), y = (ix2 r n : S32x1024.Idx) := ⟨y 0, y 1, by blk_ext []⟩
  obtain ⟨j, hj⟩ : ∃ j : Fin 16, j.val = (grid0.coords t 0).val := ⟨grid0.coords t 0, rfl⟩
  have eb : (win0_4.blk t).view.emb (ix2 r n : S32x1024.Idx) = (ix2 r ⟨j.val * 1024 + n.val, by omega⟩ : S32x16384.Idx) := by
    blk_ext [e4]
  refine Eq.trans ?_ (congrArg (Cert.UpRefIdeal.Read.val_main_v10 (F := Ideal) (xs m c) (wt m c)) eb.symm)
  rw [outS_at, refS]
  simp only [s_at, w_at m c (start t) j (hj.trans (start_coord t).symm)]

/-! ## The claims -/

/-- The kernel ends with every counter at zero and its arguments as they were, whatever the numbers. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The two programs have the same text. -/
theorem defs_bits : Cert.Up.defs (F := Bits) = defs :=
  congrArg (Pipeline.defs pcfgs) (show Cert.Up.defs₀ (F := Bits) = defs₀ from
    congrArg Defs.onTc (funext fun l => funext fun a => match l, a with | 0, (_, _) => rfl))

theorem frame_bits : Cert.quiescent_Up (hUp := Cert.Up.Gen.facts) := fun m ρ _ => by
  rw [defs_bits]
  exact frame (F := Bits) m ρ

theorem frame_ideal : Cert.quiescent_UpIdeal (hUpIdeal := Cert.UpIdeal.Gen.facts) := fun m ρ _ => frame m ρ

theorem frame_ref : Cert.quiescent_UpRefIdeal (hUpRefIdeal := Cert.UpRefIdeal.Gen.facts) := fun m ρ _ =>
  (θ_run Cert.UpRefIdeal.defs _ _).mono
    (fun r h => ⟨fun c => (h c).2.2, sem_eq_zero_of_no_sems (by decide) r.2⟩) (Cert.UpRefIdeal.Value.run (F := Ideal) m ρ)

theorem value : Cert.algebraic_UpIdeal_UpRefIdeal (hUpIdeal := Cert.UpIdeal.Gen.facts)
    (hUpRefIdeal := Cert.UpRefIdeal.Gen.facts) := by
  intro m ρ m' ρ' _ hag
  refine ⟨fun c => (dats m 0 c).arrAt 3 cfg0.N, fun c => (dats m 0 c).arrAt 4 cfg0.N,
    (θ_run defs _ _).mono (fun r h c => ⟨(h.1.1 c).1 3, (h.1.1 c).1 4, h.2.1 c⟩) (θ_run_and (run m ρ) (frame m ρ)),
    (θ_run Cert.UpRefIdeal.defs _ _).mono (fun r h c => ?_) (Cert.UpRefIdeal.Value.run (F := Ideal) m' ρ')⟩
  obtain ⟨a0, a1, a2⟩ := hag c
  refine ⟨(h c).1.trans ?_, (h c).2.1.trans ?_, (h c).2.2⟩
  · rw [Cert.UpRefIdeal.Read.val_main_v5_eq]
    refine Eq.trans ?_ (final3 m c).symm
    rw [a0, a2]
  · rw [Cert.UpRefIdeal.Read.val_main_v10_eq]
    refine Eq.trans ?_ (final4 m c).symm
    rw [a1, a2]

end Up
-- ==== Proof.DownRun.lean ====
/-
  The run of the down projection: each block is summed over four points, from the residual's block on; the sample's block
  at the first four points of each run along the prompt, and carried from there to the point that writes it back.
-/
module

public import proofs.«01_k».proof.Proof.Gen.DownIdeal.Skeleton
public import proofs.«01_k».proof.Proof.Gen.DownIdeal.Frame
public import proofs.«01_k».proof.Proof.Gen.Down
public import proofs.«01_k».proof.Proof.IdleOut
public import Idealize.ShloMosaic.Lib.VecWindow
public import Idealize.ShloMosaic.Lib.Pipeline.ValueKit

@[expose] public section

set_option maxRecDepth 16384

noncomputable section

namespace Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rX : Rect S1024x4096 := Rect.unit (s := S1024x4096) ![0, 0] S1024x4096.size inb_S1024x4096_S1024x4096_0_0
abbrev rS : Rect S32x4096 := Rect.unit (s := S32x4096) ![0, 0] S32x4096.size inb_S32x4096_S32x4096_0_0
abbrev rW : Rect S4096x1024 := Rect.unit (s := S4096x1024) ![0, 0] S4096x1024.size inb_S4096x1024_S4096x1024_0_0
abbrev rP : Rect S1024x1024 := Rect.unit (s := S1024x1024) ![0, 0] S1024x1024.size inb_S1024x1024_S1024x1024_0_0
abbrev rQ : Rect S32x1024 := Rect.unit (s := S32x1024) ![0, 0] S32x1024.size inb_S32x1024_S32x1024_0_0

/-- The prompt's block: what it held, and the product of the point's blocks. -/
def outP (acc : Vec F S1024x1024 .f32) (x : Vec F S1024x4096 .bf16) (w : Vec F S4096x1024 .bf16) : Vec F S1024x1024 .f32 :=
  View.canon [⟨rP, k0_pay1 (View.ld acc rP) (View.ld x rX) (View.ld w rW)⟩]

/-- The sample's block, likewise. -/
def outS (acc : Vec F S32x1024 .f32) (x : Vec F S32x4096 .bf16) (w : Vec F S4096x1024 .bf16) : Vec F S32x1024 .f32 :=
  View.canon [⟨rQ, k0_pay2 (View.ld acc rQ) (View.ld x rS) (View.ld w rW)⟩]

theorem hz : (![0, 0] : Fin 2 → ℕ) = fun _ => 0 := by funext a; fin_cases a <;> rfl

theorem outP_eq (acc : Vec F S1024x1024 .f32) (x : Vec F S1024x4096 .bf16) (w : Vec F S4096x1024 .bf16) :
    outP acc x w = k0_pay1 (View.ld acc rP) (View.ld x rX) (View.ld w rW) := by
  unfold outP
  exact View.canon_unit_zero (S := S1024x1024) hz _ _

theorem outS_eq (acc : Vec F S32x1024 .f32) (x : Vec F S32x4096 .bf16) (w : Vec F S4096x1024 .bf16) :
    outS acc x w = k0_pay2 (View.ld acc rQ) (View.ld x rS) (View.ld w rW) := by
  unfold outS
  exact View.canon_unit_zero (S := S32x1024) hz _ _

theorem coverP (p : Vec F S1024x1024 .f32) (y : S1024x1024.Idx) :
    ∃ pc ∈ ([⟨rP, p⟩] : List (View.Piece (Elt F) S1024x1024 .f32)), y ∈ pc.1.set :=
  View.cover_of_tiled [⟨rP, p⟩] S1024x1024.size (by rfl) y

theorem coverS (p : Vec F S32x1024 .f32) (y : S32x1024.Idx) :
    ∃ pc ∈ ([⟨rQ, p⟩] : List (View.Piece (Elt F) S32x1024 .f32)), y ∈ pc.1.set :=
  View.cover_of_tiled [⟨rQ, p⟩] S32x1024.size (by rfl) y

set_option maxHeartbeats 1000000 in
/-- One point: the prompt's block goes on by a product; the sample's where the condition holds, and is kept elsewhere. -/
theorem body_run (c : Dev nD) (E : Set ℕ) (i : grid0.Coords) (a : Memref sig .tc .vmem S1024x4096 .bf16) (ha : a.IsWhole)
    (b : Memref sig .tc .vmem S32x4096 .bf16) (hb : b.IsWhole) (w : Memref sig .tc .vmem S4096x1024 .bf16) (hw : w.IsWhole)
    (e : Memref sig .tc .vmem S1024x1024 .f32) (he : e.IsWhole) (g : Memref sig .tc .vmem S32x1024 .f32) (hg : g.IsWhole)
    (p : Memref sig .tc .vmem S1024x1024 .f32) (hp : p.IsWhole) (q : Memref sig .tc .vmem S32x1024 .f32) (hq : q.IsWhole)
    (x0 : Vec F S1024x4096 .bf16) (x1 : Vec F S32x4096 .bf16) (x2 : Vec F S4096x1024 .bf16) (x3 : Vec F S1024x1024 .f32) (x4 : Vec F S32x1024 .f32)
    (x5 : Vec F S1024x1024 .f32) (x6 : Vec F S32x1024 .f32)
    (K : PUnit → sProp 𝕄) :
    iprop(owns (c : Thread nD τ) a fullShare x0 ∗ owns (c : Thread nD τ) b fullShare x1 ∗ owns (c : Thread nD τ) w fullShare x2
        ∗ owns (c : Thread nD τ) e fullShare x3 ∗ owns (c : Thread nD τ) g fullShare x4
        ∗ owns (c : Thread nD τ) p fullShare x5 ∗ owns (c : Thread nD τ) q fullShare x6
        ∗ (iprop(owns (c : Thread nD τ) a fullShare x0 ∗ owns (c : Thread nD τ) b fullShare x1 ∗ owns (c : Thread nD τ) w fullShare x2
        ∗ owns (c : Thread nD τ) e fullShare x3 ∗ owns (c : Thread nD τ) g fullShare x4
          ∗ owns (c : Thread nD τ) p fullShare (outP (if k0_cond3 i = 1#1 then x3 else x5) x0 x2)
          ∗ owns (c : Thread nD τ) q fullShare (if k0_cond2 i = 1#1 then outS (if k0_cond3 i = 1#1 then x4 else x6) x1 x2 else x6)) -∗ K ⟨⟩))
      ⊢ wp frame (wpE (defs₀ (F := F)) Variants.none c none) E (cc0_ffn_down i a ha b hb w hw e he g hg p hp q hq) K := by
  simp only [cc0_ffn_down_eq_skeleton]; unfold cc0_ffn_down_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  by_cases h3 : k0_cond3 i = 1#1
  · have h1 : Scalar.cmpi .ne (Scalar.extui (Scalar.cmpi .eq (BitVec.ofNat 32 (i 2).val) 0#32) : BitVec 32) 0#32 = 1#1 := h3
    by_cases h2 : k0_cond2 i = 1#1
    · simp only [if_pos h2, if_pos h3]
      sl_exec (disch := first | sl_exact h1 | sl_exact h2 | sl_exact h3)
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists _; isplitr; swap; · iexact H5
        ipureintro
        exact (View.read_writes_full _ _ _ _ _).trans ((congrArg (fun v => k0_pay1 v _ _) (View.readCov_unit_zero (S := S1024x1024) _ hz _ _)).trans (outP_eq _ _ _).symm)
      iexists _; isplitr; swap; · iexact H6
      ipureintro
      exact (View.read_writes_full _ _ _ _ _).trans ((congrArg (fun v => k0_pay2 v _ _) (View.readCov_unit_zero (S := S32x1024) _ hz _ _)).trans (outS_eq _ _ _).symm)
    · simp only [if_neg h2, if_pos h3]
      sl_exec (disch := first | sl_exact h1 | sl_exact h2 | sl_exact h3)
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists _; isplitr; swap; · iexact H5
        ipureintro
        exact (View.read_writes_full _ _ _ _ _).trans ((congrArg (fun v => k0_pay1 v _ _) (View.readCov_unit_zero (S := S1024x1024) _ hz _ _)).trans (outP_eq _ _ _).symm)
      iexists f6; isplitr; · ipureintro; rfl
      iexact H6
  · have h1 : ¬ Scalar.cmpi .ne (Scalar.extui (Scalar.cmpi .eq (BitVec.ofNat 32 (i 2).val) 0#32) : BitVec 32) 0#32 = 1#1 := h3
    by_cases h2 : k0_cond2 i = 1#1
    · simp only [if_pos h2, if_neg h3]
      sl_exec (disch := first | sl_exact h1 | sl_exact h2 | sl_exact h3)
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists _; isplitr; swap; · iexact H5
        ipureintro
        exact View.read_writes_eq_canon _ _ _ (coverP _)
      iexists _; isplitr; swap; · iexact H6
      ipureintro
      exact View.read_writes_eq_canon _ _ _ (coverS _)
    · simp only [if_neg h2, if_neg h3]
      sl_exec (disch := first | sl_exact h1 | sl_exact h2 | sl_exact h3)
      sl_step
      iapply Hk
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists _; isplitr; swap; · iexact H5
        ipureintro
        exact View.read_writes_eq_canon _ _ _ (coverP _)
      iexists f6; isplitr; · ipureintro; rfl
      iexact H6

/-- The prompt's block after a point: at the first of a block's four points the step starts from the residual's block. -/
def sumP (c : Dev nD) : (n : ℕ) → n < cfg0.N → Vec F S1024x1024 .f32
  | 0, h => outP (iblk m c 3 ⟨0, h⟩) (iblk m c 0 ⟨0, h⟩) (iblk m c 2 ⟨0, h⟩)
  | n + 1, h => outP (if (n + 1) % 4 = 0 then iblk m c 3 ⟨n + 1, h⟩ else sumP c n (by omega))
      (iblk m c 0 ⟨n + 1, h⟩) (iblk m c 2 ⟨n + 1, h⟩)

/-- The sample's block after a point that works on it. -/
def sumS (c : Dev nD) : (n : ℕ) → n < cfg0.N → Vec F S32x1024 .f32
  | 0, h => outS (iblk m c 4 ⟨0, h⟩) (iblk m c 1 ⟨0, h⟩) (iblk m c 2 ⟨0, h⟩)
  | n + 1, h => outS (if (n + 1) % 4 = 0 then iblk m c 4 ⟨n + 1, h⟩ else sumS c n (by omega))
      (iblk m c 1 ⟨n + 1, h⟩) (iblk m c 2 ⟨n + 1, h⟩)

theorem sumP_eq (c : Dev nD) (t : Fin cfg0.N) : sumP m c t.val t.isLt
    = outP (if t.val % 4 = 0 then iblk m c 3 t else sumP m c (t.val - 1) (by omega)) (iblk m c 0 t) (iblk m c 2 t) := by
  obtain ⟨n, h⟩ := t
  cases n with
  | zero => rfl
  | succ n => rfl

theorem sumS_eq (c : Dev nD) (t : Fin cfg0.N) : sumS m c t.val t.isLt
    = outS (if t.val % 4 = 0 then iblk m c 4 t else sumS m c (t.val - 1) (by omega)) (iblk m c 1 t) (iblk m c 2 t) := by
  obtain ⟨n, h⟩ := t
  cases n with
  | zero => rfl
  | succ n => rfl

/-- The last point, up to this one, at which the sample's block was worked on: the first four of a run along the prompt. -/
def last (t : Fin cfg0.N) : Fin cfg0.N :=
  ⟨if t.val % 32 < 4 then t.val else t.val - t.val % 32 + 3, by have := t.isLt; split <;> omega⟩

/-- What the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => sumP m c t.val t.isLt
    | ⟨6, _⟩ => sumS m c (last t).val (last t).isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = sumP m c t.val t.isLt := by dsimp only [dats]
theorem after6 (c : Dev nD) (t : Fin cfg0.N) :
    (dats m 0 c).after 6 t = sumS m c (last t).val (last t).isLt := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The sample's block is worked on at the first four points of a run; a block's first point has the residual's. -/
theorem cond2_iff : ∀ t : Fin cfg0.N, k0_cond2 (grid0.coords t) = 1#1 ↔ t.val % 32 < 4 := by decide +kernel
theorem cond3_iff : ∀ t : Fin cfg0.N, k0_cond3 (grid0.coords t) = 1#1 ↔ t.val % 4 = 0 := by decide +kernel

theorem fresh5 : ∀ t : Fin cfg0.N, ¬ t.val % 4 = 0 → cfg0.fresh 5 t.val = false := by decide +kernel
theorem fresh6 : ∀ t : Fin cfg0.N, ¬ t.val % 32 = 0 → cfg0.fresh 6 t.val = false := by decide +kernel

theorem idle_iff (t : Fin cfg0.N) : cfg0.idle 6 (cfg0.grid.coords t) = true ↔ ¬ t.val % 32 < 4 := by
  rw [← cond2_iff]
  show (!(k0_cond2 (grid0.coords t) == 1#1 && k0_cond3 (grid0.coords t) == 1#1) && !(k0_cond2 (grid0.coords t) == 1#1)) = true ↔ _
  by_cases h : k0_cond2 (grid0.coords t) = 1#1 <;> simp [h]

theorem fresh_idle (t : Fin cfg0.N) (h : cfg0.idle 6 (cfg0.grid.coords t) = true) : cfg0.fresh 6 t.val = false :=
  fresh6 t (by have := (idle_iff t).mp h; omega)

theorem last_eq (t : Fin cfg0.N) (h : t.val % 32 < 4) : last t = t := Fin.ext (if_pos h)

theorem carry6 (c : Dev nD) (t : Fin cfg0.N) (h0 : t.val ≠ 0) (hi : cfg0.idle 6 (cfg0.grid.coords t) = true) :
    (dats m 0 c).after 6 t = (dats m 0 c).after 6 ⟨t.val - 1, by omega⟩ := by
  have hs : last t = last ⟨t.val - 1, by omega⟩ := Fin.ext (by
    have := (idle_iff t).mp hi; simp only [last]; split <;> split <;> omega)
  rw [after6, after6, hs]

/-- A point that goes on with a block finds what the point before it left. -/
theorem before5 (c : Dev nD) (t : Fin cfg0.N) (h : ¬ t.val % 4 = 0) (d) :
    (dats m 0 c).before 5 t d = sumP m c (t.val - 1) (by omega) := by
  rw [Tail.before_prev (dats m 0 c) 5 rfl (fun _ _ => rfl) (fun _ _ hi => absurd hi Bool.false_ne_true) t (fresh5 t h) d, after5]

theorem before6 (c : Dev nD) (t : Fin cfg0.N) (hi : cfg0.idle 6 (cfg0.grid.coords t) = true) (d) :
    (dats m 0 c).before 6 t d = (dats m 0 c).after 6 t :=
  Tail.before_of_carry (dats m 0 c) 6 rfl (fun _ _ => rfl) fresh_idle (carry6 m c) t hi d

theorem before6_on (c : Dev nD) (t : Fin cfg0.N) (h : t.val % 32 < 4) (h4 : ¬ t.val % 4 = 0) (d) :
    (dats m 0 c).before 6 t d = sumS m c (t.val - 1) (by omega) := by
  rw [Tail.before_prev (dats m 0 c) 6 rfl (fun _ _ => rfl) (carry6 m c) t (fresh6 t (by omega)) d, after6]
  have hs : last ⟨t.val - 1, by omega⟩ = ⟨t.val - 1, by omega⟩ := last_eq _ (by show (t.val - 1) % 32 < 4; omega)
  rw [hs]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- What the body makes of the two buffers is what the point is said to leave. -/
theorem leaves5 (c : Dev nD) (t : Fin cfg0.N) (d) :
    outP (if k0_cond3 (grid0.coords t) = 1#1 then iblk m c 3 t else (dats m 0 c).before 5 t d) (iblk m c 0 t) (iblk m c 2 t)
      = (dats m 0 c).after 5 t := by
  rw [after5, sumP_eq]
  by_cases h : t.val % 4 = 0
  · rw [if_pos ((cond3_iff t).mpr h), if_pos h]
  · rw [if_neg (fun hc => h ((cond3_iff t).mp hc)), if_neg h, before5 m c t h]

theorem leaves6 (c : Dev nD) (t : Fin cfg0.N) (d) :
    (if k0_cond2 (grid0.coords t) = 1#1 then
        outS (if k0_cond3 (grid0.coords t) = 1#1 then iblk m c 4 t else (dats m 0 c).before 6 t d) (iblk m c 1 t) (iblk m c 2 t)
      else (dats m 0 c).before 6 t d) = (dats m 0 c).after 6 t := by
  by_cases h : t.val % 32 < 4
  · rw [if_pos ((cond2_iff t).mpr h), after6, last_eq t h, sumS_eq]
    by_cases h4 : t.val % 4 = 0
    · rw [if_pos ((cond3_iff t).mpr h4), if_pos h4]
    · rw [if_neg (fun hc => h4 ((cond3_iff t).mp hc)), if_neg h4, before6_on m c t h h4]
  · rw [if_neg (fun hc => h ((cond2_iff t).mp hc)), before6 m c t ((idle_iff t).mpr h)]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c Set.univ (grid0.coords t) _ _ _ _ _ _ _ _ _ _ _ _ _ _ (iblk m c 0 t) (iblk m c 1 t) (iblk m c 2 t)
    (iblk m c 3 t) (iblk m c 4 t) ((dats m 0 c).before 5 t d5) ((dats m 0 c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  rw [leaves5, leaves6]
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (Tail.leaves_of_after (dats m 0 c) 6 t (before6 m c t))
  iexact H6

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: every array ends at what the points leave, and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Down
-- ==== Proof.DownValue.lean ====
/- The two results of the down projection. -/
module

public import proofs.«01_k».proof.Proof.DownRun
public import proofs.«01_k».proof.Proof.Gen.Down
public import proofs.«01_k».proof.Proof.Gen.DownIdeal
public import proofs.«01_k».proof.Proof.Gen.DownRefIdeal
public import proofs.«01_k».proof.Proof.Gen.DownRefIdeal.Run
public import proofs.«01_k».proof.Proof.Gen.DownRefIdeal.Read
public import proofs.«01_k».proof.Defs
public import Idealize.ShloMosaic.Lib.Pointwise
public import Idealize.ShloMosaic.Lib.Pipeline.ValueKit

@[expose] public section

set_option maxRecDepth 16384

namespace Down

open Cert.DownIdeal Cert.DownIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![t.val / 4 % 8, t.val % 4]
   ∧ win0_1.index t = ![0, t.val % 4]
   ∧ win0_2.index t = ![t.val % 4, t.val / 32]
   ∧ win0_3.index t = ![t.val / 4 % 8, t.val / 32]
   ∧ win0_4.index t = ![0, t.val / 32]
   ∧ win0_5.index t = ![t.val / 4 % 8, t.val / 32]
   ∧ win0_6.index t = ![0, t.val / 32] :=
  (by decide +kernel : ∀ t : Fin grid0.N, _)

/-- A block is written back after its fourth point, the sample's after a whole run along the prompt. -/
theorem flush5 : ∀ t : Fin cfg0.N, (cfg0.win 5).flush t = true → t.val % 4 = 3 := by decide +kernel
theorem flush6 : ∀ t : Fin cfg0.N, (cfg0.win 6).flush t = true → t.val % 32 = 31 := by decide +kernel

/-- One entry of the projection: what was there before, and a row times a column. -/
noncomputable def dotOn {n : ℕ} (e : EReal) (x w : Fin n → EReal) : EReal := e + ∑ k, x k * w k

/-- Four products of a quarter of the row each, one after the other, are the product of the row. -/
theorem dotOn_four (e : EReal) (x w : Fin 16384 → EReal) (x' w' : Fin 4 → Fin 4096 → EReal)
    (hx : ∀ (s : Fin 4) (k : Fin 4096), x' s k = x ⟨s.val * 4096 + k.val, by omega⟩)
    (hw : ∀ (s : Fin 4) (k : Fin 4096), w' s k = w ⟨s.val * 4096 + k.val, by omega⟩) :
    dotOn (dotOn (dotOn (dotOn e (x' 0) (w' 0)) (x' 1) (w' 1)) (x' 2) (w' 2)) (x' 3) (w' 3) = dotOn e x w := by
  have h : ∑ s : Fin 4, ∑ k : Fin 4096, x' s k * w' s k = ∑ l : Fin 16384, x l * w l :=
    Fin.sum_mul_add_congr fun s k _ => by rw [hx, hw]
  unfold dotOn
  rw [← h, Fin.sum_univ_four]
  simp only [add_assoc]

open Cert.DownRefIdeal.Read in
theorem refP (x : FVec Ideal S8192x16384 .bf16) (w : FVec Ideal S16384x4096 .bf16) (e : FVec Ideal S8192x4096 .f32)
    (r : Fin 8192) (n : Fin 4096) :
    val_main_v3 (F := Ideal) x w e (ix2 r n) = dotOn (e (ix2 r n)) (fun k : Fin 16384 => x (ix2 r k)) (fun k => w (ix2 k n)) := by
  unfold val_main_v3 val_main_v2 val_main_v1 val_main_v0 dotOn
  pointwise

open Cert.DownRefIdeal.Read in
theorem refS (x : FVec Ideal S32x16384 .bf16) (w : FVec Ideal S16384x4096 .bf16) (e : FVec Ideal S32x4096 .f32)
    (r : Fin 32) (n : Fin 4096) :
    val_main_v6 (F := Ideal) x w e (ix2 r n) = dotOn (e (ix2 r n)) (fun k : Fin 16384 => x (ix2 r k)) (fun k => w (ix2 k n)) := by
  unfold val_main_v6 val_main_v5 val_main_v4 val_main_v0 dotOn
  pointwise

theorem outP_at (acc : FVec Ideal S1024x1024 .f32) (x : FVec Ideal S1024x4096 .bf16) (w : FVec Ideal S4096x1024 .bf16)
    (r : Fin 1024) (n : Fin 1024) :
    outP (F := Ideal) acc x w (ix2 r n) = dotOn (acc (ix2 r n)) (fun k : Fin 4096 => x (ix2 r k)) (fun k => w (ix2 k n)) := by
  rw [outP_eq]
  unfold k0_pay1 dotOn
  pointwise

theorem outS_at (acc : FVec Ideal S32x1024 .f32) (x : FVec Ideal S32x4096 .bf16) (w : FVec Ideal S4096x1024 .bf16)
    (r : Fin 32) (n : Fin 1024) :
    outS (F := Ideal) acc x w (ix2 r n) = dotOn (acc (ix2 r n)) (fun k : Fin 4096 => x (ix2 r k)) (fun k => w (ix2 k n)) := by
  rw [outS_eq]
  unfold k0_pay2 dotOn
  pointwise

abbrev xp (c : Dev nD) : FVec Ideal S8192x16384 .bf16 := m ((c : Thread nD τ).loc main_arg0)
abbrev xs (c : Dev nD) : FVec Ideal S32x16384 .bf16 := m ((c : Thread nD τ).loc main_arg1)
abbrev wt (c : Dev nD) : FVec Ideal S16384x4096 .bf16 := m ((c : Thread nD τ).loc main_arg2)
abbrev ep (c : Dev nD) : FVec Ideal S8192x4096 .f32 := m ((c : Thread nD τ).loc main_arg3)
abbrev es (c : Dev nD) : FVec Ideal S32x4096 .f32 := m ((c : Thread nD τ).loc main_arg4)

theorem x_at (c : Dev nD) (t : Fin cfg0.N) (i : Fin 8) (hi : t.val / 4 % 8 = i.val) (s : Fin 4) (hs : t.val % 4 = s.val)
    (r : Fin 1024) (k : Fin 4096) :
    iblk m c 0 t (ix2 r k) = xp m c (ix2 ⟨i.val * 1024 + r.val, by omega⟩ ⟨s.val * 4096 + k.val, by omega⟩) := by
  obtain ⟨e0, e1, e2, e3, e4, e5, e6⟩ := idx t
  rw [hi, hs] at e0
  blk_ext [iblk, V, e0]

theorem s_at (c : Dev nD) (t : Fin cfg0.N) (s : Fin 4) (hs : t.val % 4 = s.val) (r : Fin 32) (k : Fin 4096) :
    iblk m c 1 t (ix2 r k) = xs m c (ix2 r ⟨s.val * 4096 + k.val, by omega⟩) := by
  obtain ⟨e0, e1, e2, e3, e4, e5, e6⟩ := idx t
  rw [hs] at e1
  blk_ext [iblk, V, e1]

theorem w_at (c : Dev nD) (t : Fin cfg0.N) (j : Fin 4) (hj : t.val / 32 = j.val) (s : Fin 4) (hs : t.val % 4 = s.val)
    (k : Fin 4096) (n : Fin 1024) :
    iblk m c 2 t (ix2 k n) = wt m c (ix2 ⟨s.val * 4096 + k.val, by omega⟩ ⟨j.val * 1024 + n.val, by omega⟩) := by
  obtain ⟨e0, e1, e2, e3, e4, e5, e6⟩ := idx t
  rw [hj, hs] at e2
  blk_ext [iblk, V, e2]

theorem e_at (c : Dev nD) (t : Fin cfg0.N) (i : Fin 8) (hi : t.val / 4 % 8 = i.val)
    (j : Fin 4) (hj : t.val / 32 = j.val) (r n : Fin 1024) :
    iblk m c 3 t (ix2 r n) = ep m c (ix2 ⟨i.val * 1024 + r.val, by omega⟩ ⟨j.val * 1024 + n.val, by omega⟩) := by
  obtain ⟨e0, e1, e2, e3, e4, e5, e6⟩ := idx t
  rw [hi, hj] at e3
  blk_ext [iblk, V, e3]

theorem f_at (c : Dev nD) (t : Fin cfg0.N) (j : Fin 4) (hj : t.val / 32 = j.val) (r : Fin 32) (n : Fin 1024) :
    iblk m c 4 t (ix2 r n) = es m c (ix2 r ⟨j.val * 1024 + n.val, by omega⟩) := by
  obtain ⟨e0, e1, e2, e3, e4, e5, e6⟩ := idx t
  rw [hj] at e4
  blk_ext [iblk, V, e4]

/-- Four points from the first one of a block on, for the prompt. -/
theorem sumP_at (c : Dev nD) (b : ℕ) (hb : b % 4 = 0) (h : b + 3 < cfg0.N) (i : Fin 8) (hi : b / 4 % 8 = i.val)
    (j : Fin 4) (hj : b / 32 = j.val) (r n : Fin 1024) :
    sumP (F := Ideal) m c (b + 3) h (ix2 r n)
      = dotOn (ep m c (ix2 ⟨i.val * 1024 + r.val, by omega⟩ ⟨j.val * 1024 + n.val, by omega⟩))
          (fun k : Fin 16384 => xp m c (ix2 ⟨i.val * 1024 + r.val, by omega⟩ k))
          (fun k => wt m c (ix2 k ⟨j.val * 1024 + n.val, by omega⟩)) := by
  have h3 := sumP_eq m c ⟨b + 3, h⟩
  have h2 := sumP_eq m c ⟨b + 2, by omega⟩
  have h1 := sumP_eq m c ⟨b + 1, by omega⟩
  have h0 := sumP_eq m c ⟨b, by omega⟩
  rw [if_neg (by show ¬ (b + 3) % 4 = 0; omega)] at h3
  rw [if_neg (by show ¬ (b + 2) % 4 = 0; omega)] at h2
  rw [if_neg (by show ¬ (b + 1) % 4 = 0; omega)] at h1
  rw [if_pos (by show b % 4 = 0; omega)] at h0
  refine (congrFun (h3.trans (congrArg (outP · _ _) (h2.trans (congrArg (outP · _ _) (h1.trans (congrArg (outP · _ _) h0)))))) _).trans ?_
  rw [outP_at, outP_at, outP_at, outP_at, e_at m c ⟨b, by omega⟩ i hi j hj]
  have at_ : ∀ s : Fin 4, b + s.val < cfg0.N := fun s => by omega
  refine dotOn_four _ _ _ (fun s k => iblk m c 0 ⟨b + s.val, at_ s⟩ (ix2 r k)) (fun s k => iblk m c 2 ⟨b + s.val, at_ s⟩ (ix2 k n))
    (fun s k => x_at m c ⟨b + s.val, at_ s⟩ i (by show (b + s.val) / 4 % 8 = _; omega) s (by show (b + s.val) % 4 = _; omega) r k)
    (fun s k => w_at m c ⟨b + s.val, at_ s⟩ j (by show (b + s.val) / 32 = _; omega) s (by show (b + s.val) % 4 = _; omega) k n)

/-- The same for the sample. -/
theorem sumS_at (c : Dev nD) (b : ℕ) (hb : b % 4 = 0) (h : b + 3 < cfg0.N)
    (j : Fin 4) (hj : b / 32 = j.val) (r : Fin 32) (n : Fin 1024) :
    sumS (F := Ideal) m c (b + 3) h (ix2 r n)
      = dotOn (es m c (ix2 r ⟨j.val * 1024 + n.val, by omega⟩))
          (fun k : Fin 16384 => xs m c (ix2 r k))
          (fun k => wt m c (ix2 k ⟨j.val * 1024 + n.val, by omega⟩)) := by
  have h3 := sumS_eq m c ⟨b + 3, h⟩
  have h2 := sumS_eq m c ⟨b + 2, by omega⟩
  have h1 := sumS_eq m c ⟨b + 1, by omega⟩
  have h0 := sumS_eq m c ⟨b, by omega⟩
  rw [if_neg (by show ¬ (b + 3) % 4 = 0; omega)] at h3
  rw [if_neg (by show ¬ (b + 2) % 4 = 0; omega)] at h2
  rw [if_neg (by show ¬ (b + 1) % 4 = 0; omega)] at h1
  rw [if_pos (by show b % 4 = 0; omega)] at h0
  refine (congrFun (h3.trans (congrArg (outS · _ _) (h2.trans (congrArg (outS · _ _) (h1.trans (congrArg (outS · _ _) h0)))))) _).trans ?_
  rw [outS_at, outS_at, outS_at, outS_at, f_at m c ⟨b, by omega⟩ j hj]
  have at_ : ∀ s : Fin 4, b + s.val < cfg0.N := fun s => by omega
  refine dotOn_four _ _ _ (fun s k => iblk m c 1 ⟨b + s.val, at_ s⟩ (ix2 r k)) (fun s k => iblk m c 2 ⟨b + s.val, at_ s⟩ (ix2 k n))
    (fun s k => s_at m c ⟨b + s.val, at_ s⟩ s (by show (b + s.val) % 4 = _; omega) r k)
    (fun s k => w_at m c ⟨b + s.val, at_ s⟩ j (by show (b + s.val) / 32 = _; omega) s (by show (b + s.val) % 4 = _; omega) k n)

theorem final5 (c : Dev nD) : (dats m 0 c).arrAt 5 cfg0.N = Cert.DownRefIdeal.Read.val_main_v3 (F := Ideal) (xp m c) (wt m c) (ep m c) := by
  refine (dats m 0 c).arrAt_eq_of_covers 5 _ (by decide +kernel) fun t hf y => ?_
  have ht := flush5 t hf
  have hN : t.val < 128 := t.isLt
  blk_simp
  rw [after5]
  obtain ⟨e0, e1, e2, e3, e4, e5, e6⟩ := idx t
  obtain ⟨r, n, rfl⟩ : ∃ r n : Fin 1024, y = (ix2 r n : S1024x1024.Idx) := ⟨y 0, y 1, by blk_ext []⟩
  obtain ⟨b, hb⟩ : ∃ b, t.val = b + 3 := ⟨t.val - 3, by omega⟩
  obtain ⟨i, hi⟩ : ∃ i : Fin 8, t.val / 4 % 8 = i.val := ⟨⟨t.val / 4 % 8, by omega⟩, rfl⟩
  obtain ⟨j, hj⟩ : ∃ j : Fin 4, t.val / 32 = j.val := ⟨⟨t.val / 32, by omega⟩, rfl⟩
  rw [hi, hj] at e5
  have eb : (win0_5.blk t).view.emb (ix2 r n : S1024x1024.Idx)
      = (ix2 ⟨i.val * 1024 + r.val, by omega⟩ ⟨j.val * 1024 + n.val, by omega⟩ : S8192x4096.Idx) := by
    blk_ext [e5]
  refine Eq.trans ?_ (congrArg (Cert.DownRefIdeal.Read.val_main_v3 (F := Ideal) (xp m c) (wt m c) (ep m c)) eb.symm)
  rw [refP, ← sumP_at m c b (by omega) (by rw [← hb]; exact t.isLt) i (by omega) j (by omega) r n]
  simp only [hb]

theorem final6 (c : Dev nD) : (dats m 0 c).arrAt 6 cfg0.N = Cert.DownRefIdeal.Read.val_main_v6 (F := Ideal) (xs m c) (wt m c) (es m c) := by
  refine (dats m 0 c).arrAt_eq_of_covers 6 _ (by decide +kernel) fun t hf y => ?_
  have ht := flush6 t hf
  have hN : t.val < 128 := t.isLt
  blk_simp
  rw [after6]
  obtain ⟨e0, e1, e2, e3, e4, e5, e6⟩ := idx t
  obtain ⟨r, n, rfl⟩ : ∃ (r : Fin 32) (n : Fin 1024), y = (ix2 r n : S32x1024.Idx) := ⟨y 0, y 1, by blk_ext []⟩
  obtain ⟨b, hb⟩ : ∃ b, (last t).val = b + 3 := ⟨t.val - t.val % 32, if_neg (by omega)⟩
  have hb' : b = t.val - t.val % 32 := by
    have : (last t).val = t.val - t.val % 32 + 3 := if_neg (by omega)
    omega
  obtain ⟨j, hj⟩ : ∃ j : Fin 4, t.val / 32 = j.val := ⟨⟨t.val / 32, by omega⟩, rfl⟩
  rw [hj] at e6
  have eb : (win0_6.blk t).view.emb (ix2 r n : S32x1024.Idx) = (ix2 r ⟨j.val * 1024 + n.val, by omega⟩ : S32x4096.Idx) := by
    blk_ext [e6]
  refine Eq.trans ?_ (congrArg (Cert.DownRefIdeal.Read.val_main_v6 (F := Ideal) (xs m c) (wt m c) (es m c)) eb.symm)
  rw [refS, ← sumS_at m c b (by omega) (by rw [← hb]; exact (last t).isLt) j (by omega) r n]
  simp only [hb]

/-! ## The claims -/

/-- The kernel ends with every counter at zero and its arguments as they were, whatever the numbers. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The two programs have the same text. -/
theorem defs_bits : Cert.Down.defs (F := Bits) = defs :=
  congrArg (Pipeline.defs pcfgs) (show Cert.Down.defs₀ (F := Bits) = defs₀ from
    congrArg Defs.onTc (funext fun l => funext fun a => match l, a with | 0, (_, _) => rfl))

theorem frame_bits : Cert.quiescent_Down (hDown := Cert.Down.Gen.facts) := fun m ρ _ => by
  rw [defs_bits]
  exact frame (F := Bits) m ρ

theorem frame_ideal : Cert.quiescent_DownIdeal (hDownIdeal := Cert.DownIdeal.Gen.facts) := fun m ρ _ => frame m ρ

theorem frame_ref : Cert.quiescent_DownRefIdeal (hDownRefIdeal := Cert.DownRefIdeal.Gen.facts) := fun m ρ _ =>
  (θ_run Cert.DownRefIdeal.defs _ _).mono
    (fun r h => ⟨fun c => (h c).2.2, sem_eq_zero_of_no_sems (by decide) r.2⟩) (Cert.DownRefIdeal.Value.run (F := Ideal) m ρ)

theorem value : Cert.algebraic_DownIdeal_DownRefIdeal (hDownIdeal := Cert.DownIdeal.Gen.facts)
    (hDownRefIdeal := Cert.DownRefIdeal.Gen.facts) := by
  intro m ρ m' ρ' _ hag
  refine ⟨fun c => (dats m 0 c).arrAt 5 cfg0.N, fun c => (dats m 0 c).arrAt 6 cfg0.N,
    (θ_run defs _ _).mono (fun r h c => ⟨(h.1.1 c).1 5, (h.1.1 c).1 6, h.2.1 c⟩) (θ_run_and (run m ρ) (frame m ρ)),
    (θ_run Cert.DownRefIdeal.defs _ _).mono (fun r h c => ?_) (Cert.DownRefIdeal.Value.run (F := Ideal) m' ρ')⟩
  obtain ⟨a0, a1, a2, a3, a4⟩ := hag c
  refine ⟨(h c).1.trans ?_, (h c).2.1.trans ?_, (h c).2.2⟩
  · rw [Cert.DownRefIdeal.Read.val_main_v3_eq]
    refine Eq.trans ?_ (final5 m c).symm
    rw [a0, a2, a3]
  · rw [Cert.DownRefIdeal.Read.val_main_v6_eq]
    refine Eq.trans ?_ (final6 m c).symm
    rw [a1, a2, a4]

end Down
-- ==== Proof.OutRun.lean ====
/-
  The run of the output projection: the prompt's block is stored at every point, the sample's at the first point of each
  run along the prompt, and carried from there to the point that writes it back.
-/
module

public import proofs.«01_k».proof.Proof.Gen.OutIdeal.Skeleton
public import proofs.«01_k».proof.Proof.Gen.OutIdeal.Frame
public import proofs.«01_k».proof.Proof.Gen.Out
public import proofs.«01_k».proof.Proof.IdleOut

@[expose] public section

set_option maxRecDepth 16384

noncomputable section

namespace Out

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rX : Rect S1024x4096 := Rect.unit (s := S1024x4096) ![0, 0] S1024x4096.size inb_S1024x4096_S1024x4096_0_0
abbrev rS : Rect S32x4096 := Rect.unit (s := S32x4096) ![0, 0] S32x4096.size inb_S32x4096_S32x4096_0_0
abbrev rW : Rect S4096x1024 := Rect.unit (s := S4096x1024) ![0, 0] S4096x1024.size inb_S4096x1024_S4096x1024_0_0
abbrev rP : Rect S1024x1024 := Rect.unit (s := S1024x1024) ![0, 0] S1024x1024.size inb_S1024x1024_S1024x1024_0_0
abbrev rQ : Rect S32x1024 := Rect.unit (s := S32x1024) ![0, 0] S32x1024.size inb_S32x1024_S32x1024_0_0

/-- The prompt's block. -/
def outP (x : Vec F S1024x4096 .bf16) (w : Vec F S4096x1024 .bf16) (e : Vec F S1024x1024 .f32) : Vec F S1024x1024 .f32 :=
  View.canon [⟨rP, k0_pay1 (View.ld x rX) (View.ld w rW) (View.ld e rP)⟩]

/-- The sample's block. -/
def outS (x : Vec F S32x4096 .bf16) (w : Vec F S4096x1024 .bf16) (e : Vec F S32x1024 .f32) : Vec F S32x1024 .f32 :=
  View.canon [⟨rQ, k0_pay2 (View.ld x rS) (View.ld w rW) (View.ld e rQ)⟩]

theorem coverP (p : Vec F S1024x1024 .f32) (y : S1024x1024.Idx) :
    ∃ pc ∈ ([⟨rP, p⟩] : List (View.Piece (Elt F) S1024x1024 .f32)), y ∈ pc.1.set :=
  View.cover_of_tiled [⟨rP, p⟩] S1024x1024.size (by rfl) y

theorem coverS (p : Vec F S32x1024 .f32) (y : S32x1024.Idx) :
    ∃ pc ∈ ([⟨rQ, p⟩] : List (View.Piece (Elt F) S32x1024 .f32)), y ∈ pc.1.set :=
  View.cover_of_tiled [⟨rQ, p⟩] S32x1024.size (by rfl) y

set_option maxHeartbeats 1000000 in
/-- One point: the prompt's block is stored; the sample's where the condition holds, and kept elsewhere. -/
theorem body_run (c : Dev nD) (E : Set ℕ) (i : grid0.Coords) (a : Memref sig .tc .vmem S1024x4096 .bf16) (ha : a.IsWhole)
    (b : Memref sig .tc .vmem S32x4096 .bf16) (hb : b.IsWhole) (w : Memref sig .tc .vmem S4096x1024 .bf16) (hw : w.IsWhole)
    (e : Memref sig .tc .vmem S1024x1024 .f32) (he : e.IsWhole) (g : Memref sig .tc .vmem S32x1024 .f32) (hg : g.IsWhole)
    (p : Memref sig .tc .vmem S1024x1024 .f32) (hp : p.IsWhole) (q : Memref sig .tc .vmem S32x1024 .f32) (hq : q.IsWhole)
    (x0 : Vec F S1024x4096 .bf16) (x1 : Vec F S32x4096 .bf16) (x2 : Vec F S4096x1024 .bf16) (x3 : Vec F S1024x1024 .f32) (x4 : Vec F S32x1024 .f32)
    (x6 : Vec F S32x1024 .f32)
    (K : PUnit → sProp 𝕄) :
    iprop(owns (c : Thread nD τ) a fullShare x0 ∗ owns (c : Thread nD τ) b fullShare x1 ∗ owns (c : Thread nD τ) w fullShare x2
        ∗ owns (c : Thread nD τ) e fullShare x3 ∗ owns (c : Thread nD τ) g fullShare x4
        ∗ (∃ d, owns (c : Thread nD τ) p fullShare d) ∗ owns (c : Thread nD τ) q fullShare x6
        ∗ (iprop(owns (c : Thread nD τ) a fullShare x0 ∗ owns (c : Thread nD τ) b fullShare x1 ∗ owns (c : Thread nD τ) w fullShare x2
        ∗ owns (c : Thread nD τ) e fullShare x3 ∗ owns (c : Thread nD τ) g fullShare x4
          ∗ owns (c : Thread nD τ) p fullShare (outP x0 x2 x3)
          ∗ owns (c : Thread nD τ) q fullShare (if k0_cond1 i = 1#1 then outS x1 x2 x4 else x6)) -∗ K ⟨⟩))
      ⊢ wp frame (wpE (defs₀ (F := F)) Variants.none c none) E (cc0_out_proj i a ha b hb w hw e he g hg p hp q hq) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  by_cases hc : k0_cond1 i = 1#1
  · rw [if_pos hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      exact View.read_writes_eq_canon _ _ _ (coverP _)
    iexists _; isplitr; swap; · iexact H6
    ipureintro
    exact View.read_writes_eq_canon _ _ _ (coverS _)
  · rw [if_neg hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      exact View.read_writes_eq_canon _ _ _ (coverP _)
    iexists f6; isplitr; · ipureintro; rfl
    iexact H6

/-- The first point of a point's run along the prompt. -/
def start (t : Fin cfg0.N) : Fin cfg0.N := ⟨t.val - t.val % 8, lt_of_le_of_lt (Nat.sub_le _ _) t.isLt⟩

/-- What the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outP (iblk m c 0 t) (iblk m c 2 t) (iblk m c 3 t)
    | ⟨6, _⟩ => outS (iblk m c 1 (start t)) (iblk m c 2 (start t)) (iblk m c 4 (start t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outP (iblk m c 0 t) (iblk m c 2 t) (iblk m c 3 t) := by dsimp only [dats]
theorem after6 (c : Dev nD) (t : Fin cfg0.N) :
    (dats m 0 c).after 6 t = outS (iblk m c 1 (start t)) (iblk m c 2 (start t)) (iblk m c 4 (start t)) := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The sample's block is stored at the first point of a run. -/
theorem cond_iff : ∀ t : Fin cfg0.N, k0_cond1 (grid0.coords t) = 1#1 ↔ t.val % 8 = 0 := by decide +kernel

theorem fresh_idle : ∀ t : Fin cfg0.N, cfg0.idle 6 (cfg0.grid.coords t) = true → cfg0.fresh 6 t.val = false := by
  decide +kernel

theorem idle_iff (t : Fin cfg0.N) : cfg0.idle 6 (cfg0.grid.coords t) = true ↔ ¬ t.val % 8 = 0 := by
  rw [← cond_iff]
  show (!(k0_cond1 (grid0.coords t) == 1#1)) = true ↔ _
  simp

theorem start_eq (t : Fin cfg0.N) (h : t.val % 8 = 0) : start t = t := Fin.ext (by simp [start, h])

theorem before6 (c : Dev nD) (t : Fin cfg0.N) (hi : cfg0.idle 6 (cfg0.grid.coords t) = true) (d) :
    (dats m 0 c).before 6 t d = (dats m 0 c).after 6 t :=
  Tail.before_of_carry (dats m 0 c) 6 rfl (fun _ _ => rfl) fresh_idle (fun t h0 hi => by
    have hs : start t = start ⟨t.val - 1, by omega⟩ := Fin.ext (by have := (idle_iff t).mp hi; simp only [start]; omega)
    rw [after6, after6, hs]) t hi d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- What the body makes of the sample's buffer is what the point is said to leave. -/
theorem leaves6 (c : Dev nD) (t : Fin cfg0.N) (d) :
    (if k0_cond1 (grid0.coords t) = 1#1 then outS (iblk m c 1 t) (iblk m c 2 t) (iblk m c 4 t) else (dats m 0 c).before 6 t d)
      = (dats m 0 c).after 6 t := by
  by_cases h : t.val % 8 = 0
  · rw [if_pos ((cond_iff t).mpr h), after6, start_eq t h]
  · rw [if_neg (fun hc => h ((cond_iff t).mp hc)), before6 m c t ((idle_iff t).mpr h)]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c Set.univ (grid0.coords t) _ _ _ _ _ _ _ _ _ _ _ _ _ _ (iblk m c 0 t) (iblk m c 1 t) (iblk m c 2 t)
    (iblk m c 3 t) (iblk m c 4 t) ((dats m 0 c).before 6 t d6) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  rw [leaves6]
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (Tail.leaves_of_after (dats m 0 c) 6 t (before6 m c t))
  iexact H6

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: every array ends at what the points leave, and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Out
-- ==== Proof.OutValue.lean ====
/- The two results of the output projection. -/
module

public import proofs.«01_k».proof.Proof.OutRun
public import proofs.«01_k».proof.Proof.Gen.Out
public import proofs.«01_k».proof.Proof.Gen.OutIdeal
public import proofs.«01_k».proof.Proof.Gen.OutRefIdeal
public import proofs.«01_k».proof.Proof.Gen.OutRefIdeal.Run
public import proofs.«01_k».proof.Proof.Gen.OutRefIdeal.Read
public import proofs.«01_k».proof.Defs
public import Idealize.ShloMosaic.Lib.Pointwise
public import Idealize.ShloMosaic.Lib.Pipeline.ValueKit

@[expose] public section

set_option maxRecDepth 16384

namespace Out

open Cert.OutIdeal Cert.OutIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![(grid0.coords t 1).val, 0]
   ∧ win0_1.index t = ![0, 0]
   ∧ win0_2.index t = ![0, (grid0.coords t 0).val]
   ∧ win0_3.index t = ![(grid0.coords t 1).val, (grid0.coords t 0).val]
   ∧ win0_4.index t = ![0, (grid0.coords t 0).val]
   ∧ win0_5.index t = ![(grid0.coords t 1).val, (grid0.coords t 0).val]
   ∧ win0_6.index t = ![0, (grid0.coords t 0).val] :=
  (by decide +kernel : ∀ t : Fin grid0.N, _)

/-- A run along the prompt keeps the weight's columns. -/
theorem start_coord : ∀ t : Fin cfg0.N, (grid0.coords (start t) 0).val = (grid0.coords t 0).val :=
  (by decide +kernel : ∀ t : Fin grid0.N, _)

/-- One entry of the projection: what was there before, and a row times a column. -/
noncomputable def dotOn (e : EReal) (x w : Fin 4096 → EReal) : EReal := e + ∑ k, x k * w k

open Cert.OutRefIdeal.Read in
theorem refP (x : FVec Ideal S8192x4096 .bf16) (w : FVec Ideal S4096x4096 .bf16) (e : FVec Ideal S8192x4096 .f32)
    (r : Fin 8192) (n : Fin 4096) :
    val_main_v3 (F := Ideal) x w e (ix2 r n) = dotOn (e (ix2 r n)) (fun k => x (ix2 r k)) (fun k => w (ix2 k n)) := by
  unfold val_main_v3 val_main_v2 val_main_v1 val_main_v0 dotOn
  pointwise

open Cert.OutRefIdeal.Read in
theorem refS (x : FVec Ideal S32x4096 .bf16) (w : FVec Ideal S4096x4096 .bf16) (e : FVec Ideal S32x4096 .f32)
    (r : Fin 32) (n : Fin 4096) :
    val_main_v6 (F := Ideal) x w e (ix2 r n) = dotOn (e (ix2 r n)) (fun k => x (ix2 r k)) (fun k => w (ix2 k n)) := by
  unfold val_main_v6 val_main_v5 val_main_v4 val_main_v0 dotOn
  pointwise

theorem outP_at (x : FVec Ideal S1024x4096 .bf16) (w : FVec Ideal S4096x1024 .bf16) (e : FVec Ideal S1024x1024 .f32)
    (r : Fin 1024) (n : Fin 1024) :
    outP (F := Ideal) x w e (ix2 r n) = dotOn (e (ix2 r n)) (fun k => x (ix2 r k)) (fun k => w (ix2 k n)) := by
  unfold outP
  rw [View.canon_unit_zero (by funext a; fin_cases a <;> rfl)]
  unfold k0_pay1 dotOn
  rw [add_comm]
  pointwise

theorem outS_at (x : FVec Ideal S32x4096 .bf16) (w : FVec Ideal S4096x1024 .bf16) (e : FVec Ideal S32x1024 .f32)
    (r : Fin 32) (n : Fin 1024) :
    outS (F := Ideal) x w e (ix2 r n) = dotOn (e (ix2 r n)) (fun k => x (ix2 r k)) (fun k => w (ix2 k n)) := by
  unfold outS
  rw [View.canon_unit_zero (by funext a; fin_cases a <;> rfl)]
  unfold k0_pay2 dotOn
  rw [add_comm]
  pointwise

abbrev xp (c : Dev nD) : FVec Ideal S8192x4096 .bf16 := m ((c : Thread nD τ).loc main_arg0)
abbrev xs (c : Dev nD) : FVec Ideal S32x4096 .bf16 := m ((c : Thread nD τ).loc main_arg1)
abbrev wt (c : Dev nD) : FVec Ideal S4096x4096 .bf16 := m ((c : Thread nD τ).loc main_arg2)
abbrev ep (c : Dev nD) : FVec Ideal S8192x4096 .f32 := m ((c : Thread nD τ).loc main_arg3)
abbrev es (c : Dev nD) : FVec Ideal S32x4096 .f32 := m ((c : Thread nD τ).loc main_arg4)

theorem x_at (c : Dev nD) (t : Fin cfg0.N) (i : Fin 8) (hi : i.val = (grid0.coords t 1).val) (r : Fin 1024) (k : Fin 4096) :
    iblk m c 0 t (ix2 r k) = xp m c (ix2 ⟨i.val * 1024 + r.val, by omega⟩ k) := by
  obtain ⟨e0, e1, e2, e3, e4, e5, e6⟩ := idx t
  blk_ext [iblk, V, e0]

theorem s_at (c : Dev nD) (t : Fin cfg0.N) (r : Fin 32) (k : Fin 4096) :
    iblk m c 1 t (ix2 r k) = xs m c (ix2 r k) := by
  obtain ⟨e0, e1, e2, e3, e4, e5, e6⟩ := idx t
  blk_ext [iblk, V, e1]

theorem w_at (c : Dev nD) (t : Fin cfg0.N) (j : Fin 4) (hj : j.val = (grid0.coords t 0).val) (k : Fin 4096) (n : Fin 1024) :
    iblk m c 2 t (ix2 k n) = wt m c (ix2 k ⟨j.val * 1024 + n.val, by omega⟩) := by
  obtain ⟨e0, e1, e2, e3, e4, e5, e6⟩ := idx t
  blk_ext [iblk, V, e2]

theorem e_at (c : Dev nD) (t : Fin cfg0.N) (i : Fin 8) (hi : i.val = (grid0.coords t 1).val)
    (j : Fin 4) (hj : j.val = (grid0.coords t 0).val) (r n : Fin 1024) :
    iblk m c 3 t (ix2 r n) = ep m c (ix2 ⟨i.val * 1024 + r.val, by omega⟩ ⟨j.val * 1024 + n.val, by omega⟩) := by
  obtain ⟨e0, e1, e2, e3, e4, e5, e6⟩ := idx t
  blk_ext [iblk, V, e3]

theorem f_at (c : Dev nD) (t : Fin cfg0.N) (j : Fin 4) (hj : j.val = (grid0.coords t 0).val) (r : Fin 32) (n : Fin 1024) :
    iblk m c 4 t (ix2 r n) = es m c (ix2 r ⟨j.val * 1024 + n.val, by omega⟩) := by
  obtain ⟨e0, e1, e2, e3, e4, e5, e6⟩ := idx t
  blk_ext [iblk, V, e4]

theorem final5 (c : Dev nD) : (dats m 0 c).arrAt 5 cfg0.N = Cert.OutRefIdeal.Read.val_main_v3 (F := Ideal) (xp m c) (wt m c) (ep m c) := by
  refine (dats m 0 c).arrAt_eq_of_covers 5 _ (by decide +kernel) fun t hf y => ?_
  blk_simp
  rw [after5]
  obtain ⟨e0, e1, e2, e3, e4, e5, e6⟩ := idx t
  obtain ⟨r, n, rfl⟩ : ∃ r n : Fin 1024, y = (ix2 r n : S1024x1024.Idx) := ⟨y 0, y 1, by blk_ext []⟩
  obtain ⟨i, hi⟩ : ∃ i : Fin 8, i.val = (grid0.coords t 1).val := ⟨grid0.coords t 1, rfl⟩
  obtain ⟨j, hj⟩ : ∃ j : Fin 4, j.val = (grid0.coords t 0).val := ⟨grid0.coords t 0, rfl⟩
  have eb : (win0_5.blk t).view.emb (ix2 r n : S1024x1024.Idx)
      = (ix2 ⟨i.val * 1024 + r.val, by omega⟩ ⟨j.val * 1024 + n.val, by omega⟩ : S8192x4096.Idx) := by
    blk_ext [e5]
  refine Eq.trans ?_ (congrArg (Cert.OutRefIdeal.Read.val_main_v3 (F := Ideal) (xp m c) (wt m c) (ep m c)) eb.symm)
  rw [outP_at, refP]
  simp only [x_at m c t i hi, w_at m c t j hj, e_at m c t i hi j hj]

theorem final6 (c : Dev nD) : (dats m 0 c).arrAt 6 cfg0.N = Cert.OutRefIdeal.Read.val_main_v6 (F := Ideal) (xs m c) (wt m c) (es m c) := by
  refine (dats m 0 c).arrAt_eq_of_covers 6 _ (by decide +kernel) fun t hf y => ?_
  blk_simp
  rw [after6]
  obtain ⟨e0, e1, e2, e3, e4, e5, e6⟩ := idx t
  obtain ⟨r, n, rfl⟩ : ∃ (r : Fin 32) (n : Fin 1024), y = (ix2 r n : S32x1024.Idx) := ⟨y 0, y 1, by blk_ext []⟩
  obtain ⟨j, hj⟩ : ∃ j : Fin 4, j.val = (grid0.coords t 0).val := ⟨grid0.coords t 0, rfl⟩
  have eb : (win0_6.blk t).view.emb (ix2 r n : S32x1024.Idx) = (ix2 r ⟨j.val * 1024 + n.val, by omega⟩ : S32x4096.Idx) := by
    blk_ext [e6]
  refine Eq.trans ?_ (congrArg (Cert.OutRefIdeal.Read.val_main_v6 (F := Ideal) (xs m c) (wt m c) (es m c)) eb.symm)
  rw [outS_at, refS]
  simp only [s_at, w_at m c (start t) j (hj.trans (start_coord t).symm), f_at m c (start t) j (hj.trans (start_coord t).symm)]

/-! ## The claims -/

/-- The kernel ends with every counter at zero and its arguments as they were, whatever the numbers. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The two programs have the same text. -/
theorem defs_bits : Cert.Out.defs (F := Bits) = defs :=
  congrArg (Pipeline.defs pcfgs) (show Cert.Out.defs₀ (F := Bits) = defs₀ from
    congrArg Defs.onTc (funext fun l => funext fun a => match l, a with | 0, (_, _) => rfl))

theorem frame_bits : Cert.quiescent_Out (hOut := Cert.Out.Gen.facts) := fun m ρ _ => by
  rw [defs_bits]
  exact frame (F := Bits) m ρ

theorem frame_ideal : Cert.quiescent_OutIdeal (hOutIdeal := Cert.OutIdeal.Gen.facts) := fun m ρ _ => frame m ρ

theorem frame_ref : Cert.quiescent_OutRefIdeal (hOutRefIdeal := Cert.OutRefIdeal.Gen.facts) := fun m ρ _ =>
  (θ_run Cert.OutRefIdeal.defs _ _).mono
    (fun r h => ⟨fun c => (h c).2.2, sem_eq_zero_of_no_sems (by decide) r.2⟩) (Cert.OutRefIdeal.Value.run (F := Ideal) m ρ)

theorem value : Cert.algebraic_OutIdeal_OutRefIdeal (hOutIdeal := Cert.OutIdeal.Gen.facts)
    (hOutRefIdeal := Cert.OutRefIdeal.Gen.facts) := by
  intro m ρ m' ρ' _ hag
  refine ⟨fun c => (dats m 0 c).arrAt 5 cfg0.N, fun c => (dats m 0 c).arrAt 6 cfg0.N,
    (θ_run defs _ _).mono (fun r h c => ⟨(h.1.1 c).1 5, (h.1.1 c).1 6, h.2.1 c⟩) (θ_run_and (run m ρ) (frame m ρ)),
    (θ_run Cert.OutRefIdeal.defs _ _).mono (fun r h c => ?_) (Cert.OutRefIdeal.Value.run (F := Ideal) m' ρ')⟩
  obtain ⟨a0, a1, a2, a3, a4⟩ := hag c
  refine ⟨(h c).1.trans ?_, (h c).2.1.trans ?_, (h c).2.2⟩
  · rw [Cert.OutRefIdeal.Read.val_main_v3_eq]
    refine Eq.trans ?_ (final5 m c).symm
    rw [a0, a2, a3]
  · rw [Cert.OutRefIdeal.Read.val_main_v6_eq]
    refine Eq.trans ?_ (final6 m c).symm
    rw [a1, a2, a4]

end Out
-- ==== Proof.MergeRun.lean ====
/-
  The run of the merge of the two branches: the prompt's block is stored at every point, the sample's at the first point of each
  run along the prompt, and carried from there to the point that writes it back.
-/
module

public import proofs.«01_k».proof.Proof.Gen.MergeIdeal.Skeleton
public import proofs.«01_k».proof.Proof.Gen.MergeIdeal.Frame
public import proofs.«01_k».proof.Proof.Gen.Merge
public import proofs.«01_k».proof.Proof.IdleOut

@[expose] public section

set_option maxRecDepth 16384

noncomputable section

namespace Merge

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rX : Rect S1024x2048 := Rect.unit (s := S1024x2048) ![0, 0] S1024x2048.size inb_S1024x2048_S1024x2048_0_0
abbrev rS : Rect S32x2048 := Rect.unit (s := S32x2048) ![0, 0] S32x2048.size inb_S32x2048_S32x2048_0_0
abbrev rW : Rect S2048x512 := Rect.unit (s := S2048x512) ![0, 0] S2048x512.size inb_S2048x512_S2048x512_0_0
abbrev rP : Rect S1024x512 := Rect.unit (s := S1024x512) ![0, 0] S1024x512.size inb_S1024x512_S1024x512_0_0
abbrev rQ : Rect S32x512 := Rect.unit (s := S32x512) ![0, 0] S32x512.size inb_S32x512_S32x512_0_0

/-- The prompt's block. -/
def outP (oa ob : Vec F S1024x2048 .bf16) (wa wb : Vec F S2048x512 .bf16) (ga gb : Vec F S1024x512 .bf16) : Vec F S1024x512 .bf16 :=
  View.canon [⟨rP, k0_pay1 (View.ld oa rX) (View.ld wa rW) (View.ld ob rX) (View.ld wb rW) (View.ld ga rP) (View.ld gb rP)⟩]

/-- The sample's block. -/
def outS (oa ob : Vec F S32x2048 .bf16) (wa wb : Vec F S2048x512 .bf16) (ga gb : Vec F S32x512 .bf16) : Vec F S32x512 .bf16 :=
  View.canon [⟨rQ, k0_pay2 (View.ld oa rS) (View.ld wa rW) (View.ld ob rS) (View.ld wb rW) (View.ld ga rQ) (View.ld gb rQ)⟩]

theorem coverP (p : Vec F S1024x512 .bf16) (y : S1024x512.Idx) :
    ∃ pc ∈ ([⟨rP, p⟩] : List (View.Piece (Elt F) S1024x512 .bf16)), y ∈ pc.1.set :=
  View.cover_of_tiled [⟨rP, p⟩] S1024x512.size (by rfl) y

theorem coverS (p : Vec F S32x512 .bf16) (y : S32x512.Idx) :
    ∃ pc ∈ ([⟨rQ, p⟩] : List (View.Piece (Elt F) S32x512 .bf16)), y ∈ pc.1.set :=
  View.cover_of_tiled [⟨rQ, p⟩] S32x512.size (by rfl) y

set_option maxHeartbeats 1000000 in
/-- One point: the prompt's block is stored; the sample's where the condition holds, and kept elsewhere. -/
theorem body_run (c : Dev nD) (E : Set ℕ) (i : grid0.Coords)
    (oa : Memref sig .tc .vmem S1024x2048 .bf16) (hoa : oa.IsWhole)
    (ob : Memref sig .tc .vmem S1024x2048 .bf16) (hob : ob.IsWhole)
    (sa : Memref sig .tc .vmem S32x2048 .bf16) (hsa : sa.IsWhole)
    (sb : Memref sig .tc .vmem S32x2048 .bf16) (hsb : sb.IsWhole)
    (wa : Memref sig .tc .vmem S2048x512 .bf16) (hwa : wa.IsWhole)
    (wb : Memref sig .tc .vmem S2048x512 .bf16) (hwb : wb.IsWhole)
    (ga : Memref sig .tc .vmem S1024x512 .bf16) (hga : ga.IsWhole)
    (gb : Memref sig .tc .vmem S1024x512 .bf16) (hgb : gb.IsWhole)
    (ta : Memref sig .tc .vmem S32x512 .bf16) (hta : ta.IsWhole)
    (tb : Memref sig .tc .vmem S32x512 .bf16) (htb : tb.IsWhole)
    (p : Memref sig .tc .vmem S1024x512 .bf16) (hp : p.IsWhole) (q : Memref sig .tc .vmem S32x512 .bf16) (hq : q.IsWhole)
    (x0 x1 : Vec F S1024x2048 .bf16)
    (x2 x3 : Vec F S32x2048 .bf16)
    (x4 x5 : Vec F S2048x512 .bf16)
    (x6 x7 : Vec F S1024x512 .bf16)
    (x8 x9 : Vec F S32x512 .bf16)
    (x11 : Vec F S32x512 .bf16) (K : PUnit → sProp 𝕄) :
    iprop(owns (c : Thread nD τ) oa fullShare x0 ∗ owns (c : Thread nD τ) ob fullShare x1 ∗
        owns (c : Thread nD τ) sa fullShare x2 ∗ owns (c : Thread nD τ) sb fullShare x3 ∗
        owns (c : Thread nD τ) wa fullShare x4 ∗ owns (c : Thread nD τ) wb fullShare x5 ∗
        owns (c : Thread nD τ) ga fullShare x6 ∗ owns (c : Thread nD τ) gb fullShare x7 ∗
        owns (c : Thread nD τ) ta fullShare x8 ∗ owns (c : Thread nD τ) tb fullShare x9
        ∗ (∃ d, owns (c : Thread nD τ) p fullShare d) ∗ owns (c : Thread nD τ) q fullShare x11
        ∗ (iprop(owns (c : Thread nD τ) oa fullShare x0 ∗ owns (c : Thread nD τ) ob fullShare x1 ∗
          owns (c : Thread nD τ) sa fullShare x2 ∗ owns (c : Thread nD τ) sb fullShare x3 ∗
          owns (c : Thread nD τ) wa fullShare x4 ∗ owns (c : Thread nD τ) wb fullShare x5 ∗
          owns (c : Thread nD τ) ga fullShare x6 ∗ owns (c : Thread nD τ) gb fullShare x7 ∗
          owns (c : Thread nD τ) ta fullShare x8 ∗ owns (c : Thread nD τ) tb fullShare x9
          ∗ owns (c : Thread nD τ) p fullShare (outP x0 x1 x4 x5 x6 x7)
          ∗ owns (c : Thread nD τ) q fullShare (if k0_cond1 i = 1#1 then outS x2 x3 x4 x5 x8 x9 else x11)) -∗ K ⟨⟩))
      ⊢ wp frame (wpE (defs₀ (F := F)) Variants.none c none) E
          (cc0_merge_branches i oa hoa ob hob sa hsa sb hsb wa hwa wb hwb ga hga gb hgb ta hta tb htb p hp q hq) K := by
  simp only [cc0_merge_branches_eq_skeleton]; unfold cc0_merge_branches_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d10, %f10, -, H10⟩, ⟨%f11, %hf11, H11⟩, Hk⟩
  subst hf0 hf1 hf2 hf3 hf4 hf5 hf6 hf7 hf8 hf9 hf11
  by_cases hc : k0_cond1 i = 1#1
  · rw [if_pos hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr; swap; · iexact H10
      ipureintro
      exact View.read_writes_eq_canon _ _ _ (coverP _)
    iexists _; isplitr; swap; · iexact H11
    ipureintro
    exact View.read_writes_eq_canon _ _ _ (coverS _)
  · rw [if_neg hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr; swap; · iexact H10
      ipureintro
      exact View.read_writes_eq_canon _ _ _ (coverP _)
    iexists f11; isplitr; · ipureintro; rfl
    iexact H11

/-- The first point of a point's run along the prompt. -/
def start (t : Fin cfg0.N) : Fin cfg0.N := ⟨t.val - t.val % 8, lt_of_le_of_lt (Nat.sub_le _ _) t.isLt⟩

/-- What the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outP (iblk m c 0 t) (iblk m c 1 t) (iblk m c 4 t) (iblk m c 5 t) (iblk m c 6 t) (iblk m c 7 t)
    | ⟨11, _⟩ => outS (iblk m c 2 (start t)) (iblk m c 3 (start t)) (iblk m c 4 (start t)) (iblk m c 5 (start t)) (iblk m c 8 (start t)) (iblk m c 9 (start t))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) :
    (dats m 0 c).after 10 t = outP (iblk m c 0 t) (iblk m c 1 t) (iblk m c 4 t) (iblk m c 5 t) (iblk m c 6 t) (iblk m c 7 t) := by
  dsimp only [dats]
theorem after11 (c : Dev nD) (t : Fin cfg0.N) :
    (dats m 0 c).after 11 t = outS (iblk m c 2 (start t)) (iblk m c 3 (start t)) (iblk m c 4 (start t)) (iblk m c 5 (start t))
      (iblk m c 8 (start t)) (iblk m c 9 (start t)) := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- The sample's block is stored at the first point of a run. -/
theorem cond_iff : ∀ t : Fin cfg0.N, k0_cond1 (grid0.coords t) = 1#1 ↔ t.val % 8 = 0 := by decide +kernel

theorem fresh_idle : ∀ t : Fin cfg0.N, cfg0.idle 11 (cfg0.grid.coords t) = true → cfg0.fresh 11 t.val = false := by
  decide +kernel

theorem idle_iff (t : Fin cfg0.N) : cfg0.idle 11 (cfg0.grid.coords t) = true ↔ ¬ t.val % 8 = 0 := by
  rw [← cond_iff]
  show (!(k0_cond1 (grid0.coords t) == 1#1)) = true ↔ _
  simp

theorem start_eq (t : Fin cfg0.N) (h : t.val % 8 = 0) : start t = t := Fin.ext (by simp [start, h])

theorem before11 (c : Dev nD) (t : Fin cfg0.N) (hi : cfg0.idle 11 (cfg0.grid.coords t) = true) (d) :
    (dats m 0 c).before 11 t d = (dats m 0 c).after 11 t :=
  Tail.before_of_carry (dats m 0 c) 11 rfl (fun _ _ => rfl) fresh_idle (fun t h0 hi => by
    have hs : start t = start ⟨t.val - 1, by omega⟩ := Fin.ext (by have := (idle_iff t).mp hi; simp only [start]; omega)
    rw [after11, after11, hs]) t hi d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t)

/-- What the body makes of the sample's buffer is what the point is said to leave. -/
theorem leaves11 (c : Dev nD) (t : Fin cfg0.N) (d) :
    (if k0_cond1 (grid0.coords t) = 1#1
        then outS (iblk m c 2 t) (iblk m c 3 t) (iblk m c 4 t) (iblk m c 5 t) (iblk m c 8 t) (iblk m c 9 t)
        else (dats m 0 c).before 11 t d)
      = (dats m 0 c).after 11 t := by
  by_cases h : t.val % 8 = 0
  · rw [if_pos ((cond_iff t).mpr h), after11, start_eq t h]
  · rw [if_neg (fun hc => h ((cond_iff t).mp hc)), before11 m c t ((idle_iff t).mpr h)]

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_run c Set.univ (grid0.coords t) _ _ _ _ _ _ _ _ _ _ _ _ _ _ _ _ _ _ _ _ _ _ _ _
    (iblk m c 0 t) (iblk m c 1 t) (iblk m c 2 t) (iblk m c 3 t) (iblk m c 4 t)
    (iblk m c 5 t) (iblk m c 6 t) (iblk m c 7 t) (iblk m c 8 t) (iblk m c 9 t) ((dats m 0 c).before 11 t d11) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  rw [leaves11]
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iapply (Tail.leaves_of_after (dats m 0 c) 11 t (before11 m c t))
  iexact H11

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: every array ends at what the points leave, and every counter at zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

end Merge
-- ==== Proof.MergeValue.lean ====
/- The two results of the merge of the two branches. -/
module

public import proofs.«01_k».proof.Proof.MergeRun
public import proofs.«01_k».proof.Proof.Gen.Merge
public import proofs.«01_k».proof.Proof.Gen.MergeIdeal
public import proofs.«01_k».proof.Proof.Gen.MergeRefIdeal
public import proofs.«01_k».proof.Proof.Gen.MergeRefIdeal.Run
public import proofs.«01_k».proof.Proof.Gen.MergeRefIdeal.Read
public import proofs.«01_k».proof.Defs
public import Idealize.ShloMosaic.Lib.Pointwise
public import Idealize.ShloMosaic.Lib.Pipeline.ValueKit

@[expose] public section

set_option maxRecDepth 16384

namespace Merge

open Cert.MergeIdeal Cert.MergeIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![(grid0.coords t 1).val, 0]
   ∧ win0_1.index t = ![(grid0.coords t 1).val, 0]
   ∧ win0_2.index t = ![0, 0]
   ∧ win0_3.index t = ![0, 0]
   ∧ win0_4.index t = ![0, (grid0.coords t 0).val]
   ∧ win0_5.index t = ![0, (grid0.coords t 0).val]
   ∧ win0_6.index t = ![(grid0.coords t 1).val, (grid0.coords t 0).val]
   ∧ win0_7.index t = ![(grid0.coords t 1).val, (grid0.coords t 0).val + 8]
   ∧ win0_8.index t = ![0, (grid0.coords t 0).val]
   ∧ win0_9.index t = ![0, (grid0.coords t 0).val + 8]
   ∧ win0_10.index t = ![(grid0.coords t 1).val, (grid0.coords t 0).val]
   ∧ win0_11.index t = ![0, (grid0.coords t 0).val] :=
  (by decide +kernel : ∀ t : Fin grid0.N, _)

/-- A run along the prompt keeps the weight's columns. -/
theorem start_coord : ∀ t : Fin cfg0.N, (grid0.coords (start t) 0).val = (grid0.coords t 0).val :=
  (by decide +kernel : ∀ t : Fin grid0.N, _)

/-- One entry of the merge: each branch's row times a column, scaled by its gate. -/
noncomputable def mix (xa xb wa wb : Fin 2048 → EReal) (ga gb : EReal) : EReal := ga * (∑ k, xa k * wa k) + gb * (∑ k, xb k * wb k)

open Cert.MergeRefIdeal.Read in
theorem refP (xa xb : FVec Ideal S8192x2048 .bf16) (wa wb : FVec Ideal S2048x4096 .bf16) (g : FVec Ideal S8192x8192 .bf16)
    (r : Fin 8192) (n : Fin 4096) :
    val_main_v12 (F := Ideal) xa xb wa wb g (ix2 r n)
      = mix (fun k => xa (ix2 r k)) (fun k => xb (ix2 r k)) (fun k => wa (ix2 k n)) (fun k => wb (ix2 k n))
          (g (ix2 r ⟨n.val, by omega⟩)) (g (ix2 r ⟨4096 + n.val, by omega⟩)) := by
  unfold val_main_v12 val_main_v11 val_main_v10 val_main_v9 val_main_v8 val_main_v7 val_main_v6 val_main_v5 val_main_v4 val_main_v3 val_main_v2 val_main_v1 val_main_v0 mix
  pointwise

open Cert.MergeRefIdeal.Read in
theorem refS (xa xb : FVec Ideal S32x2048 .bf16) (wa wb : FVec Ideal S2048x4096 .bf16) (g : FVec Ideal S32x8192 .bf16)
    (r : Fin 32) (n : Fin 4096) :
    val_main_v23 (F := Ideal) xa xb wa wb g (ix2 r n)
      = mix (fun k => xa (ix2 r k)) (fun k => xb (ix2 r k)) (fun k => wa (ix2 k n)) (fun k => wb (ix2 k n))
          (g (ix2 r ⟨n.val, by omega⟩)) (g (ix2 r ⟨4096 + n.val, by omega⟩)) := by
  unfold val_main_v23 val_main_v22 val_main_v21 val_main_v20 val_main_v19 val_main_v18 val_main_v17 val_main_v16 val_main_v15 val_main_v14 val_main_v13 val_main_v1 val_main_v0 mix
  pointwise

theorem outP_at (xa xb : FVec Ideal S1024x2048 .bf16) (wa wb : FVec Ideal S2048x512 .bf16) (ga gb : FVec Ideal S1024x512 .bf16)
    (r : Fin 1024) (n : Fin 512) :
    outP (F := Ideal) xa xb wa wb ga gb (ix2 r n)
      = mix (fun k => xa (ix2 r k)) (fun k => xb (ix2 r k)) (fun k => wa (ix2 k n)) (fun k => wb (ix2 k n))
          (ga (ix2 r n)) (gb (ix2 r n)) := by
  unfold outP
  rw [View.canon_unit_zero (by funext a; fin_cases a <;> rfl)]
  unfold k0_pay1 mix
  pointwise

theorem outS_at (xa xb : FVec Ideal S32x2048 .bf16) (wa wb : FVec Ideal S2048x512 .bf16) (ga gb : FVec Ideal S32x512 .bf16)
    (r : Fin 32) (n : Fin 512) :
    outS (F := Ideal) xa xb wa wb ga gb (ix2 r n)
      = mix (fun k => xa (ix2 r k)) (fun k => xb (ix2 r k)) (fun k => wa (ix2 k n)) (fun k => wb (ix2 k n))
          (ga (ix2 r n)) (gb (ix2 r n)) := by
  unfold outS
  rw [View.canon_unit_zero (by funext a; fin_cases a <;> rfl)]
  unfold k0_pay2 mix
  pointwise

abbrev ap (c : Dev nD) : FVec Ideal S8192x2048 .bf16 := m ((c : Thread nD τ).loc main_arg0)
abbrev xs (c : Dev nD) : FVec Ideal S32x2048 .bf16 := m ((c : Thread nD τ).loc main_arg1)
abbrev bp (c : Dev nD) : FVec Ideal S8192x2048 .bf16 := m ((c : Thread nD τ).loc main_arg2)
abbrev bs (c : Dev nD) : FVec Ideal S32x2048 .bf16 := m ((c : Thread nD τ).loc main_arg3)
abbrev wa (c : Dev nD) : FVec Ideal S2048x4096 .bf16 := m ((c : Thread nD τ).loc main_arg4)
abbrev wb (c : Dev nD) : FVec Ideal S2048x4096 .bf16 := m ((c : Thread nD τ).loc main_arg5)
abbrev gp (c : Dev nD) : FVec Ideal S8192x8192 .bf16 := m ((c : Thread nD τ).loc main_arg6)
abbrev gs (c : Dev nD) : FVec Ideal S32x8192 .bf16 := m ((c : Thread nD τ).loc main_arg7)

theorem at0 (c : Dev nD) (t : Fin cfg0.N) (i : Fin 8) (hi : i.val = (grid0.coords t 1).val) (r : Fin 1024) (k : Fin 2048) :
    iblk m c 0 t (ix2 r k) = ap m c (ix2 ⟨i.val * 1024 + r.val, by omega⟩ k) := by
  obtain ⟨e0, e1, e2, e3, e4, e5, e6, e7, e8, e9, e10, e11⟩ := idx t
  blk_ext [iblk, V, e0]

theorem at1 (c : Dev nD) (t : Fin cfg0.N) (i : Fin 8) (hi : i.val = (grid0.coords t 1).val) (r : Fin 1024) (k : Fin 2048) :
    iblk m c 1 t (ix2 r k) = bp m c (ix2 ⟨i.val * 1024 + r.val, by omega⟩ k) := by
  obtain ⟨e0, e1, e2, e3, e4, e5, e6, e7, e8, e9, e10, e11⟩ := idx t
  blk_ext [iblk, V, e1]

theorem at2 (c : Dev nD) (t : Fin cfg0.N) (r : Fin 32) (k : Fin 2048) :
    iblk m c 2 t (ix2 r k) = xs m c (ix2 r k) := by
  obtain ⟨e0, e1, e2, e3, e4, e5, e6, e7, e8, e9, e10, e11⟩ := idx t
  blk_ext [iblk, V, e2]

theorem at3 (c : Dev nD) (t : Fin cfg0.N) (r : Fin 32) (k : Fin 2048) :
    iblk m c 3 t (ix2 r k) = bs m c (ix2 r k) := by
  obtain ⟨e0, e1, e2, e3, e4, e5, e6, e7, e8, e9, e10, e11⟩ := idx t
  blk_ext [iblk, V, e3]

theorem at4 (c : Dev nD) (t : Fin cfg0.N) (j : Fin 8) (hj : j.val = (grid0.coords t 0).val) (k : Fin 2048) (n : Fin 512) :
    iblk m c 4 t (ix2 k n) = wa m c (ix2 k ⟨j.val * 512 + n.val, by omega⟩) := by
  obtain ⟨e0, e1, e2, e3, e4, e5, e6, e7, e8, e9, e10, e11⟩ := idx t
  blk_ext [iblk, V, e4]

theorem at5 (c : Dev nD) (t : Fin cfg0.N) (j : Fin 8) (hj : j.val = (grid0.coords t 0).val) (k : Fin 2048) (n : Fin 512) :
    iblk m c 5 t (ix2 k n) = wb m c (ix2 k ⟨j.val * 512 + n.val, by omega⟩) := by
  obtain ⟨e0, e1, e2, e3, e4, e5, e6, e7, e8, e9, e10, e11⟩ := idx t
  blk_ext [iblk, V, e5]

theorem at6 (c : Dev nD) (t : Fin cfg0.N) (i : Fin 8) (hi : i.val = (grid0.coords t 1).val)
    (j : Fin 8) (hj : j.val = (grid0.coords t 0).val) (r : Fin 1024) (n : Fin 512) :
    iblk m c 6 t (ix2 r n) = gp m c (ix2 ⟨i.val * 1024 + r.val, by omega⟩ ⟨j.val * 512 + n.val, by omega⟩) := by
  obtain ⟨e0, e1, e2, e3, e4, e5, e6, e7, e8, e9, e10, e11⟩ := idx t
  blk_ext [iblk, V, e6]

theorem at7 (c : Dev nD) (t : Fin cfg0.N) (i : Fin 8) (hi : i.val = (grid0.coords t 1).val)
    (j : Fin 8) (hj : j.val = (grid0.coords t 0).val) (r : Fin 1024) (n : Fin 512) :
    iblk m c 7 t (ix2 r n) = gp m c (ix2 ⟨i.val * 1024 + r.val, by omega⟩ ⟨4096 + (j.val * 512 + n.val), by omega⟩) := by
  obtain ⟨e0, e1, e2, e3, e4, e5, e6, e7, e8, e9, e10, e11⟩ := idx t
  blk_ext [iblk, V, e7]

theorem at8 (c : Dev nD) (t : Fin cfg0.N) (j : Fin 8) (hj : j.val = (grid0.coords t 0).val) (r : Fin 32) (n : Fin 512) :
    iblk m c 8 t (ix2 r n) = gs m c (ix2 r ⟨j.val * 512 + n.val, by omega⟩) := by
  obtain ⟨e0, e1, e2, e3, e4, e5, e6, e7, e8, e9, e10, e11⟩ := idx t
  blk_ext [iblk, V, e8]

theorem at9 (c : Dev nD) (t : Fin cfg0.N) (j : Fin 8) (hj : j.val = (grid0.coords t 0).val) (r : Fin 32) (n : Fin 512) :
    iblk m c 9 t (ix2 r n) = gs m c (ix2 r ⟨4096 + (j.val * 512 + n.val), by omega⟩) := by
  obtain ⟨e0, e1, e2, e3, e4, e5, e6, e7, e8, e9, e10, e11⟩ := idx t
  blk_ext [iblk, V, e9]

theorem final10 (c : Dev nD) :
    (dats m 0 c).arrAt 10 cfg0.N = Cert.MergeRefIdeal.Read.val_main_v12 (F := Ideal) (ap m c) (bp m c) (wa m c) (wb m c) (gp m c) := by
  refine (dats m 0 c).arrAt_eq_of_covers 10 _ (by decide +kernel) fun t hf y => ?_
  blk_simp
  rw [after10]
  obtain ⟨e0, e1, e2, e3, e4, e5, e6, e7, e8, e9, e10, e11⟩ := idx t
  obtain ⟨r, n, rfl⟩ : ∃ (r : Fin 1024) (n : Fin 512), y = (ix2 r n : S1024x512.Idx) := ⟨y 0, y 1, by blk_ext []⟩
  obtain ⟨i, hi⟩ : ∃ i : Fin 8, i.val = (grid0.coords t 1).val := ⟨grid0.coords t 1, rfl⟩
  obtain ⟨j, hj⟩ : ∃ j : Fin 8, j.val = (grid0.coords t 0).val := ⟨grid0.coords t 0, rfl⟩
  have eb : (win0_10.blk t).view.emb (ix2 r n : S1024x512.Idx)
      = (ix2 ⟨i.val * 1024 + r.val, by omega⟩ ⟨j.val * 512 + n.val, by omega⟩ : S8192x4096.Idx) := by
    blk_ext [e10]
  refine Eq.trans ?_ (congrArg (Cert.MergeRefIdeal.Read.val_main_v12 (F := Ideal) (ap m c) (bp m c) (wa m c) (wb m c) (gp m c)) eb.symm)
  rw [outP_at, refP]
  simp only [at0 m c t i hi, at1 m c t i hi, at4 m c t j hj, at5 m c t j hj, at6 m c t i hi j hj, at7 m c t i hi j hj]

theorem final11 (c : Dev nD) :
    (dats m 0 c).arrAt 11 cfg0.N = Cert.MergeRefIdeal.Read.val_main_v23 (F := Ideal) (xs m c) (bs m c) (wa m c) (wb m c) (gs m c) := by
  refine (dats m 0 c).arrAt_eq_of_covers 11 _ (by decide +kernel) fun t hf y => ?_
  blk_simp
  rw [after11]
  obtain ⟨e0, e1, e2, e3, e4, e5, e6, e7, e8, e9, e10, e11⟩ := idx t
  obtain ⟨r, n, rfl⟩ : ∃ (r : Fin 32) (n : Fin 512), y = (ix2 r n : S32x512.Idx) := ⟨y 0, y 1, by blk_ext []⟩
  obtain ⟨j, hj⟩ : ∃ j : Fin 8, j.val = (grid0.coords t 0).val := ⟨grid0.coords t 0, rfl⟩
  have eb : (win0_11.blk t).view.emb (ix2 r n : S32x512.Idx) = (ix2 r ⟨j.val * 512 + n.val, by omega⟩ : S32x4096.Idx) := by
    blk_ext [e11]
  refine Eq.trans ?_ (congrArg (Cert.MergeRefIdeal.Read.val_main_v23 (F := Ideal) (xs m c) (bs m c) (wa m c) (wb m c) (gs m c)) eb.symm)
  rw [outS_at, refS]
  have hs := hj.trans (start_coord t).symm
  simp only [at2, at3, at4 m c (start t) j hs, at5 m c (start t) j hs, at8 m c (start t) j hs, at9 m c (start t) j hs]

/-! ## The claims -/

/-- The kernel ends with every counter at zero and its arguments as they were, whatever the numbers. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The two programs have the same text. -/
theorem defs_bits : Cert.Merge.defs (F := Bits) = defs :=
  congrArg (Pipeline.defs pcfgs) (show Cert.Merge.defs₀ (F := Bits) = defs₀ from
    congrArg Defs.onTc (funext fun l => funext fun a => match l, a with | 0, (_, _) => rfl))

theorem frame_bits : Cert.quiescent_Merge (hMerge := Cert.Merge.Gen.facts) := fun m ρ _ => by
  rw [defs_bits]
  exact frame (F := Bits) m ρ

theorem frame_ideal : Cert.quiescent_MergeIdeal (hMergeIdeal := Cert.MergeIdeal.Gen.facts) := fun m ρ _ => frame m ρ

theorem frame_ref : Cert.quiescent_MergeRefIdeal (hMergeRefIdeal := Cert.MergeRefIdeal.Gen.facts) := fun m ρ _ =>
  (θ_run Cert.MergeRefIdeal.defs _ _).mono
    (fun r h => ⟨fun c => (h c).2.2, sem_eq_zero_of_no_sems (by decide) r.2⟩) (Cert.MergeRefIdeal.Value.run (F := Ideal) m ρ)

theorem value : Cert.algebraic_MergeIdeal_MergeRefIdeal (hMergeIdeal := Cert.MergeIdeal.Gen.facts)
    (hMergeRefIdeal := Cert.MergeRefIdeal.Gen.facts) := by
  intro m ρ m' ρ' _ hag
  refine ⟨fun c => (dats m 0 c).arrAt 10 cfg0.N, fun c => (dats m 0 c).arrAt 11 cfg0.N,
    (θ_run defs _ _).mono (fun r h c => ⟨(h.1.1 c).1 10, (h.1.1 c).1 11, h.2.1 c⟩) (θ_run_and (run m ρ) (frame m ρ)),
    (θ_run Cert.MergeRefIdeal.defs _ _).mono (fun r h c => ?_) (Cert.MergeRefIdeal.Value.run (F := Ideal) m' ρ')⟩
  obtain ⟨a0, a1, a2, a3, a4, a5, a6, a7⟩ := hag c
  refine ⟨(h c).1.trans ?_, (h c).2.1.trans ?_, (h c).2.2⟩
  · rw [Cert.MergeRefIdeal.Read.val_main_v12_eq]
    refine Eq.trans ?_ (final10 m c).symm
    rw [a0, a2, a4, a5, a6]
  · rw [Cert.MergeRefIdeal.Read.val_main_v23_eq]
    refine Eq.trans ?_ (final11 m c).symm
    rw [a1, a3, a4, a5, a7]

end Merge
-- ==== Proof.GatesRun.lean ====
/-
  The run of the projection of the gates: the prompt's block is stored at every point, the sample's at the first point of each
  run along the prompt, and carried from there to the point that writes it back.
-/
module

public import proofs.«01_k».proof.Proof.Gen.GatesIdeal.Skeleton
public import proofs.«01_k».proof.Proof.Gen.GatesIdeal.Frame
public import proofs.«01_k».proof.Proof.Gen.Gates
public import proofs.«01_k».proof.Proof.IdleOut

@[expose] public section

set_option maxRecDepth 16384

noncomputable section

namespace Gates

open Cert.GatesIdeal Cert.GatesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rX : Rect S1024x4096 := Rect.unit (s := S1024x4096) ![0, 0] S1024x4096.size inb_S1024x4096_S1024x4096_0_0
abbrev rS : Rect S32x4096 := Rect.unit (s := S32x4096) ![0, 0] S32x4096.size inb_S32x4096_S32x4096_0_0
abbrev rW : Rect S4096x1024 := Rect.unit (s := S4096x1024) ![0, 0] S4096x1024.size inb_S4096x1024_S4096x1024_0_0
abbrev rP : Rect S1024x1024 := Rect.unit (s := S1024x1024) ![0, 0] S1024x1024.size inb_S1024x1024_S1024x1024_0_0
abbrev rQ : Rect S32x1024 := Rect.unit (s := S32x1024) ![0, 0] S32x1024.size inb_S32x1024_S32x1024_0_0

/-- The prompt's block. -/
def outP (x : Vec F S1024x4096 .bf16) (w : Vec F S4096x1024 .bf16) : Vec F S1024x1024 .bf16 :=
  View.canon [⟨rP, k0_pay1 (View.ld x rX) (View.ld w rW)⟩]

/-- The sample's block. -/
def outS (x : Vec F S32x4096 .bf16) (w : Vec F S4096x1024 .bf16) : Vec F S32x1024 .bf16 :=
  View.canon [⟨rQ, k0_pay2 (View.ld x rS) (View.ld w rW)⟩]

theorem coverP (p : Vec F S1024x1024 .bf16) (y : S1024x1024.Idx) :
    ∃ pc ∈ ([⟨rP, p⟩] : List (View.Piece (Elt F) S1024x1024 .bf16)), y ∈ pc.1.set :=
  View.cover_of_tiled [⟨rP, p⟩] S1024x1024.size (by rfl) y

theorem coverS (p : Vec F S32x1024 .bf16) (y : S32x1024.Idx) :
    ∃ pc ∈ ([⟨rQ, p⟩] : List (View.Piece (Elt F) S32x1024 .bf16)), y ∈ pc.1.set :=
  View.cover_of_tiled [⟨rQ, p⟩] S32x1024.size (by rfl) y

set_option maxHeartbeats 1000000 in
/-- One point: the prompt's block is stored; the sample's where the condition holds, and kept elsewhere. -/
theorem body_run (c : Dev nD) (E : Set ℕ) (i : grid0.Coords) (a : Memref sig .tc .vmem S1024x4096 .bf16) (ha : a.IsWhole)
    (b : Memref sig .tc .vmem S32x4096 .bf16) (hb : b.IsWhole) (w : Memref sig .tc .vmem S4096x1024 .bf16) (hw : w.IsWhole)
    (p : Memref sig .tc .vmem S1024x1024 .bf16) (hp : p.IsWhole) (q : Memref sig .tc .vmem S32x1024 .bf16) (hq : q.IsWhole)
    (x0 : Vec F S1024x4096 .bf16) (x1 : Vec F S32x4096 .bf16) (x2 : Vec F S4096x1024 .bf16) (x4 : Vec F S32x1024 .bf16)
    (K : PUnit → sProp 𝕄) :
    iprop(owns (c : Thread nD τ) a fullShare x0 ∗ owns (c : Thread nD τ) b fullShare x1 ∗ owns (c : Thread nD τ) w fullShare x2
        ∗ (∃ d, owns (c : Thread nD τ) p fullShare d) ∗ owns (c : Thread nD τ) q fullShare x4
        ∗ (iprop(owns (c : Thread nD τ) a fullShare x0 ∗ owns (c : Thread nD τ) b fullShare x1 ∗ owns (c : Thread nD τ) w fullShare x2
          ∗ owns (c : Thread nD τ) p fullShare (outP x0 x2)
          ∗ owns (c : Thread nD τ) q fullShare (if k0_cond1 i = 1#1 then outS x1 x2 else x4)) -∗ K ⟨⟩))
      ⊢ wp frame (wpE (defs₀ (F := F)) Variants.none c none) E (cc0_proj_gates i a ha b hb w hw p hp q hq) K := by
  simp only [cc0_proj_gates_eq_skeleton]; unfold cc0_proj_gates_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  by_cases hc : k0_cond1 i = 1#1
  · rw [if_pos hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists _; isplitr; swap; · iexact H4
    ipureintro
    exact View.read_writes_eq_canon _ _ _ (coverS _)
  · rw [if_neg hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists f4; isplitr; · ipureintro; rfl
    iexact H4

/-- The first point of a point's run along the prompt. -/
def start (t : Fin cfg0.N) : Fin cfg0.N := ⟨t.val - t.val % 8, lt_of_le_of_lt (Nat.sub_le _ _) t.isLt⟩

/-- What the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP (iblk m c 0 t) (iblk m c 2 t)
    | ⟨4, _⟩ => outS (iblk m c 1 (start t)) (iblk m c 2 (start t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP (iblk m c 0 t) (iblk m c 2 t) := by
  dsimp only [dats]
theorem after4 (c : Dev nD) (t : Fin cfg0.N) :
    (dats m 0 c).after 4 t = outS (iblk m c 1 (start t)) (iblk m c 2 (start t)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The sample's block is stored at the first point of a run. -/
theorem cond_iff : ∀ t : Fin cfg0.N, k0_cond1 (grid0.coords t) = 1#1 ↔ t.val % 8 = 0 := by decide +kernel

theorem fresh_idle : ∀ t : Fin cfg0.N, cfg0.idle 4 (cfg0.grid.coords t) = true → cfg0.fresh 4 t.val = false := by
  decide +kernel

theorem idle_iff (t : Fin cfg0.N) : cfg0.idle 4 (cfg0.grid.coords t) = true ↔ ¬ t.val % 8 = 0 := by
  rw [← cond_iff]
  show (!(k0_cond1 (grid0.coords t) == 1#1)) = true ↔ _
  simp

theorem start_eq (t : Fin cfg0.N) (h : t.val % 8 = 0) : start t = t := Fin.ext (by simp [start, h])

theorem before4 (c : Dev nD) (t : Fin cfg0.N) (hi : cfg0.idle 4 (cfg0.grid.coords t) = true) (d) :
    (dats m 0 c).before 4 t d = (dats m 0 c).after 4 t :=
  Tail.before_of_carry (dats m 0 c) 4 rfl (fun _ _ => rfl) fresh_idle (fun t h0 hi => by
    have hs : start t = start ⟨t.val - 1, by omega⟩ := Fin.ext (by have := (idle_iff t).mp hi; simp only [start]; omega)
    rw [after4, after4, hs]) t hi d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- What the body makes of the sample's buffer is what the point is said to leave. -/
theorem leaves4 (c : Dev nD) (t : Fin cfg0.N) (d) :
    (if k0_cond1 (grid0.coords t) = 1#1 then outS (iblk m c 1 t) (iblk m c 2 t) else (dats m 0 c).before 4 t d)
      = (dats m 0 c).after 4 t := by
  by_cases h : t.val % 8 = 0
  · rw [if_pos ((cond_iff t).mpr h), after4, start_eq t h]
  · rw [if_neg (fun hc => h ((cond_iff t).mp hc)), before4 m c t ((idle_iff t).mpr h)]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (iblk m c 0 t) (iblk m c 1 t) (iblk m c 2 t)
    ((dats m 0 c).before 4 t d4) _)
  isplitl [H0]; · iexact H0
  isplitl [H1]; · iexact H1
  isplitl [H2]; · iexact H2
  isplitl [H3]; · iexists _; iexact H3
  isplitl [H4]; · iexact H4
  rw [leaves4]
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (Tail.leaves_of_after (dats m 0 c) 4 t (before4 m c t))
  iexact H4

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: every array ends at what the points leave, and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Gates
-- ==== Proof.GatesValue.lean ====
/- The two results of the projection of the gates. -/
module

public import proofs.«01_k».proof.Proof.GatesRun
public import proofs.«01_k».proof.Proof.Gen.Gates
public import proofs.«01_k».proof.Proof.Gen.GatesIdeal
public import proofs.«01_k».proof.Proof.Gen.GatesRefIdeal
public import proofs.«01_k».proof.Proof.Gen.GatesRefIdeal.Run
public import proofs.«01_k».proof.Proof.Gen.GatesRefIdeal.Read
public import proofs.«01_k».proof.Defs
public import Idealize.ShloMosaic.Lib.Pointwise
public import Idealize.ShloMosaic.Lib.Pipeline.ValueKit

@[expose] public section

set_option maxRecDepth 16384

namespace Gates

open Cert.GatesIdeal Cert.GatesIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![(grid0.coords t 1).val, 0]
   ∧ win0_1.index t = ![0, 0]
   ∧ win0_2.index t = ![0, 14 + (grid0.coords t 0).val]
   ∧ win0_3.index t = ![(grid0.coords t 1).val, (grid0.coords t 0).val]
   ∧ win0_4.index t = ![0, (grid0.coords t 0).val] :=
  (by decide +kernel : ∀ t : Fin grid0.N, _)

/-- A run along the prompt keeps the weight's columns. -/
theorem start_coord : ∀ t : Fin cfg0.N, (grid0.coords (start t) 0).val = (grid0.coords t 0).val :=
  (by decide +kernel : ∀ t : Fin grid0.N, _)

theorem w_in (w : FVec Ideal S2x4096x22528 .f32) (k : Fin 4096) (n : Fin 8192) :
    Cert.GatesRefIdeal.Read.val_main_v2 (F := Ideal) w (ix2 k n) = w (ix3 0 k ⟨14336 + n.val, by omega⟩) := by
  unfold Cert.GatesRefIdeal.Read.val_main_v2 Cert.GatesRefIdeal.Read.val_main_v1
  pointwise

open Cert.GatesRefIdeal.Read in
theorem refP (x : FVec Ideal S8192x4096 .bf16) (w : FVec Ideal S2x4096x22528 .f32) (r : Fin 8192) (n : Fin 8192) :
    val_main_v10 (F := Ideal) x w (ix2 r n) = Ideal.logistic (∑ k : Fin 4096, x (ix2 r k) * w (ix3 0 k ⟨14336 + n.val, by omega⟩)) := by
  unfold val_main_v10 val_main_v9 val_main_v8 val_main_v7 val_main_v6 val_main_v5 val_main_v4 val_main_v3 val_main_v0 val_main_cst val_main_cst_0
  pointwise [w_in]
  rfl

open Cert.GatesRefIdeal.Read in
theorem refS (x : FVec Ideal S32x4096 .bf16) (w : FVec Ideal S2x4096x22528 .f32) (r : Fin 32) (n : Fin 8192) :
    val_main_v21 (F := Ideal) x w (ix2 r n) = Ideal.logistic (∑ k : Fin 4096, x (ix2 r k) * w (ix3 0 k ⟨14336 + n.val, by omega⟩)) := by
  unfold val_main_v21 val_main_v20 val_main_v19 val_main_v18 val_main_v17 val_main_v16 val_main_v15 val_main_v14 val_main_v11 val_main_cst_1 val_main_cst_2
  pointwise [show val_main_v13 (F := Ideal) w = val_main_v2 (F := Ideal) w from rfl, w_in]
  rfl

theorem outP_at (x : FVec Ideal S1024x4096 .bf16) (w : FVec Ideal S4096x1024 .bf16) (r : Fin 1024) (n : Fin 1024) :
    outP (F := Ideal) x w (ix2 r n) = Ideal.logistic (∑ k : Fin 4096, x (ix2 r k) * w (ix2 k n)) := by
  unfold outP
  rw [View.canon_unit_zero (by funext a; fin_cases a <;> rfl)]
  unfold k0_pay1
  pointwise

theorem outS_at (x : FVec Ideal S32x4096 .bf16) (w : FVec Ideal S4096x1024 .bf16) (r : Fin 32) (n : Fin 1024) :
    outS (F := Ideal) x w (ix2 r n) = Ideal.logistic (∑ k : Fin 4096, x (ix2 r k) * w (ix2 k n)) := by
  unfold outS
  rw [View.canon_unit_zero (by funext a; fin_cases a <;> rfl)]
  unfold k0_pay2
  pointwise

abbrev xp (c : Dev nD) : FVec Ideal S8192x4096 .bf16 := m ((c : Thread nD τ).loc main_arg0)
abbrev xs (c : Dev nD) : FVec Ideal S32x4096 .bf16 := m ((c : Thread nD τ).loc main_arg1)
abbrev wt (c : Dev nD) : FVec Ideal S2x4096x22528 .f32 := m ((c : Thread nD τ).loc main_arg2)

theorem V_w (c : Dev nD) (k : Fin 4096) (n : Fin 22528) : V m c main_v2 (ix2 k n) = wt m c (ix3 0 k n) := by
  have e : V m c main_v2 = truncf .bf16 (shapeCast S4096x22528 (extractStridedSlice S1x4096x22528 ![0, 0, 0] (wt m c)
      slices_S2x4096x22528_S1x4096x22528_0_0_0) shapeCasts_S1x4096x22528_S4096x22528) bitsLt_bf16_f32 := by
    show StableHlo.after hostOps0 (fun b => m (c, b)) (Proc.tc.devRef main_v2) = _
    after_results
    rfl
  rw [e]
  pointwise

theorem x_at (c : Dev nD) (t : Fin cfg0.N) (i : Fin 8) (hi : i.val = (grid0.coords t 1).val) (r : Fin 1024) (k : Fin 4096) :
    iblk m c 0 t (ix2 r k) = xp m c (ix2 ⟨i.val * 1024 + r.val, by omega⟩ k) := by
  obtain ⟨e0, e1, e2, e3, e4⟩ := idx t
  blk_ext [iblk, V, e0]

theorem s_at (c : Dev nD) (t : Fin cfg0.N) (r : Fin 32) (k : Fin 4096) :
    iblk m c 1 t (ix2 r k) = xs m c (ix2 r k) := by
  obtain ⟨e0, e1, e2, e3, e4⟩ := idx t
  blk_ext [iblk, V, e1]

theorem w_at (c : Dev nD) (t : Fin cfg0.N) (j : Fin 8) (hj : j.val = (grid0.coords t 0).val) (k : Fin 4096) (n : Fin 1024) :
    iblk m c 2 t (ix2 k n) = wt m c (ix3 0 k ⟨14336 + (j.val * 1024 + n.val), by omega⟩) := by
  rw [← V_w]
  obtain ⟨e0, e1, e2, e3, e4⟩ := idx t
  blk_ext [iblk, V, e2]

theorem final3 (c : Dev nD) : (dats m 0 c).arrAt 3 cfg0.N = Cert.GatesRefIdeal.Read.val_main_v10 (F := Ideal) (xp m c) (wt m c) := by
  refine (dats m 0 c).arrAt_eq_of_covers 3 _ (by decide +kernel) fun t hf y => ?_
  blk_simp
  rw [after3]
  obtain ⟨e0, e1, e2, e3, e4⟩ := idx t
  obtain ⟨r, n, rfl⟩ : ∃ r n : Fin 1024, y = (ix2 r n : S1024x1024.Idx) := ⟨y 0, y 1, by blk_ext []⟩
  obtain ⟨i, hi⟩ : ∃ i : Fin 8, i.val = (grid0.coords t 1).val := ⟨grid0.coords t 1, rfl⟩
  obtain ⟨j, hj⟩ : ∃ j : Fin 8, j.val = (grid0.coords t 0).val := ⟨grid0.coords t 0, rfl⟩
  have eb : (win0_3.blk t).view.emb (ix2 r n : S1024x1024.Idx)
      = (ix2 ⟨i.val * 1024 + r.val, by omega⟩ ⟨j.val * 1024 + n.val, by omega⟩ : S8192x8192.Idx) := by
    blk_ext [e3]
  refine Eq.trans ?_ (congrArg (Cert.GatesRefIdeal.Read.val_main_v10 (F := Ideal) (xp m c) (wt m c)) eb.symm)
  rw [outP_at, refP]
  simp only [x_at m c t i hi, w_at m c t j hj]

theorem final4 (c : Dev nD) : (dats m 0 c).arrAt 4 cfg0.N = Cert.GatesRefIdeal.Read.val_main_v21 (F := Ideal) (xs m c) (wt m c) := by
  refine (dats m 0 c).arrAt_eq_of_covers 4 _ (by decide +kernel) fun t hf y => ?_
  blk_simp
  rw [after4]
  obtain ⟨e0, e1, e2, e3, e4⟩ := idx t
  obtain ⟨r, n, rfl⟩ : ∃ (r : Fin 32) (n : Fin 1024), y = (ix2 r n : S32x1024.Idx) := ⟨y 0, y 1, by blk_ext []⟩
  obtain ⟨j, hj⟩ : ∃ j : Fin 8, j.val = (grid0.coords t 0).val := ⟨grid0.coords t 0, rfl⟩
  have eb : (win0_4.blk t).view.emb (ix2 r n : S32x1024.Idx) = (ix2 r ⟨j.val * 1024 + n.val, by omega⟩ : S32x8192.Idx) := by
    blk_ext [e4]
  refine Eq.trans ?_ (congrArg (Cert.GatesRefIdeal.Read.val_main_v21 (F := Ideal) (xs m c) (wt m c)) eb.symm)
  rw [outS_at, refS]
  simp only [s_at, w_at m c (start t) j (hj.trans (start_coord t).symm)]

/-! ## The claims -/

/-- The kernel ends with every counter at zero and its arguments as they were, whatever the numbers. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The two programs have the same text. -/
theorem defs_bits : Cert.Gates.defs (F := Bits) = defs :=
  congrArg (Pipeline.defs pcfgs) (show Cert.Gates.defs₀ (F := Bits) = defs₀ from
    congrArg Defs.onTc (funext fun l => funext fun a => match l, a with | 0, (_, _) => rfl))

theorem frame_bits : Cert.quiescent_Gates (hGates := Cert.Gates.Gen.facts) := fun m ρ _ => by
  rw [defs_bits]
  exact frame (F := Bits) m ρ

theorem frame_ideal : Cert.quiescent_GatesIdeal (hGatesIdeal := Cert.GatesIdeal.Gen.facts) := fun m ρ _ => frame m ρ

theorem frame_ref : Cert.quiescent_GatesRefIdeal (hGatesRefIdeal := Cert.GatesRefIdeal.Gen.facts) := fun m ρ _ =>
  (θ_run Cert.GatesRefIdeal.defs _ _).mono
    (fun r h => ⟨fun c => (h c).2.2, sem_eq_zero_of_no_sems (by decide) r.2⟩) (Cert.GatesRefIdeal.Value.run (F := Ideal) m ρ)

theorem value : Cert.algebraic_GatesIdeal_GatesRefIdeal (hGatesIdeal := Cert.GatesIdeal.Gen.facts)
    (hGatesRefIdeal := Cert.GatesRefIdeal.Gen.facts) := by
  intro m ρ m' ρ' _ hag
  refine ⟨fun c => (dats m 0 c).arrAt 3 cfg0.N, fun c => (dats m 0 c).arrAt 4 cfg0.N,
    (θ_run defs _ _).mono (fun r h c => ⟨(h.1.1 c).1 3, (h.1.1 c).1 4, h.2.1 c⟩) (θ_run_and (run m ρ) (frame m ρ)),
    (θ_run Cert.GatesRefIdeal.defs _ _).mono (fun r h c => ?_) (Cert.GatesRefIdeal.Value.run (F := Ideal) m' ρ')⟩
  obtain ⟨a0, a1, a2⟩ := hag c
  refine ⟨(h c).1.trans ?_, (h c).2.1.trans ?_, (h c).2.2⟩
  · rw [Cert.GatesRefIdeal.Read.val_main_v10_eq]
    refine Eq.trans ?_ (final3 m c).symm
    rw [a0, a2]
  · rw [Cert.GatesRefIdeal.Read.val_main_v21_eq]
    refine Eq.trans ?_ (final4 m c).symm
    rw [a1, a2]

end Gates
-- ==== Proof.HgrnRun.lean ====
/-
  The run of the projection of the recurrence: the prompt's block is stored at every point, the sample's at the first point of each
  run along the prompt, and carried from there to the point that writes it back.
-/
module

public import proofs.«01_k».proof.Proof.Gen.HgrnIdeal.Skeleton
public import proofs.«01_k».proof.Proof.Gen.HgrnIdeal.Frame
public import proofs.«01_k».proof.Proof.Gen.Hgrn
public import proofs.«01_k».proof.Proof.IdleOut

@[expose] public section

set_option maxRecDepth 16384

noncomputable section

namespace Hgrn

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rX : Rect S1024x4096 := Rect.unit (s := S1024x4096) ![0, 0] S1024x4096.size inb_S1024x4096_S1024x4096_0_0
abbrev rS : Rect S32x4096 := Rect.unit (s := S32x4096) ![0, 0] S32x4096.size inb_S32x4096_S32x4096_0_0
abbrev rW : Rect S4096x1024 := Rect.unit (s := S4096x1024) ![0, 0] S4096x1024.size inb_S4096x1024_S4096x1024_0_0
abbrev rP : Rect S1024x1024 := Rect.unit (s := S1024x1024) ![0, 0] S1024x1024.size inb_S1024x1024_S1024x1024_0_0
abbrev rQ : Rect S32x1024 := Rect.unit (s := S32x1024) ![0, 0] S32x1024.size inb_S32x1024_S32x1024_0_0

/-- The prompt's block. -/
def outP (x : Vec F S1024x4096 .bf16) (w : Vec F S4096x1024 .bf16) : Vec F S1024x1024 .f32 :=
  View.canon [⟨rP, k0_pay1 (View.ld x rX) (View.ld w rW)⟩]

/-- The sample's block. -/
def outS (x : Vec F S32x4096 .bf16) (w : Vec F S4096x1024 .bf16) : Vec F S32x1024 .f32 :=
  View.canon [⟨rQ, k0_pay2 (View.ld x rS) (View.ld w rW)⟩]

theorem coverP (p : Vec F S1024x1024 .f32) (y : S1024x1024.Idx) :
    ∃ pc ∈ ([⟨rP, p⟩] : List (View.Piece (Elt F) S1024x1024 .f32)), y ∈ pc.1.set :=
  View.cover_of_tiled [⟨rP, p⟩] S1024x1024.size (by rfl) y

theorem coverS (p : Vec F S32x1024 .f32) (y : S32x1024.Idx) :
    ∃ pc ∈ ([⟨rQ, p⟩] : List (View.Piece (Elt F) S32x1024 .f32)), y ∈ pc.1.set :=
  View.cover_of_tiled [⟨rQ, p⟩] S32x1024.size (by rfl) y

set_option maxHeartbeats 1000000 in
/-- One point: the prompt's block is stored; the sample's where the condition holds, and kept elsewhere. -/
theorem body_run (c : Dev nD) (E : Set ℕ) (i : grid0.Coords) (a : Memref sig .tc .vmem S1024x4096 .bf16) (ha : a.IsWhole)
    (b : Memref sig .tc .vmem S32x4096 .bf16) (hb : b.IsWhole) (w : Memref sig .tc .vmem S4096x1024 .bf16) (hw : w.IsWhole)
    (p : Memref sig .tc .vmem S1024x1024 .f32) (hp : p.IsWhole) (q : Memref sig .tc .vmem S32x1024 .f32) (hq : q.IsWhole)
    (x0 : Vec F S1024x4096 .bf16) (x1 : Vec F S32x4096 .bf16) (x2 : Vec F S4096x1024 .bf16) (x4 : Vec F S32x1024 .f32)
    (K : PUnit → sProp 𝕄) :
    iprop(owns (c : Thread nD τ) a fullShare x0 ∗ owns (c : Thread nD τ) b fullShare x1 ∗ owns (c : Thread nD τ) w fullShare x2
        ∗ (∃ d, owns (c : Thread nD τ) p fullShare d) ∗ owns (c : Thread nD τ) q fullShare x4
        ∗ (iprop(owns (c : Thread nD τ) a fullShare x0 ∗ owns (c : Thread nD τ) b fullShare x1 ∗ owns (c : Thread nD τ) w fullShare x2
          ∗ owns (c : Thread nD τ) p fullShare (outP x0 x2)
          ∗ owns (c : Thread nD τ) q fullShare (if k0_cond1 i = 1#1 then outS x1 x2 else x4)) -∗ K ⟨⟩))
      ⊢ wp frame (wpE (defs₀ (F := F)) Variants.none c none) E (cc0_proj_hgrn i a ha b hb w hw p hp q hq) K := by
  simp only [cc0_proj_hgrn_eq_skeleton]; unfold cc0_proj_hgrn_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  by_cases hc : k0_cond1 i = 1#1
  · rw [if_pos hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists _; isplitr; swap; · iexact H4
    ipureintro
    exact View.read_writes_eq_canon _ _ _ (coverS _)
  · rw [if_neg hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists f4; isplitr; · ipureintro; rfl
    iexact H4

/-- The first point of a point's run along the prompt. -/
def start (t : Fin cfg0.N) : Fin cfg0.N := ⟨t.val - t.val % 8, lt_of_le_of_lt (Nat.sub_le _ _) t.isLt⟩

/-- What the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP (iblk m c 0 t) (iblk m c 2 t)
    | ⟨4, _⟩ => outS (iblk m c 1 (start t)) (iblk m c 2 (start t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP (iblk m c 0 t) (iblk m c 2 t) := by
  dsimp only [dats]
theorem after4 (c : Dev nD) (t : Fin cfg0.N) :
    (dats m 0 c).after 4 t = outS (iblk m c 1 (start t)) (iblk m c 2 (start t)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The sample's block is stored at the first point of a run. -/
theorem cond_iff : ∀ t : Fin cfg0.N, k0_cond1 (grid0.coords t) = 1#1 ↔ t.val % 8 = 0 := by decide +kernel

theorem fresh_idle : ∀ t : Fin cfg0.N, cfg0.idle 4 (cfg0.grid.coords t) = true → cfg0.fresh 4 t.val = false := by
  decide +kernel

theorem idle_iff (t : Fin cfg0.N) : cfg0.idle 4 (cfg0.grid.coords t) = true ↔ ¬ t.val % 8 = 0 := by
  rw [← cond_iff]
  show (!(k0_cond1 (grid0.coords t) == 1#1)) = true ↔ _
  simp

theorem start_eq (t : Fin cfg0.N) (h : t.val % 8 = 0) : start t = t := Fin.ext (by simp [start, h])

theorem before4 (c : Dev nD) (t : Fin cfg0.N) (hi : cfg0.idle 4 (cfg0.grid.coords t) = true) (d) :
    (dats m 0 c).before 4 t d = (dats m 0 c).after 4 t :=
  Tail.before_of_carry (dats m 0 c) 4 rfl (fun _ _ => rfl) fresh_idle (fun t h0 hi => by
    have hs : start t = start ⟨t.val - 1, by omega⟩ := Fin.ext (by have := (idle_iff t).mp hi; simp only [start]; omega)
    rw [after4, after4, hs]) t hi d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- What the body makes of the sample's buffer is what the point is said to leave. -/
theorem leaves4 (c : Dev nD) (t : Fin cfg0.N) (d) :
    (if k0_cond1 (grid0.coords t) = 1#1 then outS (iblk m c 1 t) (iblk m c 2 t) else (dats m 0 c).before 4 t d)
      = (dats m 0 c).after 4 t := by
  by_cases h : t.val % 8 = 0
  · rw [if_pos ((cond_iff t).mpr h), after4, start_eq t h]
  · rw [if_neg (fun hc => h ((cond_iff t).mp hc)), before4 m c t ((idle_iff t).mpr h)]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (iblk m c 0 t) (iblk m c 1 t) (iblk m c 2 t)
    ((dats m 0 c).before 4 t d4) _)
  isplitl [H0]; · iexact H0
  isplitl [H1]; · iexact H1
  isplitl [H2]; · iexact H2
  isplitl [H3]; · iexists _; iexact H3
  isplitl [H4]; · iexact H4
  rw [leaves4]
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (Tail.leaves_of_after (dats m 0 c) 4 t (before4 m c t))
  iexact H4

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: every array ends at what the points leave, and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Hgrn
-- ==== Proof.HgrnValue.lean ====
/- The two results of the projection of the recurrence. -/
module

public import proofs.«01_k».proof.Proof.HgrnRun
public import proofs.«01_k».proof.Proof.Gen.Hgrn
public import proofs.«01_k».proof.Proof.Gen.HgrnIdeal
public import proofs.«01_k».proof.Proof.Gen.HgrnRefIdeal
public import proofs.«01_k».proof.Proof.Gen.HgrnRefIdeal.Run
public import proofs.«01_k».proof.Proof.Gen.HgrnRefIdeal.Read
public import proofs.«01_k».proof.Defs
public import Idealize.ShloMosaic.Lib.Pointwise
public import Idealize.ShloMosaic.Lib.Pipeline.ValueKit

@[expose] public section

set_option maxRecDepth 16384

namespace Hgrn

open Cert.HgrnIdeal Cert.HgrnIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![(grid0.coords t 1).val, 0]
   ∧ win0_1.index t = ![0, 0]
   ∧ win0_2.index t = ![0, 6 + (grid0.coords t 0).val]
   ∧ win0_3.index t = ![(grid0.coords t 1).val, (grid0.coords t 0).val]
   ∧ win0_4.index t = ![0, (grid0.coords t 0).val] :=
  (by decide +kernel : ∀ t : Fin grid0.N, _)

/-- A run along the prompt keeps the weight's columns. -/
theorem start_coord : ∀ t : Fin cfg0.N, (grid0.coords (start t) 0).val = (grid0.coords t 0).val :=
  (by decide +kernel : ∀ t : Fin grid0.N, _)

theorem w_in (w : FVec Ideal S2x4096x22528 .f32) (k : Fin 4096) (n : Fin 8192) :
    Cert.HgrnRefIdeal.Read.val_main_v2 (F := Ideal) w (ix2 k n) = w (ix3 0 k ⟨6144 + n.val, by omega⟩) := by
  unfold Cert.HgrnRefIdeal.Read.val_main_v2 Cert.HgrnRefIdeal.Read.val_main_v1
  pointwise

open Cert.HgrnRefIdeal.Read in
theorem refP (x : FVec Ideal S8192x4096 .bf16) (w : FVec Ideal S2x4096x22528 .f32) (r : Fin 8192) (n : Fin 8192) :
    val_main_v3 (F := Ideal) x w (ix2 r n) = ∑ k : Fin 4096, x (ix2 r k) * w (ix3 0 k ⟨6144 + n.val, by omega⟩) := by
  unfold val_main_v3 val_main_v0
  pointwise [w_in]

open Cert.HgrnRefIdeal.Read in
theorem refS (x : FVec Ideal S32x4096 .bf16) (w : FVec Ideal S2x4096x22528 .f32) (r : Fin 32) (n : Fin 8192) :
    val_main_v7 (F := Ideal) x w (ix2 r n) = ∑ k : Fin 4096, x (ix2 r k) * w (ix3 0 k ⟨6144 + n.val, by omega⟩) := by
  unfold val_main_v7 val_main_v4
  pointwise [show val_main_v6 (F := Ideal) w = val_main_v2 (F := Ideal) w from rfl, w_in]

theorem outP_at (x : FVec Ideal S1024x4096 .bf16) (w : FVec Ideal S4096x1024 .bf16) (r : Fin 1024) (n : Fin 1024) :
    outP (F := Ideal) x w (ix2 r n) = ∑ k : Fin 4096, x (ix2 r k) * w (ix2 k n) := by
  unfold outP
  rw [View.canon_unit_zero (by funext a; fin_cases a <;> rfl)]
  unfold k0_pay1
  pointwise

theorem outS_at (x : FVec Ideal S32x4096 .bf16) (w : FVec Ideal S4096x1024 .bf16) (r : Fin 32) (n : Fin 1024) :
    outS (F := Ideal) x w (ix2 r n) = ∑ k : Fin 4096, x (ix2 r k) * w (ix2 k n) := by
  unfold outS
  rw [View.canon_unit_zero (by funext a; fin_cases a <;> rfl)]
  unfold k0_pay2
  pointwise

abbrev xp (c : Dev nD) : FVec Ideal S8192x4096 .bf16 := m ((c : Thread nD τ).loc main_arg0)
abbrev xs (c : Dev nD) : FVec Ideal S32x4096 .bf16 := m ((c : Thread nD τ).loc main_arg1)
abbrev wt (c : Dev nD) : FVec Ideal S2x4096x22528 .f32 := m ((c : Thread nD τ).loc main_arg2)

theorem V_w (c : Dev nD) (k : Fin 4096) (n : Fin 22528) : V m c main_v2 (ix2 k n) = wt m c (ix3 0 k n) := by
  have e : V m c main_v2 = truncf .bf16 (shapeCast S4096x22528 (extractStridedSlice S1x4096x22528 ![0, 0, 0] (wt m c)
      slices_S2x4096x22528_S1x4096x22528_0_0_0) shapeCasts_S1x4096x22528_S4096x22528) bitsLt_bf16_f32 := by
    show StableHlo.after hostOps0 (fun b => m (c, b)) (Proc.tc.devRef main_v2) = _
    after_results
    rfl
  rw [e]
  pointwise

theorem x_at (c : Dev nD) (t : Fin cfg0.N) (i : Fin 8) (hi : i.val = (grid0.coords t 1).val) (r : Fin 1024) (k : Fin 4096) :
    iblk m c 0 t (ix2 r k) = xp m c (ix2 ⟨i.val * 1024 + r.val, by omega⟩ k) := by
  obtain ⟨e0, e1, e2, e3, e4⟩ := idx t
  blk_ext [iblk, V, e0]

theorem s_at (c : Dev nD) (t : Fin cfg0.N) (r : Fin 32) (k : Fin 4096) :
    iblk m c 1 t (ix2 r k) = xs m c (ix2 r k) := by
  obtain ⟨e0, e1, e2, e3, e4⟩ := idx t
  blk_ext [iblk, V, e1]

theorem w_at (c : Dev nD) (t : Fin cfg0.N) (j : Fin 8) (hj : j.val = (grid0.coords t 0).val) (k : Fin 4096) (n : Fin 1024) :
    iblk m c 2 t (ix2 k n) = wt m c (ix3 0 k ⟨6144 + (j.val * 1024 + n.val), by omega⟩) := by
  rw [← V_w]
  obtain ⟨e0, e1, e2, e3, e4⟩ := idx t
  blk_ext [iblk, V, e2]

theorem final3 (c : Dev nD) : (dats m 0 c).arrAt 3 cfg0.N = Cert.HgrnRefIdeal.Read.val_main_v3 (F := Ideal) (xp m c) (wt m c) := by
  refine (dats m 0 c).arrAt_eq_of_covers 3 _ (by decide +kernel) fun t hf y => ?_
  blk_simp
  rw [after3]
  obtain ⟨e0, e1, e2, e3, e4⟩ := idx t
  obtain ⟨r, n, rfl⟩ : ∃ r n : Fin 1024, y = (ix2 r n : S1024x1024.Idx) := ⟨y 0, y 1, by blk_ext []⟩
  obtain ⟨i, hi⟩ : ∃ i : Fin 8, i.val = (grid0.coords t 1).val := ⟨grid0.coords t 1, rfl⟩
  obtain ⟨j, hj⟩ : ∃ j : Fin 8, j.val = (grid0.coords t 0).val := ⟨grid0.coords t 0, rfl⟩
  have eb : (win0_3.blk t).view.emb (ix2 r n : S1024x1024.Idx)
      = (ix2 ⟨i.val * 1024 + r.val, by omega⟩ ⟨j.val * 1024 + n.val, by omega⟩ : S8192x8192.Idx) := by
    blk_ext [e3]
  refine Eq.trans ?_ (congrArg (Cert.HgrnRefIdeal.Read.val_main_v3 (F := Ideal) (xp m c) (wt m c)) eb.symm)
  rw [outP_at, refP]
  simp only [x_at m c t i hi, w_at m c t j hj]

theorem final4 (c : Dev nD) : (dats m 0 c).arrAt 4 cfg0.N = Cert.HgrnRefIdeal.Read.val_main_v7 (F := Ideal) (xs m c) (wt m c) := by
  refine (dats m 0 c).arrAt_eq_of_covers 4 _ (by decide +kernel) fun t hf y => ?_
  blk_simp
  rw [after4]
  obtain ⟨e0, e1, e2, e3, e4⟩ := idx t
  obtain ⟨r, n, rfl⟩ : ∃ (r : Fin 32) (n : Fin 1024), y = (ix2 r n : S32x1024.Idx) := ⟨y 0, y 1, by blk_ext []⟩
  obtain ⟨j, hj⟩ : ∃ j : Fin 8, j.val = (grid0.coords t 0).val := ⟨grid0.coords t 0, rfl⟩
  have eb : (win0_4.blk t).view.emb (ix2 r n : S32x1024.Idx) = (ix2 r ⟨j.val * 1024 + n.val, by omega⟩ : S32x8192.Idx) := by
    blk_ext [e4]
  refine Eq.trans ?_ (congrArg (Cert.HgrnRefIdeal.Read.val_main_v7 (F := Ideal) (xs m c) (wt m c)) eb.symm)
  rw [outS_at, refS]
  simp only [s_at, w_at m c (start t) j (hj.trans (start_coord t).symm)]

/-! ## The claims -/

/-- The kernel ends with every counter at zero and its arguments as they were, whatever the numbers. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The two programs have the same text. -/
theorem defs_bits : Cert.Hgrn.defs (F := Bits) = defs :=
  congrArg (Pipeline.defs pcfgs) (show Cert.Hgrn.defs₀ (F := Bits) = defs₀ from
    congrArg Defs.onTc (funext fun l => funext fun a => match l, a with | 0, (_, _) => rfl))

theorem frame_bits : Cert.quiescent_Hgrn (hHgrn := Cert.Hgrn.Gen.facts) := fun m ρ _ => by
  rw [defs_bits]
  exact frame (F := Bits) m ρ

theorem frame_ideal : Cert.quiescent_HgrnIdeal (hHgrnIdeal := Cert.HgrnIdeal.Gen.facts) := fun m ρ _ => frame m ρ

theorem frame_ref : Cert.quiescent_HgrnRefIdeal (hHgrnRefIdeal := Cert.HgrnRefIdeal.Gen.facts) := fun m ρ _ =>
  (θ_run Cert.HgrnRefIdeal.defs _ _).mono
    (fun r h => ⟨fun c => (h c).2.2, sem_eq_zero_of_no_sems (by decide) r.2⟩) (Cert.HgrnRefIdeal.Value.run (F := Ideal) m ρ)

theorem value : Cert.algebraic_HgrnIdeal_HgrnRefIdeal (hHgrnIdeal := Cert.HgrnIdeal.Gen.facts)
    (hHgrnRefIdeal := Cert.HgrnRefIdeal.Gen.facts) := by
  intro m ρ m' ρ' _ hag
  refine ⟨fun c => (dats m 0 c).arrAt 3 cfg0.N, fun c => (dats m 0 c).arrAt 4 cfg0.N,
    (θ_run defs _ _).mono (fun r h c => ⟨(h.1.1 c).1 3, (h.1.1 c).1 4, h.2.1 c⟩) (θ_run_and (run m ρ) (frame m ρ)),
    (θ_run Cert.HgrnRefIdeal.defs _ _).mono (fun r h c => ?_) (Cert.HgrnRefIdeal.Value.run (F := Ideal) m' ρ')⟩
  obtain ⟨a0, a1, a2⟩ := hag c
  refine ⟨(h c).1.trans ?_, (h c).2.1.trans ?_, (h c).2.2⟩
  · rw [Cert.HgrnRefIdeal.Read.val_main_v3_eq]
    refine Eq.trans ?_ (final3 m c).symm
    rw [a0, a2]
  · rw [Cert.HgrnRefIdeal.Read.val_main_v7_eq]
    refine Eq.trans ?_ (final4 m c).symm
    rw [a1, a2]

end Hgrn
-- ==== Proof.QueryRun.lean ====
/-
  The run of the projection of the queries: the prompt's block is stored at every point, the sample's at the first point of each
  run along the prompt, and carried from there to the point that writes it back.
-/
module

public import proofs.«01_k».proof.Proof.Gen.QueryIdeal.Skeleton
public import proofs.«01_k».proof.Proof.Gen.QueryIdeal.Frame
public import proofs.«01_k».proof.Proof.Gen.Query
public import proofs.«01_k».proof.Proof.IdleOut

@[expose] public section

set_option maxRecDepth 16384

noncomputable section

namespace Query

open Cert.QueryIdeal Cert.QueryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rX : Rect S1024x4096 := Rect.unit (s := S1024x4096) ![0, 0] S1024x4096.size inb_S1024x4096_S1024x4096_0_0
abbrev rS : Rect S32x4096 := Rect.unit (s := S32x4096) ![0, 0] S32x4096.size inb_S32x4096_S32x4096_0_0
abbrev rW : Rect S4096x1024 := Rect.unit (s := S4096x1024) ![0, 0] S4096x1024.size inb_S4096x1024_S4096x1024_0_0
abbrev rP : Rect S1024x1024 := Rect.unit (s := S1024x1024) ![0, 0] S1024x1024.size inb_S1024x1024_S1024x1024_0_0
abbrev rQ : Rect S32x1024 := Rect.unit (s := S32x1024) ![0, 0] S32x1024.size inb_S32x1024_S32x1024_0_0

/-- The prompt's block. -/
def outP (x : Vec F S1024x4096 .bf16) (w : Vec F S4096x1024 .bf16) : Vec F S1024x1024 .f32 :=
  View.canon [⟨rP, k0_pay1 (View.ld x rX) (View.ld w rW)⟩]

/-- The sample's block. -/
def outS (x : Vec F S32x4096 .bf16) (w : Vec F S4096x1024 .bf16) : Vec F S32x1024 .f32 :=
  View.canon [⟨rQ, k0_pay2 (View.ld x rS) (View.ld w rW)⟩]

theorem coverP (p : Vec F S1024x1024 .f32) (y : S1024x1024.Idx) :
    ∃ pc ∈ ([⟨rP, p⟩] : List (View.Piece (Elt F) S1024x1024 .f32)), y ∈ pc.1.set :=
  View.cover_of_tiled [⟨rP, p⟩] S1024x1024.size (by rfl) y

theorem coverS (p : Vec F S32x1024 .f32) (y : S32x1024.Idx) :
    ∃ pc ∈ ([⟨rQ, p⟩] : List (View.Piece (Elt F) S32x1024 .f32)), y ∈ pc.1.set :=
  View.cover_of_tiled [⟨rQ, p⟩] S32x1024.size (by rfl) y

set_option maxHeartbeats 1000000 in
/-- One point: the prompt's block is stored; the sample's where the condition holds, and kept elsewhere. -/
theorem body_run (c : Dev nD) (E : Set ℕ) (i : grid0.Coords) (a : Memref sig .tc .vmem S1024x4096 .bf16) (ha : a.IsWhole)
    (b : Memref sig .tc .vmem S32x4096 .bf16) (hb : b.IsWhole) (w : Memref sig .tc .vmem S4096x1024 .bf16) (hw : w.IsWhole)
    (p : Memref sig .tc .vmem S1024x1024 .f32) (hp : p.IsWhole) (q : Memref sig .tc .vmem S32x1024 .f32) (hq : q.IsWhole)
    (x0 : Vec F S1024x4096 .bf16) (x1 : Vec F S32x4096 .bf16) (x2 : Vec F S4096x1024 .bf16) (x4 : Vec F S32x1024 .f32)
    (K : PUnit → sProp 𝕄) :
    iprop(owns (c : Thread nD τ) a fullShare x0 ∗ owns (c : Thread nD τ) b fullShare x1 ∗ owns (c : Thread nD τ) w fullShare x2
        ∗ (∃ d, owns (c : Thread nD τ) p fullShare d) ∗ owns (c : Thread nD τ) q fullShare x4
        ∗ (iprop(owns (c : Thread nD τ) a fullShare x0 ∗ owns (c : Thread nD τ) b fullShare x1 ∗ owns (c : Thread nD τ) w fullShare x2
          ∗ owns (c : Thread nD τ) p fullShare (outP x0 x2)
          ∗ owns (c : Thread nD τ) q fullShare (if k0_cond1 i = 1#1 then outS x1 x2 else x4)) -∗ K ⟨⟩))
      ⊢ wp frame (wpE (defs₀ (F := F)) Variants.none c none) E (cc0_proj_q i a ha b hb w hw p hp q hq) K := by
  simp only [cc0_proj_q_eq_skeleton]; unfold cc0_proj_q_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  by_cases hc : k0_cond1 i = 1#1
  · rw [if_pos hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists _; isplitr; swap; · iexact H4
    ipureintro
    exact View.read_writes_eq_canon _ _ _ (coverS _)
  · rw [if_neg hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists f4; isplitr; · ipureintro; rfl
    iexact H4

/-- The first point of a point's run along the prompt. -/
def start (t : Fin cfg0.N) : Fin cfg0.N := ⟨t.val - t.val % 8, lt_of_le_of_lt (Nat.sub_le _ _) t.isLt⟩

/-- What the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP (iblk m c 0 t) (iblk m c 2 t)
    | ⟨4, _⟩ => outS (iblk m c 1 (start t)) (iblk m c 2 (start t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP (iblk m c 0 t) (iblk m c 2 t) := by
  dsimp only [dats]
theorem after4 (c : Dev nD) (t : Fin cfg0.N) :
    (dats m 0 c).after 4 t = outS (iblk m c 1 (start t)) (iblk m c 2 (start t)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The sample's block is stored at the first point of a run. -/
theorem cond_iff : ∀ t : Fin cfg0.N, k0_cond1 (grid0.coords t) = 1#1 ↔ t.val % 8 = 0 := by decide +kernel

theorem fresh_idle : ∀ t : Fin cfg0.N, cfg0.idle 4 (cfg0.grid.coords t) = true → cfg0.fresh 4 t.val = false := by
  decide +kernel

theorem idle_iff (t : Fin cfg0.N) : cfg0.idle 4 (cfg0.grid.coords t) = true ↔ ¬ t.val % 8 = 0 := by
  rw [← cond_iff]
  show (!(k0_cond1 (grid0.coords t) == 1#1)) = true ↔ _
  simp

theorem start_eq (t : Fin cfg0.N) (h : t.val % 8 = 0) : start t = t := Fin.ext (by simp [start, h])

theorem before4 (c : Dev nD) (t : Fin cfg0.N) (hi : cfg0.idle 4 (cfg0.grid.coords t) = true) (d) :
    (dats m 0 c).before 4 t d = (dats m 0 c).after 4 t :=
  Tail.before_of_carry (dats m 0 c) 4 rfl (fun _ _ => rfl) fresh_idle (fun t h0 hi => by
    have hs : start t = start ⟨t.val - 1, by omega⟩ := Fin.ext (by have := (idle_iff t).mp hi; simp only [start]; omega)
    rw [after4, after4, hs]) t hi d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- What the body makes of the sample's buffer is what the point is said to leave. -/
theorem leaves4 (c : Dev nD) (t : Fin cfg0.N) (d) :
    (if k0_cond1 (grid0.coords t) = 1#1 then outS (iblk m c 1 t) (iblk m c 2 t) else (dats m 0 c).before 4 t d)
      = (dats m 0 c).after 4 t := by
  by_cases h : t.val % 8 = 0
  · rw [if_pos ((cond_iff t).mpr h), after4, start_eq t h]
  · rw [if_neg (fun hc => h ((cond_iff t).mp hc)), before4 m c t ((idle_iff t).mpr h)]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (iblk m c 0 t) (iblk m c 1 t) (iblk m c 2 t)
    ((dats m 0 c).before 4 t d4) _)
  isplitl [H0]; · iexact H0
  isplitl [H1]; · iexact H1
  isplitl [H2]; · iexact H2
  isplitl [H3]; · iexists _; iexact H3
  isplitl [H4]; · iexact H4
  rw [leaves4]
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (Tail.leaves_of_after (dats m 0 c) 4 t (before4 m c t))
  iexact H4

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: every array ends at what the points leave, and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Query
-- ==== Proof.QueryValue.lean ====
/- The two results of the projection of the queries. -/
module

public import proofs.«01_k».proof.Proof.QueryRun
public import proofs.«01_k».proof.Proof.Gen.Query
public import proofs.«01_k».proof.Proof.Gen.QueryIdeal
public import proofs.«01_k».proof.Proof.Gen.QueryRefIdeal
public import proofs.«01_k».proof.Proof.Gen.QueryRefIdeal.Run
public import proofs.«01_k».proof.Proof.Gen.QueryRefIdeal.Read
public import proofs.«01_k».proof.Defs
public import Idealize.ShloMosaic.Lib.Pointwise
public import Idealize.ShloMosaic.Lib.Pipeline.ValueKit

@[expose] public section

set_option maxRecDepth 16384

namespace Query

open Cert.QueryIdeal Cert.QueryIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![(grid0.coords t 1).val, 0]
   ∧ win0_1.index t = ![0, 0]
   ∧ win0_2.index t = ![0, (grid0.coords t 0).val]
   ∧ win0_3.index t = ![(grid0.coords t 1).val, (grid0.coords t 0).val]
   ∧ win0_4.index t = ![0, (grid0.coords t 0).val] :=
  (by decide +kernel : ∀ t : Fin grid0.N, _)

/-- A run along the prompt keeps the weight's columns. -/
theorem start_coord : ∀ t : Fin cfg0.N, (grid0.coords (start t) 0).val = (grid0.coords t 0).val :=
  (by decide +kernel : ∀ t : Fin grid0.N, _)

theorem w_in (w : FVec Ideal S2x4096x22528 .f32) (k : Fin 4096) (n : Fin 2048) :
    Cert.QueryRefIdeal.Read.val_main_v2 (F := Ideal) w (ix2 k n) = w (ix3 0 k ⟨n.val, by omega⟩) := by
  unfold Cert.QueryRefIdeal.Read.val_main_v2 Cert.QueryRefIdeal.Read.val_main_v1
  pointwise

open Cert.QueryRefIdeal.Read in
theorem refP (x : FVec Ideal S8192x4096 .bf16) (w : FVec Ideal S2x4096x22528 .f32) (r : Fin 8192) (n : Fin 2048) :
    val_main_v3 (F := Ideal) x w (ix2 r n) = ∑ k : Fin 4096, x (ix2 r k) * w (ix3 0 k ⟨n.val, by omega⟩) := by
  unfold val_main_v3 val_main_v0
  pointwise [w_in]

open Cert.QueryRefIdeal.Read in
theorem refS (x : FVec Ideal S32x4096 .bf16) (w : FVec Ideal S2x4096x22528 .f32) (r : Fin 32) (n : Fin 2048) :
    val_main_v7 (F := Ideal) x w (ix2 r n) = ∑ k : Fin 4096, x (ix2 r k) * w (ix3 0 k ⟨n.val, by omega⟩) := by
  unfold val_main_v7 val_main_v4
  pointwise [show val_main_v6 (F := Ideal) w = val_main_v2 (F := Ideal) w from rfl, w_in]

theorem outP_at (x : FVec Ideal S1024x4096 .bf16) (w : FVec Ideal S4096x1024 .bf16) (r : Fin 1024) (n : Fin 1024) :
    outP (F := Ideal) x w (ix2 r n) = ∑ k : Fin 4096, x (ix2 r k) * w (ix2 k n) := by
  unfold outP
  rw [View.canon_unit_zero (by funext a; fin_cases a <;> rfl)]
  unfold k0_pay1
  pointwise

theorem outS_at (x : FVec Ideal S32x4096 .bf16) (w : FVec Ideal S4096x1024 .bf16) (r : Fin 32) (n : Fin 1024) :
    outS (F := Ideal) x w (ix2 r n) = ∑ k : Fin 4096, x (ix2 r k) * w (ix2 k n) := by
  unfold outS
  rw [View.canon_unit_zero (by funext a; fin_cases a <;> rfl)]
  unfold k0_pay2
  pointwise

abbrev xp (c : Dev nD) : FVec Ideal S8192x4096 .bf16 := m ((c : Thread nD τ).loc main_arg0)
abbrev xs (c : Dev nD) : FVec Ideal S32x4096 .bf16 := m ((c : Thread nD τ).loc main_arg1)
abbrev wt (c : Dev nD) : FVec Ideal S2x4096x22528 .f32 := m ((c : Thread nD τ).loc main_arg2)

theorem V_w (c : Dev nD) (k : Fin 4096) (n : Fin 22528) : V m c main_v2 (ix2 k n) = wt m c (ix3 0 k n) := by
  have e : V m c main_v2 = truncf .bf16 (shapeCast S4096x22528 (extractStridedSlice S1x4096x22528 ![0, 0, 0] (wt m c)
      slices_S2x4096x22528_S1x4096x22528_0_0_0) shapeCasts_S1x4096x22528_S4096x22528) bitsLt_bf16_f32 := by
    show StableHlo.after hostOps0 (fun b => m (c, b)) (Proc.tc.devRef main_v2) = _
    after_results
    rfl
  rw [e]
  pointwise

theorem x_at (c : Dev nD) (t : Fin cfg0.N) (i : Fin 8) (hi : i.val = (grid0.coords t 1).val) (r : Fin 1024) (k : Fin 4096) :
    iblk m c 0 t (ix2 r k) = xp m c (ix2 ⟨i.val * 1024 + r.val, by omega⟩ k) := by
  obtain ⟨e0, e1, e2, e3, e4⟩ := idx t
  blk_ext [iblk, V, e0]

theorem s_at (c : Dev nD) (t : Fin cfg0.N) (r : Fin 32) (k : Fin 4096) :
    iblk m c 1 t (ix2 r k) = xs m c (ix2 r k) := by
  obtain ⟨e0, e1, e2, e3, e4⟩ := idx t
  blk_ext [iblk, V, e1]

theorem w_at (c : Dev nD) (t : Fin cfg0.N) (j : Fin 2) (hj : j.val = (grid0.coords t 0).val) (k : Fin 4096) (n : Fin 1024) :
    iblk m c 2 t (ix2 k n) = wt m c (ix3 0 k ⟨j.val * 1024 + n.val, by omega⟩) := by
  rw [← V_w]
  obtain ⟨e0, e1, e2, e3, e4⟩ := idx t
  blk_ext [iblk, V, e2]

theorem final3 (c : Dev nD) : (dats m 0 c).arrAt 3 cfg0.N = Cert.QueryRefIdeal.Read.val_main_v3 (F := Ideal) (xp m c) (wt m c) := by
  refine (dats m 0 c).arrAt_eq_of_covers 3 _ (by decide +kernel) fun t hf y => ?_
  blk_simp
  rw [after3]
  obtain ⟨e0, e1, e2, e3, e4⟩ := idx t
  obtain ⟨r, n, rfl⟩ : ∃ r n : Fin 1024, y = (ix2 r n : S1024x1024.Idx) := ⟨y 0, y 1, by blk_ext []⟩
  obtain ⟨i, hi⟩ : ∃ i : Fin 8, i.val = (grid0.coords t 1).val := ⟨grid0.coords t 1, rfl⟩
  obtain ⟨j, hj⟩ : ∃ j : Fin 2, j.val = (grid0.coords t 0).val := ⟨grid0.coords t 0, rfl⟩
  have eb : (win0_3.blk t).view.emb (ix2 r n : S1024x1024.Idx)
      = (ix2 ⟨i.val * 1024 + r.val, by omega⟩ ⟨j.val * 1024 + n.val, by omega⟩ : S8192x2048.Idx) := by
    blk_ext [e3]
  refine Eq.trans ?_ (congrArg (Cert.QueryRefIdeal.Read.val_main_v3 (F := Ideal) (xp m c) (wt m c)) eb.symm)
  rw [outP_at, refP]
  simp only [x_at m c t i hi, w_at m c t j hj]

theorem final4 (c : Dev nD) : (dats m 0 c).arrAt 4 cfg0.N = Cert.QueryRefIdeal.Read.val_main_v7 (F := Ideal) (xs m c) (wt m c) := by
  refine (dats m 0 c).arrAt_eq_of_covers 4 _ (by decide +kernel) fun t hf y => ?_
  blk_simp
  rw [after4]
  obtain ⟨e0, e1, e2, e3, e4⟩ := idx t
  obtain ⟨r, n, rfl⟩ : ∃ (r : Fin 32) (n : Fin 1024), y = (ix2 r n : S32x1024.Idx) := ⟨y 0, y 1, by blk_ext []⟩
  obtain ⟨j, hj⟩ : ∃ j : Fin 2, j.val = (grid0.coords t 0).val := ⟨grid0.coords t 0, rfl⟩
  have eb : (win0_4.blk t).view.emb (ix2 r n : S32x1024.Idx) = (ix2 r ⟨j.val * 1024 + n.val, by omega⟩ : S32x2048.Idx) := by
    blk_ext [e4]
  refine Eq.trans ?_ (congrArg (Cert.QueryRefIdeal.Read.val_main_v7 (F := Ideal) (xs m c) (wt m c)) eb.symm)
  rw [outS_at, refS]
  simp only [s_at, w_at m c (start t) j (hj.trans (start_coord t).symm)]

/-! ## The claims -/

/-- The kernel ends with every counter at zero and its arguments as they were, whatever the numbers. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The two programs have the same text. -/
theorem defs_bits : Cert.Query.defs (F := Bits) = defs :=
  congrArg (Pipeline.defs pcfgs) (show Cert.Query.defs₀ (F := Bits) = defs₀ from
    congrArg Defs.onTc (funext fun l => funext fun a => match l, a with | 0, (_, _) => rfl))

theorem frame_bits : Cert.quiescent_Query (hQuery := Cert.Query.Gen.facts) := fun m ρ _ => by
  rw [defs_bits]
  exact frame (F := Bits) m ρ

theorem frame_ideal : Cert.quiescent_QueryIdeal (hQueryIdeal := Cert.QueryIdeal.Gen.facts) := fun m ρ _ => frame m ρ

theorem frame_ref : Cert.quiescent_QueryRefIdeal (hQueryRefIdeal := Cert.QueryRefIdeal.Gen.facts) := fun m ρ _ =>
  (θ_run Cert.QueryRefIdeal.defs _ _).mono
    (fun r h => ⟨fun c => (h c).2.2, sem_eq_zero_of_no_sems (by decide) r.2⟩) (Cert.QueryRefIdeal.Value.run (F := Ideal) m ρ)

theorem value : Cert.algebraic_QueryIdeal_QueryRefIdeal (hQueryIdeal := Cert.QueryIdeal.Gen.facts)
    (hQueryRefIdeal := Cert.QueryRefIdeal.Gen.facts) := by
  intro m ρ m' ρ' _ hag
  refine ⟨fun c => (dats m 0 c).arrAt 3 cfg0.N, fun c => (dats m 0 c).arrAt 4 cfg0.N,
    (θ_run defs _ _).mono (fun r h c => ⟨(h.1.1 c).1 3, (h.1.1 c).1 4, h.2.1 c⟩) (θ_run_and (run m ρ) (frame m ρ)),
    (θ_run Cert.QueryRefIdeal.defs _ _).mono (fun r h c => ?_) (Cert.QueryRefIdeal.Value.run (F := Ideal) m' ρ')⟩
  obtain ⟨a0, a1, a2⟩ := hag c
  refine ⟨(h c).1.trans ?_, (h c).2.1.trans ?_, (h c).2.2⟩
  · rw [Cert.QueryRefIdeal.Read.val_main_v3_eq]
    refine Eq.trans ?_ (final3 m c).symm
    rw [a0, a2]
  · rw [Cert.QueryRefIdeal.Read.val_main_v7_eq]
    refine Eq.trans ?_ (final4 m c).symm
    rw [a1, a2]

end Query
-- ==== Proof.KeyRun.lean ====
/-
  The run of the projection of the keys: the prompt's block is stored at every point, the sample's at the first point of each
  run along the prompt, and carried from there to the point that writes it back.
-/
module

public import proofs.«01_k».proof.Proof.Gen.KeyIdeal.Skeleton
public import proofs.«01_k».proof.Proof.Gen.KeyIdeal.Frame
public import proofs.«01_k».proof.Proof.Gen.Key
public import proofs.«01_k».proof.Proof.IdleOut

@[expose] public section

set_option maxRecDepth 16384

noncomputable section

namespace Key

open Cert.KeyIdeal Cert.KeyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rX : Rect S1024x4096 := Rect.unit (s := S1024x4096) ![0, 0] S1024x4096.size inb_S1024x4096_S1024x4096_0_0
abbrev rS : Rect S32x4096 := Rect.unit (s := S32x4096) ![0, 0] S32x4096.size inb_S32x4096_S32x4096_0_0
abbrev rW : Rect S4096x1024 := Rect.unit (s := S4096x1024) ![0, 0] S4096x1024.size inb_S4096x1024_S4096x1024_0_0
abbrev rP : Rect S1x1024x1024 := Rect.unit (s := S1x1024x1024) ![0, 0, 0] S1x1024x1024.size inb_S1x1024x1024_S1x1024x1024_0_0_0
abbrev rQ : Rect S32x1024 := Rect.unit (s := S32x1024) ![0, 0] S32x1024.size inb_S32x1024_S32x1024_0_0

/-- The prompt's block. -/
def outP (x : Vec F S1024x4096 .bf16) (w : Vec F S4096x1024 .bf16) : Vec F S1x1024x1024 .f32 :=
  View.canon [⟨rP, k0_pay1 (View.ld x rX) (View.ld w rW)⟩]

/-- The sample's block. -/
def outS (x : Vec F S32x4096 .bf16) (w : Vec F S4096x1024 .bf16) : Vec F S32x1024 .f32 :=
  View.canon [⟨rQ, k0_pay2 (View.ld x rS) (View.ld w rW)⟩]

theorem coverP (p : Vec F S1x1024x1024 .f32) (y : S1x1024x1024.Idx) :
    ∃ pc ∈ ([⟨rP, p⟩] : List (View.Piece (Elt F) S1x1024x1024 .f32)), y ∈ pc.1.set :=
  View.cover_of_tiled [⟨rP, p⟩] S1x1024x1024.size (by rfl) y

theorem coverS (p : Vec F S32x1024 .f32) (y : S32x1024.Idx) :
    ∃ pc ∈ ([⟨rQ, p⟩] : List (View.Piece (Elt F) S32x1024 .f32)), y ∈ pc.1.set :=
  View.cover_of_tiled [⟨rQ, p⟩] S32x1024.size (by rfl) y

set_option maxHeartbeats 1000000 in
/-- One point: the prompt's block is stored; the sample's where the condition holds, and kept elsewhere. -/
theorem body_run (c : Dev nD) (E : Set ℕ) (i : grid0.Coords) (a : Memref sig .tc .vmem S1024x4096 .bf16) (ha : a.IsWhole)
    (b : Memref sig .tc .vmem S32x4096 .bf16) (hb : b.IsWhole) (w : Memref sig .tc .vmem S4096x1024 .bf16) (hw : w.IsWhole)
    (e : Memref sig .tc .hbm S2x8192x2048 .f32) (he : e.IsWhole)
    (p : Memref sig .tc .vmem S1x1024x1024 .f32) (hp : p.IsWhole) (q : Memref sig .tc .vmem S32x1024 .f32) (hq : q.IsWhole)
    (x0 : Vec F S1024x4096 .bf16) (x1 : Vec F S32x4096 .bf16) (x2 : Vec F S4096x1024 .bf16) (x4 : Vec F S32x1024 .f32)
    (K : PUnit → sProp 𝕄) :
    iprop(owns (c : Thread nD τ) a fullShare x0 ∗ owns (c : Thread nD τ) b fullShare x1 ∗ owns (c : Thread nD τ) w fullShare x2
        ∗ (∃ d, owns (c : Thread nD τ) p fullShare d) ∗ owns (c : Thread nD τ) q fullShare x4
        ∗ (iprop(owns (c : Thread nD τ) a fullShare x0 ∗ owns (c : Thread nD τ) b fullShare x1 ∗ owns (c : Thread nD τ) w fullShare x2
          ∗ owns (c : Thread nD τ) p fullShare (outP x0 x2)
          ∗ owns (c : Thread nD τ) q fullShare (if k0_cond1 i = 1#1 then outS x1 x2 else x4)) -∗ K ⟨⟩))
      ⊢ wp frame (wpE (defs₀ (F := F)) Variants.none c none) E (cc0_proj_k i a ha b hb w hw e he p hp q hq) K := by
  simp only [cc0_proj_k_eq_skeleton]; unfold cc0_proj_k_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  by_cases hc : k0_cond1 i = 1#1
  · rw [if_pos hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists _; isplitr; swap; · iexact H4
    ipureintro
    exact View.read_writes_eq_canon _ _ _ (coverS _)
  · rw [if_neg hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists f4; isplitr; · ipureintro; rfl
    iexact H4

/-- The first point of a point's run along the prompt. -/
def start (t : Fin cfg0.N) : Fin cfg0.N := ⟨t.val - t.val % 8, lt_of_le_of_lt (Nat.sub_le _ _) t.isLt⟩

/-- What the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP (iblk m c 0 t) (iblk m c 2 t)
    | ⟨4, _⟩ => outS (iblk m c 1 (start t)) (iblk m c 2 (start t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP (iblk m c 0 t) (iblk m c 2 t) := by
  dsimp only [dats]
theorem after4 (c : Dev nD) (t : Fin cfg0.N) :
    (dats m 0 c).after 4 t = outS (iblk m c 1 (start t)) (iblk m c 2 (start t)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The sample's block is stored at the first point of a run. -/
theorem cond_iff : ∀ t : Fin cfg0.N, k0_cond1 (grid0.coords t) = 1#1 ↔ t.val % 8 = 0 := by decide +kernel

theorem fresh_idle : ∀ t : Fin cfg0.N, cfg0.idle 4 (cfg0.grid.coords t) = true → cfg0.fresh 4 t.val = false := by
  decide +kernel

theorem idle_iff (t : Fin cfg0.N) : cfg0.idle 4 (cfg0.grid.coords t) = true ↔ ¬ t.val % 8 = 0 := by
  rw [← cond_iff]
  show (!(k0_cond1 (grid0.coords t) == 1#1)) = true ↔ _
  simp

theorem start_eq (t : Fin cfg0.N) (h : t.val % 8 = 0) : start t = t := Fin.ext (by simp [start, h])

theorem before4 (c : Dev nD) (t : Fin cfg0.N) (hi : cfg0.idle 4 (cfg0.grid.coords t) = true) (d) :
    (dats m 0 c).before 4 t d = (dats m 0 c).after 4 t :=
  Tail.before_of_carry (dats m 0 c) 4 rfl (fun _ _ => rfl) fresh_idle (fun t h0 hi => by
    have hs : start t = start ⟨t.val - 1, by omega⟩ := Fin.ext (by have := (idle_iff t).mp hi; simp only [start]; omega)
    rw [after4, after4, hs]) t hi d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- What the body makes of the sample's buffer is what the point is said to leave. -/
theorem leaves4 (c : Dev nD) (t : Fin cfg0.N) (d) :
    (if k0_cond1 (grid0.coords t) = 1#1 then outS (iblk m c 1 t) (iblk m c 2 t) else (dats m 0 c).before 4 t d)
      = (dats m 0 c).after 4 t := by
  by_cases h : t.val % 8 = 0
  · rw [if_pos ((cond_iff t).mpr h), after4, start_eq t h]
  · rw [if_neg (fun hc => h ((cond_iff t).mp hc)), before4 m c t ((idle_iff t).mpr h)]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ _ _ (iblk m c 0 t) (iblk m c 1 t) (iblk m c 2 t)
    ((dats m 0 c).before 4 t d4) _)
  isplitl [H0]; · iexact H0
  isplitl [H1]; · iexact H1
  isplitl [H2]; · iexact H2
  isplitl [H3]; · iexists _; iexact H3
  isplitl [H4]; · iexact H4
  rw [leaves4]
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (Tail.leaves_of_after (dats m 0 c) 4 t (before4 m c t))
  iexact H4

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: every array ends at what the points leave, and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Key
-- ==== Proof.KeyValue.lean ====
/- The two results of the projection of the keys. -/
module

public import proofs.«01_k».proof.Proof.KeyRun
public import proofs.«01_k».proof.Proof.Gen.Key
public import proofs.«01_k».proof.Proof.Gen.KeyIdeal
public import proofs.«01_k».proof.Proof.Gen.KeyRefIdeal
public import proofs.«01_k».proof.Proof.Gen.KeyRefIdeal.Run
public import proofs.«01_k».proof.Proof.Gen.KeyRefIdeal.Read
public import proofs.«01_k».proof.Defs
public import Idealize.ShloMosaic.Lib.Pointwise
public import Idealize.ShloMosaic.Lib.Pipeline.ValueKit
public import Idealize.ShloMosaic.Lib.Pipeline.ValueKit.Partial

@[expose] public section

set_option maxRecDepth 16384

namespace Key

open Cert.KeyIdeal Cert.KeyIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![(grid0.coords t 1).val, 0]
   ∧ win0_1.index t = ![0, 0]
   ∧ win0_2.index t = ![0, 2 + (grid0.coords t 0).val]
   ∧ win0_3.index t = ![0, (grid0.coords t 1).val, (grid0.coords t 0).val]
   ∧ win0_4.index t = ![0, (grid0.coords t 0).val] :=
  (by decide +kernel : ∀ t : Fin grid0.N, _)

/-- A run along the prompt keeps the weight's columns. -/
theorem start_coord : ∀ t : Fin cfg0.N, (grid0.coords (start t) 0).val = (grid0.coords t 0).val :=
  (by decide +kernel : ∀ t : Fin grid0.N, _)

theorem w_in (w : FVec Ideal S2x4096x22528 .f32) (k : Fin 4096) (n : Fin 2048) :
    Cert.KeyRefIdeal.Read.val_main_v2 (F := Ideal) w (ix2 k n) = w (ix3 0 k ⟨2048 + n.val, by omega⟩) := by
  unfold Cert.KeyRefIdeal.Read.val_main_v2 Cert.KeyRefIdeal.Read.val_main_v1
  pointwise

open Cert.KeyRefIdeal.Read in
theorem refP (x : FVec Ideal S8192x4096 .bf16) (w : FVec Ideal S2x4096x22528 .f32) (r : Fin 8192) (n : Fin 2048) :
    val_main_v3 (F := Ideal) x w (ix2 r n) = ∑ k : Fin 4096, x (ix2 r k) * w (ix3 0 k ⟨2048 + n.val, by omega⟩) := by
  unfold val_main_v3 val_main_v0
  pointwise [w_in]

open Cert.KeyRefIdeal.Read in
theorem refS (x : FVec Ideal S32x4096 .bf16) (w : FVec Ideal S2x4096x22528 .f32) (r : Fin 32) (n : Fin 2048) :
    val_main_v7 (F := Ideal) x w (ix2 r n) = ∑ k : Fin 4096, x (ix2 r k) * w (ix3 0 k ⟨2048 + n.val, by omega⟩) := by
  unfold val_main_v7 val_main_v4
  pointwise [show val_main_v6 (F := Ideal) w = val_main_v2 (F := Ideal) w from rfl, w_in]

theorem outP_at (x : FVec Ideal S1024x4096 .bf16) (w : FVec Ideal S4096x1024 .bf16) (r : Fin 1024) (n : Fin 1024) :
    outP (F := Ideal) x w (ix3 0 r n) = ∑ k : Fin 4096, x (ix2 r k) * w (ix2 k n) := by
  unfold outP
  rw [View.canon_unit_zero (by funext a; fin_cases a <;> rfl)]
  unfold k0_pay1
  pointwise

theorem outS_at (x : FVec Ideal S32x4096 .bf16) (w : FVec Ideal S4096x1024 .bf16) (r : Fin 32) (n : Fin 1024) :
    outS (F := Ideal) x w (ix2 r n) = ∑ k : Fin 4096, x (ix2 r k) * w (ix2 k n) := by
  unfold outS
  rw [View.canon_unit_zero (by funext a; fin_cases a <;> rfl)]
  unfold k0_pay2
  pointwise

abbrev xp (c : Dev nD) : FVec Ideal S8192x4096 .bf16 := m ((c : Thread nD τ).loc main_arg0)
abbrev xs (c : Dev nD) : FVec Ideal S32x4096 .bf16 := m ((c : Thread nD τ).loc main_arg1)
abbrev wt (c : Dev nD) : FVec Ideal S2x4096x22528 .f32 := m ((c : Thread nD τ).loc main_arg2)
abbrev kp (c : Dev nD) : FVec Ideal S2x8192x2048 .f32 := m ((c : Thread nD τ).loc main_arg3)

/-- The stacked keys start as a copy of the argument. -/
theorem V_k (c : Dev nD) : V m c main_v3_0 = kp m c := by
  show StableHlo.after hostOps0 (fun b => m (c, b)) (Proc.tc.devRef main_v3_0) = _
  after_results
  rfl

open Cert.KeyRefIdeal.Read in
/-- The first layer of the reference's stack is the projection, -/
theorem stack0 (x : FVec Ideal S8192x4096 .bf16) (w : FVec Ideal S2x4096x22528 .f32) (k : FVec Ideal S2x8192x2048 .f32)
    (r : Fin 8192) (n : Fin 2048) :
    val_main_v12 (F := Ideal) x w k (ix3 0 r n) = ∑ l : Fin 4096, x (ix2 r l) * w (ix3 0 l ⟨2048 + n.val, by omega⟩) := by
  unfold val_main_v12
  refine (concatenate_pair_apply_left (s₁ := Cert.KeyRefIdeal.S1x8192x2048) (t := Cert.KeyRefIdeal.S2x8192x2048) (0 : Fin 3) _ _ _ _ rfl
    (ix3 0 r n : Cert.KeyRefIdeal.S1x8192x2048.Idx) (fun b => by fin_cases b <;> rfl)).trans ?_
  unfold val_main_v10
  pointwise [refP]

open Cert.KeyRefIdeal.Read in
/-- and the second the argument's. -/
theorem stack1 (x : FVec Ideal S8192x4096 .bf16) (w : FVec Ideal S2x4096x22528 .f32) (k : FVec Ideal S2x8192x2048 .f32)
    (r : Fin 8192) (n : Fin 2048) :
    val_main_v12 (F := Ideal) x w k (ix3 1 r n) = k (ix3 1 r n) := by
  unfold val_main_v12
  refine (concatenate_pair_apply_right (s₁ := Cert.KeyRefIdeal.S1x8192x2048) (s₂ := Cert.KeyRefIdeal.S1x8192x2048)
    (t := Cert.KeyRefIdeal.S2x8192x2048) (0 : Fin 3) _ _ _ _ rfl rfl (ix3 0 r n : Cert.KeyRefIdeal.S1x8192x2048.Idx)
    (fun b hb => by fin_cases b <;> first | exact absurd rfl hb | rfl) rfl).trans ?_
  unfold val_main_v11 val_main_v9 val_main_v8
  pointwise

theorem V_w (c : Dev nD) (k : Fin 4096) (n : Fin 22528) : V m c main_v2 (ix2 k n) = wt m c (ix3 0 k n) := by
  have e : V m c main_v2 = truncf .bf16 (shapeCast S4096x22528 (extractStridedSlice S1x4096x22528 ![0, 0, 0] (wt m c)
      slices_S2x4096x22528_S1x4096x22528_0_0_0) shapeCasts_S1x4096x22528_S4096x22528) bitsLt_bf16_f32 := by
    show StableHlo.after hostOps0 (fun b => m (c, b)) (Proc.tc.devRef main_v2) = _
    after_results
    rfl
  rw [e]
  pointwise

theorem x_at (c : Dev nD) (t : Fin cfg0.N) (i : Fin 8) (hi : i.val = (grid0.coords t 1).val) (r : Fin 1024) (k : Fin 4096) :
    iblk m c 0 t (ix2 r k) = xp m c (ix2 ⟨i.val * 1024 + r.val, by omega⟩ k) := by
  obtain ⟨e0, e1, e2, e3, e4⟩ := idx t
  blk_ext [iblk, V, e0]

theorem s_at (c : Dev nD) (t : Fin cfg0.N) (r : Fin 32) (k : Fin 4096) :
    iblk m c 1 t (ix2 r k) = xs m c (ix2 r k) := by
  obtain ⟨e0, e1, e2, e3, e4⟩ := idx t
  blk_ext [iblk, V, e1]

theorem w_at (c : Dev nD) (t : Fin cfg0.N) (j : Fin 2) (hj : j.val = (grid0.coords t 0).val) (k : Fin 4096) (n : Fin 1024) :
    iblk m c 2 t (ix2 k n) = wt m c (ix3 0 k ⟨2048 + (j.val * 1024 + n.val), by omega⟩) := by
  rw [← V_w]
  obtain ⟨e0, e1, e2, e3, e4⟩ := idx t
  blk_ext [iblk, V, e2]

theorem final3 (c : Dev nD) :
    (dats m 0 c).arrAt 3 cfg0.N = Cert.KeyRefIdeal.Read.val_main_v12 (F := Ideal) (xp m c) (wt m c) (kp m c) := by
  refine ((dats m 0 c).arrAt_eq_of_coversWhere 3 (Cert.KeyRefIdeal.Read.val_main_v12 (F := Ideal) (xp m c) (wt m c) (kp m c))
    (fun β => β (0 : Fin 3) = 0) (by decide +kernel) (fun t hf y => ?_) (P := fun i => (i (0 : Fin 3) : ℕ) / 1 = 0) (fun j => Iff.rfl)).trans ?_
  · blk_simp
    rw [after3]
    obtain ⟨e0, e1, e2, e3, e4⟩ := idx t
    obtain ⟨r, n, rfl⟩ : ∃ r n : Fin 1024, y = (ix3 0 r n : S1x1024x1024.Idx) := ⟨y 1, y 2, by blk_ext []⟩
    obtain ⟨i, hi⟩ : ∃ i : Fin 8, i.val = (grid0.coords t 1).val := ⟨grid0.coords t 1, rfl⟩
    obtain ⟨j, hj⟩ : ∃ j : Fin 2, j.val = (grid0.coords t 0).val := ⟨grid0.coords t 0, rfl⟩
    have eb : (win0_3.blk t).view.emb (ix3 0 r n : S1x1024x1024.Idx)
        = (ix3 0 ⟨i.val * 1024 + r.val, by omega⟩ ⟨j.val * 1024 + n.val, by omega⟩ : S2x8192x2048.Idx) := by
      blk_ext [e3]
    refine Eq.trans ?_ (congrArg (Cert.KeyRefIdeal.Read.val_main_v12 (F := Ideal) (xp m c) (wt m c) (kp m c)) eb.symm)
    rw [outP_at, stack0]
    simp only [x_at m c t i hi, w_at m c t j hj]
  · funext i
    by_cases h : (i (0 : Fin 3) : ℕ) / 1 = 0
    · exact if_pos h
    · refine (if_neg h).trans ?_
      have hi : i = (ix3 1 (i 1) (i 2) : S2x8192x2048.Idx) := by
        funext a
        fin_cases a
        · have : (i (0 : Fin 3) : ℕ) < 2 := (i (0 : Fin 3)).isLt
          exact Fin.ext (by show (i (0 : Fin 3) : ℕ) = 1; omega)
        · rfl
        · rfl
      refine Eq.trans ?_ ((congrArg (Cert.KeyRefIdeal.Read.val_main_v12 (F := Ideal) (xp m c) (wt m c) (kp m c)) hi).trans
        (stack1 _ _ _ _ _)).symm
      rw [A_eq]
      exact (congrFun (V_k m c) i).trans (congrArg (kp m c) hi)

theorem final4 (c : Dev nD) : (dats m 0 c).arrAt 4 cfg0.N = Cert.KeyRefIdeal.Read.val_main_v7 (F := Ideal) (xs m c) (wt m c) := by
  refine (dats m 0 c).arrAt_eq_of_covers 4 _ (by decide +kernel) fun t hf y => ?_
  blk_simp
  rw [after4]
  obtain ⟨e0, e1, e2, e3, e4⟩ := idx t
  obtain ⟨r, n, rfl⟩ : ∃ (r : Fin 32) (n : Fin 1024), y = (ix2 r n : S32x1024.Idx) := ⟨y 0, y 1, by blk_ext []⟩
  obtain ⟨j, hj⟩ : ∃ j : Fin 2, j.val = (grid0.coords t 0).val := ⟨grid0.coords t 0, rfl⟩
  have eb : (win0_4.blk t).view.emb (ix2 r n : S32x1024.Idx) = (ix2 r ⟨j.val * 1024 + n.val, by omega⟩ : S32x2048.Idx) := by
    blk_ext [e4]
  refine Eq.trans ?_ (congrArg (Cert.KeyRefIdeal.Read.val_main_v7 (F := Ideal) (xs m c) (wt m c)) eb.symm)
  rw [outS_at, refS]
  simp only [s_at, w_at m c (start t) j (hj.trans (start_coord t).symm)]

/-! ## The claims -/

/-- The kernel ends with every counter at zero and its arguments as they were, whatever the numbers. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The two programs have the same text. -/
theorem defs_bits : Cert.Key.defs (F := Bits) = defs :=
  congrArg (Pipeline.defs pcfgs) (show Cert.Key.defs₀ (F := Bits) = defs₀ from
    congrArg Defs.onTc (funext fun l => funext fun a => match l, a with | 0, (_, _) => rfl))

theorem frame_bits : Cert.quiescent_Key (hKey := Cert.Key.Gen.facts) := fun m ρ _ => by
  rw [defs_bits]
  exact frame (F := Bits) m ρ

theorem frame_ideal : Cert.quiescent_KeyIdeal (hKeyIdeal := Cert.KeyIdeal.Gen.facts) := fun m ρ _ => frame m ρ

theorem frame_ref : Cert.quiescent_KeyRefIdeal (hKeyRefIdeal := Cert.KeyRefIdeal.Gen.facts) := fun m ρ _ =>
  (θ_run Cert.KeyRefIdeal.defs _ _).mono
    (fun r h => ⟨fun c => (h c).2.2, sem_eq_zero_of_no_sems (by decide) r.2⟩) (Cert.KeyRefIdeal.Value.run (F := Ideal) m ρ)

theorem value : Cert.algebraic_KeyIdeal_KeyRefIdeal (hKeyIdeal := Cert.KeyIdeal.Gen.facts)
    (hKeyRefIdeal := Cert.KeyRefIdeal.Gen.facts) := by
  intro m ρ m' ρ' _ hag
  refine ⟨fun c => (dats m 0 c).arrAt 3 cfg0.N, fun c => (dats m 0 c).arrAt 4 cfg0.N,
    (θ_run defs _ _).mono (fun r h c => ⟨(h.1.1 c).1 3, (h.1.1 c).1 4, h.2.1 c⟩) (θ_run_and (run m ρ) (frame m ρ)),
    (θ_run Cert.KeyRefIdeal.defs _ _).mono (fun r h c => ?_) (Cert.KeyRefIdeal.Value.run (F := Ideal) m' ρ')⟩
  obtain ⟨a0, a1, a2, a3⟩ := hag c
  refine ⟨(h c).1.trans ?_, (h c).2.1.trans ?_, (h c).2.2⟩
  · rw [Cert.KeyRefIdeal.Read.val_main_v12_eq]
    refine Eq.trans ?_ (final3 m c).symm
    rw [a0, a2, a3]
  · rw [Cert.KeyRefIdeal.Read.val_main_v7_eq]
    refine Eq.trans ?_ (final4 m c).symm
    rw [a1, a2]

end Key
-- ==== Proof.ValRun.lean ====
/-
  The run of the projection of the values: the prompt's block is stored at every point, the sample's at the first point of each
  run along the prompt, and carried from there to the point that writes it back.
-/
module

public import proofs.«01_k».proof.Proof.Gen.ValIdeal.Skeleton
public import proofs.«01_k».proof.Proof.Gen.ValIdeal.Frame
public import proofs.«01_k».proof.Proof.Gen.Val
public import proofs.«01_k».proof.Proof.IdleOut

@[expose] public section

set_option maxRecDepth 16384

noncomputable section

namespace Val

open Cert.ValIdeal Cert.ValIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rX : Rect S1024x4096 := Rect.unit (s := S1024x4096) ![0, 0] S1024x4096.size inb_S1024x4096_S1024x4096_0_0
abbrev rS : Rect S32x4096 := Rect.unit (s := S32x4096) ![0, 0] S32x4096.size inb_S32x4096_S32x4096_0_0
abbrev rW : Rect S4096x1024 := Rect.unit (s := S4096x1024) ![0, 0] S4096x1024.size inb_S4096x1024_S4096x1024_0_0
abbrev rP : Rect S1x1024x1024 := Rect.unit (s := S1x1024x1024) ![0, 0, 0] S1x1024x1024.size inb_S1x1024x1024_S1x1024x1024_0_0_0
abbrev rQ : Rect S32x1024 := Rect.unit (s := S32x1024) ![0, 0] S32x1024.size inb_S32x1024_S32x1024_0_0

/-- The prompt's block. -/
def outP (x : Vec F S1024x4096 .bf16) (w : Vec F S4096x1024 .bf16) : Vec F S1x1024x1024 .f32 :=
  View.canon [⟨rP, k0_pay1 (View.ld x rX) (View.ld w rW)⟩]

/-- The sample's block. -/
def outS (x : Vec F S32x4096 .bf16) (w : Vec F S4096x1024 .bf16) : Vec F S32x1024 .f32 :=
  View.canon [⟨rQ, k0_pay2 (View.ld x rS) (View.ld w rW)⟩]

theorem coverP (p : Vec F S1x1024x1024 .f32) (y : S1x1024x1024.Idx) :
    ∃ pc ∈ ([⟨rP, p⟩] : List (View.Piece (Elt F) S1x1024x1024 .f32)), y ∈ pc.1.set :=
  View.cover_of_tiled [⟨rP, p⟩] S1x1024x1024.size (by rfl) y

theorem coverS (p : Vec F S32x1024 .f32) (y : S32x1024.Idx) :
    ∃ pc ∈ ([⟨rQ, p⟩] : List (View.Piece (Elt F) S32x1024 .f32)), y ∈ pc.1.set :=
  View.cover_of_tiled [⟨rQ, p⟩] S32x1024.size (by rfl) y

set_option maxHeartbeats 1000000 in
/-- One point: the prompt's block is stored; the sample's where the condition holds, and kept elsewhere. -/
theorem body_run (c : Dev nD) (E : Set ℕ) (i : grid0.Coords) (a : Memref sig .tc .vmem S1024x4096 .bf16) (ha : a.IsWhole)
    (b : Memref sig .tc .vmem S32x4096 .bf16) (hb : b.IsWhole) (w : Memref sig .tc .vmem S4096x1024 .bf16) (hw : w.IsWhole)
    (e : Memref sig .tc .hbm S2x8192x2048 .f32) (he : e.IsWhole)
    (p : Memref sig .tc .vmem S1x1024x1024 .f32) (hp : p.IsWhole) (q : Memref sig .tc .vmem S32x1024 .f32) (hq : q.IsWhole)
    (x0 : Vec F S1024x4096 .bf16) (x1 : Vec F S32x4096 .bf16) (x2 : Vec F S4096x1024 .bf16) (x4 : Vec F S32x1024 .f32)
    (K : PUnit → sProp 𝕄) :
    iprop(owns (c : Thread nD τ) a fullShare x0 ∗ owns (c : Thread nD τ) b fullShare x1 ∗ owns (c : Thread nD τ) w fullShare x2
        ∗ (∃ d, owns (c : Thread nD τ) p fullShare d) ∗ owns (c : Thread nD τ) q fullShare x4
        ∗ (iprop(owns (c : Thread nD τ) a fullShare x0 ∗ owns (c : Thread nD τ) b fullShare x1 ∗ owns (c : Thread nD τ) w fullShare x2
          ∗ owns (c : Thread nD τ) p fullShare (outP x0 x2)
          ∗ owns (c : Thread nD τ) q fullShare (if k0_cond1 i = 1#1 then outS x1 x2 else x4)) -∗ K ⟨⟩))
      ⊢ wp frame (wpE (defs₀ (F := F)) Variants.none c none) E (cc0_proj_v i a ha b hb w hw e he p hp q hq) K := by
  simp only [cc0_proj_v_eq_skeleton]; unfold cc0_proj_v_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  by_cases hc : k0_cond1 i = 1#1
  · rw [if_pos hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists _; isplitr; swap; · iexact H4
    ipureintro
    exact View.read_writes_eq_canon _ _ _ (coverS _)
  · rw [if_neg hc]
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      exact View.read_writes_eq_canon _ _ _ (coverP _)
    iexists f4; isplitr; · ipureintro; rfl
    iexact H4

/-- The first point of a point's run along the prompt. -/
def start (t : Fin cfg0.N) : Fin cfg0.N := ⟨t.val - t.val % 8, lt_of_le_of_lt (Nat.sub_le _ _) t.isLt⟩

/-- What the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP (iblk m c 0 t) (iblk m c 2 t)
    | ⟨4, _⟩ => outS (iblk m c 1 (start t)) (iblk m c 2 (start t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outP (iblk m c 0 t) (iblk m c 2 t) := by
  dsimp only [dats]
theorem after4 (c : Dev nD) (t : Fin cfg0.N) :
    (dats m 0 c).after 4 t = outS (iblk m c 1 (start t)) (iblk m c 2 (start t)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The sample's block is stored at the first point of a run. -/
theorem cond_iff : ∀ t : Fin cfg0.N, k0_cond1 (grid0.coords t) = 1#1 ↔ t.val % 8 = 0 := by decide +kernel

theorem fresh_idle : ∀ t : Fin cfg0.N, cfg0.idle 4 (cfg0.grid.coords t) = true → cfg0.fresh 4 t.val = false := by
  decide +kernel

theorem idle_iff (t : Fin cfg0.N) : cfg0.idle 4 (cfg0.grid.coords t) = true ↔ ¬ t.val % 8 = 0 := by
  rw [← cond_iff]
  show (!(k0_cond1 (grid0.coords t) == 1#1)) = true ↔ _
  simp

theorem start_eq (t : Fin cfg0.N) (h : t.val % 8 = 0) : start t = t := Fin.ext (by simp [start, h])

theorem before4 (c : Dev nD) (t : Fin cfg0.N) (hi : cfg0.idle 4 (cfg0.grid.coords t) = true) (d) :
    (dats m 0 c).before 4 t d = (dats m 0 c).after 4 t :=
  Tail.before_of_carry (dats m 0 c) 4 rfl (fun _ _ => rfl) fresh_idle (fun t h0 hi => by
    have hs : start t = start ⟨t.val - 1, by omega⟩ := Fin.ext (by have := (idle_iff t).mp hi; simp only [start]; omega)
    rw [after4, after4, hs]) t hi d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- What the body makes of the sample's buffer is what the point is said to leave. -/
theorem leaves4 (c : Dev nD) (t : Fin cfg0.N) (d) :
    (if k0_cond1 (grid0.coords t) = 1#1 then outS (iblk m c 1 t) (iblk m c 2 t) else (dats m 0 c).before 4 t d)
      = (dats m 0 c).after 4 t := by
  by_cases h : t.val % 8 = 0
  · rw [if_pos ((cond_iff t).mpr h), after4, start_eq t h]
  · rw [if_neg (fun hc => h ((cond_iff t).mp hc)), before4 m c t ((idle_iff t).mpr h)]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ _ _ (iblk m c 0 t) (iblk m c 1 t) (iblk m c 2 t)
    ((dats m 0 c).before 4 t d4) _)
  isplitl [H0]; · iexact H0
  isplitl [H1]; · iexact H1
  isplitl [H2]; · iexact H2
  isplitl [H3]; · iexists _; iexact H3
  isplitl [H4]; · iexact H4
  rw [leaves4]
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (Tail.leaves_of_after (dats m 0 c) 4 t (before4 m c t))
  iexact H4

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: every array ends at what the points leave, and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Val
-- ==== Proof.ValValue.lean ====
/- The two results of the projection of the values. -/
module

public import proofs.«01_k».proof.Proof.ValRun
public import proofs.«01_k».proof.Proof.Gen.Val
public import proofs.«01_k».proof.Proof.Gen.ValIdeal
public import proofs.«01_k».proof.Proof.Gen.ValRefIdeal
public import proofs.«01_k».proof.Proof.Gen.ValRefIdeal.Run
public import proofs.«01_k».proof.Proof.Gen.ValRefIdeal.Read
public import proofs.«01_k».proof.Defs
public import Idealize.ShloMosaic.Lib.Pointwise
public import Idealize.ShloMosaic.Lib.Pipeline.ValueKit
public import Idealize.ShloMosaic.Lib.Pipeline.ValueKit.Partial

@[expose] public section

set_option maxRecDepth 16384

namespace Val

open Cert.ValIdeal Cert.ValIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![(grid0.coords t 1).val, 0]
   ∧ win0_1.index t = ![0, 0]
   ∧ win0_2.index t = ![0, 4 + (grid0.coords t 0).val]
   ∧ win0_3.index t = ![0, (grid0.coords t 1).val, (grid0.coords t 0).val]
   ∧ win0_4.index t = ![0, (grid0.coords t 0).val] :=
  (by decide +kernel : ∀ t : Fin grid0.N, _)

/-- A run along the prompt keeps the weight's columns. -/
theorem start_coord : ∀ t : Fin cfg0.N, (grid0.coords (start t) 0).val = (grid0.coords t 0).val :=
  (by decide +kernel : ∀ t : Fin grid0.N, _)

theorem w_in (w : FVec Ideal S2x4096x22528 .f32) (k : Fin 4096) (n : Fin 2048) :
    Cert.ValRefIdeal.Read.val_main_v2 (F := Ideal) w (ix2 k n) = w (ix3 0 k ⟨4096 + n.val, by omega⟩) := by
  unfold Cert.ValRefIdeal.Read.val_main_v2 Cert.ValRefIdeal.Read.val_main_v1
  pointwise

open Cert.ValRefIdeal.Read in
theorem refP (x : FVec Ideal S8192x4096 .bf16) (w : FVec Ideal S2x4096x22528 .f32) (r : Fin 8192) (n : Fin 2048) :
    val_main_v3 (F := Ideal) x w (ix2 r n) = ∑ k : Fin 4096, x (ix2 r k) * w (ix3 0 k ⟨4096 + n.val, by omega⟩) := by
  unfold val_main_v3 val_main_v0
  pointwise [w_in]

open Cert.ValRefIdeal.Read in
theorem refS (x : FVec Ideal S32x4096 .bf16) (w : FVec Ideal S2x4096x22528 .f32) (r : Fin 32) (n : Fin 2048) :
    val_main_v7 (F := Ideal) x w (ix2 r n) = ∑ k : Fin 4096, x (ix2 r k) * w (ix3 0 k ⟨4096 + n.val, by omega⟩) := by
  unfold val_main_v7 val_main_v4
  pointwise [show val_main_v6 (F := Ideal) w = val_main_v2 (F := Ideal) w from rfl, w_in]

theorem outP_at (x : FVec Ideal S1024x4096 .bf16) (w : FVec Ideal S4096x1024 .bf16) (r : Fin 1024) (n : Fin 1024) :
    outP (F := Ideal) x w (ix3 0 r n) = ∑ k : Fin 4096, x (ix2 r k) * w (ix2 k n) := by
  unfold outP
  rw [View.canon_unit_zero (by funext a; fin_cases a <;> rfl)]
  unfold k0_pay1
  pointwise

theorem outS_at (x : FVec Ideal S32x4096 .bf16) (w : FVec Ideal S4096x1024 .bf16) (r : Fin 32) (n : Fin 1024) :
    outS (F := Ideal) x w (ix2 r n) = ∑ k : Fin 4096, x (ix2 r k) * w (ix2 k n) := by
  unfold outS
  rw [View.canon_unit_zero (by funext a; fin_cases a <;> rfl)]
  unfold k0_pay2
  pointwise

abbrev xp (c : Dev nD) : FVec Ideal S8192x4096 .bf16 := m ((c : Thread nD τ).loc main_arg0)
abbrev xs (c : Dev nD) : FVec Ideal S32x4096 .bf16 := m ((c : Thread nD τ).loc main_arg1)
abbrev wt (c : Dev nD) : FVec Ideal S2x4096x22528 .f32 := m ((c : Thread nD τ).loc main_arg2)
abbrev kp (c : Dev nD) : FVec Ideal S2x8192x2048 .f32 := m ((c : Thread nD τ).loc main_arg3)

/-- The stacked values start as a copy of the argument. -/
theorem V_k (c : Dev nD) : V m c main_v3_0 = kp m c := by
  show StableHlo.after hostOps0 (fun b => m (c, b)) (Proc.tc.devRef main_v3_0) = _
  after_results
  rfl

open Cert.ValRefIdeal.Read in
/-- The first layer of the reference's stack is the projection, -/
theorem stack0 (x : FVec Ideal S8192x4096 .bf16) (w : FVec Ideal S2x4096x22528 .f32) (k : FVec Ideal S2x8192x2048 .f32)
    (r : Fin 8192) (n : Fin 2048) :
    val_main_v12 (F := Ideal) x w k (ix3 0 r n) = ∑ l : Fin 4096, x (ix2 r l) * w (ix3 0 l ⟨4096 + n.val, by omega⟩) := by
  unfold val_main_v12
  refine (concatenate_pair_apply_left (s₁ := Cert.ValRefIdeal.S1x8192x2048) (t := Cert.ValRefIdeal.S2x8192x2048) (0 : Fin 3) _ _ _ _ rfl
    (ix3 0 r n : Cert.ValRefIdeal.S1x8192x2048.Idx) (fun b => by fin_cases b <;> rfl)).trans ?_
  unfold val_main_v10
  pointwise [refP]

open Cert.ValRefIdeal.Read in
/-- and the second the argument's. -/
theorem stack1 (x : FVec Ideal S8192x4096 .bf16) (w : FVec Ideal S2x4096x22528 .f32) (k : FVec Ideal S2x8192x2048 .f32)
    (r : Fin 8192) (n : Fin 2048) :
    val_main_v12 (F := Ideal) x w k (ix3 1 r n) = k (ix3 1 r n) := by
  unfold val_main_v12
  refine (concatenate_pair_apply_right (s₁ := Cert.ValRefIdeal.S1x8192x2048) (s₂ := Cert.ValRefIdeal.S1x8192x2048)
    (t := Cert.ValRefIdeal.S2x8192x2048) (0 : Fin 3) _ _ _ _ rfl rfl (ix3 0 r n : Cert.ValRefIdeal.S1x8192x2048.Idx)
    (fun b hb => by fin_cases b <;> first | exact absurd rfl hb | rfl) rfl).trans ?_
  unfold val_main_v11 val_main_v9 val_main_v8
  pointwise

theorem V_w (c : Dev nD) (k : Fin 4096) (n : Fin 22528) : V m c main_v2 (ix2 k n) = wt m c (ix3 0 k n) := by
  have e : V m c main_v2 = truncf .bf16 (shapeCast S4096x22528 (extractStridedSlice S1x4096x22528 ![0, 0, 0] (wt m c)
      slices_S2x4096x22528_S1x4096x22528_0_0_0) shapeCasts_S1x4096x22528_S4096x22528) bitsLt_bf16_f32 := by
    show StableHlo.after hostOps0 (fun b => m (c, b)) (Proc.tc.devRef main_v2) = _
    after_results
    rfl
  rw [e]
  pointwise

theorem x_at (c : Dev nD) (t : Fin cfg0.N) (i : Fin 8) (hi : i.val = (grid0.coords t 1).val) (r : Fin 1024) (k : Fin 4096) :
    iblk m c 0 t (ix2 r k) = xp m c (ix2 ⟨i.val * 1024 + r.val, by omega⟩ k) := by
  obtain ⟨e0, e1, e2, e3, e4⟩ := idx t
  blk_ext [iblk, V, e0]

theorem s_at (c : Dev nD) (t : Fin cfg0.N) (r : Fin 32) (k : Fin 4096) :
    iblk m c 1 t (ix2 r k) = xs m c (ix2 r k) := by
  obtain ⟨e0, e1, e2, e3, e4⟩ := idx t
  blk_ext [iblk, V, e1]

theorem w_at (c : Dev nD) (t : Fin cfg0.N) (j : Fin 2) (hj : j.val = (grid0.coords t 0).val) (k : Fin 4096) (n : Fin 1024) :
    iblk m c 2 t (ix2 k n) = wt m c (ix3 0 k ⟨4096 + (j.val * 1024 + n.val), by omega⟩) := by
  rw [← V_w]
  obtain ⟨e0, e1, e2, e3, e4⟩ := idx t
  blk_ext [iblk, V, e2]

theorem final3 (c : Dev nD) :
    (dats m 0 c).arrAt 3 cfg0.N = Cert.ValRefIdeal.Read.val_main_v12 (F := Ideal) (xp m c) (wt m c) (kp m c) := by
  refine ((dats m 0 c).arrAt_eq_of_coversWhere 3 (Cert.ValRefIdeal.Read.val_main_v12 (F := Ideal) (xp m c) (wt m c) (kp m c))
    (fun β => β (0 : Fin 3) = 0) (by decide +kernel) (fun t hf y => ?_) (P := fun i => (i (0 : Fin 3) : ℕ) / 1 = 0) (fun j => Iff.rfl)).trans ?_
  · blk_simp
    rw [after3]
    obtain ⟨e0, e1, e2, e3, e4⟩ := idx t
    obtain ⟨r, n, rfl⟩ : ∃ r n : Fin 1024, y = (ix3 0 r n : S1x1024x1024.Idx) := ⟨y 1, y 2, by blk_ext []⟩
    obtain ⟨i, hi⟩ : ∃ i : Fin 8, i.val = (grid0.coords t 1).val := ⟨grid0.coords t 1, rfl⟩
    obtain ⟨j, hj⟩ : ∃ j : Fin 2, j.val = (grid0.coords t 0).val := ⟨grid0.coords t 0, rfl⟩
    have eb : (win0_3.blk t).view.emb (ix3 0 r n : S1x1024x1024.Idx)
        = (ix3 0 ⟨i.val * 1024 + r.val, by omega⟩ ⟨j.val * 1024 + n.val, by omega⟩ : S2x8192x2048.Idx) := by
      blk_ext [e3]
    refine Eq.trans ?_ (congrArg (Cert.ValRefIdeal.Read.val_main_v12 (F := Ideal) (xp m c) (wt m c) (kp m c)) eb.symm)
    rw [outP_at, stack0]
    simp only [x_at m c t i hi, w_at m c t j hj]
  · funext i
    by_cases h : (i (0 : Fin 3) : ℕ) / 1 = 0
    · exact if_pos h
    · refine (if_neg h).trans ?_
      have hi : i = (ix3 1 (i 1) (i 2) : S2x8192x2048.Idx) := by
        funext a
        fin_cases a
        · have : (i (0 : Fin 3) : ℕ) < 2 := (i (0 : Fin 3)).isLt
          exact Fin.ext (by show (i (0 : Fin 3) : ℕ) = 1; omega)
        · rfl
        · rfl
      refine Eq.trans ?_ ((congrArg (Cert.ValRefIdeal.Read.val_main_v12 (F := Ideal) (xp m c) (wt m c) (kp m c)) hi).trans
        (stack1 _ _ _ _ _)).symm
      rw [A_eq]
      exact (congrFun (V_k m c) i).trans (congrArg (kp m c) hi)

theorem final4 (c : Dev nD) : (dats m 0 c).arrAt 4 cfg0.N = Cert.ValRefIdeal.Read.val_main_v7 (F := Ideal) (xs m c) (wt m c) := by
  refine (dats m 0 c).arrAt_eq_of_covers 4 _ (by decide +kernel) fun t hf y => ?_
  blk_simp
  rw [after4]
  obtain ⟨e0, e1, e2, e3, e4⟩ := idx t
  obtain ⟨r, n, rfl⟩ : ∃ (r : Fin 32) (n : Fin 1024), y = (ix2 r n : S32x1024.Idx) := ⟨y 0, y 1, by blk_ext []⟩
  obtain ⟨j, hj⟩ : ∃ j : Fin 2, j.val = (grid0.coords t 0).val := ⟨grid0.coords t 0, rfl⟩
  have eb : (win0_4.blk t).view.emb (ix2 r n : S32x1024.Idx) = (ix2 r ⟨j.val * 1024 + n.val, by omega⟩ : S32x2048.Idx) := by
    blk_ext [e4]
  refine Eq.trans ?_ (congrArg (Cert.ValRefIdeal.Read.val_main_v7 (F := Ideal) (xs m c) (wt m c)) eb.symm)
  rw [outS_at, refS]
  simp only [s_at, w_at m c (start t) j (hj.trans (start_coord t).symm)]

/-! ## The claims -/

/-- The kernel ends with every counter at zero and its arguments as they were, whatever the numbers. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The two programs have the same text. -/
theorem defs_bits : Cert.Val.defs (F := Bits) = defs :=
  congrArg (Pipeline.defs pcfgs) (show Cert.Val.defs₀ (F := Bits) = defs₀ from
    congrArg Defs.onTc (funext fun l => funext fun a => match l, a with | 0, (_, _) => rfl))

theorem frame_bits : Cert.quiescent_Val (hVal := Cert.Val.Gen.facts) := fun m ρ _ => by
  rw [defs_bits]
  exact frame (F := Bits) m ρ

theorem frame_ideal : Cert.quiescent_ValIdeal (hValIdeal := Cert.ValIdeal.Gen.facts) := fun m ρ _ => frame m ρ

theorem frame_ref : Cert.quiescent_ValRefIdeal (hValRefIdeal := Cert.ValRefIdeal.Gen.facts) := fun m ρ _ =>
  (θ_run Cert.ValRefIdeal.defs _ _).mono
    (fun r h => ⟨fun c => (h c).2.2, sem_eq_zero_of_no_sems (by decide) r.2⟩) (Cert.ValRefIdeal.Value.run (F := Ideal) m ρ)

theorem value : Cert.algebraic_ValIdeal_ValRefIdeal (hValIdeal := Cert.ValIdeal.Gen.facts)
    (hValRefIdeal := Cert.ValRefIdeal.Gen.facts) := by
  intro m ρ m' ρ' _ hag
  refine ⟨fun c => (dats m 0 c).arrAt 3 cfg0.N, fun c => (dats m 0 c).arrAt 4 cfg0.N,
    (θ_run defs _ _).mono (fun r h c => ⟨(h.1.1 c).1 3, (h.1.1 c).1 4, h.2.1 c⟩) (θ_run_and (run m ρ) (frame m ρ)),
    (θ_run Cert.ValRefIdeal.defs _ _).mono (fun r h c => ?_) (Cert.ValRefIdeal.Value.run (F := Ideal) m' ρ')⟩
  obtain ⟨a0, a1, a2, a3⟩ := hag c
  refine ⟨(h c).1.trans ?_, (h c).2.1.trans ?_, (h c).2.2⟩
  · rw [Cert.ValRefIdeal.Read.val_main_v12_eq]
    refine Eq.trans ?_ (final3 m c).symm
    rw [a0, a2, a3]
  · rw [Cert.ValRefIdeal.Read.val_main_v7_eq]
    refine Eq.trans ?_ (final4 m c).symm
    rw [a1, a2]

end Val
-- ==== Proof.NormValue.lean ====
/- The result of the last norm. -/
module

public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Defs
public import Idealize.ShloMosaic.Lib.Pointwise
public import Idealize.ShloMosaic.Lib.Pipeline.ValueKit

@[expose] public section

set_option maxRecDepth 16384

namespace Norm

open Cert.NormIdeal Cert.NormIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- One entry of the norm: the entry over the root of its row's mean square, times the gain. -/
noncomputable def scaled (x : Fin 4096 → EReal) (n : Fin 4096) (g : EReal) : EReal :=
  x n * Ideal.rsqrt (Ideal.div (∑ k, x k * x k) (Ideal.ofBits FTy.f32 1166016512#32) + Ideal.ofBits FTy.f32 897988541#32) * g

open Cert.NormRefIdeal.Read in
theorem ref_at (x : FVec Ideal S8192x4096 .f32) (g : FVec Ideal S4096 .f32) (r : Fin 8192) (n : Fin 4096) :
    val_main_v12 (F := Ideal) x g (ix2 r n) = scaled (fun k => x (ix2 r k)) n (g (ix1 n)) := by
  unfold val_main_v12 val_main_v11 val_main_v10 val_main_v9 val_main_v8 val_main_v7 val_main_v6 val_main_v5 val_main_v4
    val_main_v3 val_main_v2 val_main_v1 val_main_v0 val_main_cst val_main_cst_0 val_main_cst_1 scaled
  pointwise

theorem out_at (x : FVec Ideal S512x4096 .f32) (g : FVec Ideal S1x4096 .f32) (r : Fin 512) (n : Fin 4096) :
    out0_2 (F := Ideal) x g (ix2 r n) = scaled (fun k => x (ix2 r k)) n (g (ix2 0 n)) := by
  unfold out0_2
  rw [View.canon_unit_zero (by funext a; fin_cases a <;> rfl)]
  unfold k0_pay1 scaled
  pointwise

abbrev xt (c : Dev nD) : FVec Ideal S8192x4096 .f32 := m ((c : Thread nD τ).loc main_arg0)
abbrev gn (c : Dev nD) : FVec Ideal S4096 .f32 := m ((c : Thread nD τ).loc main_arg1)

theorem V_g (c : Dev nD) (n : Fin 4096) : V m c main_v0 (ix2 0 n) = gn m c (ix1 n) := by
  have e : V m c main_v0 = shapeCast S1x4096 (gn m c) shapeCasts_S4096_S1x4096 := by
    show StableHlo.after hostOps0 (fun b => m (c, b)) (Proc.tc.devRef main_v0) = _
    after_results
    rfl
  rw [e]
  pointwise

theorem x_at (c : Dev nD) (t : Fin cfg0.N) (i : Fin 16) (hi : i.val = t.val) (r : Fin 512) (k : Fin 4096) :
    iblk m c 0 t (ix2 r k) = xt m c (ix2 ⟨i.val * 512 + r.val, by omega⟩ k) := by
  obtain ⟨e0, e1, e2⟩ := idx t
  rw [show xt m c = V m c main_arg0 from (V_main_arg0 m c).symm]
  blk_ext [iblk, V, e0]

theorem g_at (c : Dev nD) (t : Fin cfg0.N) (n : Fin 4096) : iblk m c 1 t (ix2 0 n) = gn m c (ix1 n) := by
  rw [← V_g]
  obtain ⟨e0, e1, e2⟩ := idx t
  blk_ext [iblk, V, e1]

theorem final (c : Dev nD) : (dats m 0 c).arrAt 2 cfg0.N = Cert.NormRefIdeal.Read.val_main_v12 (F := Ideal) (xt m c) (gn m c) := by
  refine (dats m 0 c).arrAt_eq_of_covers 2 _ (by decide +kernel) fun t hf y => ?_
  blk_simp
  rw [after0_2]
  obtain ⟨e0, e1, e2⟩ := idx t
  obtain ⟨r, n, rfl⟩ : ∃ (r : Fin 512) (n : Fin 4096), y = (ix2 r n : S512x4096.Idx) := ⟨y 0, y 1, by blk_ext []⟩
  obtain ⟨i, hi⟩ : ∃ i : Fin 16, i.val = t.val := ⟨t, rfl⟩
  have eb : (win0_2.blk t).view.emb (ix2 r n : S512x4096.Idx) = (ix2 ⟨i.val * 512 + r.val, by omega⟩ n : S8192x4096.Idx) := by
    blk_ext [e2]
  refine Eq.trans ?_ (congrArg (Cert.NormRefIdeal.Read.val_main_v12 (F := Ideal) (xt m c) (gn m c)) eb.symm)
  rw [out_at, ref_at]
  simp only [x_at m c t i hi, g_at]

/-! ## The claims -/

theorem frame_bits : Cert.quiescent_Norm (hNorm := Cert.Norm.Gen.facts) := fun m ρ _ => Cert.Norm.Gen.frame m ρ

theorem frame_ideal : Cert.quiescent_NormIdeal (hNormIdeal := Cert.NormIdeal.Gen.facts) := fun m ρ _ => Cert.NormIdeal.Gen.frame m ρ

theorem frame_ref : Cert.quiescent_NormRefIdeal (hNormRefIdeal := Cert.NormRefIdeal.Gen.facts) := fun m ρ _ =>
  (θ_run Cert.NormRefIdeal.defs _ _).mono
    (fun r h => ⟨fun c => (h c).2, sem_eq_zero_of_no_sems (by decide) r.2⟩) (Cert.NormRefIdeal.Value.run (F := Ideal) m ρ)

theorem value : Cert.algebraic_NormIdeal_NormRefIdeal (hNormIdeal := Cert.NormIdeal.Gen.facts)
    (hNormRefIdeal := Cert.NormRefIdeal.Gen.facts) := by
  intro m ρ m' ρ' _ hag
  refine ⟨fun c => (dats m 0 c).arrAt 2 cfg0.N, Cert.NormIdeal.Value.run_blocks m ρ,
    (θ_run Cert.NormRefIdeal.defs _ _).mono (fun r h c => ?_) (Cert.NormRefIdeal.Value.run (F := Ideal) m' ρ')⟩
  obtain ⟨a0, a1⟩ := hag c
  refine ⟨(h c).1.trans ?_, (h c).2⟩
  rw [Cert.NormRefIdeal.Read.val_main_v12_eq]
  refine Eq.trans ?_ (final m c).symm
  rw [a0, a1]

end Norm
-- ==== Proof.NormSValue.lean ====
/- The result of the last norm at the sample's rows, which are one block. -/
module

public import proofs.«01_k».proof.Proof.Gen.NormS
public import proofs.«01_k».proof.Proof.Gen.NormS.Frame
public import proofs.«01_k».proof.Proof.Gen.NormSIdeal
public import proofs.«01_k».proof.Proof.Gen.NormSIdeal.Frame
public import proofs.«01_k».proof.Proof.Gen.NormSIdeal.Value
public import proofs.«01_k».proof.Proof.Gen.NormSRefIdeal
public import proofs.«01_k».proof.Proof.Gen.NormSRefIdeal.Run
public import proofs.«01_k».proof.Proof.Gen.NormSRefIdeal.Read
public import proofs.«01_k».proof.Proof.NormValue
public import proofs.«01_k».proof.Defs
public import Idealize.ShloMosaic.Lib.Pointwise
public import Idealize.ShloMosaic.Lib.Pipeline.ValueKit

@[expose] public section

set_option maxRecDepth 16384

namespace NormS

open Cert.NormSIdeal Cert.NormSIdeal.Gen Idealize.ShloMosaic Idealize.ShloMosaic.TcCoe Idealize.SL.Sem
open scoped BigOperators

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

open Cert.NormSRefIdeal.Read in
theorem ref_at (x : FVec Ideal S32x4096 .f32) (g : FVec Ideal S4096 .f32) (r : Fin 32) (n : Fin 4096) :
    val_main_v12 (F := Ideal) x g (ix2 r n) = Norm.scaled (fun k => x (ix2 r k)) n (g (ix1 n)) := by
  unfold val_main_v12 val_main_v11 val_main_v10 val_main_v9 val_main_v8 val_main_v7 val_main_v6 val_main_v5 val_main_v4
    val_main_v3 val_main_v2 val_main_v1 val_main_v0 val_main_cst val_main_cst_0 val_main_cst_1 Norm.scaled
  pointwise

theorem out_at (x : FVec Ideal S32x4096 .f32) (g : FVec Ideal S1x4096 .f32) (r : Fin 32) (n : Fin 4096) :
    out0_2 (F := Ideal) x g (ix2 r n) = Norm.scaled (fun k => x (ix2 r k)) n (g (ix2 0 n)) := by
  unfold out0_2
  rw [View.canon_unit_zero (by funext a; fin_cases a <;> rfl)]
  unfold k0_pay1 Norm.scaled
  pointwise

abbrev xt (c : Dev nD) : FVec Ideal S32x4096 .f32 := m ((c : Thread nD τ).loc main_arg0)
abbrev gn (c : Dev nD) : FVec Ideal S4096 .f32 := m ((c : Thread nD τ).loc main_arg1)

theorem V_g (c : Dev nD) (n : Fin 4096) : V m c main_v0 (ix2 0 n) = gn m c (ix1 n) := by
  have e : V m c main_v0 = shapeCast S1x4096 (gn m c) shapeCasts_S4096_S1x4096 := by
    show StableHlo.after hostOps0 (fun b => m (c, b)) (Proc.tc.devRef main_v0) = _
    after_results
    rfl
  rw [e]
  pointwise

theorem x_at (c : Dev nD) (t : Fin cfg0.N) (r : Fin 32) (k : Fin 4096) :
    iblk m c 0 t (ix2 r k) = xt m c (ix2 r k) := by
  obtain ⟨e0, e1, e2⟩ := idx t
  rw [show xt m c = V m c main_arg0 from (V_main_arg0 m c).symm]
  blk_ext [iblk, V, e0]

theorem g_at (c : Dev nD) (t : Fin cfg0.N) (n : Fin 4096) : iblk m c 1 t (ix2 0 n) = gn m c (ix1 n) := by
  rw [← V_g]
  obtain ⟨e0, e1, e2⟩ := idx t
  blk_ext [iblk, V, e1]

theorem final (c : Dev nD) : (dats m 0 c).arrAt 2 cfg0.N = Cert.NormSRefIdeal.Read.val_main_v12 (F := Ideal) (xt m c) (gn m c) := by
  refine (dats m 0 c).arrAt_eq_of_covers 2 _ (by decide +kernel) fun t hf y => ?_
  blk_simp
  rw [after0_2]
  obtain ⟨e0, e1, e2⟩ := idx t
  obtain ⟨r, n, rfl⟩ : ∃ (r : Fin 32) (n : Fin 4096), y = (ix2 r n : S32x4096.Idx) := ⟨y 0, y 1, by blk_ext []⟩
  have eb : (win0_2.blk t).view.emb (ix2 r n : S32x4096.Idx) = (ix2 r n : S32x4096.Idx) := by
    blk_ext [e2]
  refine Eq.trans ?_ (congrArg (Cert.NormSRefIdeal.Read.val_main_v12 (F := Ideal) (xt m c) (gn m c)) eb.symm)
  rw [out_at, ref_at]
  simp only [x_at m c t, g_at]

/-! ## The claims -/

theorem frame_bits : Cert.quiescent_NormS (hNormS := Cert.NormS.Gen.facts) := fun m ρ _ => Cert.NormS.Gen.frame m ρ

theorem frame_ideal : Cert.quiescent_NormSIdeal (hNormSIdeal := Cert.NormSIdeal.Gen.facts) := fun m ρ _ => Cert.NormSIdeal.Gen.frame m ρ

theorem frame_ref : Cert.quiescent_NormSRefIdeal (hNormSRefIdeal := Cert.NormSRefIdeal.Gen.facts) := fun m ρ _ =>
  (θ_run Cert.NormSRefIdeal.defs _ _).mono
    (fun r h => ⟨fun c => (h c).2, sem_eq_zero_of_no_sems (by decide) r.2⟩) (Cert.NormSRefIdeal.Value.run (F := Ideal) m ρ)

theorem value : Cert.algebraic_NormSIdeal_NormSRefIdeal (hNormSIdeal := Cert.NormSIdeal.Gen.facts)
    (hNormSRefIdeal := Cert.NormSRefIdeal.Gen.facts) := by
  intro m ρ m' ρ' _ hag
  refine ⟨fun c => (dats m 0 c).arrAt 2 cfg0.N, Cert.NormSIdeal.Value.run_blocks m ρ,
    (θ_run Cert.NormSRefIdeal.defs _ _).mono (fun r h c => ?_) (Cert.NormSRefIdeal.Value.run (F := Ideal) m' ρ')⟩
  obtain ⟨a0, a1⟩ := hag c
  refine ⟨(h c).1.trans ?_, (h c).2⟩
  rw [Cert.NormSRefIdeal.Read.val_main_v12_eq]
  refine Eq.trans ?_ (final m c).symm
  rw [a0, a1]

end NormS
-- ==== Proof.HpPrelude.lean ====
/-
  The prompt's recurrence, before its loop over chunks: the body clears the running state and builds the masks of its
  levels, and what is left of it is the loop and the store of the final state.
-/
module

public import proofs.«01_k».proof.Proof.Gen.HpIdeal.Launch
public import proofs.«01_k».proof.Proof.Gen.HpIdeal.Skeleton
public import Idealize.ShloMosaic.Lib.Pipeline.FrameBody
public import Idealize.ShloMosaic.Lib.Ring
public import Idealize.ShloMosaic.Lib.Tactic
public import Idealize.ShloMosaic.Lib.VecWindow

@[expose] public section

set_option maxRecDepth 65536

noncomputable section

namespace Hp

open Cert.HpIdeal Cert.HpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2x128 .f32) (harg6 : arg6.IsWhole) (arg7 : Memref sig .tc .vmem S2x128 .f32) (harg7 : arg7.IsWhole)
  (arg8 : Memref sig .tc .vmem S2048x128 .bf16) (harg8 : arg8.IsWhole) (arg9 : Memref sig .tc .vmem S1x1x128x128 .f32) (harg9 : arg9.IsWhole)
  (arg10 : Memref sig .tc .vmem S128x128 .f32) (harg10 : arg10.IsWhole)
  (v4 : Vec F S1x128 .f32) (v10 : FVec F S256x256 .bf16) (v458 : IVec S256x256 32) (v526 : IVec S256x256 1) (v528 : BitVec 32)
  (v530 : IVec S256x256 32) (v532 : IVec S256x256 1) (v538 : IVec S256x256 1)

/-- The loop over the chunks, and the store of the state it ends with. -/
def tail : Prog (TpuEff nD τ sig (Elt F) Λ₀ .tc) PUnit := do
  Scf.Loop.for k0_t1_loop k0_t1_ok ⟨⟩ (k0_t1_body i arg2 harg2 arg3 harg3 arg4 harg4 arg5 harg5 arg6 harg6 arg7 harg7 arg8 harg8 arg9 harg9 arg10 harg10 v4 v10 v458 v526 v528 v530 v532 v538)
  let v549 : Vec F S128x128 .f32 ← Prog.lift (.load arg10 (Rect.unit (s := S128x128) ![0, 0] S128x128.size inb_S128x128_S128x128_0_0).toLoadRect (View.loadsAt_vmem h_S128x128))
  let _v551 : Vec F S1x1x128x128 .f32 ← Prog.lift (.load arg9 (Rect.unit (s := S1x1x128x128) ![0, 0, 0, 0] S1x1x128x128.size inb_S1x1x128x128_S1x1x128x128_0_0_0_0).toLoadRect (View.loadsAt_vmem h_S1x1x128x128))
  Prog.lift (.store arg9 (Rect.unit (s := S1x1x128x128) ![0, 0, 0, 0] S1x1x128x128.size inb_S1x1x128x128_S1x1x128x128_0_0_0_0) (k0_pay3 v549) Finset.univ (View.stores_vmem_bits_univ h_S1x1x128x128 rfl) (.inl rfl))
  pure ⟨⟩

/-- What the loop needs: the four column blocks at their contents, the two results' buffers at any, the state cleared. -/
def Held (c : Dev nD) (x0 x1 x2 x3 : Vec F S2048x128 .f32) (x4 x5 : Vec F S2x128 .f32) (z : Vec F S128x128 .f32) (R : sProp 𝕄) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ (∃ d, owns (c : Thread nD τ) arg8 fullShare d) ∗ (∃ d, owns (c : Thread nD τ) arg9 fullShare d)
    ∗ owns (c : Thread nD τ) arg10 fullShare z ∗ R)

include harg2 harg3 harg4 harg5 harg6 harg7 harg10 in
set_option maxHeartbeats 2000000 in
/-- The body runs up to its loop: whatever holds of the loop from a cleared state holds of the body. -/
theorem prelude (x0 x1 x2 x3 : Vec F S2048x128 .f32) (x4 x5 : Vec F S2x128 .f32) :
    ∃ (v4 : Vec F S1x128 .f32) (v458 : IVec S256x256 32) (v526 : IVec S256x256 1) (v528 : BitVec 32) (v530 : IVec S256x256 32)
      (v532 : IVec S256x256 1) (v538 : IVec S256x256 1), ∀ (E : Set ℕ) (K : PUnit → sProp 𝕄) (R : sProp 𝕄) (d : Vec F S128x128 .f32),
      (Held arg2 arg3 arg4 arg5 arg6 arg7 arg8 arg9 arg10 c x0 x1 x2 x3 x4 x5 k0_pay45 R
        ⊢ wp frame (wpE (defs₀ (F := F)) Variants.none c none) E (tail i arg2 harg2 arg3 harg3 arg4 harg4 arg5 harg5 arg6 harg6 arg7 harg7 arg8 harg8 arg9 harg9 arg10 harg10 v4 k0_pay46 v458 v526 v528 v530 v532 v538) K) →
      (Held arg2 arg3 arg4 arg5 arg6 arg7 arg8 arg9 arg10 c x0 x1 x2 x3 x4 x5 d R
        ⊢ wp frame (wpE (defs₀ (F := F)) Variants.none c none) E (cc0_hgrn2_prompt i arg2 harg2 arg3 harg3 arg4 harg4 arg5 harg5 arg6 harg6 arg7 harg7 arg8 harg8 arg9 harg9 arg10 harg10) K) := by
  refine ⟨?_, ?_, ?_, ?_, ?_, ?_, ?_, fun E K R d hT => ?run⟩
  case run =>
    simp only [cc0_hgrn2_prompt_eq_skeleton]; unfold cc0_hgrn2_prompt_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold Held at hT ⊢
    unfold owns at hT ⊢
    unfold tail at hT
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, -, HS0⟩, HR⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    iapply hT
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _; isplitr; swap; · iexact HS0
      ipureintro
      exact View.read_writes_full _ _ _ _ _
    iexact HR

end Hp

end
-- ==== Proof.HpTail.lean ====
/-
  The prompt's recurrence, its loop over chunks: what each trip stores, the state after each trip as a function of the
  forget and input columns alone, and the run of the loop and of the last store.
-/
module

public import proofs.«01_k».proof.Proof.HpPrelude
public import proofs.«01_k».proof.Proof.Gen.HpIdeal.Loops
public import Idealize.ShloMosaic.Lib.Pipeline.Value

@[expose] public section

set_option maxRecDepth 65536

noncomputable section

namespace Hp

open Cert.HpIdeal Cert.HpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2x128 .f32) (harg6 : arg6.IsWhole) (arg7 : Memref sig .tc .vmem S2x128 .f32) (harg7 : arg7.IsWhole)
  (arg8 : Memref sig .tc .vmem S2048x128 .bf16) (harg8 : arg8.IsWhole) (arg9 : Memref sig .tc .vmem S1x1x128x128 .f32) (harg9 : arg9.IsWhole)
  (arg10 : Memref sig .tc .vmem S128x128 .f32) (harg10 : arg10.IsWhole)
  (v4 : Vec F S1x128 .f32) (v10 : FVec F S256x256 .bf16) (v458 : IVec S256x256 32) (v526 : IVec S256x256 1) (v528 : BitVec 32)
  (v530 : IVec S256x256 32) (v532 : IVec S256x256 1) (v538 : IVec S256x256 1)
  (X2 : BufTy.Contents (Elt F) arg2.view.ty) (X3 : BufTy.Contents (Elt F) arg3.view.ty) (X4 : BufTy.Contents (Elt F) arg4.view.ty) (X5 : BufTy.Contents (Elt F) arg5.view.ty)

/-- The trips run: what the loop's first `n` trips store, from given contents of the rows' buffer and of the state. -/
abbrev stores (G8 : BufTy.Contents (Elt F) arg8.view.ty) (G10 : BufTy.Contents (Elt F) arg10.view.ty) (n : ℕ) :=
  pb_k0_t1 (F := F) Variants.none c none i arg2 harg2 arg3 harg3 arg4 harg4 arg5 harg5 arg6 harg6 arg7 harg7 arg8 harg8 arg9 harg9 arg10 harg10 v4 v10 v458 v526 v528 v530 v532 v538 X2 X3 X4 X5 G8 G10 n

/-- A trip's stores, by the contents it finds. -/
abbrev tripStores (k : Fin k0_t1_loop.trips) (f8 : BufTy.Contents (Elt F) arg8.view.ty) (f10 : BufTy.Contents (Elt F) arg10.view.ty) :=
  tripL_k0_t1 (F := F) Variants.none c none i arg2 harg2 arg3 harg3 arg4 harg4 arg5 harg5 arg6 harg6 arg7 harg7 arg8 harg8 arg9 harg9 arg10 harg10 v4 v10 v458 v526 v528 v530 v532 v538 X2 X3 X4 X5 k f8 f10

theorem off0 : (![0, 0] : Fin S128x128.rank → ℕ) = fun _ => 0 := by decide

/-- A chunk's rows of a column block. -/
def chunk (x : Vec F S2048x128 .f32) (k : Fin k0_t1_loop.trips) : Vec F S256x128 .f32 :=
  View.ld x (Rect.unit (s := S2048x128) (k0_off1 k) S256x128.size (k0_off1_inb k))

/-- A trip takes the state to the state after the chunk. -/
def next (w : FVec F S256x256 .bf16) (x1 x2 : Vec F S2048x128 .f32) (k : Fin k0_t1_loop.trips) (st : Vec F S128x128 .f32) : Vec F S128x128 .f32 :=
  k0_pay43 (k0_pay6 (chunk x1 k)) (chunk x2 k) st
    (k0_pay13 w (k0_pay10 (chunk x1 k)) (k0_pay11 (chunk x1 k)) (k0_pay12 w (chunk x1 k)))

/-- The state after `n` chunks. -/
def state (w : FVec F S256x256 .bf16) (x1 x2 : Vec F S2048x128 .f32) (z : Vec F S128x128 .f32) : ℕ → Vec F S128x128 .f32
  | 0 => z
  | n + 1 => if h : n < k0_t1_loop.trips then next w x1 x2 ⟨n, h⟩ (state w x1 x2 z n) else state w x1 x2 z n

set_option maxHeartbeats 4000000 in
/-- What a trip stores of the rows does not hang on what the rows' buffer held. -/
theorem trip_rows (k : Fin k0_t1_loop.trips) (f8 f8' : BufTy.Contents (Elt F) arg8.view.ty) (f10 : BufTy.Contents (Elt F) arg10.view.ty) :
    tripStores c i arg2 harg2 arg3 harg3 arg4 harg4 arg5 harg5 arg6 harg6 arg7 harg7 arg8 harg8 arg9 harg9 arg10 harg10 v4 v10 v458 v526 v528 v530 v532 v538 X2 X3 X4 X5 k f8 f10 = tripStores c i arg2 harg2 arg3 harg3 arg4 harg4 arg5 harg5 arg6 harg6 arg7 harg7 arg8 harg8 arg9 harg9 arg10 harg10 v4 v10 v458 v526 v528 v530 v532 v538 X2 X3 X4 X5 k f8' f10 := by
  unfold tripStores tripL_k0_t1 trip_k0_t1
  dsimp only

set_option maxHeartbeats 4000000 in
/-- What a trip stores of the state. -/
theorem trip_state (k : Fin k0_t1_loop.trips) (f8 : BufTy.Contents (Elt F) arg8.view.ty) (f10 : BufTy.Contents (Elt F) arg10.view.ty) :
    (tripStores c i arg2 harg2 arg3 harg3 arg4 harg4 arg5 harg5 arg6 harg6 arg7 harg7 arg8 harg8 arg9 harg9 arg10 harg10 v4 v10 v458 v526 v528 v530 v532 v538 X2 X3 X4 X5 k f8 f10).2 = [⟨Rect.unit (s := S128x128) ![0, 0] S128x128.size inb_S128x128_S128x128_0_0,
      next v10 (arg3.view.read (Elt F) X3) (arg4.view.read (Elt F) X4) k (arg10.view.read (Elt F) f10)⟩] := by
  have h : (tripStores c i arg2 harg2 arg3 harg3 arg4 harg4 arg5 harg5 arg6 harg6 arg7 harg7 arg8 harg8 arg9 harg9 arg10 harg10 v4 v10 v458 v526 v528 v530 v532 v538 X2 X3 X4 X5 k f8 f10).2 = [⟨Rect.unit (s := S128x128) ![0, 0] S128x128.size inb_S128x128_S128x128_0_0,
      next v10 (arg3.view.read (Elt F) X3) (arg4.view.read (Elt F) X4) k
        (View.ld (arg10.view.read (Elt F) f10) (Rect.unit (s := S128x128) ![0, 0] S128x128.size inb_S128x128_S128x128_0_0))⟩] := by
    unfold tripStores tripL_k0_t1 trip_k0_t1
    dsimp only
    sl_unfold_words
    rfl
  have e := View.ld_unit_zero off0 inb_S128x128_S128x128_0_0 (arg10.view.read (Elt F) f10)
  exact h.trans (by rw [e])

/-- The trips' stores do not hang on what the rows' buffer held. -/
theorem stores_rows (G8 G8' : BufTy.Contents (Elt F) arg8.view.ty) (G10 : BufTy.Contents (Elt F) arg10.view.ty) :
    ∀ n, n ≤ k0_t1_loop.trips → stores c i arg2 harg2 arg3 harg3 arg4 harg4 arg5 harg5 arg6 harg6 arg7 harg7 arg8 harg8 arg9 harg9 arg10 harg10 v4 v10 v458 v526 v528 v530 v532 v538 X2 X3 X4 X5 G8 G10 n = stores c i arg2 harg2 arg3 harg3 arg4 harg4 arg5 harg5 arg6 harg6 arg7 harg7 arg8 harg8 arg9 harg9 arg10 harg10 v4 v10 v458 v526 v528 v530 v532 v538 X2 X3 X4 X5 G8' G10 n
  | 0, _ => rfl
  | n + 1, hn => by
    have h1 := pb_k0_t1_succ (F := F) Variants.none c none i arg2 harg2 arg3 harg3 arg4 harg4 arg5 harg5 arg6 harg6 arg7 harg7 arg8 harg8 arg9 harg9 arg10 harg10 v4 v10 v458 v526 v528 v530 v532 v538 X2 X3 X4 X5 G8 G10 ⟨n, hn⟩
    have h2 := pb_k0_t1_succ (F := F) Variants.none c none i arg2 harg2 arg3 harg3 arg4 harg4 arg5 harg5 arg6 harg6 arg7 harg7 arg8 harg8 arg9 harg9 arg10 harg10 v4 v10 v458 v526 v528 v530 v532 v538 X2 X3 X4 X5 G8' G10 ⟨n, hn⟩
    have ih := stores_rows G8 G8' G10 n (Nat.le_of_succ_le hn)
    unfold stores at ih ⊢
    rw [h1, h2, ih]
    have t := trip_rows c i arg2 harg2 arg3 harg3 arg4 harg4 arg5 harg5 arg6 harg6 arg7 harg7 arg8 harg8 arg9 harg9 arg10 harg10 v4 v10 v458 v526 v528 v530 v532 v538 X2 X3 X4 X5 ⟨n, hn⟩
    unfold tripStores at t
    rw [t]

/-- The state after the loop's first `n` trips. -/
theorem stores_state (G8 : BufTy.Contents (Elt F) arg8.view.ty) (G10 : BufTy.Contents (Elt F) arg10.view.ty) :
    ∀ n, n ≤ k0_t1_loop.trips → arg10.view.read (Elt F) (arg10.view.writes (Elt F) G10 (stores c i arg2 harg2 arg3 harg3 arg4 harg4 arg5 harg5 arg6 harg6 arg7 harg7 arg8 harg8 arg9 harg9 arg10 harg10 v4 v10 v458 v526 v528 v530 v532 v538 X2 X3 X4 X5 G8 G10 n).2)
      = state v10 (arg3.view.read (Elt F) X3) (arg4.view.read (Elt F) X4) (arg10.view.read (Elt F) G10) n
  | 0, _ => rfl
  | n + 1, hn => by
    have h1 := pb_k0_t1_succ (F := F) Variants.none c none i arg2 harg2 arg3 harg3 arg4 harg4 arg5 harg5 arg6 harg6 arg7 harg7 arg8 harg8 arg9 harg9 arg10 harg10 v4 v10 v458 v526 v528 v530 v532 v538 X2 X3 X4 X5 G8 G10 ⟨n, hn⟩
    have ih := stores_state G8 G10 n (Nat.le_of_succ_le hn)
    unfold stores at ih ⊢
    have t := trip_state c i arg2 harg2 arg3 harg3 arg4 harg4 arg5 harg5 arg6 harg6 arg7 harg7 arg8 harg8 arg9 harg9 arg10 harg10 v4 v10 v458 v526 v528 v530 v532 v538 X2 X3 X4 X5 ⟨n, hn⟩
    rw [h1, t]
    refine (View.read_writes_full _ _ _ _ _).trans ?_
    rw [ih, state, dif_pos (show n < k0_t1_loop.trips from hn)]

/-- The trips' stores cover the rows' block. -/
theorem stores_cover (G8 : BufTy.Contents (Elt F) arg8.view.ty) (G10 : BufTy.Contents (Elt F) arg10.view.ty) (y : S2048x128.Idx) :
    ∃ p ∈ (stores c i arg2 harg2 arg3 harg3 arg4 harg4 arg5 harg5 arg6 harg6 arg7 harg7 arg8 harg8 arg9 harg9 arg10 harg10 v4 v10 v458 v526 v528 v530 v532 v538 X2 X3 X4 X5 G8 G10 k0_t1_loop.trips).1, y ∈ p.1.set :=
  View.cover_of_tiledL (stores c i arg2 harg2 arg3 harg3 arg4 harg4 arg5 harg5 arg6 harg6 arg7 harg7 arg8 harg8 arg9 harg9 arg10 harg10 v4 v10 v458 v526 v528 v530 v532 v538 X2 X3 X4 X5 G8 G10 k0_t1_loop.trips).1 S256x128.size (by sl_kernel_rfl) y

/-- The state's block as it is stored. -/
def outState (w : FVec F S256x256 .bf16) (x1 x2 : Vec F S2048x128 .f32) (z : Vec F S128x128 .f32) : Vec F S1x1x128x128 .f32 :=
  k0_pay3 (state w x1 x2 z k0_t1_loop.trips)

set_option maxHeartbeats 2000000 in
/-- The loop and the last store: the state's block ends at the state after all chunks, and the rows' block at contents
    that do not hang on what it held. -/
theorem tail_run (x0 x1 x2 x3 : Vec F S2048x128 .f32) (x4 x5 : Vec F S2x128 .f32) (z : Vec F S128x128 .f32) :
    ∃ o : Vec F S2048x128 .bf16, ∀ (E : Set ℕ) (K : PUnit → sProp 𝕄),
      Held arg2 arg3 arg4 arg5 arg6 arg7 arg8 arg9 arg10 c x0 x1 x2 x3 x4 x5 z
        (iprop(iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare o ∗ owns (c : Thread nD τ) arg9 fullShare (outState v10 x1 x2 z)
          ∗ (∃ d, owns (c : Thread nD τ) arg10 fullShare d)) -∗ K ⟨⟩))
        ⊢ wp frame (wpE (defs₀ (F := F)) Variants.none c none) E (tail i arg2 harg2 arg3 harg3 arg4 harg4 arg5 harg5 arg6 harg6 arg7 harg7 arg8 harg8 arg9 harg9 arg10 harg10 v4 v10 v458 v526 v528 v530 v532 v538) K := by
  refine ⟨arg8.view.read (Elt F) (arg8.view.writes (Elt F) arg8.view.junk
    (stores c i arg2 harg2 arg3 harg3 arg4 harg4 arg5 harg5 arg6 harg6 arg7 harg7 arg8 harg8 arg9 harg9 arg10 harg10 v4 v10 v458 v526 v528 v530 v532 v538 (harg2.unread x0) (harg3.unread x1) (harg4.unread x2) (harg5.unread x3) arg8.view.junk (harg10.unread z) k0_t1_loop.trips).1), fun E K => ?_⟩
  unfold Held owns tail
  iintro ⟨⟨%f0, %hf0, H0⟩, ⟨%f1, %hf1, H1⟩, ⟨%f2, %hf2, H2⟩, ⟨%f3, %hf3, H3⟩, H4, H5, ⟨%d6, %f6, -, H6⟩, ⟨%d7, %f7, -, H7⟩, ⟨%fs0, %hs0, HS0⟩, Hk⟩
  obtain rfl := harg2.eq_unread hf0; obtain rfl := harg3.eq_unread hf1; obtain rfl := harg4.eq_unread hf2; obtain rfl := harg5.eq_unread hf3; obtain rfl := harg10.eq_unread hs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]; · iexact H4
  isplitl [H5]; · iexact H5
  isplitl [H6]
  · iexists _; isplitr; swap; · iexact H6
    ipureintro
    have e := stores_rows c i arg2 harg2 arg3 harg3 arg4 harg4 arg5 harg5 arg6 harg6 arg7 harg7 arg8 harg8 arg9 harg9 arg10 harg10 v4 v10 v458 v526 v528 v530 v532 v538 (harg2.unread x0) (harg3.unread x1) (harg4.unread x2) (harg5.unread x3) f6 arg8.view.junk (harg10.unread z) k0_t1_loop.trips le_rfl
    refine (View.read_writes_of_cover _ _ arg8.view arg8.view.junk _ (stores_cover c i arg2 harg2 arg3 harg3 arg4 harg4 arg5 harg5 arg6 harg6 arg7 harg7 arg8 harg8 arg9 harg9 arg10 harg10 v4 v10 v458 v526 v528 v530 v532 v538 _ _ _ _ f6 _)).trans ?_
    rw [e]
  isplitl [H7]
  · iexists _; isplitr; swap; · iexact H7
    ipureintro
    refine (View.read_writes_full _ _ _ _ _).trans ?_
    have e := stores_state c i arg2 harg2 arg3 harg3 arg4 harg4 arg5 harg5 arg6 harg6 arg7 harg7 arg8 harg8 arg9 harg9 arg10 harg10 v4 v10 v458 v526 v528 v530 v532 v538 (harg2.unread x0) (harg3.unread x1) (harg4.unread x2) (harg5.unread x3) f6 (harg10.unread z) k0_t1_loop.trips le_rfl
    rw [harg3.read_unread, harg4.read_unread, harg10.read_unread] at e
    rw [outState, ← e]
    sl_unfold_words
    exact congrArg k0_pay3 (View.ld_unit_zero off0 _ _)
  iexists _, _; isplitr; swap; · iexact HS0
  ipureintro; rfl

end Hp

end
-- ==== Proof.HpRun.lean ====
/-
  The prompt's recurrence: what a grid point (a row of the batch and a head) leaves, and the run of the whole call.
-/
module

public import proofs.«01_k».proof.Proof.HpTail
public import proofs.«01_k».proof.Proof.Gen.HpIdeal.Frame.Runs
public import Idealize.ShloMosaic.Lib.Claim

@[expose] public section

set_option maxRecDepth 16384

noncomputable section

namespace Hp

open Cert.HpIdeal Cert.HpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

section Body

variable (c : Dev nD) (i : grid0.Coords)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2x128 .f32) (harg6 : arg6.IsWhole) (arg7 : Memref sig .tc .vmem S2x128 .f32) (harg7 : arg7.IsWhole)
  (arg8 : Memref sig .tc .vmem S2048x128 .bf16) (harg8 : arg8.IsWhole) (arg9 : Memref sig .tc .vmem S1x1x128x128 .f32) (harg9 : arg9.IsWhole)
  (arg10 : Memref sig .tc .vmem S128x128 .f32) (harg10 : arg10.IsWhole)
  (x0 x1 x2 x3 : Vec F S2048x128 .f32) (x4 x5 : Vec F S2x128 .f32)

/-- The state's block that a point leaves. -/
def left (x1 x2 : Vec F S2048x128 .f32) : Vec F S1x1x128x128 .f32 := outState k0_pay46 x1 x2 k0_pay45

/-- What the body gives back: its inputs as they were, the rows' block at `o`, the state's block. -/
def Back (o : Vec F S2048x128 .bf16) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare o ∗ owns (c : Thread nD τ) arg9 fullShare (left x1 x2)
    ∗ (∃ d, owns (c : Thread nD τ) arg10 fullShare d))

/-- The body's run. -/
theorem body_run : ∃ o : Vec F S2048x128 .bf16, ∀ (E : Set ℕ) (K : PUnit → sProp 𝕄) (d : Vec F S128x128 .f32),
    Held arg2 arg3 arg4 arg5 arg6 arg7 arg8 arg9 arg10 c x0 x1 x2 x3 x4 x5 d
        (iprop(Back c arg2 arg3 arg4 arg5 arg6 arg7 arg8 arg9 arg10 x0 x1 x2 x3 x4 x5 o -∗ K ⟨⟩))
      ⊢ wp frame (wpE (defs₀ (F := F)) Variants.none c none) E (cc0_hgrn2_prompt i arg2 harg2 arg3 harg3 arg4 harg4 arg5 harg5 arg6 harg6 arg7 harg7 arg8 harg8 arg9 harg9 arg10 harg10) K := by
  obtain ⟨v4, v458, v526, v528, v530, v532, v538, h⟩ := prelude c i arg2 harg2 arg3 harg3 arg4 harg4 arg5 harg5 arg6 harg6 arg7 harg7 arg8 harg8 arg9 harg9 arg10 harg10 x0 x1 x2 x3 x4 x5
  obtain ⟨o, ho⟩ := tail_run c i arg2 harg2 arg3 harg3 arg4 harg4 arg5 harg5 arg6 harg6 arg7 harg7 arg8 harg8 arg9 harg9 arg10 harg10 v4 k0_pay46 v458 v526 v528 v530 v532 v538 x0 x1 x2 x3 x4 x5 k0_pay45
  exact ⟨o, fun E K d => h E K _ d (ho E K)⟩

/-- The rows' block that a point leaves. -/
def rows : Vec F S2048x128 .bf16 := Classical.choose (body_run c i arg2 harg2 arg3 harg3 arg4 harg4 arg5 harg5 arg6 harg6 arg7 harg7 arg8 harg8 arg9 harg9 arg10 harg10 x0 x1 x2 x3 x4 x5)

theorem rows_run (E : Set ℕ) (K : PUnit → sProp 𝕄) (d : Vec F S128x128 .f32) :
    Held arg2 arg3 arg4 arg5 arg6 arg7 arg8 arg9 arg10 c x0 x1 x2 x3 x4 x5 d
        (iprop(Back c arg2 arg3 arg4 arg5 arg6 arg7 arg8 arg9 arg10 x0 x1 x2 x3 x4 x5 (rows c i arg2 harg2 arg3 harg3 arg4 harg4 arg5 harg5 arg6 harg6 arg7 harg7 arg8 harg8 arg9 harg9 arg10 harg10 x0 x1 x2 x3 x4 x5) -∗ K ⟨⟩))
      ⊢ wp frame (wpE (defs₀ (F := F)) Variants.none c none) E (cc0_hgrn2_prompt i arg2 harg2 arg3 harg3 arg4 harg4 arg5 harg5 arg6 harg6 arg7 harg7 arg8 harg8 arg9 harg9 arg10 harg10) K :=
  Classical.choose_spec (body_run c i arg2 harg2 arg3 harg3 arg4 harg4 arg5 harg5 arg6 harg6 arg7 harg7 arg8 harg8 arg9 harg9 arg10 harg10 x0 x1 x2 x3 x4 x5) E K d

end Body

variable (m : (ℓ : Loc nD τ sig) → Buf (Elt F) ℓ) (ρ : Dev nD → PrngReg)

/-- The rows' block after a point. -/
def rowsAt (c : Dev nD) (t : Fin cfg0.N) : Vec F S2048x128 .bf16 :=
  rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)

/-- What the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rowsAt m c t
    | ⟨7, _⟩ => left (iblk m c 1 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = rowsAt m c t := by dsimp only [dats]
theorem after7 (c : Dev nD) (t : Fin cfg0.N) : (dats m 0 c).after 7 t = left (iblk m c 1 t) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.ΦA spec0 c from rfl, PhiA0_eq]
  unfold rowsAt
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (rows_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) Set.univ _ ds)
  unfold Held
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  unfold Back
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: every array ends at what the points leave, and every counter at zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

end Hp

end
-- ==== Proof.HpMath.lean ====
/-
  The gated recurrence on real numbers: a state that decays by the forget gate and takes in one key and value per
  position, in closed form, and its step over a chunk of positions.
-/
module

public import proofs.«01_k».proof.Proof.DecMath

@[expose] public section

namespace Hp

open scoped BigOperators

/-- The sum of the logarithms of the forget gates before position `n`. -/
noncomputable def B (g : ℕ → ℝ) (n : ℕ) : ℝ := ∑ r ∈ Finset.range n, g r

/-- The state before position `n`, at one key column and one value column. -/
noncomputable def S (g k v : ℕ → ℝ) (n : ℕ) : ℝ := ∑ s ∈ Finset.range n, k s * Real.exp (B g n - B g (s + 1)) * v s

theorem S_zero (g k v : ℕ → ℝ) : S g k v 0 = 0 := by simp [S]

/-- The sum within a chunk of positions that starts at `n`. -/
theorem B_add (g : ℕ → ℝ) (n c : ℕ) : B g (n + c) = B g n + B (fun r => g (n + r)) c := Finset.sum_range_add ..

/-- A chunk of `c` positions. -/
theorem S_add (g k v : ℕ → ℝ) (n c : ℕ) :
    S g k v (n + c) = Real.exp (B (fun r => g (n + r)) c) * S g k v n
      + ∑ s ∈ Finset.range c, k (n + s) * Real.exp (B (fun r => g (n + r)) c - B (fun r => g (n + r)) (s + 1)) * v (n + s) := by
  rw [S, Finset.sum_range_add, S, Finset.mul_sum]
  refine congrArg₂ (· + ·) (Finset.sum_congr rfl fun s _ => ?_) (Finset.sum_congr rfl fun s _ => ?_)
  · rw [B_add, add_sub_right_comm, add_comm (B g n - _), Real.exp_add]; ring
  · rw [B_add g n c, add_assoc n s 1, B_add g n (s + 1), add_sub_add_left_eq_sub]

theorem coe_sum {ι : Type} (t : Finset ι) (f : ι → ℝ) : ((∑ i ∈ t, f i : ℝ) : EReal) = ∑ i ∈ t, (f i : EReal) :=
  map_sum (⟨⟨fun x : ℝ => (x : EReal), rfl⟩, EReal.coe_add⟩ : ℝ →+ EReal) f t

/-- A running sum over the positions of a chunk, some masked out. -/
theorem masked {c : ℕ} (g : ℕ → ℝ) (t : Fin c) : (∑ s : Fin c, if s ≤ t then g s else 0) = B g (t + 1) := by
  simp only [Fin.le_def]
  rw [B, Fin.sum_univ_eq_sum_range (fun s => if s ≤ t.val then g s else 0), ← Finset.sum_filter]
  refine Finset.sum_congr (Finset.ext fun s => ?_) fun _ _ => rfl
  simp only [Finset.mem_filter, Finset.mem_range]
  have := t.isLt
  omega

/-- An entry of the projections, by row and column. -/
noncomputable def W (w : (⟨2, ![8192, 8192]⟩ : Idealize.ShloMosaic.Shape).Idx → ℝ) (r c : ℕ) : ℝ :=
  if h : r < 8192 ∧ c < 8192 then w (Idealize.ShloMosaic.ix2 ⟨r, h.1⟩ ⟨c, h.2⟩) else 0

section
variable (w : (⟨2, ![8192, 8192]⟩ : Idealize.ShloMosaic.Shape).Idx → ℝ) (b h k : ℕ)
/-- The logarithm of the forget gate of sequence `b`, head `h`, column `k`, by position. -/
noncomputable def fg (n : ℕ) : ℝ := Dec.lf (W w (b * 2048 + n) (2048 + (h * 128 + k)))
/-- The key. -/
noncomputable def ky (n : ℕ) : ℝ := Dec.sg (W w (b * 2048 + n) (2048 + (h * 128 + k)))
/-- The value. -/
noncomputable def vl (n : ℕ) : ℝ := W w (b * 2048 + n) (4096 + (h * 128 + k))
end

end Hp
-- ==== Proof.HpKernel.lean ====
/-
  One chunk of the kernel's recurrence: the state it leaves, index by index, from the chunk's rows.
-/
module

public import proofs.«01_k».proof.Proof.Gen.HpIdeal.Skeleton
public import Idealize.ShloMosaic.Lib.Pointwise
public import proofs.«01_k».proof.Proof.HpMath

@[expose] public section

set_option maxRecDepth 8000

open Idealize.ShloMosaic Cert.HpIdeal Cert.HpIdeal.Gen
open Dec (L)

namespace Hp

theorem log2e_val : (Named.named κ "log2e" 0x3FB8AA3B#32 : Ideal .f32) = ((L : ℝ) : EReal) :=
  IdealRules.named_const.ideal_named_scalar _ _ _ _ rfl

theorem exp2_i (x : Ideal .f32) : FloatOps.exp2 x = Ideal.exp2 x := rfl

/-- The running sums' matrix: ones on and under the diagonal. -/
theorem tril_at (r s : Fin 256) : k0_pay46 (F := Ideal) (ix2 r s) = ((if s ≤ r then 1 else 0 : ℝ) : EReal) := by
  unfold k0_pay46
  pointwise
  have ti : ∀ n : Fin 256, (BitVec.ofNat 32 n.val).toInt = n.val := by decide
  have hc : IntOp.cmpi .sge (BitVec.ofNat 32 r.val) (BitVec.ofNat 32 s.val) = if s ≤ r then 1#1 else 0#1 := by
    show BitVec.ofBool ((BitVec.ofNat 32 s.val).sle (BitVec.ofNat 32 r.val)) = _
    rw [BitVec.sle_eq_decide, ti, ti]
    by_cases h : s ≤ r
    · rw [if_pos h, decide_eq_true (by exact_mod_cast h)]; rfl
    · rw [if_neg h, decide_eq_false (by exact_mod_cast h)]; rfl
  rw [hc]
  show (((BitVec.setWidth 32 (if s ≤ r then 1#1 else 0#1)).toInt : ℝ) : EReal) = _
  by_cases h : s ≤ r
  · rw [if_pos h, if_pos h]; simp
  · rw [if_neg h, if_neg h]; simp

variable (f i : Vec Ideal S256x128 .f32) (z : ℕ → ℕ → ℝ)

theorem pay6_at (hz : ∀ (r : Fin 256) (k : Fin 128), f (ix2 r k) = (z r k : EReal)) (r : Fin 256) (k : Fin 128) :
    k0_pay6 f (ix2 r k) = (Dec.sg (z r k) : EReal) := by
  unfold k0_pay6 k0_pay5
  pointwise [hz, Ideal.absf_def, Ideal.cmpf_def]
  exact Dec.kernel_sg _

theorem pay7_at (hz : ∀ (r : Fin 256) (k : Fin 128), f (ix2 r k) = (z r k : EReal)) (r : Fin 256) (k : Fin 128) :
    k0_pay7 f (ix2 r k) = ((Dec.lf (z r k) * L : ℝ) : EReal) := by
  unfold k0_pay7 k0_pay5
  pointwise [hz, Ideal.absf_def, log2e_val]
  rw [Dec.kernel_lf, EReal.coe_mul]

theorem pay9_at (hz : ∀ (r : Fin 256) (k : Fin 128), f (ix2 r k) = (z r k : EReal)) (r : Fin 256) (k : Fin 128) :
    k0_pay9 f (ix2 r k) = 0 := by
  unfold k0_pay9 k0_pay8
  pointwise [pay7_at f z hz]
  rw [← EReal.coe_sub, sub_self, EReal.coe_zero]

theorem pay13_at (hz : ∀ (r : Fin 256) (k : Fin 128), f (ix2 r k) = (z r k : EReal)) (r : Fin 256) (k : Fin 128) :
    k0_pay13 k0_pay46 (k0_pay10 f) (k0_pay11 f) (k0_pay12 k0_pay46 f) (ix2 r k) = ((B (fun s => Dec.lf (z s k)) (r + 1) * L : ℝ) : EReal) := by
  unfold k0_pay13 k0_pay12 k0_pay11 k0_pay10 k0_pay8
  pointwise [pay7_at f z hz, pay9_at f z hz, tril_at]
  simp only [mul_zero, Finset.sum_const_zero, add_zero, ← EReal.coe_mul]
  rw [← coe_sum, ← masked (fun s => Dec.lf (z s k)) r, Finset.sum_mul]
  refine congrArg _ (Finset.sum_congr rfl fun s _ => ?_)
  split
  · rw [one_mul]
  · rw [zero_mul, zero_mul]

/-- The state after a chunk. -/
theorem pay43_at (st : Vec Ideal S128x128 .f32) (hz : ∀ (r : Fin 256) (k : Fin 128), f (ix2 r k) = (z r k : EReal))
    (vv : ℕ → ℝ) (s₀ : ℝ) (v k : Fin 128) (hv : ∀ r : Fin 256, i (ix2 r v) = (vv r : EReal)) (hs : st (ix2 v k) = (s₀ : EReal)) :
    k0_pay43 (k0_pay6 f) i st (k0_pay13 k0_pay46 (k0_pay10 f) (k0_pay11 f) (k0_pay12 k0_pay46 f)) (ix2 v k)
      = ((Real.exp (B (fun s => Dec.lf (z s k)) 256) * s₀
          + ∑ s ∈ Finset.range 256, Dec.sg (z s k) * Real.exp (B (fun s => Dec.lf (z s k)) 256 - B (fun s => Dec.lf (z s k)) (s + 1)) * vv s : ℝ) : EReal) := by
  have hb := pay13_at f z hz
  generalize k0_pay13 (F := Ideal) k0_pay46 (k0_pay10 f) (k0_pay11 f) (k0_pay12 k0_pay46 f) = b at hb ⊢
  unfold k0_pay43
  pointwise [hb, pay6_at f z hz, hv, hs]
  simp only [exp2_i, ← EReal.coe_sub, ← sub_mul, Dec.exp2_L, ← EReal.coe_mul, ← EReal.coe_add, ← coe_sum]
  refine congrArg _ (congrArg₂ (· + ·) (mul_comm _ _) ?_)
  rw [← Fin.sum_univ_eq_sum_range (fun s => Dec.sg (z s k) * Real.exp (B (fun s => Dec.lf (z s k)) 256 - B (fun s => Dec.lf (z s k)) (s + 1)) * vv s)]
  exact Finset.sum_congr rfl fun s _ => mul_comm _ _

end Hp
-- ==== Proof.HpRef.lean ====
module

public import proofs.«01_k».proof.Proof.Gen.HpRefIdeal.StepRun
public import proofs.«01_k».proof.Proof.HpMath
public import Idealize.ShloMosaic.Lib.Pointwise

@[expose] public section

/-! The reference's state after each of its chunks, where the projections are real numbers. -/

set_option maxRecDepth 8000

namespace Hp
open Cert.HpRefIdeal Cert.HpRefIdeal.Step Idealize.ShloMosaic
open scoped BigOperators

variable (x : FVec Ideal S8192x8192 .f32) (w : S8192x8192.Idx → ℝ)

theorem W_eq (hw : ∀ i, x i = (w i : EReal)) (r c : Fin 8192) : x (ix2 r c) = (W w r.val c.val : EReal) := by
  rw [hw, W, dif_pos ⟨r.isLt, c.isLt⟩]

theorem rlog_at (hw : ∀ i, x i = (w i : EReal)) (b : Fin 4) (n : Fin 2048) (h : Fin 16) (k : Fin 128) :
    A_main_v20 (F := Ideal) x (ix4 b n h k) = (fg w b h k n : EReal) := by
  unfold A_main_v20 A_main_v19 A_main_v18 A_main_v17 A_main_v16 A_main_v15 A_main_v14 A_main_v13 A_main_v12 A_main_v10 A_main_v9 A_main_v7 A_main_v5 A_main_v2 A_main_v0 K_main_v6 K_main_v8 K_main_v11 K_main_cst
  pointwise [W_eq x w hw]
  rw [if_neg (by simp), fg, ← Dec.ref_lf, sub_zero]
  have hc : ∀ z : ℝ, Ideal.cmp .une (-(z : EReal)) (-(z : EReal)) = 0#1 := fun z => by simp [Ideal.cmp]
  rw [hc]
  rfl

theorem rkey_at (hw : ∀ i, x i = (w i : EReal)) (b : Fin 4) (n : Fin 2048) (h : Fin 16) (k : Fin 128) :
    A_main_v22 (F := Ideal) x (ix4 b n h k) = (ky w b h k n : EReal) := by
  unfold A_main_v22 A_main_v21
  pointwise [rlog_at x w hw]
  exact Dec.ref_sg _

theorem rval_at (hw : ∀ i, x i = (w i : EReal)) (b : Fin 4) (n : Fin 2048) (h : Fin 16) (k : Fin 128) :
    A_main_v23 (F := Ideal) x (ix4 b n h k) = (vl w b h k n : EReal) := by
  unfold A_main_v23 A_main_v3 A_main_v0
  pointwise [W_eq x w hw]
  rfl

theorem chunk_at {y : FVec Ideal S4x2048x16x128 .f32} (j : Fin 32) (b : Fin 4) (s : Fin 64) (h : Fin 16) (k : Fin 128) :
    transpose S32x4x64x16x128 [1, 0, 2, 3, 4] (shapeCast S4x32x64x16x128 y Facts₀.shapeCasts_S4x2048x16x128_S4x32x64x16x128)
      Facts₀.transposes_S4x32x64x16x128_S32x4x64x16x128_1_0_2_3_4 (ix5 j b s h k)
      = y (ix4 b ⟨j.val * 64 + s.val, by omega⟩ h k) := by
  pointwise

theorem dyn_at (y : FVec Ideal S32x4x64x16x128 .f32) (o : Fin 5 → ℤ) (hf) (j : Fin 32) (h0 : (min (max (o 0) 0) 31).toNat = j.val)
    (h1 : o 1 = 0) (h2 : o 2 = 0) (h3 : o 3 = 0) (h4 : o 4 = 0) (b : Fin 4) (s : Fin 64) (h : Fin 16) (k : Fin 128) :
    shapeCast S4x64x16x128 (Host.dynamicSlice S1x4x64x16x128 y o hf) Facts₀.shapeCasts_S1x4x64x16x128_S4x64x16x128 (ix4 b s h k)
      = y (ix5 j b s h k) := by
  pointwise
  refine congrArg y (funext fun a => Fin.ext ?_)
  match a with
  | ⟨0, _⟩ => exact (Nat.add_zero _).trans h0
  | ⟨1, _⟩ => show (min (max (o 1) 0) ((4 - 4 : Nat) : Int)).toNat + b.val = b.val; rw [h1]; simp
  | ⟨2, _⟩ => show (min (max (o 2) 0) ((64 - 64 : Nat) : Int)).toNat + s.val = s.val; rw [h2]; simp
  | ⟨3, _⟩ => show (min (max (o 3) 0) ((16 - 16 : Nat) : Int)).toNat + h.val = h.val; rw [h3]; simp
  | ⟨4, _⟩ => show (min (max (o 4) 0) ((128 - 128 : Nat) : Int)).toNat + k.val = k.val; rw [h4]; simp

theorem start_eq : ∀ j : Fin 32, (min (max (BitVec.ofNat 32 j.val).toInt 0) 31).toNat = j.val := by decide

variable (t : State Ideal) (j : Fin 32) (b : Fin 4) (s : Fin 64) (h : Fin 16) (k v : Fin 128)

theorem b5_at : b5 j.val t (ix4 b s h k) = t.main_v31_0 (ix5 j b s h k) := by
  unfold b5 b4
  refine dyn_at t.main_v31_0 _ _ j ?_ ?_ ?_ ?_ ?_ b s h k
  · exact start_eq j
  all_goals rfl

theorem b11_at : b11 j.val t (ix4 b s h k) = t.main_v31_1 (ix5 j b s h k) := by
  unfold b11 b10
  refine dyn_at t.main_v31_1 _ _ j ?_ ?_ ?_ ?_ ?_ b s h k
  · exact start_eq j
  all_goals rfl

theorem b17_at : b17 j.val t (ix4 b s h k) = t.main_v31_2 (ix5 j b s h k) := by
  unfold b17 b16
  refine dyn_at t.main_v31_2 _ _ j ?_ ?_ ?_ ?_ ?_ b s h k
  · exact start_eq j
  all_goals rfl

theorem foldl_add {n : ℕ} (f : Fin n → ℝ) (l : List (Fin n)) (a : EReal) :
    l.foldl (fun r i => r + (f i : EReal)) a = a + (((l.map f).sum : ℝ) : EReal) := by
  induction l generalizing a with
  | nil => simp
  | cons i l ih => rw [List.foldl_cons, ih, List.map_cons, List.sum_cons, EReal.coe_add, add_assoc]

theorem fold_coe (n : ℕ) (f : ℕ → ℝ) :
    (List.finRange n).foldl (fun r i => r + (f i.val : EReal)) 0 = ((∑ i ∈ Finset.range n, f i : ℝ) : EReal) := by
  rw [foldl_add (fun i : Fin n => f i.val), zero_add, ← Fin.sum_univ_def, Fin.sum_univ_eq_sum_range]

theorem tail_sum (g : ℕ → ℝ) (s : ℕ) (hs : s < 64) :
    (∑ n ∈ Finset.range 64, if 63 ≤ s + n then g (s + n - 63) else 0) = B g (s + 1) := by
  have e : 64 = (63 - s) + (s + 1) := by omega
  rw [e, Finset.sum_range_add, Finset.sum_eq_zero fun n hn => ?_, zero_add, B]
  · refine Finset.sum_congr rfl fun n _ => ?_
    rw [if_pos (by omega)]
    congr 1
    omega
  · rw [if_neg]
    have := Finset.mem_range.mp hn
    omega

/-- The running sum along a chunk, element by element. -/
theorem cumsum_at (x : FVec Ideal S4x64x16x128 .f32) (init : FVec Ideal S_ .f32) (hi : ∀ i, init i = 0) (hw) (hu : 0 < S_.numel) (g : ℕ → ℝ)
    (hx : ∀ s : Fin 64, x (ix4 b s h k) = (g s : EReal)) :
    Host.reduceWindowAdd ![1, 64, 1, 1] ![1, 1, 1, 1] ![0, 63, 0, 0] ![0, 0, 0, 0] x init hw hu (ix4 b s h k) = (B g (s + 1) : EReal) := by
  show Host.reduceWindow (· + ·) ![1, 64, 1, 1] ![1, 1, 1, 1] ![0, 63, 0, 0] ![0, 0, 0, 0] x (fun _ : (⟨0, ![]⟩ : Shape).Idx => init (Shape.Idx.first hu)) hw (by decide) (ix4 b s h k) = _
  unfold Host.reduceWindow
  rw [hi]
  have hn : ∀ n : Fin (Shape.numel ⟨4, ![1, 64, 1, 1]⟩), ((Shape.rowMajor ⟨4, ![1, 64, 1, 1]⟩).symm n 0).val = 0
      ∧ ((Shape.rowMajor ⟨4, ![1, 64, 1, 1]⟩).symm n 1).val = n.val ∧ ((Shape.rowMajor ⟨4, ![1, 64, 1, 1]⟩).symm n 2).val = 0
      ∧ ((Shape.rowMajor ⟨4, ![1, 64, 1, 1]⟩).symm n 3).val = 0 := by decide +kernel
  have hs : ∀ n : Fin (Shape.numel ⟨4, ![1, 64, 1, 1]⟩), n.val < 64 := by decide +kernel
  refine (List.foldl_ext _ (fun r n => r + ((if 63 ≤ s.val + n.val then g (s.val + n.val - 63) else 0 : ℝ) : EReal)) _
    (fun r n _ => ?_)).trans ?_
  · refine congrArg (r + ·) ?_
    obtain ⟨e0, e1, e2, e3⟩ := hn n
    have h4 := hs n
    by_cases hle : 63 ≤ s.val + n.val
    · rw [if_pos hle, dif_pos]
      · rw [← hx ⟨s.val + n.val - 63, by omega⟩]
        congr 1
        funext a
        fin_cases a
        · refine Fin.ext ?_
          show b.val * 1 + ((Shape.rowMajor ⟨4, ![1, 64, 1, 1]⟩).symm n 0).val - 0 = b.val
          omega
        · refine Fin.ext ?_
          show s.val * 1 + ((Shape.rowMajor ⟨4, ![1, 64, 1, 1]⟩).symm n 1).val - 63 = s.val + n.val - 63
          omega
        · refine Fin.ext ?_
          show h.val * 1 + ((Shape.rowMajor ⟨4, ![1, 64, 1, 1]⟩).symm n 2).val - 0 = h.val
          omega
        · refine Fin.ext ?_
          show k.val * 1 + ((Shape.rowMajor ⟨4, ![1, 64, 1, 1]⟩).symm n 3).val - 0 = k.val
          omega
      · intro a
        fin_cases a
        · show 0 ≤ b.val * 1 + ((Shape.rowMajor ⟨4, ![1, 64, 1, 1]⟩).symm n 0).val ∧ b.val * 1 + ((Shape.rowMajor ⟨4, ![1, 64, 1, 1]⟩).symm n 0).val - 0 < 4
          omega
        · show 63 ≤ s.val * 1 + ((Shape.rowMajor ⟨4, ![1, 64, 1, 1]⟩).symm n 1).val ∧ s.val * 1 + ((Shape.rowMajor ⟨4, ![1, 64, 1, 1]⟩).symm n 1).val - 63 < 64
          omega
        · show 0 ≤ h.val * 1 + ((Shape.rowMajor ⟨4, ![1, 64, 1, 1]⟩).symm n 2).val ∧ h.val * 1 + ((Shape.rowMajor ⟨4, ![1, 64, 1, 1]⟩).symm n 2).val - 0 < 16
          omega
        · show 0 ≤ k.val * 1 + ((Shape.rowMajor ⟨4, ![1, 64, 1, 1]⟩).symm n 3).val ∧ k.val * 1 + ((Shape.rowMajor ⟨4, ![1, 64, 1, 1]⟩).symm n 3).val - 0 < 128
          omega
    · rw [if_neg hle, dif_neg]
      · rfl
      · intro hin
        have h1 : 63 ≤ s.val * 1 + ((Shape.rowMajor ⟨4, ![1, 64, 1, 1]⟩).symm n 1).val := (hin 1).1
        omega
  · exact (fold_coe _ fun n => if 63 ≤ s.val + n then g (s.val + n - 63) else 0).trans (congrArg _ (tail_sum g s s.isLt))

section
variable (g ky vl : ℕ → ℝ) (st : ℝ)

theorem b20_at (hg : ∀ s : Fin 64, t.main_v31_2 (ix5 j b s h k) = (g s : EReal)) : b20 j.val t (ix4 b s h k) = (B g (s + 1) : EReal) := by
  unfold b20
  refine cumsum_at b s h k _ _ (fun i => ?_) _ _ g fun s => (b17_at t j b s h k).trans (hg s)
  unfold b19 b18
  simp [broadcastInDim, constant]

/-- One chunk of the reference. -/
theorem b33_at (hg : ∀ s : Fin 64, t.main_v31_2 (ix5 j b s h k) = (g s : EReal)) (hk : ∀ s : Fin 64, t.main_v31_0 (ix5 j b s h k) = (ky s : EReal))
    (hv : ∀ s : Fin 64, t.main_v31_1 (ix5 j b s h v) = (vl s : EReal)) (hs : t.main_v31_4 (ix4 b h k v) = (st : EReal)) :
    b33 j.val t (ix4 b h k v)
      = ((Real.exp (B g 64) * st + ∑ s ∈ Finset.range 64, ky s * Real.exp (B g 64 - B g (s + 1)) * vl s : ℝ) : EReal) := by
  unfold b33 b32 b31 b30 b29 b28 b27 b26 b25 b24 b23 b22 b21
  pointwise [fun s => b20_at t j b s h k g hg, fun s => b5_at t j b s h k, fun s => b11_at t j b s h v, hk, hv, hs, Ideal.exp_coe, ← EReal.coe_sub]
  rw [EReal.coe_add, EReal.coe_mul, coe_sum, ← Fin.sum_univ_eq_sum_range (fun s => ((ky s * Real.exp (B g 64 - B g (s + 1)) * vl s : ℝ) : EReal))]
  simp only [EReal.coe_mul]
end

/-- The states of the reference, chunk by chunk. -/
noncomputable def refIter (x : FVec Ideal S8192x8192 .f32) : ℕ → State Ideal
  | 0 => init (F := Ideal) x
  | n + 1 => step (F := Ideal) n (refIter x n)

theorem refIter_k : ∀ n, (refIter x n).main_v31_0 = A_main_v26 (F := Ideal) x
  | 0 => rfl
  | n + 1 => refIter_k n

theorem refIter_v : ∀ n, (refIter x n).main_v31_1 = A_main_v28 (F := Ideal) x
  | 0 => rfl
  | n + 1 => refIter_v n

theorem refIter_g : ∀ n, (refIter x n).main_v31_2 = A_main_v30 (F := Ideal) x
  | 0 => rfl
  | n + 1 => refIter_g n

theorem refIter_at (hw : ∀ i, x i = (w i : EReal)) : ∀ n : ℕ, n ≤ 32 →
    (refIter x n).main_v31_4 (ix4 b h k v) = (S (fg w b h k) (ky w b h k) (vl w b h v) (n * 64) : EReal)
  | 0, _ => by
    rw [zero_mul, S_zero]
    show K_main_v24 (F := Ideal) (ix4 b h k v) = _
    unfold K_main_v24 K_main_cst_0
    simp [broadcastInDim, constant]
  | n + 1, hn => by
    have ih := refIter_at hw n (by omega)
    show b33 n (refIter x n) (ix4 b h k v) = _
    rw [Nat.add_mul, one_mul, S_add]
    refine b33_at (refIter x n) ⟨n, hn⟩ b h k v (fun s => fg w b h k (n * 64 + s)) (fun s => ky w b h k (n * 64 + s))
      (fun s => vl w b h v (n * 64 + s)) _ (fun s => ?_) (fun s => ?_) (fun s => ?_) ih
    · rw [refIter_g]
      unfold A_main_v30 A_main_v29
      rw [chunk_at, rlog_at x w hw]
    · rw [refIter_k]
      unfold A_main_v26 A_main_v25
      rw [chunk_at, rkey_at x w hw]
    · rw [refIter_v]
      unfold A_main_v28 A_main_v27
      rw [chunk_at, rval_at x w hw]

end Hp
-- ==== Proof.HpValue.lean ====
/-
  The prompt's recurrence: its final state, and the claims about it.
-/
module

public import proofs.«01_k».proof.Proof.HpRun
public import proofs.«01_k».proof.Proof.HpKernel
public import proofs.«01_k».proof.Proof.HpRef
public import proofs.«01_k».proof.Proof.Gen.Hp
public import proofs.«01_k».proof.Proof.Gen.HpIdeal
public import proofs.«01_k».proof.Proof.Gen.HpRefIdeal
public import proofs.«01_k».proof.Proof.Gen.HpRefIdeal.StepRun
public import proofs.«01_k».proof.Proof.Gen.Pre_finite_hp
public import proofs.«01_k».proof.Defs
public import Idealize.ShloMosaic.Lib.ReduceAll
public import Idealize.ShloMosaic.Lib.Pointwise
public import Idealize.ShloMosaic.Lib.Pipeline.ValueKit

@[expose] public section

set_option maxRecDepth 16384

namespace Hp

open Cert.HpIdeal Cert.HpIdeal.Gen Idealize.ShloMosaic Idealize.ShloMosaic.TcCoe Idealize.SL.Sem
open scoped BigOperators

theorem chunk_row (x : Vec Ideal S2048x128 .f32) (k : Fin k0_t1_loop.trips) (r : Fin 256) (n : Fin 128) (hr : k.val * 256 + r.val < 2048) :
    chunk x k (ix2 r n) = x (ix2 ⟨k.val * 256 + r.val, hr⟩ n) := by
  unfold chunk
  refine View.ld_unit_apply_of x _ _ _ _ _ fun a => ?_
  refine Eq.trans ?_ (congrArg (· + _) (congrFun (k0_off1_eq k) a).symm)
  fin_cases a
  · show k.val * 256 + r.val = 256 * k.val + r.val
    rw [Nat.mul_comm]
  · show n.val = 0 + n.val
    rw [Nat.zero_add]

/-- The state after `n` chunks of a sequence and head, one value row and key column of it. -/
theorem state_at (x1 x2 : Vec Ideal S2048x128 .f32) (z : ℕ → ℝ) (vv : ℕ → ℝ) (zz : ℕ → ℕ → ℝ) (v k : Fin 128)
    (hz : ∀ (r : Fin 2048) (n : Fin 128), x1 (ix2 r n) = (zz r n : EReal)) (hk : ∀ r, zz r k = z r)
    (hv : ∀ r : Fin 2048, x2 (ix2 r v) = (vv r : EReal)) :
    ∀ n, n ≤ 8 → state (F := Ideal) k0_pay46 x1 x2 (k0_pay45 (F := Ideal)) n (ix2 v k)
      = (S (fun r => Dec.lf (z r)) (fun r => Dec.sg (z r)) vv (n * 256) : EReal)
  | 0, _ => by
    rw [zero_mul, S_zero, state]
    unfold k0_pay45
    pointwise
    rfl
  | n + 1, hn => by
    have ih := state_at x1 x2 z vv zz v k hz hk hv n (by omega)
    have ht : n < k0_t1_loop.trips := hn
    rw [state, dif_pos ht, Nat.add_mul, one_mul, S_add, next]
    rw [pay43_at (chunk x1 ⟨n, ht⟩) (chunk x2 ⟨n, ht⟩) (fun s => zz (n * 256 + s)) _ (fun r c => ?_) (fun s => vv (n * 256 + s)) _ v k (fun r => ?_) ih]
    · simp only [hk]
    · rw [chunk_row x1 ⟨n, ht⟩ r c (by have := r.isLt; show n * 256 + r.val < 2048; omega), hz]
    · rw [chunk_row x2 ⟨n, ht⟩ r v (by have := r.isLt; show n * 256 + r.val < 2048; omega), hv]

variable (m : (ℓ : Loc nD τ sig) → Buf (Elt Ideal) ℓ)

theorem idx : ∀ t : Fin cfg0.N, win0_1.index t = ![(grid0.coords t 0).val, 16 + (grid0.coords t 1).val]
   ∧ win0_2.index t = ![(grid0.coords t 0).val, 32 + (grid0.coords t 1).val]
   ∧ win0_7.index t = ![(grid0.coords t 0).val, (grid0.coords t 1).val, 0, 0] :=
  (by decide +kernel : ∀ t : Fin grid0.N, _)

abbrev proj (c : Dev nD) : FVec Ideal S8192x8192 .f32 := m ((c : Thread nD τ).loc main_arg0)

theorem f_at (c : Dev nD) (t : Fin cfg0.N) (b : Fin 4) (h : Fin 16) (hb : b.val = (grid0.coords t 0).val) (hh : h.val = (grid0.coords t 1).val)
    (r : Fin 2048) (n : Fin 128) :
    iblk m c 1 t (ix2 r n) = proj m c (ix2 ⟨b.val * 2048 + r.val, by omega⟩ ⟨2048 + (h.val * 128 + n.val), by omega⟩) := by
  obtain ⟨e1, e2, e7⟩ := idx t
  blk_ext [iblk, V, e1]

theorem i_at (c : Dev nD) (t : Fin cfg0.N) (b : Fin 4) (h : Fin 16) (hb : b.val = (grid0.coords t 0).val) (hh : h.val = (grid0.coords t 1).val)
    (r : Fin 2048) (n : Fin 128) :
    iblk m c 2 t (ix2 r n) = proj m c (ix2 ⟨b.val * 2048 + r.val, by omega⟩ ⟨4096 + (h.val * 128 + n.val), by omega⟩) := by
  obtain ⟨e1, e2, e7⟩ := idx t
  blk_ext [iblk, V, e2]

theorem trips_eq : k0_t1_loop.trips = 8 := by decide

theorem left_at (x1 x2 : Vec Ideal S2048x128 .f32) (k v : Fin 128) :
    left x1 x2 (ix4 0 0 k v) = state (F := Ideal) k0_pay46 x1 x2 (k0_pay45 (F := Ideal)) 8 (ix2 v k) := by
  unfold left outState
  rw [trips_eq]
  generalize state (F := Ideal) k0_pay46 x1 x2 (k0_pay45 (F := Ideal)) 8 = s
  unfold k0_pay3
  pointwise

/-- The whole array of final states. -/
theorem final7 (c : Dev nD) (w : S8192x8192.Idx → ℝ) (hw : ∀ i, proj m c i = (w i : EReal)) :
    (dats m 0 c).arrAt 7 cfg0.N = (refIter (proj m c) 32).main_v31_4 := by
  refine (dats m 0 c).arrAt_eq_of_covers 7 _ (by decide +kernel) fun t hf y => ?_
  blk_simp
  rw [after7]
  obtain ⟨e1, e2, e7⟩ := idx t
  obtain ⟨k, v, rfl⟩ : ∃ k v : Fin 128, y = (ix4 0 0 k v : S1x1x128x128.Idx) := ⟨y 2, y 3, by blk_ext []⟩
  obtain ⟨b, hb⟩ : ∃ b : Fin 4, b.val = (grid0.coords t 0).val := ⟨grid0.coords t 0, rfl⟩
  obtain ⟨h, hh⟩ : ∃ h : Fin 16, h.val = (grid0.coords t 1).val := ⟨grid0.coords t 1, rfl⟩
  have eb : (win0_7.blk t).view.emb (ix4 0 0 k v : S1x1x128x128.Idx) = (ix4 b h k v : S4x16x128x128.Idx) := by
    blk_ext [e7]
  refine Eq.trans ?_ (congrArg ((refIter (proj m c) 32).main_v31_4) eb.symm)
  rw [left_at, refIter_at (proj m c) w (b := b) (h := h) (k := k) (v := v) hw 32 le_rfl]
  refine state_at _ _ (fun n => W w (b * 2048 + n) (2048 + (h * 128 + k))) (vl w b h v)
    (fun n q => W w (b * 2048 + n) (2048 + (h * 128 + q))) v k (fun r n => ?_) (fun r => rfl) (fun r => ?_) 8 le_rfl
  · rw [f_at m c t b h hb hh, W_eq _ w hw]
  · rw [i_at m c t b h hb hh, W_eq _ w hw]
    rfl

/-! ## The claims -/

/-- The kernel ends with every counter at zero and its arguments as they were, whatever the numbers. -/
theorem frame {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

/-- At the machine's floats a named constant is read as the word it names. -/
local instance wordNamed : Named Bits where
  named _ _ {φ} bits := FloatOps.ofBits φ bits

theorem frame_ideal : Cert.quiescent_HpIdeal (hHpIdeal := Cert.HpIdeal.Gen.facts) := fun m ρ _ => frame m ρ

theorem frame_ref : Cert.quiescent_HpRefIdeal (hHpRefIdeal := Cert.HpRefIdeal.Gen.facts) := fun m ρ _ =>
  (θ_run Cert.HpRefIdeal.defs _ _).mono
    (fun r h => ⟨fun c => (h c).2, sem_eq_zero_of_no_sems (by decide) r.2⟩) (Cert.HpRefIdeal.Value.run (F := Ideal) m ρ)

/-- Where the precondition holds, every entry of the projections is a real number. -/
theorem real_of_pre (x0 : FVec Ideal S8192x8192 .f32) (x1 : FVec Ideal S2x2048 .f32) (x2 : FVec Ideal S2x128 .f32)
    (h : @Cert.Pre_finite_hp.fn Cert.Pre_finite_hp.Gen.facts Ideal _ x0 x1 x2 = fun _ => 1#1) :
    ∃ w : S8192x8192.Idx → ℝ, ∀ i, x0 i = (w i : EReal) := by
  have key : ∀ i, x0 i < ⊤ ∧ -x0 i < ⊤ := fun i => by
    have e := Host.reduce_andi_all _ _ _ _ (fun i : Fin 0 => i.elim0) (congrFun h _) i
    pointwise at e
    have e' : FloatOps.absf (x0 i) < Ideal.ofBits FTy.f32 2139095040#32 := of_decide_eq_true (by
      cases hd : decide (FloatOps.absf (x0 i) < Ideal.ofBits FTy.f32 2139095040#32)
      · rw [hd] at e; exact absurd e (by decide)
      · rfl)
    have et : Ideal.ofBits FTy.f32 2139095040#32 = ⊤ := by simp [Ideal.ofBits, Ideal.ieee]
    rw [et] at e'
    exact max_lt_iff.mp e'
  refine ⟨fun i => (x0 i).toReal, fun i => (EReal.coe_toReal (key i).1.ne fun hb => ?_).symm⟩
  have := (key i).2
  rw [hb] at this
  exact absurd this (by simp)

theorem value : Cert.algebraic_HpIdeal_HpRefIdeal_pre_finite_hp (hHpIdeal := Cert.HpIdeal.Gen.facts)
    (hHpRefIdeal := Cert.HpRefIdeal.Gen.facts) (hPre_finite_hp := Cert.Pre_finite_hp.Gen.facts) := by
  intro m ρ m' ρ' hpre hag
  refine ⟨fun c => (dats m 0 c).arrAt 7 cfg0.N,
    (θ_run defs _ _).mono (fun r h c => ⟨(h.1.1 c).1 7, h.2.1 c⟩) (θ_run_and (run m ρ) (frame m ρ)),
    (θ_run Cert.HpRefIdeal.defs _ _).mono (fun r h c => ?_)
      (Cert.HpRefIdeal.StepRun.run_iter (F := Ideal) m' ρ' (fun c => refIter (m' ((c.tc : Thread Cert.HpRefIdeal.nD Cert.HpRefIdeal.τ).loc Cert.HpRefIdeal.main_arg0)))
        (fun c => rfl) (fun c n => rfl))⟩
  obtain ⟨w, hw⟩ := real_of_pre _ _ _ (hpre c)
  obtain ⟨a0, a1, a2⟩ := hag c
  refine ⟨(h c).1.trans ?_, (h c).2⟩
  exact Eq.trans (by rw [a0]) (final7 m c w hw).symm

set_option maxRecDepth 400000 in
/-- The two programs have the same text, the named constant apart. -/
theorem defs_bits : Cert.Hp.defs (F := Bits) = defs :=
  congrArg (Pipeline.defs pcfgs) (show Cert.Hp.defs₀ (F := Bits) = defs₀ from
    congrArg Defs.onTc (funext fun l => funext fun a => match l, a with | 0, (_, _) => rfl))

theorem frame_bits : Cert.quiescent_Hp (hHp := Cert.Hp.Gen.facts) := fun m ρ _ => by
  rw [defs_bits]
  exact frame (F := Bits) m ρ

end Hp
-- ==== Proof.PmRun.lean ====
/-
  The run of the means of the pages: sixteen points write one block of the result, four rows each, and the pages a point reads are
  named by the page table.
-/
module

public import proofs.«01_k».proof.Proof.Gen.PmIdeal.Skeleton
public import proofs.«01_k».proof.Proof.Gen.PmIdeal.Launch
public import Idealize.ShloMosaic.Lib.Pipeline.FrameBody
public import Idealize.ShloMosaic.Lib.Pipeline.DatRel
public import Idealize.ShloMosaic.Lib.Pipeline.ArrRel
public import Idealize.ShloMosaic.Lib.Pipeline.Frame
public import Idealize.ShloMosaic.Lib.Pipeline.ValueKit
public import Idealize.ShloMosaic.Lib.WritesUnit
public import Idealize.ShloMosaic.Lib.Pointwise
public import Idealize.ShloMosaic.Lib.Tactic
public import Idealize.ShloMosaic.Lib.Claim

@[expose] public section

set_option maxRecDepth 16384

noncomputable section

namespace Pm

open Cert.PmIdeal Cert.PmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's four rows, each from its two pages; the other rows as they stood. -/
def Stored (i : grid0.Coords) (x : Fin 8 → Vec F S1x1x128x16x128 .f32) (Y X : Vec F S1x1x64x16x128 .f32) : Prop :=
  (∀ (j : Fin 4) (y : S1x1x64x16x128.Idx), (y 2).val = 4 * (i 2).val + j.val →
      X y = k0_pay1 (x ⟨2 * j.val, by omega⟩) (x ⟨2 * j.val + 1, by omega⟩) (ix5 0 0 0 (y 3) (y 4)))
    ∧ ∀ y : S1x1x64x16x128.Idx, (y 2).val < 4 * (i 2).val → X y = Y y

theorem off_eq (i : grid0.Coords) (r : Fin 4) : k0_off2 i (BitVec.ofNat 32 r.val) = ![0, 0, 4 * (i 2).val + r.val, 0, 0] := by
  have h : (i 2).val < 16 := (i 2).isLt
  have hr := r.isLt
  unfold k0_off2
  funext a
  fin_cases a <;> first | rfl | skip
  show (BitVec.ofNat 32 (i 2).val * 4#32 + BitVec.ofNat 32 r.val).toNat = 4 * (i 2).val + r.val
  rw [BitVec.toNat_add, BitVec.toNat_mul, BitVec.toNat_ofNat, BitVec.toNat_ofNat, BitVec.toNat_ofNat]
  omega

theorem load_page (x : Vec F S1x1x128x16x128 .f32) :
    View.ld x (Rect.unit (s := S1x1x128x16x128) ![0, 0, 0, 0, 0] S1x1x128x16x128.size inb_S1x1x128x16x128_S1x1x128x16x128_0_0_0_0_0) = x := by
  funext y
  exact congrArg x (funext fun a => Fin.ext (by fin_cases a <;> simp [Rect.emb, Rect.unit]))

theorem pay5_eq (x y : Vec F S1x1x128x16x128 .f32) : k0_pay5 (k0_pay3 x) (k0_pay4 y) = k0_pay1 x y := rfl

theorem rows_of {sp : Space} (v : View sig .tc sp S1x1x64x16x128 .f32) (f : v.ty.Contents (Elt F)) (i : grid0.Coords)
    (x : Fin 8 → Vec F S1x1x128x16x128 .f32) (p0 p1 p2 p3 : Vec F S1x1x1x16x128 .f32)
    (h0 : p0 = k0_pay1 (x 0) (x 1)) (h1 : p1 = k0_pay1 (x 2) (x 3)) (h2 : p2 = k0_pay1 (x 4) (x 5)) (h3 : p3 = k0_pay1 (x 6) (x 7)) :
    Stored i x (v.read (Elt F) f) (v.read (Elt F) (v.writes (Elt F) f
      [⟨Rect.unit (s := S1x1x64x16x128) (k0_off2 i 3#32) S1x1x1x16x128.size (k0_off2_inb i 3), p3⟩,
        ⟨Rect.unit (s := S1x1x64x16x128) (k0_off2 i 2#32) S1x1x1x16x128.size (k0_off2_inb i 2), p2⟩,
        ⟨Rect.unit (s := S1x1x64x16x128) (k0_off2 i 1#32) S1x1x1x16x128.size (k0_off2_inb i 1), p1⟩,
        ⟨Rect.unit (s := S1x1x64x16x128) (k0_off2 i 0#32) S1x1x1x16x128.size (k0_off2_inb i 0), p0⟩])) := by
  subst h0 h1 h2 h3
  have hin : ∀ (j : Fin 4) (y : S1x1x64x16x128.Idx), (y 2).val = 4 * (i 2).val + j.val → ∀ a : Fin 5, (y a).val
      = (![0, 0, 4 * (i 2).val + j.val, 0, 0] : Fin 5 → ℕ) a + ((ix5 0 0 0 (y 3) (y 4) : S1x1x1x16x128.Idx) a).val := by
    intro j y hy a
    have e0 : (y 0).val < 1 := (y 0).isLt
    have e1 : (y 1).val < 1 := (y 1).isLt
    fin_cases a
    · show (y 0).val = 0 + 0; omega
    · show (y 1).val = 0 + 0; omega
    · show (y 2).val = 4 * (i 2).val + j.val + 0; omega
    · show (y 3).val = 0 + (y 3).val; omega
    · show (y 4).val = 0 + (y 4).val; omega
  have hout : ∀ (j : Fin 4) (y : S1x1x64x16x128.Idx), (y 2).val < 4 * (i 2).val + j.val →
      (y 2).val < (![0, 0, 4 * (i 2).val + j.val, 0, 0] : Fin 5 → ℕ) 2
        ∨ (![0, 0, 4 * (i 2).val + j.val, 0, 0] : Fin 5 → ℕ) 2 + S1x1x1x16x128.size 2 ≤ (y 2).val := fun j y h => .inl h
  have o0 : k0_off2 i 0#32 = ![0, 0, 4 * (i 2).val + (0 : Fin 4).val, 0, 0] := off_eq i 0
  have o1 : k0_off2 i 1#32 = ![0, 0, 4 * (i 2).val + (1 : Fin 4).val, 0, 0] := off_eq i 1
  have o2 : k0_off2 i 2#32 = ![0, 0, 4 * (i 2).val + (2 : Fin 4).val, 0, 0] := off_eq i 2
  have o3 : k0_off2 i 3#32 = ![0, 0, 4 * (i 2).val + (3 : Fin 4).val, 0, 0] := off_eq i 3
  refine ⟨fun j y hy => ?_, fun y hy => ?_⟩
  · match j, hy with
    | 0, hy =>
      replace hy : (y 2).val = 4 * (i 2).val + 0 := hy
      refine (View.read_writes_cons_unit_of_not_mem v f _ _ _ y o3 2 (hout 3 y (by simpa using (by omega : (y 2).val < 4 * (i 2).val + 3)))).trans ?_
      refine (View.read_writes_cons_unit_of_not_mem v f _ _ _ y o2 2 (hout 2 y (by simpa using (by omega : (y 2).val < 4 * (i 2).val + 2)))).trans ?_
      refine (View.read_writes_cons_unit_of_not_mem v f _ _ _ y o1 2 (hout 1 y (by simpa using (by omega : (y 2).val < 4 * (i 2).val + 1)))).trans ?_
      exact (View.read_writes_cons_unit_of_mem v f _ _ _ y (ix5 0 0 0 (y 3) (y 4) : S1x1x1x16x128.Idx) o0 (hin 0 y hy)).trans rfl
    | 1, hy =>
      replace hy : (y 2).val = 4 * (i 2).val + 1 := hy
      refine (View.read_writes_cons_unit_of_not_mem v f _ _ _ y o3 2 (hout 3 y (by simpa using (by omega : (y 2).val < 4 * (i 2).val + 3)))).trans ?_
      refine (View.read_writes_cons_unit_of_not_mem v f _ _ _ y o2 2 (hout 2 y (by simpa using (by omega : (y 2).val < 4 * (i 2).val + 2)))).trans ?_
      exact (View.read_writes_cons_unit_of_mem v f _ _ _ y (ix5 0 0 0 (y 3) (y 4) : S1x1x1x16x128.Idx) o1 (hin 1 y hy)).trans rfl
    | 2, hy =>
      replace hy : (y 2).val = 4 * (i 2).val + 2 := hy
      refine (View.read_writes_cons_unit_of_not_mem v f _ _ _ y o3 2 (hout 3 y (by simpa using (by omega : (y 2).val < 4 * (i 2).val + 3)))).trans ?_
      exact (View.read_writes_cons_unit_of_mem v f _ _ _ y (ix5 0 0 0 (y 3) (y 4) : S1x1x1x16x128.Idx) o2 (hin 2 y hy)).trans rfl
    | 3, hy =>
      replace hy : (y 2).val = 4 * (i 2).val + 3 := hy
      exact (View.read_writes_cons_unit_of_mem v f _ _ _ y (ix5 0 0 0 (y 3) (y 4) : S1x1x1x16x128.Idx) o3 (hin 3 y hy)).trans rfl
  · refine (View.read_writes_cons_unit_of_not_mem v f _ _ _ y o3 2 (hout 3 y (by simpa using (by omega : (y 2).val < 4 * (i 2).val + 3)))).trans ?_
    refine (View.read_writes_cons_unit_of_not_mem v f _ _ _ y o2 2 (hout 2 y (by simpa using (by omega : (y 2).val < 4 * (i 2).val + 2)))).trans ?_
    refine (View.read_writes_cons_unit_of_not_mem v f _ _ _ y o1 2 (hout 1 y (by simpa using (by omega : (y 2).val < 4 * (i 2).val + 1)))).trans ?_
    refine (View.read_writes_cons_unit_of_not_mem v f _ _ _ y o0 2 (hout 0 y (by simpa using (by omega : (y 2).val < 4 * (i 2).val + 0)))).trans ?_
    rfl

set_option maxHeartbeats 4000000 in
/-- One point. -/
theorem body_run (c : Dev nD) (E : Set ℕ) (i : grid0.Coords)
    (tb : Memref sig .tc .smem S8x128 .i32) (htb : tb.IsWhole)
    (a0 : Memref sig .tc .vmem S1x1x128x16x128 .f32) (ha0 : a0.IsWhole)
    (a1 : Memref sig .tc .vmem S1x1x128x16x128 .f32) (ha1 : a1.IsWhole)
    (a2 : Memref sig .tc .vmem S1x1x128x16x128 .f32) (ha2 : a2.IsWhole)
    (a3 : Memref sig .tc .vmem S1x1x128x16x128 .f32) (ha3 : a3.IsWhole)
    (a4 : Memref sig .tc .vmem S1x1x128x16x128 .f32) (ha4 : a4.IsWhole)
    (a5 : Memref sig .tc .vmem S1x1x128x16x128 .f32) (ha5 : a5.IsWhole)
    (a6 : Memref sig .tc .vmem S1x1x128x16x128 .f32) (ha6 : a6.IsWhole)
    (a7 : Memref sig .tc .vmem S1x1x128x16x128 .f32) (ha7 : a7.IsWhole)
    (o : Memref sig .tc .vmem S1x1x64x16x128 .f32) (ho : o.IsWhole)
    (x : Fin 8 → Vec F S1x1x128x16x128 .f32) (Y : Vec F S1x1x64x16x128 .f32) (K : PUnit → sProp 𝕄) :
    iprop(owns (c : Thread nD τ) a0 fullShare (x 0) ∗ owns (c : Thread nD τ) a1 fullShare (x 1) ∗
        owns (c : Thread nD τ) a2 fullShare (x 2) ∗ owns (c : Thread nD τ) a3 fullShare (x 3) ∗
        owns (c : Thread nD τ) a4 fullShare (x 4) ∗ owns (c : Thread nD τ) a5 fullShare (x 5) ∗
        owns (c : Thread nD τ) a6 fullShare (x 6) ∗ owns (c : Thread nD τ) a7 fullShare (x 7)
        ∗ owns (c : Thread nD τ) o fullShare Y
        ∗ (iprop(owns (c : Thread nD τ) a0 fullShare (x 0) ∗ owns (c : Thread nD τ) a1 fullShare (x 1) ∗
          owns (c : Thread nD τ) a2 fullShare (x 2) ∗ owns (c : Thread nD τ) a3 fullShare (x 3) ∗
          owns (c : Thread nD τ) a4 fullShare (x 4) ∗ owns (c : Thread nD τ) a5 fullShare (x 5) ∗
          owns (c : Thread nD τ) a6 fullShare (x 6) ∗ owns (c : Thread nD τ) a7 fullShare (x 7)
          ∗ (∃ X, ⌜Stored i x Y X⌝ ∗ owns (c : Thread nD τ) o fullShare X)) -∗ K ⟨⟩))
      ⊢ wp frame (wpE (defs₀ (F := F)) Variants.none c none) E
          (cc0_page_block_means i tb htb a0 ha0 a1 ha1 a2 ha2 a3 ha3 a4 ha4 a5 ha5 a6 ha6 a7 ha7 o ho) K := by
  simp only [cc0_page_block_means_eq_skeleton]; unfold cc0_page_block_means_skel
  simp only [k0_part1_eq_skeleton, k0_part2_eq_skeleton]; unfold k0_part1_skel k0_part2_skel
  generalize hx0 : x 0 = x0
  generalize hx1 : x 1 = x1
  generalize hx2 : x 2 = x2
  generalize hx3 : x 3 = x3
  generalize hx4 : x 4 = x4
  generalize hx5 : x 5 = x5
  generalize hx6 : x 6 = x6
  generalize hx7 : x 7 = x7
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, Hk⟩
  subst hf8
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _
  isplitr
  swap
  · iexists _; isplitr; swap; · iexact H8
    ipureintro
    rfl
  ipureintro
  subst hf0 hf1 hf2 hf3 hf4 hf5 hf6 hf7
  refine rows_of o.view f8 i x _ _ _ _ ?_ ?_ ?_ ?_
  · rw [hx0, hx1]; exact congrArg₂ (k0_pay1 (F := F)) (load_page _) (load_page _)
  · rw [hx2, hx3]; dsimp only; exact (pay5_eq _ _).trans <| congrArg₂ (k0_pay1 (F := F)) (load_page _) (load_page _)
  · rw [hx4, hx5]; exact congrArg₂ (k0_pay1 (F := F)) (load_page _) (load_page _)
  · rw [hx6, hx7]; exact congrArg₂ (k0_pay1 (F := F)) (load_page _) (load_page _)

/-! ## The call, at the page table the memory holds -/

abbrev V (c : Dev nD) (b : Ref sig .tc) : Buf (Elt F) ((c : Thread nD τ).loc b) := m ((c : Thread nD τ).loc b)

set_option maxHeartbeats 800000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

def tbl : pre0.Contents (Elt F) := fun j => V m (0 : Dev nD) (pre0.ref j)

theorem V_pre (c : Dev nD) (j : Fin 1) : V m c (pre0.ref j) = tbl m j := by
  obtain rfl : c = 0 := Subsingleton.elim _ _
  rfl

/-- The table names pages of the pool. -/
abbrev Ok : Prop := ok0 (F := F) (tbl m)

variable (hO : Ok m)

abbrev adm : (pcfg0 (F := F)).Adm := ⟨tbl m, hO⟩
abbrev cfgM : Pipeline.Cfg sig Λ₀ := cfg0 (adm m hO)

def iblk (c : Dev nD) (w : Fin (cfgM m hO).W) (t : Fin (cfgM m hO).N) :=
  (((cfgM m hO).win w).blk t).view.read (Elt F) (V m c (Pipeline.arrRef spec0 w))

/-- A point's eight pages. -/
def pages (c : Dev nD) (t : Fin (cfgM m hO).N) : Fin 8 → Vec F S1x1x128x16x128 .f32 := fun
  | 0 => iblk m hO c 0 t
  | 1 => iblk m hO c 1 t
  | 2 => iblk m hO c 2 t
  | 3 => iblk m hO c 3 t
  | 4 => iblk m hO c 4 t
  | 5 => iblk m hO c 5 t
  | 6 => iblk m hO c 6 t
  | 7 => iblk m hO c 7 t

theorem N_eq : (cfgM m hO).N = 256 := N_0

/-- The point that writes row `r` of the block point `t` works on. -/
def at' (t : Fin (cfgM m hO).N) (r : ℕ) (hr : r < 64) : Fin (cfgM m hO).N :=
  ⟨16 * (t.val / 16) + r / 4, lt_of_lt_of_eq (by have := lt_of_lt_of_eq t.isLt (N_eq m hO); omega) (N_eq m hO).symm⟩

/-- The whole block, by its rows. -/
def target (c : Dev nD) (t : Fin (cfgM m hO).N) : Vec F S1x1x64x16x128 .f32 := fun y =>
  k0_pay1 (pages m hO c (at' m hO t (y 2).val (y 2).isLt) ⟨2 * ((y 2).val % 4), by omega⟩)
    (pages m hO c (at' m hO t (y 2).val (y 2).isLt) ⟨2 * ((y 2).val % 4) + 1, by omega⟩) (ix5 0 0 0 (y 3) (y 4))

/-- The proof data: the inputs stay as fetched. -/
def dat (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => target m hO c t
  Φ _ := iprop(Pipeline.ΦA spec0 c ∗ Pipeline.ΦT pre0 (tbl m) c)
  q w := Pipeline.shareOf spec0 w
  owed _ := 0

/-- The output's buffer is known by the rows stored so far. -/
def fgt : Fin (cfgM m hO).W → Bool := fun w => w == (8 : Fin 9)

def Rl (c : Dev nD) : (w : Fin (cfgM m hO).W) → Fin (cfgM m hO).N → (((cfgM m hO).win w).block.Idx → Elt F ((cfgM m hO).win w).elt) → Prop
  | ⟨8, _⟩ => fun t X => ∀ y : S1x1x64x16x128.Idx, (y 2).val < 4 * (t.val % 16 + 1) → X y = target m hO c t y
  | _ => fun _ _ => True

theorem before0 (c : Dev nD) (t : Fin (cfgM m hO).N) (d) : (dat m hO c).before 0 t d = iblk m hO c 0 t :=
  ((dat m hO c).before_in_eq_fetched 0 rfl (fun _ => rfl) (fun _ _ _ => rfl) (fun _ => rfl) t d).trans rfl
theorem before1 (c : Dev nD) (t : Fin (cfgM m hO).N) (d) : (dat m hO c).before 1 t d = iblk m hO c 1 t :=
  ((dat m hO c).before_in_eq_fetched 1 rfl (fun _ => rfl) (fun _ _ _ => rfl) (fun _ => rfl) t d).trans rfl
theorem before2 (c : Dev nD) (t : Fin (cfgM m hO).N) (d) : (dat m hO c).before 2 t d = iblk m hO c 2 t :=
  ((dat m hO c).before_in_eq_fetched 2 rfl (fun _ => rfl) (fun _ _ _ => rfl) (fun _ => rfl) t d).trans rfl
theorem before3 (c : Dev nD) (t : Fin (cfgM m hO).N) (d) : (dat m hO c).before 3 t d = iblk m hO c 3 t :=
  ((dat m hO c).before_in_eq_fetched 3 rfl (fun _ => rfl) (fun _ _ _ => rfl) (fun _ => rfl) t d).trans rfl
theorem before4 (c : Dev nD) (t : Fin (cfgM m hO).N) (d) : (dat m hO c).before 4 t d = iblk m hO c 4 t :=
  ((dat m hO c).before_in_eq_fetched 4 rfl (fun _ => rfl) (fun _ _ _ => rfl) (fun _ => rfl) t d).trans rfl
theorem before5 (c : Dev nD) (t : Fin (cfgM m hO).N) (d) : (dat m hO c).before 5 t d = iblk m hO c 5 t :=
  ((dat m hO c).before_in_eq_fetched 5 rfl (fun _ => rfl) (fun _ _ _ => rfl) (fun _ => rfl) t d).trans rfl
theorem before6 (c : Dev nD) (t : Fin (cfgM m hO).N) (d) : (dat m hO c).before 6 t d = iblk m hO c 6 t :=
  ((dat m hO c).before_in_eq_fetched 6 rfl (fun _ => rfl) (fun _ _ _ => rfl) (fun _ => rfl) t d).trans rfl
theorem before7 (c : Dev nD) (t : Fin (cfgM m hO).N) (d) : (dat m hO c).before 7 t d = iblk m hO c 7 t :=
  ((dat m hO c).before_in_eq_fetched 7 rfl (fun _ => rfl) (fun _ _ _ => rfl) (fun _ => rfl) t d).trans rfl

theorem flush8 (t : Fin (cfgM m hO).N) : ((cfgM m hO).win 8).flush t = true ↔ t.val % 16 = 15 :=
  Pipeline.Window.flush_reads ((cfgM m hO).win 8) rfl (1 : Fin 3) (by show 1 < grid0.bound 1; decide) (by show grid0.fixedAfter reads0_8 1 = true; decide) (fun i i' h => by
    have h' : (i 1).val = (i' 1).val := by
      have := congrFun (show cc0_transform_8 i = cc0_transform_8 i' from h) 1
      have e : ∀ k : grid0.Coords, cc0_transform_8 k 1 = (k 1).val := fun k => by
        have := (k 1).isLt
        show (BitVec.ofNat 32 (k 1).val).toNat = (k 1).val
        have hb : (k 1).val < 8 := (k 1).isLt
        rw [BitVec.toNat_ofNat]; omega
      rw [← e, ← e]; exact this
    exact Fin.ext h') (P := 16) (m := 15) (by show grid0.stride 1 = 16; decide) rfl t

theorem coord2 : ∀ t : Fin grid0.N, (grid0.coords t 2).val = t.val % 16 := by decide +kernel

/-- What a point leaves in the output's buffer, from what it found there. -/
theorem leaves8 (c : Dev nD) (t : Fin (cfgM m hO).N) (Y X : Vec F S1x1x64x16x128 .f32)
    (hY : ((dat m hO c).toRRel (fgt m hO) (Rl m hO c)).Finds 8 t Y) (hX : Stored (grid0.coords t) (pages m hO c t) Y X) :
    Rl m hO c 8 t X := by
  intro y hy
  obtain ⟨h1, h2⟩ := hX
  have hc : (grid0.coords t 2).val = t.val % 16 := coord2 t
  by_cases hr : (y 2).val < 4 * (t.val % 16)
  · rw [h2 y (by rw [hc]; exact hr)]
    have h0 : t.val ≠ 0 := by omega
    rcases (Pipeline.RDat.finds_of_pos _ (w := 8) rfl h0 Y).mp hY with hf | hl
    · have := (flush8 m hO _).mp hf
      simp only at this
      omega
    · have := Dat.toRRel_leaves (dat m hO c) (fgt := fgt m hO) (Rl := Rl m hO c) (w := 8) rfl hl y (by
        show (y 2).val < 4 * ((t.val - 1) % 16 + 1); omega)
      rw [this]
      have e : at' m hO ⟨t.val - 1, by have := t.isLt; omega⟩ (y 2).val (y 2).isLt = at' m hO t (y 2).val (y 2).isLt :=
        Fin.ext (by show 16 * ((t.val - 1) / 16) + _ = 16 * (t.val / 16) + _; omega)
      unfold target
      rw [e]
  · have hj := h1 ⟨(y 2).val % 4, by omega⟩ y (by rw [hc]; show (y 2).val = 4 * (t.val % 16) + (y 2).val % 4; omega)
    rw [hj]
    have e : at' m hO t (y 2).val (y 2).isLt = t :=
      Fin.ext (by show 16 * (t.val / 16) + (y 2).val / 4 = t.val; omega)
    unfold target
    rw [e]

def bodyPre (c : Dev nD) (t : Fin (cfgM m hO).N) : sProp 𝕄 :=
  iprop((dat m hO c).Φ t.castSucc ∗ (dat m hO c).owesAt () t.castSucc
    ∗ (∃ d, owns (c : Thread nD τ) (((cfgM m hO).win 0).stage ((cfgM m hO).slots t 0)) fullShare ((dat m hO c).before 0 t d))
    ∗ (∃ d, owns (c : Thread nD τ) (((cfgM m hO).win 1).stage ((cfgM m hO).slots t 1)) fullShare ((dat m hO c).before 1 t d))
    ∗ (∃ d, owns (c : Thread nD τ) (((cfgM m hO).win 2).stage ((cfgM m hO).slots t 2)) fullShare ((dat m hO c).before 2 t d))
    ∗ (∃ d, owns (c : Thread nD τ) (((cfgM m hO).win 3).stage ((cfgM m hO).slots t 3)) fullShare ((dat m hO c).before 3 t d))
    ∗ (∃ d, owns (c : Thread nD τ) (((cfgM m hO).win 4).stage ((cfgM m hO).slots t 4)) fullShare ((dat m hO c).before 4 t d))
    ∗ (∃ d, owns (c : Thread nD τ) (((cfgM m hO).win 5).stage ((cfgM m hO).slots t 5)) fullShare ((dat m hO c).before 5 t d))
    ∗ (∃ d, owns (c : Thread nD τ) (((cfgM m hO).win 6).stage ((cfgM m hO).slots t 6)) fullShare ((dat m hO c).before 6 t d))
    ∗ (∃ d, owns (c : Thread nD τ) (((cfgM m hO).win 7).stage ((cfgM m hO).slots t 7)) fullShare ((dat m hO c).before 7 t d))
    ∗ (∃ Y, ⌜((dat m hO c).toRRel (fgt m hO) (Rl m hO c)).Finds 8 t Y⌝ ∗ owns (c : Thread nD τ) (((cfgM m hO).win 8).stage ((cfgM m hO).slots t 8)) fullShare Y))

def bodyPost (c : Dev nD) (t : Fin (cfgM m hO).N) : sProp 𝕄 :=
  iprop((dat m hO c).Φ t.succ ∗ (dat m hO c).owesAt () t.succ
    ∗ owns (c : Thread nD τ) (((cfgM m hO).win 0).stage ((cfgM m hO).slots t 0)) fullShare ((dat m hO c).after 0 t)
    ∗ owns (c : Thread nD τ) (((cfgM m hO).win 1).stage ((cfgM m hO).slots t 1)) fullShare ((dat m hO c).after 1 t)
    ∗ owns (c : Thread nD τ) (((cfgM m hO).win 2).stage ((cfgM m hO).slots t 2)) fullShare ((dat m hO c).after 2 t)
    ∗ owns (c : Thread nD τ) (((cfgM m hO).win 3).stage ((cfgM m hO).slots t 3)) fullShare ((dat m hO c).after 3 t)
    ∗ owns (c : Thread nD τ) (((cfgM m hO).win 4).stage ((cfgM m hO).slots t 4)) fullShare ((dat m hO c).after 4 t)
    ∗ owns (c : Thread nD τ) (((cfgM m hO).win 5).stage ((cfgM m hO).slots t 5)) fullShare ((dat m hO c).after 5 t)
    ∗ owns (c : Thread nD τ) (((cfgM m hO).win 6).stage ((cfgM m hO).slots t 6)) fullShare ((dat m hO c).after 6 t)
    ∗ owns (c : Thread nD τ) (((cfgM m hO).win 7).stage ((cfgM m hO).slots t 7)) fullShare ((dat m hO c).after 7 t)
    ∗ (∃ X, ⌜Rl m hO c 8 t X⌝ ∗ owns (c : Thread nD τ) (((cfgM m hO).win 8).stage ((cfgM m hO).slots t 8)) fullShare X))

def bodyAt (t : Fin (cfgM m hO).N) : Prog (TpuEff nD τ sig (Elt F) Λ₀ .tc) PUnit :=
  cc0_page_block_means (grid0.coords t) (Memref.whole main_arg1) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (spec0_7.stage ((cfgM m hO).slots t 7)) (hstage0_7 (((cfgM m hO).slots t 7).cast nbuf0_7)) (spec0_8.stage ((cfgM m hO).slots t 8)) (hstage0_8 (((cfgM m hO).slots t 8).cast nbuf0_8))

set_option maxHeartbeats 2000000 in
theorem sound_body (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5, before6, before7]
  rw [show (dat m hO c).Φ t.succ = (dat m hO c).Φ t.castSucc from rfl,
    show (dat m hO c).owesAt () t.succ = (dat m hO c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%Y, %hY, H8⟩⟩
  iapply (body_run c Set.univ (grid0.coords t) _ _ _ _ _ _ _ _ _ _ _ _ _ _ _ _ _ _ _ _ (pages m hO c t) Y _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, ⟨%X, %hX, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists X
  isplitr
  · ipureintro; exact leaves8 m hO c t Y X hY hX
  iexact H8

theorem body_row (t : Fin (cfgM m hO).N) :
    defs₀ (F := F) .tc (cfgM m hO).body ((cfgM m hO).bodyArgs t ((cfgM m hO).slots t)) = bodyAt m hO t := by
  unfold defs₀; rw [Defs.onTc_tc]; rfl

theorem obligation (c : Dev nD) :
    BodyObligationRel (dat (F := F) m hO c) (defs₀ (F := F)) Variants.none () Set.univ (fgt m hO) (Rl m hO c) := fun t => by
  rw [bigSep_W0, bigSep_W0, body_row]
  exact triple_restated (sound_body m hO c t) rfl .rfl fun _ => .rfl

set_option backward.isDefEq.respectTransparency.types false in
set_option maxHeartbeats 1600000 in
/-- The run: every array ends at what the points leave, and every counter at zero. -/
theorem run : θ_run defs (onTc (τ := τ) (main (F := F))) (s₀ m ρ) (fun r =>
    RDat.FramePost (cfgM m hO) (fun c => (dat m hO c).toRRel (fgt m hO) (Rl m hO c)) (V m) r ∧ r.2.sem = fun _ => 0) :=
  Pipeline.RDat.θ_run_frameP_track_shared (Q' := _) pcfgs (fun _ => adm m hO) (0 : Fin 1) launch₀0 defs₀ Variants.none
    (fun c => (dat m hO c).toRRel (fgt m hO) (Rl m hO c)) m ρ main
    (hbody := fun c => (obligation m hO c).toRRel) (hq := fun _ _ _ => rfl) (howed := fun _ _ => rfl)
    (V := V m) (hmain := hmain m Variants.none) (hA := fun _ _ => rfl) (hpf := V_pre m) (hin := fun _ => .rfl)
    (hout := fun c => by
      change iprop(_ ∗ _) ⊢ _
      iintro ⟨H, -⟩
      iexact H)

end Pm
-- ==== Proof.PmKernel.lean ====
/-
  The means of the pages, entry by entry: what the page table makes of a point's blocks, and the whole result.
-/
module

public import proofs.«01_k».proof.Proof.PmRun

@[expose] public section

set_option maxRecDepth 16384

noncomputable section

namespace Pm

open Cert.PmIdeal Cert.PmIdeal.Gen
open Idealize.ShloMosaic Idealize.ShloMosaic.TcCoe
open Idealize.SL.Sem
open Idealize.ShloMosaic.Pipeline (Dat RDat)
open scoped BigOperators

variable {F : FTy → Type} [FloatOps F]

/-- The place in the table a point's page `r` is named at. -/
abbrev slot (i : grid0.Coords) (r : Fin 8) : S8x128.Idx :=
  ix2 (i 1) ⟨8 * (i 2).val + r.val, by have h : (i 2).val < 16 := (i 2).isLt; omega⟩

theorem word_eq (pf : pre0.Contents (Elt F)) (i : grid0.Coords) (r : Fin 8) :
    pf.at 0 (Rect.unit (s := S8x128) (k0_off1 i (BitVec.ofNat 32 r.val)) S1x1.size (k0_off1_inb i r)) numel1_S1x1 = pf 0 (slot i r) := by
  have h1 : (i 1).val < 8 := (i 1).isLt
  have h2 : (i 2).val < 16 := (i 2).isLt
  have hr := r.isLt
  refine congrArg (pf 0) (funext fun a => Fin.ext ?_)
  fin_cases a
  · show (BitVec.ofNat 32 (i 1).val).toNat + 1 * 0 = (i 1).val
    rw [BitVec.toNat_ofNat]; omega
  · show (BitVec.ofNat 32 (i 2).val * 8#32 + BitVec.ofNat 32 r.val).toNat + 1 * 0 = 8 * (i 2).val + r.val
    rw [BitVec.toNat_add, BitVec.toNat_mul, BitVec.toNat_ofNat, BitVec.toNat_ofNat, BitVec.toNat_ofNat]
    omega

/-- The block of page `r`. -/
abbrev ixr (pf : pre0.Contents (Elt F)) (i : grid0.Coords) (r : Fin 8) : Fin 5 → ℕ :=
  ![(BitVec.ofNat 32 (i 0).val).toNat,
    (pf.at 0 (Rect.unit (s := S8x128) (k0_off1 i (BitVec.ofNat 32 r.val)) S1x1.size (k0_off1_inb i r)) numel1_S1x1 : BitVec 32).toNat, 0, 0, 0]

theorem ixr_eq (pf : pre0.Contents (Elt F)) (i : grid0.Coords) (r : Fin 8) :
    ixr pf i r = ![(i 0).val, (pf 0 (slot i r) : BitVec 32).toNat, 0, 0, 0] := by
  unfold ixr
  rw [word_eq]
  have h : (i 0).val < 2 := (i 0).isLt
  rw [BitVec.toNat_ofNat, Nat.mod_eq_of_lt (by omega)]

theorem fits (pf : pre0.Contents (Elt F)) (hpf : ∀ s, (pf 0 s : BitVec 32).toNat < 1280) (i : grid0.Coords) (r : Fin 8) (a : Fin 5) :
    (ixr pf i r a + 1) * S1x1x128x16x128.size a ≤ S2x1280x128x16x128.size a := by
  have h : (i 0).val < 2 := (i 0).isLt
  have := hpf (slot i r)
  rw [ixr_eq]
  fin_cases a
  · show ((i 0).val + 1) * 1 ≤ 2; omega
  · show ((pf 0 (slot i r) : BitVec 32).toNat + 1) * 1 ≤ 1280; omega
  · exact le_rfl
  · exact le_rfl
  · exact le_rfl

/-- A table of pages of the pool is one the call runs at. -/
theorem ok_of (pf : pre0.Contents (Elt F)) (hpf : ∀ s, (pf 0 s : BitVec 32).toNat < 1280) : ok0 pf :=
  ⟨fun i => ⟨fits pf hpf i 0, .inl rfl⟩, fun i => ⟨fits pf hpf i 1, .inl rfl⟩, fun i => ⟨fits pf hpf i 2, .inl rfl⟩,
    fun i => ⟨fits pf hpf i 3, .inl rfl⟩, fun i => ⟨fits pf hpf i 4, .inl rfl⟩, fun i => ⟨fits pf hpf i 5, .inl rfl⟩,
    fun i => ⟨fits pf hpf i 6, .inl rfl⟩, fun i => ⟨fits pf hpf i 7, .inl rfl⟩⟩

variable (m : (ℓ : Loc nD τ sig) → Buf (Elt F) ℓ)

abbrev pool (c : Dev nD) : Vec F S2x1280x128x16x128 .f32 := m ((c : Thread nD τ).loc main_arg0)

theorem emb_at (ix : Fin 5 → ℕ) (h : ∀ a, (ix a + 1) * S1x1x128x16x128.size a ≤ S2x1280x128x16x128.size a) (l : Fin 2) (p : Fin 1280)
    (hix : ix = ![l.val, p.val, 0, 0, 0]) (k : Fin 128) (g : Fin 16) (d : Fin 128) :
    (Rect.block (s := S2x1280x128x16x128) S1x1x128x16x128.size ix h).emb (ix5 0 0 k g d : S1x1x128x16x128.Idx) = ix5 l p k g d := by
  subst hix
  funext a
  refine Fin.ext ?_
  fin_cases a
  · show l.val * 1 + 1 * 0 = l.val; omega
  · show p.val * 1 + 1 * 0 = p.val; omega
  · show 0 * 128 + 1 * k.val = k.val; omega
  · show 0 * 16 + 1 * g.val = g.val; omega
  · show 0 * 128 + 1 * d.val = d.val; omega

variable (hO : Ok m)

theorem page_at (hpf : ∀ s, (tbl m 0 s : BitVec 32).toNat < 1280) (c : Dev nD) (t : Fin (cfgM m hO).N) (r : Fin 8)
    (k : Fin 128) (g : Fin 16) (d : Fin 128) :
    pages m hO c t r (ix5 0 0 k g d)
      = pool m c (ix5 (grid0.coords t 0) ⟨(tbl m 0 (slot (grid0.coords t) r) : BitVec 32).toNat, hpf _⟩ k g d) := by
  have h := fun r => emb_at (ixr (tbl m) (grid0.coords t) r) (fits (tbl m) hpf (grid0.coords t) r) (grid0.coords t 0) ⟨_, hpf _⟩
    (ixr_eq (tbl m) (grid0.coords t) r) k g d
  fin_cases r
  · exact congrArg (pool m c) (h 0)
  · exact congrArg (pool m c) (h 1)
  · exact congrArg (pool m c) (h 2)
  · exact congrArg (pool m c) (h 3)
  · exact congrArg (pool m c) (h 4)
  · exact congrArg (pool m c) (h 5)
  · exact congrArg (pool m c) (h 6)
  · exact congrArg (pool m c) (h 7)

theorem pay_at (x y : Vec Ideal S1x1x128x16x128 .f32) (g : Fin 16) (d : Fin 128) :
    k0_pay1 x y (ix5 0 0 0 g d) = ((∑ k : Fin 128, x (ix5 0 0 k g d)) + ∑ k : Fin 128, y (ix5 0 0 k g d)) * Ideal.ofBits FTy.f32 0x3B800000#32 := by
  unfold k0_pay1
  pointwise

end Pm
-- ==== Proof.PmRef.lean ====
/-
  The reference's means of the pages, entry by entry.
-/
module

public import proofs.«01_k».proof.Proof.Gen.PmRefIdeal.Read
public import Idealize.ShloMosaic.Lib.Pointwise
public import Idealize.ShloMosaic.Lib.Pipeline.ValueKit

@[expose] public section

set_option maxRecDepth 16384

noncomputable section

namespace PmRef

open Cert.PmRefIdeal Cert.PmRefIdeal.Gen Cert.PmRefIdeal.Read
open Idealize.ShloMosaic Idealize.ShloMosaic.TcCoe
open scoped BigOperators

abbrev gd := gather_S2x1280x128x16x128_S8x128x2_S8x128x128x16x128_234_01_n_n_01_2_1112816128

/-- A page read through the table: the element of the page the index names, where it names one of the pool. -/
theorem gather_at {α : Type} (x : S2x1280x128x16x128.Idx → α) (idx : IVec S8x128x2 32) (b : Fin 8) (s k : Fin 128) (g : Fin 16) (d : Fin 128)
    (l : Fin 2) (p : Fin 1280) (h0 : (idx (ix3 b s 0)).toInt.toNat = l.val) (h1 : (idx (ix3 b s 1)).toInt.toNat = p.val) :
    Host.gather gd x idx (ix5 b s k g d) = x (ix5 l p k g d) := by
  unfold Host.gather
  refine congrArg x (funext fun a => Fin.ext ?_)
  show gd.start _ idx a + gd.batchCoord _ a + gd.offCoord _ a = _
  rw [GatherDims.batchCoord_eq_zero _ _ _ (fun h => absurd h List.not_mem_nil), Nat.add_zero]
  have hl := l.isLt
  have hp := p.isLt
  fin_cases a
  · rw [GatherDims.offCoord_eq_zero _ _ _ (by decide)]
    unfold GatherDims.start
    rw [dif_pos (by decide)]
    have e : gd.siIdx (ix5 b s k g d) ⟨List.idxOf (0 : Fin 5) gd.startIndexMap, by decide⟩ = ix3 b s 0 := by
      funext c
      fin_cases c <;> rfl
    refine (congrArg (fun i => min (idx i).toInt.toNat 1 + 0) e).trans ?_
    show min (idx (ix3 b s 0)).toInt.toNat 1 + 0 = l.val
    omega
  · rw [GatherDims.offCoord_eq_zero _ _ _ (by decide)]
    unfold GatherDims.start
    rw [dif_pos (by decide)]
    have e : gd.siIdx (ix5 b s k g d) ⟨List.idxOf (1 : Fin 5) gd.startIndexMap, by decide⟩ = ix3 b s 1 := by
      funext c
      fin_cases c <;> rfl
    refine (congrArg (fun i => min (idx i).toInt.toNat 1279 + 0) e).trans ?_
    show min (idx (ix3 b s 1)).toInt.toNat 1279 + 0 = p.val
    omega
  · unfold GatherDims.start GatherDims.offCoord
    rw [dif_neg (by decide), dif_pos (by decide), Nat.zero_add]
    rfl
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

/-- The index array of a layer: the layer, then the page. -/
theorem pair_at (x y : IVec S8x128x1 32) (b : Fin 8) (s : Fin 128) :
    concatenate S8x128x2 2 [⟨S8x128x1, x⟩, ⟨S8x128x1, y⟩] concatenates_S8x128x1_S8x128x1_S8x128x2_d2 (ix3 b s 0) = x (ix3 b s 0)
      ∧ concatenate S8x128x2 2 [⟨S8x128x1, x⟩, ⟨S8x128x1, y⟩] concatenates_S8x128x1_S8x128x1_S8x128x2_d2 (ix3 b s 1) = y (ix3 b s 0) :=
  ⟨concatenate_pair_apply_left (s₁ := S8x128x1) (t := S8x128x2) (2 : Fin 3) _ _ _ _ rfl
      (ix3 b s 0 : S8x128x1.Idx) (fun a => by fin_cases a <;> rfl),
    concatenate_pair_apply_right (s₁ := S8x128x1) (s₂ := S8x128x1) (t := S8x128x2) (2 : Fin 3) _ _ _ _ rfl rfl (ix3 b s 0 : S8x128x1.Idx)
      (fun a ha => by fin_cases a <;> first | exact absurd rfl ha | rfl) rfl⟩

variable (x0 : FVec Ideal S2x1280x128x16x128 .f32) (x1 : IVec S8x128 32) (hx : ∀ s, (x1 s).toNat < 1280)

include hx in
/-- A page of the pool is its own number, negative numbers counting from the end. -/
theorem wrap (i : S8x128.Idx) (y : BitVec 32) : Scalar.select (IntOp.cmpi .slt (x1 i) 0#32) y (x1 i) = x1 i := by
  have h := hx i
  generalize x1 i = w at h ⊢
  have : IntOp.cmpi .slt w 0#32 = 0#1 := by
    have : ¬ w.toInt < 0 := by rw [BitVec.toInt_eq_toNat_of_lt (by omega)]; omega
    simp [IntOp.cmpi, BitVec.slt, this]
  rw [this]
  rfl

/-- The page the table names. -/
abbrev pg (b : Fin 8) (s : Fin 128) : Fin 1280 := ⟨(x1 (ix2 b s)).toNat, hx _⟩

/-- The mean of a block of two pages. -/
def mean (l : Fin 2) (b : Fin 8) (r : Fin 64) (g : Fin 16) (d : Fin 128) : EReal :=
  ((∑ k : Fin 128, x0 (ix5 l (pg x1 hx b ⟨2 * r.val, by omega⟩) k g d))
    + ∑ k : Fin 128, x0 (ix5 l (pg x1 hx b ⟨2 * r.val + 1, by omega⟩) k g d)) * Ideal.ofBits FTy.f32 0x3B800000#32

include hx in
theorem word_at (b : Fin 8) (s : Fin 128) : (x1 (ix2 b s)).toInt.toNat = (pg x1 hx b s).val := by
  have h := hx (ix2 b s)
  rw [BitVec.toInt_eq_toNat_of_lt (by omega)]
  rfl

include hx in
theorem v8_at (b : Fin 8) (s : Fin 128) : val_main_v8 (F := Ideal) x1 (ix3 b s 0) = x1 (ix2 b s) := by
  have e : idx_main_v8 (ix3 b s 0) = ix2 b s := funext fun a => by fin_cases a <;> rfl
  rw [val_main_v8_apply, e, val_main_v4_apply, val_main_v1_apply, val_main_v0_apply, val_main_c_apply]
  exact wrap x1 hx _ _

include hx in
theorem v23_at (b : Fin 8) (s : Fin 128) : val_main_v23 (F := Ideal) x1 (ix3 b s 0) = x1 (ix2 b s) := by
  have e : idx_main_v23 (ix3 b s 0) = ix2 b s := funext fun a => by fin_cases a <;> rfl
  rw [val_main_v23_apply, e, val_main_v19_apply, val_main_v16_apply, val_main_v15_apply, val_main_c_3_apply]
  exact wrap x1 hx _ _

theorem page0 (b : Fin 8) (s k : Fin 128) (g : Fin 16) (d : Fin 128) :
    val_main_v10 (F := Ideal) x0 x1 (ix5 b s k g d) = x0 (ix5 0 (pg x1 hx b s) k g d) := by
  unfold val_main_v10
  refine gather_at x0 _ b s k g d 0 (pg x1 hx b s) ?_ ?_
  · unfold val_main_v9
    rw [(pair_at _ _ b s).1, val_main_v7_apply, val_main_v6_apply, val_main_v5_apply, val_main_c_1_apply]
    rfl
  · unfold val_main_v9
    rw [(pair_at _ _ b s).2, v8_at x1 hx]
    exact word_at x1 hx b s

theorem page1 (b : Fin 8) (s k : Fin 128) (g : Fin 16) (d : Fin 128) :
    val_main_v25 (F := Ideal) x0 x1 (ix5 b s k g d) = x0 (ix5 1 (pg x1 hx b s) k g d) := by
  unfold val_main_v25
  refine gather_at x0 _ b s k g d 1 (pg x1 hx b s) ?_ ?_
  · unfold val_main_v24
    rw [(pair_at _ _ b s).1, val_main_v22_apply, val_main_v21_apply, val_main_v20_apply, val_main_c_5_apply]
    rfl
  · unfold val_main_v24
    rw [(pair_at _ _ b s).2, v23_at x1 hx]
    exact word_at x1 hx b s

theorem quarter (x : EReal) : Ideal.div x (Ideal.ofBits FTy.f32 0x43800000#32) = x * Ideal.ofBits FTy.f32 0x3B800000#32 := by
  have e1 : Ideal.ofBits FTy.f32 0x43800000#32 = ((256 : ℝ) : EReal) := by
    simp [Ideal.ofBits, Ideal.ieee]
    rw [← EReal.coe_mul]
    exact congrArg _ (by norm_num)
  have e2 : Ideal.ofBits FTy.f32 0x3B800000#32 = ((1 / 256 : ℝ) : EReal) := by
    simp [Ideal.ofBits, Ideal.ieee]
    rw [← EReal.coe_mul]
    exact congrArg _ (by norm_num)
  rw [e1, e2, Ideal.div_coe (by norm_num)]

/-- A row of a block, by its page and its row in the page. -/
theorem row_at (b : Fin 8) (r : Fin 64) (g : Fin 16) (d k : Fin 128) (q : Fin 2) :
    idx_main_v11 (idx_main_v12 (ix4 b r g d) ⟨128 * q.val + k.val, by omega⟩) = ix5 b ⟨2 * r.val + q.val, by omega⟩ k g d := by
  funext a
  refine Fin.ext ?_
  have hb := b.isLt; have hr := r.isLt; have hk := k.isLt; have hg := g.isLt; have hd := d.isLt; have hq := q.isLt
  fin_cases a
  · show ((((b.val * 64 + r.val) * 256 + (128 * q.val + k.val)) * 16 + g.val) * 128 + d.val) / 33554432 = b.val; omega
  · show ((((b.val * 64 + r.val) * 256 + (128 * q.val + k.val)) * 16 + g.val) * 128 + d.val) / 262144 % 128 = 2 * r.val + q.val; omega
  · show ((((b.val * 64 + r.val) * 256 + (128 * q.val + k.val)) * 16 + g.val) * 128 + d.val) / 2048 % 128 = k.val; omega
  · show ((((b.val * 64 + r.val) * 256 + (128 * q.val + k.val)) * 16 + g.val) * 128 + d.val) / 128 % 16 = g.val; omega
  · show ((((b.val * 64 + r.val) * 256 + (128 * q.val + k.val)) * 16 + g.val) * 128 + d.val) % 128 = d.val; omega

/-- The sum over a block's rows is the sum over its two pages' rows. -/
theorem two_pages (y : S8x128x128x16x128.Idx → EReal) (b : Fin 8) (r : Fin 64) (g : Fin 16) (d : Fin 128) :
    (0 : EReal) + ∑ k : Fin 256, y (idx_main_v11 (idx_main_v12 (ix4 b r g d) k))
      = (∑ k : Fin 128, y (ix5 b ⟨2 * r.val, by omega⟩ k g d)) + ∑ k : Fin 128, y (ix5 b ⟨2 * r.val + 1, by omega⟩ k g d) := by
  rw [zero_add]
  refine (Fin.sum_univ_add (a := 128) (b := 128) fun k => y (idx_main_v11 (idx_main_v12 (ix4 b r g d) k))).trans ?_
  refine congrArg₂ (· + ·) (Finset.sum_congr rfl fun k _ => congrArg y ?_) (Finset.sum_congr rfl fun k _ => congrArg y ?_)
  · exact Eq.trans (congrArg (fun n => idx_main_v11 (idx_main_v12 (ix4 b r g d) n)) (Fin.ext (by show k.val = 128 * 0 + k.val; omega)))
      (row_at b r g d k 0)
  · exact row_at b r g d k 1

theorem zero_word : (FloatOps.ofBits FTy.f32 0x00000000#32 : Ideal .f32) = (0 : EReal) := by
  show Ideal.ofBits FTy.f32 0x00000000#32 = 0
  simp [Ideal.ofBits, Ideal.ieee]

theorem layer0 (b : Fin 8) (r : Fin 64) (g : Fin 16) (d : Fin 128) :
    val_main_v14 (F := Ideal) x0 x1 (ix4 b r g d) = mean x0 x1 hx 0 b r g d := by
  rw [val_main_v14_apply, val_main_v12_apply]
  refine (quarter _).trans (congrArg (· * _) ?_)
  rw [val_main_cst_apply, zero_word]
  refine Eq.trans (congrArg ((0 : EReal) + ·) (Finset.sum_congr rfl fun k _ => val_main_v11_apply (F := Ideal) x0 x1 (idx_main_v12 (ix4 b r g d) k))) ?_
  refine (two_pages _ b r g d).trans ?_
  exact congrArg₂ (· + ·) (Finset.sum_congr rfl fun k _ => page0 x0 x1 hx b _ k g d) (Finset.sum_congr rfl fun k _ => page0 x0 x1 hx b _ k g d)

theorem layer1 (b : Fin 8) (r : Fin 64) (g : Fin 16) (d : Fin 128) :
    val_main_v29 (F := Ideal) x0 x1 (ix4 b r g d) = mean x0 x1 hx 1 b r g d := by
  rw [val_main_v29_apply, val_main_v27_apply]
  refine (quarter _).trans (congrArg (· * _) ?_)
  rw [val_main_cst_6_apply, zero_word]
  refine Eq.trans (congrArg ((0 : EReal) + ·) (Finset.sum_congr rfl fun k _ => val_main_v26_apply (F := Ideal) x0 x1 (idx_main_v27 (ix4 b r g d) k))) ?_
  refine (two_pages _ b r g d).trans ?_
  exact congrArg₂ (· + ·) (Finset.sum_congr rfl fun k _ => page1 x0 x1 hx b _ k g d) (Finset.sum_congr rfl fun k _ => page1 x0 x1 hx b _ k g d)

/-- The reference's result, entry by entry. -/
theorem ref_at (l : Fin 2) (b : Fin 8) (r : Fin 64) (g : Fin 16) (d : Fin 128) :
    val_main_v32 (F := Ideal) x0 x1 (ix5 l b r g d) = mean x0 x1 hx l b r g d := by
  unfold val_main_v32
  fin_cases l
  · refine (concatenate_pair_apply_left (s₁ := S1x8x64x16x128) (t := S2x8x64x16x128) (0 : Fin 5) _ _ _ _ rfl
      (ix5 0 b r g d : S1x8x64x16x128.Idx) (fun a => by fin_cases a <;> rfl)).trans ?_
    rw [val_main_v30_apply]
    refine Eq.trans ?_ (layer0 x0 x1 hx b r g d)
    exact congrArg _ (funext fun a => by fin_cases a <;> rfl)
  · refine (concatenate_pair_apply_right (s₁ := S1x8x64x16x128) (s₂ := S1x8x64x16x128) (t := S2x8x64x16x128) (0 : Fin 5) _ _ _ _ rfl rfl
      (ix5 0 b r g d : S1x8x64x16x128.Idx) (fun a ha => by fin_cases a <;> first | exact absurd rfl ha | rfl) rfl).trans ?_
    rw [val_main_v31_apply]
    refine Eq.trans ?_ (layer1 x0 x1 hx b r g d)
    exact congrArg _ (funext fun a => by fin_cases a <;> rfl)

end PmRef
-- ==== Proof.PmValue.lean ====
/-
  The means of the pages: the claims.
-/
module

public import proofs.«01_k».proof.Proof.PmKernel
public import proofs.«01_k».proof.Proof.PmRef
public import proofs.«01_k».proof.Proof.Gen.Pm
public import proofs.«01_k».proof.Proof.Gen.PmIdeal
public import proofs.«01_k».proof.Proof.Gen.PmRefIdeal
public import proofs.«01_k».proof.Proof.Gen.PmRefIdeal.Run
public import proofs.«01_k».proof.Proof.Gen.Pre_in_pool
public import proofs.«01_k».proof.Defs
public import Idealize.ShloMosaic.Lib.ReduceAll
public import Idealize.ShloMosaic.Lib.Pointwise
public import Idealize.ShloMosaic.Lib.Pipeline.ValueKit

@[expose] public section

set_option maxRecDepth 16384

namespace Pm

open Cert.PmIdeal Cert.PmIdeal.Gen Idealize.ShloMosaic Idealize.ShloMosaic.TcCoe Idealize.SL.Sem
open Idealize.ShloMosaic.Pipeline (Dat RDat)
open scoped BigOperators

/-! ## The precondition -/

/-- Where the precondition holds, the table names pages of the pool. -/
theorem words_of_pre {F : FTy → Type} [FloatOps F] (x0 : FVec F S2x1280x128x16x128 .f32) (x1 : IVec S8x128 32)
    (h : @Cert.Pre_in_pool.fn Cert.Pre_in_pool.Gen.facts F _ x0 x1 = fun _ => 1#1) (s : S8x128.Idx) : (x1 s).toNat < 1280 := by
  have e := Host.reduce_andi_all _ _ _ _ (fun i : Fin 0 => i.elim0) (congrFun h _) s
  have e' : IntOp.andi (IntOp.cmpi .sge (x1 s) 0#32) (IntOp.cmpi .slt (x1 s) 1280#32) = 1#1 := e
  generalize x1 s = w at e' ⊢
  have e2 : BitVec.ofBool ((0#32).sle w && w.slt 1280#32) = 1#1 := by simpa [IntOp.cmpi, IntOp.andi] using e'
  obtain ⟨h1, h2⟩ : (0#32).sle w = true ∧ w.slt 1280#32 = true := by
    rw [← Bool.and_eq_true]
    cases hb : ((0#32).sle w && w.slt 1280#32)
    · rw [hb] at e2; exact absurd e2 (by decide)
    · rfl
  rw [BitVec.sle_iff_toInt_le] at h1
  rw [BitVec.slt_iff_toInt_lt] at h2
  have e0 : (0#32).toInt = 0 := by decide
  have e1 : (1280#32).toInt = 1280 := by decide
  rw [e0] at h1
  rw [e1] at h2
  rw [BitVec.toInt_eq_toNat_cond] at h1 h2
  split at h1 <;> omega

/-! ## The run, read at the arguments -/

section
variable {F : FTy → Type} [FloatOps F] (m : (ℓ : Loc nD τ sig) → Buf (Elt F) ℓ) (ρ : Dev nD → PrngReg)

/-- The kernel ends with every counter at zero and its arguments as they were, whatever the numbers. -/
theorem frame (hpf : ∀ s, (tbl m 0 s : BitVec 32).toNat < 1280) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨h.1.arr_in c 0 rfl,
    (h.1 c).2 main_arg1 (Pipeline.mem_restRefs_of main_arg1 rfl (by show ∀ w : Fin 9, (spec0 w).arr.view.ref ≠ main_arg1; decide))⟩, h.2⟩) (run m ρ (ok_of _ hpf))
end

/-! ## The result -/

section
variable (m : (ℓ : Loc nD τ sig) → Buf (Elt Ideal) ℓ) (hO : Ok m)

theorem coord01 : ∀ t : Fin grid0.N, (grid0.coords t 0).val = t.val / 128 ∧ (grid0.coords t 1).val = t.val / 16 % 8 := by decide +kernel

theorem at_congr (x : Vec Ideal S2x1280x128x16x128 .f32) (w : IVec S8x128 32) (hw : ∀ s, (w s).toNat < 1280) {l l' : Fin 2} {s s' : S8x128.Idx}
    (hl : l = l') (hs : s = s') (k : Fin 128) (g : Fin 16) (d : Fin 128) :
    x (ix5 l ⟨(w s).toNat, hw s⟩ k g d) = x (ix5 l' ⟨(w s').toNat, hw s'⟩ k g d) := by
  subst hl hs; rfl

theorem target_at (hpf : ∀ s, (tbl m 0 s : BitVec 32).toNat < 1280) (c : Dev nD) (t : Fin (cfgM m hO).N) (l : Fin 2) (b : Fin 8)
    (hl : l.val = t.val / 128) (hb : b.val = t.val / 16 % 8) (r : Fin 64) (g : Fin 16) (d : Fin 128) :
    target m hO c t (ix5 0 0 r g d) = PmRef.mean (pool m c) (tbl m 0) hpf l b r g d := by
  have hr := r.isLt
  have ht := lt_of_lt_of_eq t.isLt (N_eq m hO)
  obtain ⟨c0, c1⟩ := coord01 (at' m hO t r.val r.isLt)
  have c2 := coord2 (at' m hO t r.val r.isLt)
  have hu : (at' m hO t r.val r.isLt).val = 16 * (t.val / 16) + r.val / 4 := rfl
  rw [hu] at c0 c1 c2
  have el : grid0.coords (at' m hO t r.val r.isLt) 0 = l := Fin.ext (by rw [c0]; omega)
  have es : ∀ (q : Fin 2) (h : 2 * (r.val % 4) + q.val < 8), slot (grid0.coords (at' m hO t r.val r.isLt)) ⟨2 * (r.val % 4) + q.val, h⟩
      = (ix2 b ⟨2 * r.val + q.val, by omega⟩ : S8x128.Idx) := fun q h => by
    funext a
    refine Fin.ext ?_
    fin_cases a
    · show (grid0.coords (at' m hO t r.val r.isLt) 1).val = b.val
      rw [c1]; omega
    · show 8 * (grid0.coords (at' m hO t r.val r.isLt) 2).val + (2 * (r.val % 4) + q.val) = 2 * r.val + q.val
      rw [c2]; omega
  refine (pay_at _ _ g d).trans ?_
  refine congrArg (· * Ideal.ofBits FTy.f32 0x3B800000#32) (congrArg₂ (· + ·) (Finset.sum_congr rfl fun k _ => ?_) (Finset.sum_congr rfl fun k _ => ?_))
  · exact (page_at m hO hpf c _ _ k g d).trans (at_congr (pool m c) (tbl m 0) hpf el (es 0 _) k g d)
  · exact (page_at m hO hpf c _ _ k g d).trans (at_congr (pool m c) (tbl m 0) hpf el (es 1 _) k g d)

theorem nblk_eq (a : Fin 5) : ((cfgM m hO).win 8).nblk a = (![2, 8, 1, 1, 1] : Fin 5 → ℕ) a := by
  fin_cases a <;> simp [Pipeline.Window.nblk]

theorem row_idx (y : S1x1x64x16x128.Idx) : ∃ (k : Fin 64) (g : Fin 16) (d : Fin 128), y = ix5 0 0 k g d :=
  ⟨y 2, y 3, y 4, funext fun a => by
    fin_cases a
    · exact Subsingleton.elim (α := Fin 1) _ _
    · exact Subsingleton.elim (α := Fin 1) _ _
    · rfl
    · rfl
    · rfl⟩

/-- What the kernel writes, entry by entry. -/
noncomputable def whole (hpf : ∀ s, (tbl m 0 s : BitVec 32).toNat < 1280) (c : Dev nD) : Vec Ideal S2x8x64x16x128 .f32 := fun i =>
  PmRef.mean (pool m c) (tbl m 0) hpf (i 0) (i 1) (i 2) (i 3) (i 4)

theorem result (hpf : ∀ s, (tbl m 0 s : BitVec 32).toNat < 1280) {r : PUnit × MemSt nD τ sig (Elt Ideal)}
    (h : RDat.FramePost (cfgM m hO) (fun c => (dat m hO c).toRRel (fgt m hO) (Rl m hO c)) (V m) r) (c : Dev nD) :
    r.2.mem ((c.tc : Thread nD τ).loc main_v0) = whole m hpf c := by
  obtain ⟨after, hL, hA⟩ := RDat.FramePost.exists_exact h c
  refine (hA 8).trans ?_
  have e8 : ∀ i : grid0.Coords, cc0_transform_8 i = ![(i 0).val, (i 1).val, 0, 0, 0] := fun i => by
    have h0 : (i 0).val < 2 := (i 0).isLt
    have h1 : (i 1).val < 8 := (i 1).isLt
    show ![(BitVec.ofNat 32 (i 0).val).toNat, (BitVec.ofNat 32 (i 1).val).toNat, 0, 0, 0] = _
    rw [BitVec.toNat_ofNat, BitVec.toNat_ofNat, Nat.mod_eq_of_lt (by omega), Nat.mod_eq_of_lt (by omega)]
  refine (((dat m hO c).toRRel (fgt m hO) (Rl m hO c)).withAfter after).arrAt_eq_of_covers 8 (whole m hpf c) ⟨by show ∀ a : Fin 5, 0 < S1x1x64x16x128.size a; decide, fun β => ?_⟩ fun t hf y => ?_
  · have b0 : (β (0 : Fin 5)).val < 2 := (lt_of_lt_of_eq (β (0 : Fin 5)).isLt (nblk_eq m hO 0))
    have b1 : (β (1 : Fin 5)).val < 8 := (lt_of_lt_of_eq (β (1 : Fin 5)).isLt (nblk_eq m hO 1))
    have hlt : ((β (0 : Fin 5)).val * 8 + (β (1 : Fin 5)).val) * 16 + 15 < 256 := by omega
    refine ⟨⟨((β (0 : Fin 5)).val * 8 + (β (1 : Fin 5)).val) * 16 + 15, lt_of_lt_of_eq hlt (N_eq m hO).symm⟩, (flush8 m hO _).mpr ?_, fun a => ⟨?_, .inl rfl⟩⟩
    · show (((β (0 : Fin 5)).val * 8 + (β (1 : Fin 5)).val) * 16 + 15) % 16 = 15
      omega
    · refine (congrFun (e8 _) a).trans ?_
      obtain ⟨c0, c1⟩ := coord01 ⟨((β (0 : Fin 5)).val * 8 + (β (1 : Fin 5)).val) * 16 + 15, hlt⟩
      simp only at c0 c1
      fin_cases a
      · exact c0.trans (by show _ = (β (0 : Fin 5)).val; omega)
      · exact c1.trans (by show _ = (β (1 : Fin 5)).val; omega)
      · exact (Nat.lt_one_iff.mp (lt_of_lt_of_eq (β (2 : Fin 5)).isLt (nblk_eq m hO 2))).symm
      · exact (Nat.lt_one_iff.mp (lt_of_lt_of_eq (β (3 : Fin 5)).isLt (nblk_eq m hO 3))).symm
      · exact (Nat.lt_one_iff.mp (lt_of_lt_of_eq (β (4 : Fin 5)).isLt (nblk_eq m hO 4))).symm
  · have hf' := (flush8 m hO t).mp hf
    have hR : ∀ y : S1x1x64x16x128.Idx, (y 2).val < 4 * (t.val % 16 + 1) → after 8 t y = target m hO c t y :=
      Dat.toRRel_leaves (dat m hO c) (fgt := fgt m hO) (Rl := Rl m hO c) (w := 8) rfl (hL 8 t hf)
    obtain ⟨k, g, d, rfl⟩ := row_idx y
    obtain ⟨c0, c1⟩ := coord01 t
    have eb : (((cfgM m hO).win 8).blk t).view.emb (ix5 0 0 k g d : S1x1x64x16x128.Idx)
        = (ix5 (grid0.coords t 0) (grid0.coords t 1) k g d : S2x8x64x16x128.Idx) := by
      funext a
      refine Fin.ext ?_
      refine (congrArg (fun f : Fin 5 → ℕ => f a * S1x1x64x16x128.size a + 1 * ((ix5 0 0 k g d : S1x1x64x16x128.Idx) a).val) (e8 (grid0.coords t))).trans ?_
      fin_cases a
      · show (grid0.coords t 0).val * 1 + 1 * 0 = (grid0.coords t 0).val; omega
      · show (grid0.coords t 1).val * 1 + 1 * 0 = (grid0.coords t 1).val; omega
      · show 0 * 64 + 1 * k.val = k.val; omega
      · show 0 * 16 + 1 * g.val = g.val; omega
      · show 0 * 128 + 1 * d.val = d.val; omega
    refine Eq.trans ?_ (congrArg (whole m hpf c) eb.symm)
    refine (hR (ix5 0 0 k g d) (by show k.val < 4 * (t.val % 16 + 1); omega)).trans ?_
    exact target_at m hO hpf c t _ _ c0 c1 k g d
end

/-! ## The claims -/

theorem words_ideal {m : (ℓ : Loc nD τ sig) → Buf (Elt Ideal) ℓ} (h : @Cert.Pre_PmIdeal Cert.Pre_in_pool.Gen.facts m) (s : S8x128.Idx) :
    (tbl m 0 s : BitVec 32).toNat < 1280 := words_of_pre _ _ (h 0) s

theorem frame_ideal : Cert.quiescent_PmIdeal (hPmIdeal := Cert.PmIdeal.Gen.facts) (hPre_in_pool := Cert.Pre_in_pool.Gen.facts) :=
  fun m ρ h => frame m ρ (words_ideal h)

theorem frame_ref : Cert.quiescent_PmRefIdeal (hPmRefIdeal := Cert.PmRefIdeal.Gen.facts) := fun m ρ _ =>
  (θ_run Cert.PmRefIdeal.defs _ _).mono
    (fun r h => ⟨fun c => (h c).2, sem_eq_zero_of_no_sems (by decide) r.2⟩) (Cert.PmRefIdeal.Value.run (F := Ideal) m ρ)

theorem frame_ref_pre : Cert.quiescent_PmRefIdeal_pre_in_pool (hPmRefIdeal := Cert.PmRefIdeal.Gen.facts)
    (hPre_in_pool := Cert.Pre_in_pool.Gen.facts) := fun m ρ _ => frame_ref m ρ trivial

theorem value : Cert.algebraic_PmIdeal_PmRefIdeal (hPmIdeal := Cert.PmIdeal.Gen.facts)
    (hPmRefIdeal := Cert.PmRefIdeal.Gen.facts) (hPre_in_pool := Cert.Pre_in_pool.Gen.facts) := by
  intro m ρ m' ρ' hpre hag
  have hpf := words_ideal hpre
  refine ⟨whole m hpf,
    (θ_run defs _ _).mono (fun r h c => ⟨result m (ok_of _ hpf) hpf h.1.1 c, h.2.1 c⟩) (θ_run_and (run m ρ (ok_of _ hpf)) (frame m ρ hpf)),
    (θ_run Cert.PmRefIdeal.defs _ _).mono (fun r h c => ⟨(h c).1.trans ?_, (h c).2⟩) (Cert.PmRefIdeal.Value.run (F := Ideal) m' ρ')⟩
  obtain ⟨a0, a1⟩ := hag c
  rw [a0, a1]
  refine (Cert.PmRefIdeal.Read.val_main_v32_eq (F := Ideal) _ _).trans ?_
  obtain rfl : c = 0 := Subsingleton.elim (α := Fin 1) _ _
  funext i
  obtain ⟨l, b, k, g, d, rfl⟩ : ∃ (l : Fin 2) (b : Fin 8) (k : Fin 64) (g : Fin 16) (d : Fin 128), i = (ix5 l b k g d : S2x8x64x16x128.Idx) :=
    ⟨i 0, i 1, i 2, i 3, i 4, by blk_ext []⟩
  exact PmRef.ref_at (pool m 0) (tbl m 0) hpf l b k g d

set_option maxRecDepth 400000 in
/-- The two programs have the same text. -/
theorem defs_bits : Cert.Pm.defs (F := Bits) = defs :=
  congrArg (Pipeline.defs pcfgs) (show Cert.Pm.defs₀ (F := Bits) = defs₀ from
    congrArg Defs.onTc (funext fun l => funext fun a => match l, a with | 0, (_, _) => rfl))

theorem frame_bits : Cert.quiescent_Pm (hPm := Cert.Pm.Gen.facts) (hPre_in_pool := Cert.Pre_in_pool.Gen.facts) := fun m ρ h => by
  rw [defs_bits]
  exact frame (F := Bits) m ρ (fun s => words_of_pre _ _ (h 0) s)

end Pm
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Read
public import proofs.«01_k».proof.Proof.Gen.Up
public import proofs.«01_k».proof.Proof.Gen.Up.Frame
public import proofs.«01_k».proof.Proof.Gen.UpIdeal
public import proofs.«01_k».proof.Proof.Gen.UpIdeal.Skeleton
public import proofs.«01_k».proof.Proof.Gen.UpIdeal.Frame
public import proofs.«01_k».proof.Proof.Gen.UpRefIdeal
public import proofs.«01_k».proof.Proof.Gen.UpRefIdeal.Read
public import proofs.«01_k».proof.Proof.Gen.Down
public import proofs.«01_k».proof.Proof.Gen.Down.Frame
public import proofs.«01_k».proof.Proof.Gen.DownIdeal
public import proofs.«01_k».proof.Proof.Gen.DownIdeal.Skeleton
public import proofs.«01_k».proof.Proof.Gen.DownIdeal.Frame
public import proofs.«01_k».proof.Proof.Gen.DownRefIdeal
public import proofs.«01_k».proof.Proof.Gen.DownRefIdeal.Read
public import proofs.«01_k».proof.Proof.Gen.Out
public import proofs.«01_k».proof.Proof.Gen.Out.Frame
public import proofs.«01_k».proof.Proof.Gen.OutIdeal
public import proofs.«01_k».proof.Proof.Gen.OutIdeal.Skeleton
public import proofs.«01_k».proof.Proof.Gen.OutIdeal.Frame
public import proofs.«01_k».proof.Proof.Gen.OutRefIdeal
public import proofs.«01_k».proof.Proof.Gen.OutRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Frame
public import proofs.«01_k».proof.Proof.Gen.MergeRefIdeal
public import proofs.«01_k».proof.Proof.Gen.MergeRefIdeal.Read
public import proofs.«01_k».proof.Proof.Gen.Gates
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Frame
public import proofs.«01_k».proof.Proof.Gen.GatesRefIdeal
public import proofs.«01_k».proof.Proof.Gen.GatesRefIdeal.Read
public import proofs.«01_k».proof.Proof.Gen.Hgrn
public import proofs.«01_k».proof.Proof.Gen.Hgrn.Frame
public import proofs.«01_k».proof.Proof.Gen.HgrnIdeal
public import proofs.«01_k».proof.Proof.Gen.HgrnIdeal.Skeleton
public import proofs.«01_k».proof.Proof.Gen.HgrnIdeal.Frame
public import proofs.«01_k».proof.Proof.Gen.HgrnRefIdeal
public import proofs.«01_k».proof.Proof.Gen.HgrnRefIdeal.Read
public import proofs.«01_k».proof.Proof.Gen.Query
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Frame
public import proofs.«01_k».proof.Proof.Gen.QueryRefIdeal
public import proofs.«01_k».proof.Proof.Gen.QueryRefIdeal.Read
public import proofs.«01_k».proof.Proof.Gen.Key
public import proofs.«01_k».proof.Proof.Gen.Key.Frame
public import proofs.«01_k».proof.Proof.Gen.KeyIdeal
public import proofs.«01_k».proof.Proof.Gen.KeyIdeal.Skeleton
public import proofs.«01_k».proof.Proof.Gen.KeyIdeal.Frame
public import proofs.«01_k».proof.Proof.Gen.KeyRefIdeal
public import proofs.«01_k».proof.Proof.Gen.KeyRefIdeal.Read
public import proofs.«01_k».proof.Proof.Gen.Val
public import proofs.«01_k».proof.Proof.Gen.Val.Frame
public import proofs.«01_k».proof.Proof.Gen.ValIdeal
public import proofs.«01_k».proof.Proof.Gen.ValIdeal.Skeleton
public import proofs.«01_k».proof.Proof.Gen.ValIdeal.Frame
public import proofs.«01_k».proof.Proof.Gen.ValRefIdeal
public import proofs.«01_k».proof.Proof.Gen.ValRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Read
public import proofs.«01_k».proof.Proof.Gen.NormS
public import proofs.«01_k».proof.Proof.Gen.NormS.Frame
public import proofs.«01_k».proof.Proof.Gen.NormSIdeal
public import proofs.«01_k».proof.Proof.Gen.NormSIdeal.Frame
public import proofs.«01_k».proof.Proof.Gen.NormSIdeal.Value
public import proofs.«01_k».proof.Proof.Gen.NormSRefIdeal
public import proofs.«01_k».proof.Proof.Gen.NormSRefIdeal.Read
public import proofs.«01_k».proof.Proof.Gen.Hp
public import proofs.«01_k».proof.Proof.Gen.HpIdeal
public import proofs.«01_k».proof.Proof.Gen.HpIdeal.Skeleton
public import proofs.«01_k».proof.Proof.Gen.HpIdeal.Launch
public import proofs.«01_k».proof.Proof.Gen.HpIdeal.Points
public import proofs.«01_k».proof.Proof.Gen.HpIdeal.Loops
public import proofs.«01_k».proof.Proof.Gen.HpIdeal.Frame.Runs
public import proofs.«01_k».proof.Proof.Gen.HpRefIdeal
public import proofs.«01_k».proof.Proof.Gen.HpRefIdeal.Run
public import proofs.«01_k».proof.Proof.Gen.HpRefIdeal.Step
public import proofs.«01_k».proof.Proof.Gen.HpRefIdeal.StepRun
public import proofs.«01_k».proof.Proof.Gen.Pre_finite_hp
public import proofs.«01_k».proof.Proof.Gen.Pm
public import proofs.«01_k».proof.Proof.Gen.PmIdeal
public import proofs.«01_k».proof.Proof.Gen.PmIdeal.Skeleton
public import proofs.«01_k».proof.Proof.Gen.PmIdeal.Launch
public import proofs.«01_k».proof.Proof.Gen.PmRefIdeal
public import proofs.«01_k».proof.Proof.Gen.PmRefIdeal.Run
public import proofs.«01_k».proof.Proof.Gen.PmRefIdeal.Read
public import proofs.«01_k».proof.Proof.Gen.Pre_in_pool
public import proofs.«01_k».proof.Proof.DecClaim
public import proofs.«01_k».proof.Proof.UpValue
public import proofs.«01_k».proof.Proof.DownValue
public import proofs.«01_k».proof.Proof.OutValue
public import proofs.«01_k».proof.Proof.MergeValue
public import proofs.«01_k».proof.Proof.GatesValue
public import proofs.«01_k».proof.Proof.HgrnValue
public import proofs.«01_k».proof.Proof.QueryValue
public import proofs.«01_k».proof.Proof.KeyValue
public import proofs.«01_k».proof.Proof.ValValue
public import proofs.«01_k».proof.Proof.NormValue
public import proofs.«01_k».proof.Proof.NormSValue
public import proofs.«01_k».proof.Proof.HpValue
public import proofs.«01_k».proof.Proof.PmValue
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts,
  Cert.KernelIdeal.Gen.facts,
  Cert.ReferenceIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.Out.Gen.facts,
  Cert.OutIdeal.Gen.facts,
  Cert.OutRefIdeal.Gen.facts,
  Cert.Merge.Gen.facts,
  Cert.MergeIdeal.Gen.facts,
  Cert.MergeRefIdeal.Gen.facts,
  Cert.Gates.Gen.facts,
  Cert.GatesIdeal.Gen.facts,
  Cert.GatesRefIdeal.Gen.facts,
  Cert.Hgrn.Gen.facts,
  Cert.HgrnIdeal.Gen.facts,
  Cert.HgrnRefIdeal.Gen.facts,
  Cert.Query.Gen.facts,
  Cert.QueryIdeal.Gen.facts,
  Cert.QueryRefIdeal.Gen.facts,
  Cert.Key.Gen.facts,
  Cert.KeyIdeal.Gen.facts,
  Cert.KeyRefIdeal.Gen.facts,
  Cert.Val.Gen.facts,
  Cert.ValIdeal.Gen.facts,
  Cert.ValRefIdeal.Gen.facts,
  Cert.Norm.Gen.facts,
  Cert.NormIdeal.Gen.facts,
  Cert.NormRefIdeal.Gen.facts,
  Cert.NormS.Gen.facts,
  Cert.NormSIdeal.Gen.facts,
  Cert.NormSRefIdeal.Gen.facts,
  Cert.Hp.Gen.facts,
  Cert.HpIdeal.Gen.facts,
  Cert.HpRefIdeal.Gen.facts,
  Cert.Pm.Gen.facts,
  Cert.PmIdeal.Gen.facts,
  Cert.PmRefIdeal.Gen.facts,
  Cert.Pre_finite.Gen.facts,
  Cert.Pre_finite_hp.Gen.facts,
  Cert.Pre_in_pool.Gen.facts,
  fun m ρ _ => Cert.Kernel.Gen.frame m ρ,
  fun m ρ _ => Cert.KernelIdeal.Gen.frame m ρ,
  fun m ρ _ => Cert.KernelIdeal.Gen.frame m ρ,
  Dec.frame_ref,
  fun m ρ _ => Dec.frame_ref m ρ trivial,
  Up.frame_bits, Up.frame_ideal, Up.frame_ref,
  Down.frame_bits, Down.frame_ideal, Down.frame_ref,
  Out.frame_bits, Out.frame_ideal, Out.frame_ref,
  Merge.frame_bits, Merge.frame_ideal, Merge.frame_ref,
  Gates.frame_bits, Gates.frame_ideal, Gates.frame_ref,
  Hgrn.frame_bits, Hgrn.frame_ideal, Hgrn.frame_ref,
  Query.frame_bits, Query.frame_ideal, Query.frame_ref,
  Key.frame_bits, Key.frame_ideal, Key.frame_ref,
  Val.frame_bits, Val.frame_ideal, Val.frame_ref,
  Norm.frame_bits, Norm.frame_ideal, Norm.frame_ref,
  NormS.frame_bits, NormS.frame_ideal, NormS.frame_ref,
  Hp.frame_bits, Hp.frame_ideal,
  fun m ρ _ => Hp.frame_ideal m ρ trivial,
  Hp.frame_ref,
  fun m ρ _ => Hp.frame_ref m ρ trivial,
  Pm.frame_bits, Pm.frame_ideal, Pm.frame_ref, Pm.frame_ref_pre,
  IdealRules.named_const.statement Cert.KernelIdeal.κ "log2e" .f32 0x3FB8AA3B#32 (((Real.log 2)⁻¹ : ℝ) : EReal) rfl,
  Dec.value,
  trivial, Up.value,
  trivial, Down.value,
  trivial, Out.value,
  trivial, Merge.value,
  trivial, Gates.value,
  trivial, Hgrn.value,
  trivial, Query.value,
  trivial, Key.value,
  trivial, Val.value,
  trivial, Norm.value,
  trivial, NormS.value,
  IdealRules.named_const.statement Cert.HpIdeal.κ "log2e" .f32 0x3FB8AA3B#32 (((Real.log 2)⁻¹ : ℝ) : EReal) rfl,
  Hp.value,
  trivial, Pm.value⟩

end Cert.Proof

end
